-- ==== Defs.lean ====
def Pre_Fox (m : (ℓ : Loc Cert.Fox.nD Cert.Fox.τ Cert.Fox.sig) → Buf (Elt Bits) ℓ) : Prop :=
  True

def Pre_FoxIdeal (m : (ℓ : Loc Cert.FoxIdeal.nD Cert.FoxIdeal.τ Cert.FoxIdeal.sig) → Buf (Elt Ideal) ℓ) : Prop :=
  True

def Pre_FoxIdeal_finite_scores [hPre_finite_scores : Cert.Pre_finite_scores.Facts] (m : (ℓ : Loc Cert.FoxIdeal.nD Cert.FoxIdeal.τ Cert.FoxIdeal.sig) → Buf (Elt Ideal) ℓ) : Prop :=
  ∀ c : Dev Cert.FoxIdeal.nD,
    (Cert.Pre_finite_scores.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3))) = (fun _ => 1#1)

def Pre_FoxRefIdeal (m : (ℓ : Loc Cert.FoxRefIdeal.nD Cert.FoxRefIdeal.τ Cert.FoxRefIdeal.sig) → Buf (Elt Ideal) ℓ) : Prop :=
  True

def Pre_FoxRefIdeal_finite_scores [hPre_finite_scores : Cert.Pre_finite_scores.Facts] (m : (ℓ : Loc Cert.FoxRefIdeal.nD Cert.FoxRefIdeal.τ Cert.FoxRefIdeal.sig) → Buf (Elt Ideal) ℓ) : Prop :=
  ∀ c : Dev Cert.FoxRefIdeal.nD,
    (Cert.Pre_finite_scores.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3))) = (fun _ => 1#1)

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInRefIdeal (m : (ℓ : Loc Cert.FfnInRefIdeal.nD Cert.FfnInRefIdeal.τ Cert.FfnInRefIdeal.sig) → Buf (Elt Ideal) ℓ) : Prop :=
  True

def Pre_FfnOut (m : (ℓ : Loc Cert.FfnOut.nD Cert.FfnOut.τ Cert.FfnOut.sig) → Buf (Elt Bits) ℓ) : Prop :=
  True

def Pre_FfnOutIdeal (m : (ℓ : Loc Cert.FfnOutIdeal.nD Cert.FfnOutIdeal.τ Cert.FfnOutIdeal.sig) → Buf (Elt Ideal) ℓ) : Prop :=
  True

def Pre_FfnOutRefIdeal (m : (ℓ : Loc Cert.FfnOutRefIdeal.nD Cert.FfnOutRefIdeal.τ Cert.FfnOutRefIdeal.sig) → Buf (Elt Ideal) ℓ) : Prop :=
  True

def Pre_Memkv (m : (ℓ : Loc Cert.Memkv.nD Cert.Memkv.τ Cert.Memkv.sig) → Buf (Elt Bits) ℓ) : Prop :=
  True

def Pre_MemkvIdeal (m : (ℓ : Loc Cert.MemkvIdeal.nD Cert.MemkvIdeal.τ Cert.MemkvIdeal.sig) → Buf (Elt Ideal) ℓ) : Prop :=
  True

def Pre_MemkvRefIdeal (m : (ℓ : Loc Cert.MemkvRefIdeal.nD Cert.MemkvRefIdeal.τ Cert.MemkvRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_FfnOutS (m : (ℓ : Loc Cert.FfnOutS.nD Cert.FfnOutS.τ Cert.FfnOutS.sig) → Buf (Elt Bits) ℓ) : Prop :=
  True

def Pre_FfnOutSIdeal (m : (ℓ : Loc Cert.FfnOutSIdeal.nD Cert.FfnOutSIdeal.τ Cert.FfnOutSIdeal.sig) → Buf (Elt Ideal) ℓ) : Prop :=
  True

def Pre_FfnOutSRefIdeal (m : (ℓ : Loc Cert.FfnOutSRefIdeal.nD Cert.FfnOutSRefIdeal.τ Cert.FfnOutSRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_InprojS (m : (ℓ : Loc Cert.InprojS.nD Cert.InprojS.τ Cert.InprojS.sig) → Buf (Elt Bits) ℓ) : Prop :=
  True

def Pre_InprojSIdeal (m : (ℓ : Loc Cert.InprojSIdeal.nD Cert.InprojSIdeal.τ Cert.InprojSIdeal.sig) → Buf (Elt Ideal) ℓ) : Prop :=
  True

def Pre_InprojSRefIdeal (m : (ℓ : Loc Cert.InprojSRefIdeal.nD Cert.InprojSRefIdeal.τ Cert.InprojSRefIdeal.sig) → Buf (Elt Ideal) ℓ) : Prop :=
  True

def quiescent_Fox [hFox : Cert.Fox.Facts] : Prop :=
  ∀ (m : (ℓ : Loc Cert.Fox.nD Cert.Fox.τ Cert.Fox.sig) → Buf (Elt Bits) ℓ) (g : Dev Cert.Fox.nD → PrngReg), Pre_Fox m →
    θ_run (Cert.Fox.defs (F := Bits)) (onTc (τ := Cert.Fox.τ) (Cert.Fox.main (F := Bits))) ⟨m, fun _ => 0, g⟩ (fun r => (∀ c : Dev Cert.Fox.nD,
      r.2.mem ((c.tc : Thread Cert.Fox.nD Cert.Fox.τ).loc Cert.Fox.main_arg0) = m ((c.tc : Thread Cert.Fox.nD Cert.Fox.τ).loc Cert.Fox.main_arg0)
      ∧ r.2.mem ((c.tc : Thread Cert.Fox.nD Cert.Fox.τ).loc Cert.Fox.main_arg1) = m ((c.tc : Thread Cert.Fox.nD Cert.Fox.τ).loc Cert.Fox.main_arg1)
      ∧ r.2.mem ((c.tc : Thread Cert.Fox.nD Cert.Fox.τ).loc Cert.Fox.main_arg2) = m ((c.tc : Thread Cert.Fox.nD Cert.Fox.τ).loc Cert.Fox.main_arg2)
      ∧ r.2.mem ((c.tc : Thread Cert.Fox.nD Cert.Fox.τ).loc Cert.Fox.main_arg3) = m ((c.tc : Thread Cert.Fox.nD Cert.Fox.τ).loc Cert.Fox.main_arg3))
      ∧ r.2.sem = fun _ => 0)

def quiescent_FoxIdeal [hFoxIdeal : Cert.FoxIdeal.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3))
      ∧ r.2.sem = fun _ => 0)

def quiescent_FoxIdeal_pre_finite_scores [hFoxIdeal : Cert.FoxIdeal.Facts] [hPre_finite_scores : Cert.Pre_finite_scores.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal_finite_scores m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3))
      ∧ r.2.sem = fun _ => 0)

def quiescent_FoxRefIdeal [hFoxRefIdeal : Cert.FoxRefIdeal.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2)
      ∧ r.2.mem ((c.tc : Thread Cert.FoxRefIdeal.nD Cert.FoxRefIdeal.τ).loc Cert.FoxRefIdeal.main_arg3) = m ((c.tc : Thread Cert.FoxRefIdeal.nD Cert.FoxRefIdeal.τ).loc Cert.FoxRefIdeal.main_arg3))
      ∧ r.2.sem = fun _ => 0)

def quiescent_FoxRefIdeal_pre_finite_scores [hFoxRefIdeal : Cert.FoxRefIdeal.Facts] [hPre_finite_scores : Cert.Pre_finite_scores.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal_finite_scores m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2)
      ∧ r.2.mem ((c.tc : Thread Cert.FoxRefIdeal.nD Cert.FoxRefIdeal.τ).loc Cert.FoxRefIdeal.main_arg3) = m ((c.tc : Thread Cert.FoxRefIdeal.nD Cert.FoxRefIdeal.τ).loc Cert.FoxRefIdeal.main_arg3))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1)
      ∧ r.2.mem ((c.tc : Thread Cert.FfnIn.nD Cert.FfnIn.τ).loc Cert.FfnIn.main_arg2) = m ((c.tc : Thread Cert.FfnIn.nD Cert.FfnIn.τ).loc Cert.FfnIn.main_arg2)
      ∧ r.2.mem ((c.tc : Thread Cert.FfnIn.nD Cert.FfnIn.τ).loc Cert.FfnIn.main_arg3) = m ((c.tc : Thread Cert.FfnIn.nD Cert.FfnIn.τ).loc Cert.FfnIn.main_arg3)
      ∧ r.2.mem ((c.tc : Thread Cert.FfnIn.nD Cert.FfnIn.τ).loc Cert.FfnIn.main_arg4) = m ((c.tc : Thread Cert.FfnIn.nD Cert.FfnIn.τ).loc Cert.FfnIn.main_arg4)
      ∧ r.2.mem ((c.tc : Thread Cert.FfnIn.nD Cert.FfnIn.τ).loc Cert.FfnIn.main_arg5) = m ((c.tc : Thread Cert.FfnIn.nD Cert.FfnIn.τ).loc Cert.FfnIn.main_arg5))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
      ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
      ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
      ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4)
      ∧ r.2.mem ((c.tc : Thread Cert.FfnInIdeal.nD Cert.FfnInIdeal.τ).loc Cert.FfnInIdeal.main_arg5) = m ((c.tc : Thread Cert.FfnInIdeal.nD Cert.FfnInIdeal.τ).loc Cert.FfnInIdeal.main_arg5))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1)
      ∧ r.2.mem ((c.tc : Thread Cert.FfnInRefIdeal.nD Cert.FfnInRefIdeal.τ).loc Cert.FfnInRefIdeal.main_arg2) = m ((c.tc : Thread Cert.FfnInRefIdeal.nD Cert.FfnInRefIdeal.τ).loc Cert.FfnInRefIdeal.main_arg2)
      ∧ r.2.mem ((c.tc : Thread Cert.FfnInRefIdeal.nD Cert.FfnInRefIdeal.τ).loc Cert.FfnInRefIdeal.main_arg3) = m ((c.tc : Thread Cert.FfnInRefIdeal.nD Cert.FfnInRefIdeal.τ).loc Cert.FfnInRefIdeal.main_arg3)
      ∧ r.2.mem ((c.tc : Thread Cert.FfnInRefIdeal.nD Cert.FfnInRefIdeal.τ).loc Cert.FfnInRefIdeal.main_arg4) = m ((c.tc : Thread Cert.FfnInRefIdeal.nD Cert.FfnInRefIdeal.τ).loc Cert.FfnInRefIdeal.main_arg4)
      ∧ r.2.mem ((c.tc : Thread Cert.FfnInRefIdeal.nD Cert.FfnInRefIdeal.τ).loc Cert.FfnInRefIdeal.main_arg5) = m ((c.tc : Thread Cert.FfnInRefIdeal.nD Cert.FfnInRefIdeal.τ).loc Cert.FfnInRefIdeal.main_arg5))
      ∧ r.2.sem = fun _ => 0)

def quiescent_FfnOut [hFfnOut : Cert.FfnOut.Facts] : Prop :=
  ∀ (m : (ℓ : Loc Cert.FfnOut.nD Cert.FfnOut.τ Cert.FfnOut.sig) → Buf (Elt Bits) ℓ) (g : Dev Cert.FfnOut.nD → PrngReg), Pre_FfnOut m →
    θ_run (Cert.FfnOut.defs (F := Bits)) (onTc (τ := Cert.FfnOut.τ) (Cert.FfnOut.main (F := Bits))) ⟨m, fun _ => 0, g⟩ (fun r => (∀ c : Dev Cert.FfnOut.nD,
      r.2.mem ((c.tc : Thread Cert.FfnOut.nD Cert.FfnOut.τ).loc Cert.FfnOut.main_arg0) = m ((c.tc : Thread Cert.FfnOut.nD Cert.FfnOut.τ).loc Cert.FfnOut.main_arg0)
      ∧ r.2.mem ((c.tc : Thread Cert.FfnOut.nD Cert.FfnOut.τ).loc Cert.FfnOut.main_arg1) = m ((c.tc : Thread Cert.FfnOut.nD Cert.FfnOut.τ).loc Cert.FfnOut.main_arg1)
      ∧ r.2.mem ((c.tc : Thread Cert.FfnOut.nD Cert.FfnOut.τ).loc Cert.FfnOut.main_arg2) = m ((c.tc : Thread Cert.FfnOut.nD Cert.FfnOut.τ).loc Cert.FfnOut.main_arg2)
      ∧ r.2.mem ((c.tc : Thread Cert.FfnOut.nD Cert.FfnOut.τ).loc Cert.FfnOut.main_arg3) = m ((c.tc : Thread Cert.FfnOut.nD Cert.FfnOut.τ).loc Cert.FfnOut.main_arg3)
      ∧ r.2.mem ((c.tc : Thread Cert.FfnOut.nD Cert.FfnOut.τ).loc Cert.FfnOut.main_arg4) = m ((c.tc : Thread Cert.FfnOut.nD Cert.FfnOut.τ).loc Cert.FfnOut.main_arg4)
      ∧ r.2.mem ((c.tc : Thread Cert.FfnOut.nD Cert.FfnOut.τ).loc Cert.FfnOut.main_arg5) = m ((c.tc : Thread Cert.FfnOut.nD Cert.FfnOut.τ).loc Cert.FfnOut.main_arg5))
      ∧ r.2.sem = fun _ => 0)

def quiescent_FfnOutIdeal [hFfnOutIdeal : Cert.FfnOutIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg), Pre_FfnOutIdeal m →
    θ_run (Cert.FfnOutIdeal.defs (F := Ideal)) (onTc (τ := Cert.FfnOutIdeal.τ) (Cert.FfnOutIdeal.main (F := Ideal))) ⟨m, fun _ => 0, g⟩ (fun r => (∀ c : Dev Cert.FfnOutIdeal.nD,
      r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
      ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
      ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2)
      ∧ r.2.mem ((c.tc : Thread Cert.FfnOutIdeal.nD Cert.FfnOutIdeal.τ).loc Cert.FfnOutIdeal.main_arg3) = m ((c.tc : Thread Cert.FfnOutIdeal.nD Cert.FfnOutIdeal.τ).loc Cert.FfnOutIdeal.main_arg3)
      ∧ r.2.mem ((c.tc : Thread Cert.FfnOutIdeal.nD Cert.FfnOutIdeal.τ).loc Cert.FfnOutIdeal.main_arg4) = m ((c.tc : Thread Cert.FfnOutIdeal.nD Cert.FfnOutIdeal.τ).loc Cert.FfnOutIdeal.main_arg4)
      ∧ r.2.mem ((c.tc : Thread Cert.FfnOutIdeal.nD Cert.FfnOutIdeal.τ).loc Cert.FfnOutIdeal.main_arg5) = m ((c.tc : Thread Cert.FfnOutIdeal.nD Cert.FfnOutIdeal.τ).loc Cert.FfnOutIdeal.main_arg5))
      ∧ r.2.sem = fun _ => 0)

def quiescent_FfnOutRefIdeal [hFfnOutRefIdeal : Cert.FfnOutRefIdeal.Facts] : Prop :=
  ∀ (m : (ℓ : Loc Cert.FfnOutRefIdeal.nD Cert.FfnOutRefIdeal.τ Cert.FfnOutRefIdeal.sig) → Buf (Elt Ideal) ℓ) (g : Dev Cert.FfnOutRefIdeal.nD → PrngReg), Pre_FfnOutRefIdeal m →
    θ_run (Cert.FfnOutRefIdeal.defs (F := Ideal)) (onTc (τ := Cert.FfnOutRefIdeal.τ) (Cert.FfnOutRefIdeal.main (F := Ideal))) ⟨m, fun _ => 0, g⟩ (fun r => (∀ c : Dev Cert.FfnOutRefIdeal.nD,
      r.2.mem ((c.tc : Thread Cert.FfnOutRefIdeal.nD Cert.FfnOutRefIdeal.τ).loc Cert.FfnOutRefIdeal.main_arg0) = m ((c.tc : Thread Cert.FfnOutRefIdeal.nD Cert.FfnOutRefIdeal.τ).loc Cert.FfnOutRefIdeal.main_arg0)
      ∧ r.2.mem ((c.tc : Thread Cert.FfnOutRefIdeal.nD Cert.FfnOutRefIdeal.τ).loc Cert.FfnOutRefIdeal.main_arg1) = m ((c.tc : Thread Cert.FfnOutRefIdeal.nD Cert.FfnOutRefIdeal.τ).loc Cert.FfnOutRefIdeal.main_arg1)
      ∧ r.2.mem ((c.tc : Thread Cert.FfnOutRefIdeal.nD Cert.FfnOutRefIdeal.τ).loc Cert.FfnOutRefIdeal.main_arg2) = m ((c.tc : Thread Cert.FfnOutRefIdeal.nD Cert.FfnOutRefIdeal.τ).loc Cert.FfnOutRefIdeal.main_arg2)
      ∧ r.2.mem ((c.tc : Thread Cert.FfnOutRefIdeal.nD Cert.FfnOutRefIdeal.τ).loc Cert.FfnOutRefIdeal.main_arg3) = m ((c.tc : Thread Cert.FfnOutRefIdeal.nD Cert.FfnOutRefIdeal.τ).loc Cert.FfnOutRefIdeal.main_arg3)
      ∧ r.2.mem ((c.tc : Thread Cert.FfnOutRefIdeal.nD Cert.FfnOutRefIdeal.τ).loc Cert.FfnOutRefIdeal.main_arg4) = m ((c.tc : Thread Cert.FfnOutRefIdeal.nD Cert.FfnOutRefIdeal.τ).loc Cert.FfnOutRefIdeal.main_arg4)
      ∧ r.2.mem ((c.tc : Thread Cert.FfnOutRefIdeal.nD Cert.FfnOutRefIdeal.τ).loc Cert.FfnOutRefIdeal.main_arg5) = m ((c.tc : Thread Cert.FfnOutRefIdeal.nD Cert.FfnOutRefIdeal.τ).loc Cert.FfnOutRefIdeal.main_arg5))
      ∧ r.2.sem = fun _ => 0)

def quiescent_Memkv [hMemkv : Cert.Memkv.Facts] : Prop :=
  ∀ (m : (ℓ : Loc Cert.Memkv.nD Cert.Memkv.τ Cert.Memkv.sig) → Buf (Elt Bits) ℓ) (g : Dev Cert.Memkv.nD → PrngReg), Pre_Memkv m →
    θ_run (Cert.Memkv.defs (F := Bits)) (onTc (τ := Cert.Memkv.τ) (Cert.Memkv.main (F := Bits))) ⟨m, fun _ => 0, g⟩ (fun r => (∀ c : Dev Cert.Memkv.nD,
      r.2.mem ((c.tc : Thread Cert.Memkv.nD Cert.Memkv.τ).loc Cert.Memkv.main_arg0) = m ((c.tc : Thread Cert.Memkv.nD Cert.Memkv.τ).loc Cert.Memkv.main_arg0)
      ∧ r.2.mem ((c.tc : Thread Cert.Memkv.nD Cert.Memkv.τ).loc Cert.Memkv.main_arg1) = m ((c.tc : Thread Cert.Memkv.nD Cert.Memkv.τ).loc Cert.Memkv.main_arg1)
      ∧ r.2.mem ((c.tc : Thread Cert.Memkv.nD Cert.Memkv.τ).loc Cert.Memkv.main_arg2) = m ((c.tc : Thread Cert.Memkv.nD Cert.Memkv.τ).loc Cert.Memkv.main_arg2)
      ∧ r.2.mem ((c.tc : Thread Cert.Memkv.nD Cert.Memkv.τ).loc Cert.Memkv.main_arg3) = m ((c.tc : Thread Cert.Memkv.nD Cert.Memkv.τ).loc Cert.Memkv.main_arg3))
      ∧ r.2.sem = fun _ => 0)

def quiescent_MemkvIdeal [hMemkvIdeal : Cert.MemkvIdeal.Facts] : Prop :=
  ∀ (m : (ℓ : Loc Cert.MemkvIdeal.nD Cert.MemkvIdeal.τ Cert.MemkvIdeal.sig) → Buf (Elt Ideal) ℓ) (g : Dev Cert.MemkvIdeal.nD → PrngReg), Pre_MemkvIdeal m →
    θ_run (Cert.MemkvIdeal.defs (F := Ideal)) (onTc (τ := Cert.MemkvIdeal.τ) (Cert.MemkvIdeal.main (F := Ideal))) ⟨m, fun _ => 0, g⟩ (fun r => (∀ c : Dev Cert.MemkvIdeal.nD,
      r.2.mem ((c.tc : Thread Cert.MemkvIdeal.nD Cert.MemkvIdeal.τ).loc Cert.MemkvIdeal.main_arg0) = m ((c.tc : Thread Cert.MemkvIdeal.nD Cert.MemkvIdeal.τ).loc Cert.MemkvIdeal.main_arg0)
      ∧ r.2.mem ((c.tc : Thread Cert.MemkvIdeal.nD Cert.MemkvIdeal.τ).loc Cert.MemkvIdeal.main_arg1) = m ((c.tc : Thread Cert.MemkvIdeal.nD Cert.MemkvIdeal.τ).loc Cert.MemkvIdeal.main_arg1)
      ∧ r.2.mem ((c.tc : Thread Cert.MemkvIdeal.nD Cert.MemkvIdeal.τ).loc Cert.MemkvIdeal.main_arg2) = m ((c.tc : Thread Cert.MemkvIdeal.nD Cert.MemkvIdeal.τ).loc Cert.MemkvIdeal.main_arg2)
      ∧ r.2.mem ((c.tc : Thread Cert.MemkvIdeal.nD Cert.MemkvIdeal.τ).loc Cert.MemkvIdeal.main_arg3) = m ((c.tc : Thread Cert.MemkvIdeal.nD Cert.MemkvIdeal.τ).loc Cert.MemkvIdeal.main_arg3))
      ∧ r.2.sem = fun _ => 0)

def quiescent_MemkvRefIdeal [hMemkvRefIdeal : Cert.MemkvRefIdeal.Facts] : Prop :=
  ∀ (m : (ℓ : Loc Cert.MemkvRefIdeal.nD Cert.MemkvRefIdeal.τ Cert.MemkvRefIdeal.sig) → Buf (Elt Ideal) ℓ) (g : Dev Cert.MemkvRefIdeal.nD → PrngReg), Pre_MemkvRefIdeal m →
    θ_run (Cert.MemkvRefIdeal.defs (F := Ideal)) (onTc (τ := Cert.MemkvRefIdeal.τ) (Cert.MemkvRefIdeal.main (F := Ideal))) ⟨m, fun _ => 0, g⟩ (fun r => (∀ c : Dev Cert.MemkvRefIdeal.nD,
      r.2.mem ((c.tc : Thread Cert.MemkvRefIdeal.nD Cert.MemkvRefIdeal.τ).loc Cert.MemkvRefIdeal.main_arg0) = m ((c.tc : Thread Cert.MemkvRefIdeal.nD Cert.MemkvRefIdeal.τ).loc Cert.MemkvRefIdeal.main_arg0)
      ∧ r.2.mem ((c.tc : Thread Cert.MemkvRefIdeal.nD Cert.MemkvRefIdeal.τ).loc Cert.MemkvRefIdeal.main_arg1) = m ((c.tc : Thread Cert.MemkvRefIdeal.nD Cert.MemkvRefIdeal.τ).loc Cert.MemkvRefIdeal.main_arg1)
      ∧ r.2.mem ((c.tc : Thread Cert.MemkvRefIdeal.nD Cert.MemkvRefIdeal.τ).loc Cert.MemkvRefIdeal.main_arg2) = m ((c.tc : Thread Cert.MemkvRefIdeal.nD Cert.MemkvRefIdeal.τ).loc Cert.MemkvRefIdeal.main_arg2)
      ∧ r.2.mem ((c.tc : Thread Cert.MemkvRefIdeal.nD Cert.MemkvRefIdeal.τ).loc Cert.MemkvRefIdeal.main_arg3) = m ((c.tc : Thread Cert.MemkvRefIdeal.nD Cert.MemkvRefIdeal.τ).loc Cert.MemkvRefIdeal.main_arg3))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3))
      ∧ r.2.sem = fun _ => 0)

def quiescent_FfnOutS [hFfnOutS : Cert.FfnOutS.Facts] : Prop :=
  ∀ (m : (ℓ : Loc Cert.FfnOutS.nD Cert.FfnOutS.τ Cert.FfnOutS.sig) → Buf (Elt Bits) ℓ) (g : Dev Cert.FfnOutS.nD → PrngReg), Pre_FfnOutS m →
    θ_run (Cert.FfnOutS.defs (F := Bits)) (onTc (τ := Cert.FfnOutS.τ) (Cert.FfnOutS.main (F := Bits))) ⟨m, fun _ => 0, g⟩ (fun r => (∀ c : Dev Cert.FfnOutS.nD,
      r.2.mem ((c.tc : Thread Cert.FfnOutS.nD Cert.FfnOutS.τ).loc Cert.FfnOutS.main_arg0) = m ((c.tc : Thread Cert.FfnOutS.nD Cert.FfnOutS.τ).loc Cert.FfnOutS.main_arg0)
      ∧ r.2.mem ((c.tc : Thread Cert.FfnOutS.nD Cert.FfnOutS.τ).loc Cert.FfnOutS.main_arg1) = m ((c.tc : Thread Cert.FfnOutS.nD Cert.FfnOutS.τ).loc Cert.FfnOutS.main_arg1)
      ∧ r.2.mem ((c.tc : Thread Cert.FfnOutS.nD Cert.FfnOutS.τ).loc Cert.FfnOutS.main_arg2) = m ((c.tc : Thread Cert.FfnOutS.nD Cert.FfnOutS.τ).loc Cert.FfnOutS.main_arg2)
      ∧ r.2.mem ((c.tc : Thread Cert.FfnOutS.nD Cert.FfnOutS.τ).loc Cert.FfnOutS.main_arg3) = m ((c.tc : Thread Cert.FfnOutS.nD Cert.FfnOutS.τ).loc Cert.FfnOutS.main_arg3)
      ∧ r.2.mem ((c.tc : Thread Cert.FfnOutS.nD Cert.FfnOutS.τ).loc Cert.FfnOutS.main_arg4) = m ((c.tc : Thread Cert.FfnOutS.nD Cert.FfnOutS.τ).loc Cert.FfnOutS.main_arg4)
      ∧ r.2.mem ((c.tc : Thread Cert.FfnOutS.nD Cert.FfnOutS.τ).loc Cert.FfnOutS.main_arg5) = m ((c.tc : Thread Cert.FfnOutS.nD Cert.FfnOutS.τ).loc Cert.FfnOutS.main_arg5))
      ∧ r.2.sem = fun _ => 0)

def quiescent_FfnOutSIdeal [hFfnOutSIdeal : Cert.FfnOutSIdeal.Facts] : Prop :=
  ∀ (m : (ℓ : Loc Cert.FfnOutSIdeal.nD Cert.FfnOutSIdeal.τ Cert.FfnOutSIdeal.sig) → Buf (Elt Ideal) ℓ) (g : Dev Cert.FfnOutSIdeal.nD → PrngReg), Pre_FfnOutSIdeal m →
    θ_run (Cert.FfnOutSIdeal.defs (F := Ideal)) (onTc (τ := Cert.FfnOutSIdeal.τ) (Cert.FfnOutSIdeal.main (F := Ideal))) ⟨m, fun _ => 0, g⟩ (fun r => (∀ c : Dev Cert.FfnOutSIdeal.nD,
      r.2.mem ((c.tc : Thread Cert.FfnOutSIdeal.nD Cert.FfnOutSIdeal.τ).loc Cert.FfnOutSIdeal.main_arg0) = m ((c.tc : Thread Cert.FfnOutSIdeal.nD Cert.FfnOutSIdeal.τ).loc Cert.FfnOutSIdeal.main_arg0)
      ∧ r.2.mem ((c.tc : Thread Cert.FfnOutSIdeal.nD Cert.FfnOutSIdeal.τ).loc Cert.FfnOutSIdeal.main_arg1) = m ((c.tc : Thread Cert.FfnOutSIdeal.nD Cert.FfnOutSIdeal.τ).loc Cert.FfnOutSIdeal.main_arg1)
      ∧ r.2.mem ((c.tc : Thread Cert.FfnOutSIdeal.nD Cert.FfnOutSIdeal.τ).loc Cert.FfnOutSIdeal.main_arg2) = m ((c.tc : Thread Cert.FfnOutSIdeal.nD Cert.FfnOutSIdeal.τ).loc Cert.FfnOutSIdeal.main_arg2)
      ∧ r.2.mem ((c.tc : Thread Cert.FfnOutSIdeal.nD Cert.FfnOutSIdeal.τ).loc Cert.FfnOutSIdeal.main_arg3) = m ((c.tc : Thread Cert.FfnOutSIdeal.nD Cert.FfnOutSIdeal.τ).loc Cert.FfnOutSIdeal.main_arg3)
      ∧ r.2.mem ((c.tc : Thread Cert.FfnOutSIdeal.nD Cert.FfnOutSIdeal.τ).loc Cert.FfnOutSIdeal.main_arg4) = m ((c.tc : Thread Cert.FfnOutSIdeal.nD Cert.FfnOutSIdeal.τ).loc Cert.FfnOutSIdeal.main_arg4)
      ∧ r.2.mem ((c.tc : Thread Cert.FfnOutSIdeal.nD Cert.FfnOutSIdeal.τ).loc Cert.FfnOutSIdeal.main_arg5) = m ((c.tc : Thread Cert.FfnOutSIdeal.nD Cert.FfnOutSIdeal.τ).loc Cert.FfnOutSIdeal.main_arg5))
      ∧ r.2.sem = fun _ => 0)

def quiescent_FfnOutSRefIdeal [hFfnOutSRefIdeal : Cert.FfnOutSRefIdeal.Facts] : Prop :=
  ∀ (m : (ℓ : Loc Cert.FfnOutSRefIdeal.nD Cert.FfnOutSRefIdeal.τ Cert.FfnOutSRefIdeal.sig) → Buf (Elt Ideal) ℓ) (g : Dev Cert.FfnOutSRefIdeal.nD → PrngReg), Pre_FfnOutSRefIdeal m →
    θ_run (Cert.FfnOutSRefIdeal.defs (F := Ideal)) (onTc (τ := Cert.FfnOutSRefIdeal.τ) (Cert.FfnOutSRefIdeal.main (F := Ideal))) ⟨m, fun _ => 0, g⟩ (fun r => (∀ c : Dev Cert.FfnOutSRefIdeal.nD,
      r.2.mem ((c.tc : Thread Cert.FfnOutSRefIdeal.nD Cert.FfnOutSRefIdeal.τ).loc Cert.FfnOutSRefIdeal.main_arg0) = m ((c.tc : Thread Cert.FfnOutSRefIdeal.nD Cert.FfnOutSRefIdeal.τ).loc Cert.FfnOutSRefIdeal.main_arg0)
      ∧ r.2.mem ((c.tc : Thread Cert.FfnOutSRefIdeal.nD Cert.FfnOutSRefIdeal.τ).loc Cert.FfnOutSRefIdeal.main_arg1) = m ((c.tc : Thread Cert.FfnOutSRefIdeal.nD Cert.FfnOutSRefIdeal.τ).loc Cert.FfnOutSRefIdeal.main_arg1)
      ∧ r.2.mem ((c.tc : Thread Cert.FfnOutSRefIdeal.nD Cert.FfnOutSRefIdeal.τ).loc Cert.FfnOutSRefIdeal.main_arg2) = m ((c.tc : Thread Cert.FfnOutSRefIdeal.nD Cert.FfnOutSRefIdeal.τ).loc Cert.FfnOutSRefIdeal.main_arg2)
      ∧ r.2.mem ((c.tc : Thread Cert.FfnOutSRefIdeal.nD Cert.FfnOutSRefIdeal.τ).loc Cert.FfnOutSRefIdeal.main_arg3) = m ((c.tc : Thread Cert.FfnOutSRefIdeal.nD Cert.FfnOutSRefIdeal.τ).loc Cert.FfnOutSRefIdeal.main_arg3)
      ∧ r.2.mem ((c.tc : Thread Cert.FfnOutSRefIdeal.nD Cert.FfnOutSRefIdeal.τ).loc Cert.FfnOutSRefIdeal.main_arg4) = m ((c.tc : Thread Cert.FfnOutSRefIdeal.nD Cert.FfnOutSRefIdeal.τ).loc Cert.FfnOutSRefIdeal.main_arg4)
      ∧ r.2.mem ((c.tc : Thread Cert.FfnOutSRefIdeal.nD Cert.FfnOutSRefIdeal.τ).loc Cert.FfnOutSRefIdeal.main_arg5) = m ((c.tc : Thread Cert.FfnOutSRefIdeal.nD Cert.FfnOutSRefIdeal.τ).loc Cert.FfnOutSRefIdeal.main_arg5))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8))
      ∧ r.2.sem = fun _ => 0)

def quiescent_InprojS [hInprojS : Cert.InprojS.Facts] : Prop :=
  ∀ (m : (ℓ : Loc Cert.InprojS.nD Cert.InprojS.τ Cert.InprojS.sig) → Buf (Elt Bits) ℓ) (g : Dev Cert.InprojS.nD → PrngReg), Pre_InprojS m →
    θ_run (Cert.InprojS.defs (F := Bits)) (onTc (τ := Cert.InprojS.τ) (Cert.InprojS.main (F := Bits))) ⟨m, fun _ => 0, g⟩ (fun r => (∀ c : Dev Cert.InprojS.nD,
      r.2.mem ((c.tc : Thread Cert.InprojS.nD Cert.InprojS.τ).loc Cert.InprojS.main_arg0) = m ((c.tc : Thread Cert.InprojS.nD Cert.InprojS.τ).loc Cert.InprojS.main_arg0)
      ∧ r.2.mem ((c.tc : Thread Cert.InprojS.nD Cert.InprojS.τ).loc Cert.InprojS.main_arg1) = m ((c.tc : Thread Cert.InprojS.nD Cert.InprojS.τ).loc Cert.InprojS.main_arg1)
      ∧ r.2.mem ((c.tc : Thread Cert.InprojS.nD Cert.InprojS.τ).loc Cert.InprojS.main_arg2) = m ((c.tc : Thread Cert.InprojS.nD Cert.InprojS.τ).loc Cert.InprojS.main_arg2)
      ∧ r.2.mem ((c.tc : Thread Cert.InprojS.nD Cert.InprojS.τ).loc Cert.InprojS.main_arg3) = m ((c.tc : Thread Cert.InprojS.nD Cert.InprojS.τ).loc Cert.InprojS.main_arg3))
      ∧ r.2.sem = fun _ => 0)

def quiescent_InprojSIdeal [hInprojSIdeal : Cert.InprojSIdeal.Facts] : Prop :=
  ∀ (m : (ℓ : Loc Cert.InprojSIdeal.nD Cert.InprojSIdeal.τ Cert.InprojSIdeal.sig) → Buf (Elt Ideal) ℓ) (g : Dev Cert.InprojSIdeal.nD → PrngReg), Pre_InprojSIdeal m →
    θ_run (Cert.InprojSIdeal.defs (F := Ideal)) (onTc (τ := Cert.InprojSIdeal.τ) (Cert.InprojSIdeal.main (F := Ideal))) ⟨m, fun _ => 0, g⟩ (fun r => (∀ c : Dev Cert.InprojSIdeal.nD,
      r.2.mem ((c.tc : Thread Cert.InprojSIdeal.nD Cert.InprojSIdeal.τ).loc Cert.InprojSIdeal.main_arg0) = m ((c.tc : Thread Cert.InprojSIdeal.nD Cert.InprojSIdeal.τ).loc Cert.InprojSIdeal.main_arg0)
      ∧ r.2.mem ((c.tc : Thread Cert.InprojSIdeal.nD Cert.InprojSIdeal.τ).loc Cert.InprojSIdeal.main_arg1) = m ((c.tc : Thread Cert.InprojSIdeal.nD Cert.InprojSIdeal.τ).loc Cert.InprojSIdeal.main_arg1)
      ∧ r.2.mem ((c.tc : Thread Cert.InprojSIdeal.nD Cert.InprojSIdeal.τ).loc Cert.InprojSIdeal.main_arg2) = m ((c.tc : Thread Cert.InprojSIdeal.nD Cert.InprojSIdeal.τ).loc Cert.InprojSIdeal.main_arg2)
      ∧ r.2.mem ((c.tc : Thread Cert.InprojSIdeal.nD Cert.InprojSIdeal.τ).loc Cert.InprojSIdeal.main_arg3) = m ((c.tc : Thread Cert.InprojSIdeal.nD Cert.InprojSIdeal.τ).loc Cert.InprojSIdeal.main_arg3))
      ∧ r.2.sem = fun _ => 0)

def quiescent_InprojSRefIdeal [hInprojSRefIdeal : Cert.InprojSRefIdeal.Facts] : Prop :=
  ∀ (m : (ℓ : Loc Cert.InprojSRefIdeal.nD Cert.InprojSRefIdeal.τ Cert.InprojSRefIdeal.sig) → Buf (Elt Ideal) ℓ) (g : Dev Cert.InprojSRefIdeal.nD → PrngReg), Pre_InprojSRefIdeal m →
    θ_run (Cert.InprojSRefIdeal.defs (F := Ideal)) (onTc (τ := Cert.InprojSRefIdeal.τ) (Cert.InprojSRefIdeal.main (F := Ideal))) ⟨m, fun _ => 0, g⟩ (fun r => (∀ c : Dev Cert.InprojSRefIdeal.nD,
      r.2.mem ((c.tc : Thread Cert.InprojSRefIdeal.nD Cert.InprojSRefIdeal.τ).loc Cert.InprojSRefIdeal.main_arg0) = m ((c.tc : Thread Cert.InprojSRefIdeal.nD Cert.InprojSRefIdeal.τ).loc Cert.InprojSRefIdeal.main_arg0)
      ∧ r.2.mem ((c.tc : Thread Cert.InprojSRefIdeal.nD Cert.InprojSRefIdeal.τ).loc Cert.InprojSRefIdeal.main_arg1) = m ((c.tc : Thread Cert.InprojSRefIdeal.nD Cert.InprojSRefIdeal.τ).loc Cert.InprojSRefIdeal.main_arg1)
      ∧ r.2.mem ((c.tc : Thread Cert.InprojSRefIdeal.nD Cert.InprojSRefIdeal.τ).loc Cert.InprojSRefIdeal.main_arg2) = m ((c.tc : Thread Cert.InprojSRefIdeal.nD Cert.InprojSRefIdeal.τ).loc Cert.InprojSRefIdeal.main_arg2)
      ∧ r.2.mem ((c.tc : Thread Cert.InprojSRefIdeal.nD Cert.InprojSRefIdeal.τ).loc Cert.InprojSRefIdeal.main_arg3) = m ((c.tc : Thread Cert.InprojSRefIdeal.nD Cert.InprojSRefIdeal.τ).loc Cert.InprojSRefIdeal.main_arg3))
      ∧ r.2.sem = fun _ => 0)

def preserves_Fox_FoxIdeal : Prop :=
  True

def algebraic_FoxIdeal_FoxRefIdeal_pre_finite_scores [hFoxIdeal : Cert.FoxIdeal.Facts] [hFoxRefIdeal : Cert.FoxRefIdeal.Facts] [hPre_finite_scores : Cert.Pre_finite_scores.Facts] : Prop :=
  ∀ (m : (ℓ : Loc Cert.FoxIdeal.nD Cert.FoxIdeal.τ Cert.FoxIdeal.sig) → Buf (Elt Ideal) ℓ) (g : Dev Cert.FoxIdeal.nD → PrngReg)
    (m' : (ℓ : Loc Cert.FoxRefIdeal.nD Cert.FoxRefIdeal.τ Cert.FoxRefIdeal.sig) → Buf (Elt Ideal) ℓ) (g' : Dev Cert.FoxRefIdeal.nD → PrngReg), Pre_FoxIdeal_finite_scores m →
    (∀ c : Dev Cert.FoxIdeal.nD,
      m' ((c.tc : Thread Cert.FoxRefIdeal.nD Cert.FoxRefIdeal.τ).loc Cert.FoxRefIdeal.main_arg0) = m ((c.tc : Thread Cert.FoxIdeal.nD Cert.FoxIdeal.τ).loc Cert.FoxIdeal.main_arg0)
      ∧ m' ((c.tc : Thread Cert.FoxRefIdeal.nD Cert.FoxRefIdeal.τ).loc Cert.FoxRefIdeal.main_arg1) = m ((c.tc : Thread Cert.FoxIdeal.nD Cert.FoxIdeal.τ).loc Cert.FoxIdeal.main_arg1)
      ∧ m' ((c.tc : Thread Cert.FoxRefIdeal.nD Cert.FoxRefIdeal.τ).loc Cert.FoxRefIdeal.main_arg2) = m ((c.tc : Thread Cert.FoxIdeal.nD Cert.FoxIdeal.τ).loc Cert.FoxIdeal.main_arg2)
      ∧ m' ((c.tc : Thread Cert.FoxRefIdeal.nD Cert.FoxRefIdeal.τ).loc Cert.FoxRefIdeal.main_arg3) = m ((c.tc : Thread Cert.FoxIdeal.nD Cert.FoxIdeal.τ).loc Cert.FoxIdeal.main_arg3)) →
    ∃ (v0 : (c : Dev Cert.FoxIdeal.nD) → Buf (Elt Ideal) ((c.tc : Thread Cert.FoxIdeal.nD Cert.FoxIdeal.τ).loc Cert.FoxIdeal.main_v25)),
      θ_run (Cert.FoxIdeal.defs (F := Ideal)) (onTc (τ := Cert.FoxIdeal.τ) (Cert.FoxIdeal.main (F := Ideal))) ⟨m, fun _ => 0, g⟩ (fun r => ∀ c : Dev Cert.FoxIdeal.nD,
          r.2.mem ((c.tc : Thread Cert.FoxIdeal.nD Cert.FoxIdeal.τ).loc Cert.FoxIdeal.main_v25) = v0 c
          ∧ r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
          ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
          ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
          ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3))
      ∧ θ_run (Cert.FoxRefIdeal.defs (F := Ideal)) (onTc (τ := Cert.FoxRefIdeal.τ) (Cert.FoxRefIdeal.main (F := Ideal))) ⟨m', fun _ => 0, g'⟩ (fun r => ∀ c : Dev Cert.FoxRefIdeal.nD,
          r.2.mem ((c.tc : Thread Cert.FoxRefIdeal.nD Cert.FoxRefIdeal.τ).loc Cert.FoxRefIdeal.main_v31) = v0 c
          ∧ r.2.mem ((c.tc : Thread Cert.FoxRefIdeal.nD Cert.FoxRefIdeal.τ).loc Cert.FoxRefIdeal.main_arg0) = m' ((c.tc : Thread Cert.FoxRefIdeal.nD Cert.FoxRefIdeal.τ).loc Cert.FoxRefIdeal.main_arg0)
          ∧ r.2.mem ((c.tc : Thread Cert.FoxRefIdeal.nD Cert.FoxRefIdeal.τ).loc Cert.FoxRefIdeal.main_arg1) = m' ((c.tc : Thread Cert.FoxRefIdeal.nD Cert.FoxRefIdeal.τ).loc Cert.FoxRefIdeal.main_arg1)
          ∧ r.2.mem ((c.tc : Thread Cert.FoxRefIdeal.nD Cert.FoxRefIdeal.τ).loc Cert.FoxRefIdeal.main_arg2) = m' ((c.tc : Thread Cert.FoxRefIdeal.nD Cert.FoxRefIdeal.τ).loc Cert.FoxRefIdeal.main_arg2)
          ∧ r.2.mem ((c.tc : Thread Cert.FoxRefIdeal.nD Cert.FoxRefIdeal.τ).loc Cert.FoxRefIdeal.main_arg3) = m' ((c.tc : Thread Cert.FoxRefIdeal.nD Cert.FoxRefIdeal.τ).loc Cert.FoxRefIdeal.main_arg3))

def preserves_FfnIn_FfnInIdeal : Prop :=
  True

def algebraic_FfnInIdeal_FfnInRefIdeal [hFfnInIdeal : Cert.FfnInIdeal.Facts] [hFfnInRefIdeal : Cert.FfnInRefIdeal.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)
      ∧ m' ((c.tc : Thread Cert.FfnInRefIdeal.nD Cert.FfnInRefIdeal.τ).loc Cert.FfnInRefIdeal.main_arg2) = m ((c.tc : Thread Cert.FfnInIdeal.nD Cert.FfnInIdeal.τ).loc Cert.FfnInIdeal.main_arg2)
      ∧ m' ((c.tc : Thread Cert.FfnInRefIdeal.nD Cert.FfnInRefIdeal.τ).loc Cert.FfnInRefIdeal.main_arg3) = m ((c.tc : Thread Cert.FfnInIdeal.nD Cert.FfnInIdeal.τ).loc Cert.FfnInIdeal.main_arg3)
      ∧ m' ((c.tc : Thread Cert.FfnInRefIdeal.nD Cert.FfnInRefIdeal.τ).loc Cert.FfnInRefIdeal.main_arg4) = m ((c.tc : Thread Cert.FfnInIdeal.nD Cert.FfnInIdeal.τ).loc Cert.FfnInIdeal.main_arg4)
      ∧ m' ((c.tc : Thread Cert.FfnInRefIdeal.nD Cert.FfnInRefIdeal.τ).loc Cert.FfnInRefIdeal.main_arg5) = m ((c.tc : Thread Cert.FfnInIdeal.nD Cert.FfnInIdeal.τ).loc Cert.FfnInIdeal.main_arg5)) →
    ∃ (v0 : (c : Dev Cert.FfnInIdeal.nD) → Buf (Elt Ideal) ((c.tc : Thread Cert.FfnInIdeal.nD Cert.FfnInIdeal.τ).loc Cert.FfnInIdeal.main_v10)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v10) = v0 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
          ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
          ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
          ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4)
          ∧ r.2.mem ((c.tc : Thread Cert.FfnInIdeal.nD Cert.FfnInIdeal.τ).loc Cert.FfnInIdeal.main_arg5) = m ((c.tc : Thread Cert.FfnInIdeal.nD Cert.FfnInIdeal.τ).loc Cert.FfnInIdeal.main_arg5))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v25) = v0 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1)
          ∧ r.2.mem ((c.tc : Thread Cert.FfnInRefIdeal.nD Cert.FfnInRefIdeal.τ).loc Cert.FfnInRefIdeal.main_arg2) = m' ((c.tc : Thread Cert.FfnInRefIdeal.nD Cert.FfnInRefIdeal.τ).loc Cert.FfnInRefIdeal.main_arg2)
          ∧ r.2.mem ((c.tc : Thread Cert.FfnInRefIdeal.nD Cert.FfnInRefIdeal.τ).loc Cert.FfnInRefIdeal.main_arg3) = m' ((c.tc : Thread Cert.FfnInRefIdeal.nD Cert.FfnInRefIdeal.τ).loc Cert.FfnInRefIdeal.main_arg3)
          ∧ r.2.mem ((c.tc : Thread Cert.FfnInRefIdeal.nD Cert.FfnInRefIdeal.τ).loc Cert.FfnInRefIdeal.main_arg4) = m' ((c.tc : Thread Cert.FfnInRefIdeal.nD Cert.FfnInRefIdeal.τ).loc Cert.FfnInRefIdeal.main_arg4)
          ∧ r.2.mem ((c.tc : Thread Cert.FfnInRefIdeal.nD Cert.FfnInRefIdeal.τ).loc Cert.FfnInRefIdeal.main_arg5) = m' ((c.tc : Thread Cert.FfnInRefIdeal.nD Cert.FfnInRefIdeal.τ).loc Cert.FfnInRefIdeal.main_arg5))

def preserves_FfnOut_FfnOutIdeal : Prop :=
  True

def algebraic_FfnOutIdeal_FfnOutRefIdeal [hFfnOutIdeal : Cert.FfnOutIdeal.Facts] [hFfnOutRefIdeal : Cert.FfnOutRefIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg)
    (m' : (ℓ : Loc Cert.FfnOutRefIdeal.nD Cert.FfnOutRefIdeal.τ Cert.FfnOutRefIdeal.sig) → Buf (Elt Ideal) ℓ) (g' : Dev Cert.FfnOutRefIdeal.nD → PrngReg), Pre_FfnOutIdeal m →
    (∀ c : Dev Cert.FfnOutIdeal.nD,
      m' ((c.tc : Thread Cert.FfnOutRefIdeal.nD Cert.FfnOutRefIdeal.τ).loc Cert.FfnOutRefIdeal.main_arg0) = m ((c.tc : Thread Cert.FfnOutIdeal.nD Cert.FfnOutIdeal.τ).loc Cert.FfnOutIdeal.main_arg0)
      ∧ m' ((c.tc : Thread Cert.FfnOutRefIdeal.nD Cert.FfnOutRefIdeal.τ).loc Cert.FfnOutRefIdeal.main_arg1) = m ((c.tc : Thread Cert.FfnOutIdeal.nD Cert.FfnOutIdeal.τ).loc Cert.FfnOutIdeal.main_arg1)
      ∧ m' ((c.tc : Thread Cert.FfnOutRefIdeal.nD Cert.FfnOutRefIdeal.τ).loc Cert.FfnOutRefIdeal.main_arg2) = m ((c.tc : Thread Cert.FfnOutIdeal.nD Cert.FfnOutIdeal.τ).loc Cert.FfnOutIdeal.main_arg2)
      ∧ m' ((c.tc : Thread Cert.FfnOutRefIdeal.nD Cert.FfnOutRefIdeal.τ).loc Cert.FfnOutRefIdeal.main_arg3) = m ((c.tc : Thread Cert.FfnOutIdeal.nD Cert.FfnOutIdeal.τ).loc Cert.FfnOutIdeal.main_arg3)
      ∧ m' ((c.tc : Thread Cert.FfnOutRefIdeal.nD Cert.FfnOutRefIdeal.τ).loc Cert.FfnOutRefIdeal.main_arg4) = m ((c.tc : Thread Cert.FfnOutIdeal.nD Cert.FfnOutIdeal.τ).loc Cert.FfnOutIdeal.main_arg4)
      ∧ m' ((c.tc : Thread Cert.FfnOutRefIdeal.nD Cert.FfnOutRefIdeal.τ).loc Cert.FfnOutRefIdeal.main_arg5) = m ((c.tc : Thread Cert.FfnOutIdeal.nD Cert.FfnOutIdeal.τ).loc Cert.FfnOutIdeal.main_arg5)) →
    ∃ (v0 : (c : Dev Cert.FfnOutIdeal.nD) → Buf (Elt Ideal) ((c.tc : Thread Cert.FfnOutIdeal.nD Cert.FfnOutIdeal.τ).loc Cert.FfnOutIdeal.main_v10)),
      θ_run (Cert.FfnOutIdeal.defs (F := Ideal)) (onTc (τ := Cert.FfnOutIdeal.τ) (Cert.FfnOutIdeal.main (F := Ideal))) ⟨m, fun _ => 0, g⟩ (fun r => ∀ c : Dev Cert.FfnOutIdeal.nD,
          r.2.mem ((c.tc : Thread Cert.FfnOutIdeal.nD Cert.FfnOutIdeal.τ).loc Cert.FfnOutIdeal.main_v10) = v0 c
          ∧ r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
          ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
          ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2)
          ∧ r.2.mem ((c.tc : Thread Cert.FfnOutIdeal.nD Cert.FfnOutIdeal.τ).loc Cert.FfnOutIdeal.main_arg3) = m ((c.tc : Thread Cert.FfnOutIdeal.nD Cert.FfnOutIdeal.τ).loc Cert.FfnOutIdeal.main_arg3)
          ∧ r.2.mem ((c.tc : Thread Cert.FfnOutIdeal.nD Cert.FfnOutIdeal.τ).loc Cert.FfnOutIdeal.main_arg4) = m ((c.tc : Thread Cert.FfnOutIdeal.nD Cert.FfnOutIdeal.τ).loc Cert.FfnOutIdeal.main_arg4)
          ∧ r.2.mem ((c.tc : Thread Cert.FfnOutIdeal.nD Cert.FfnOutIdeal.τ).loc Cert.FfnOutIdeal.main_arg5) = m ((c.tc : Thread Cert.FfnOutIdeal.nD Cert.FfnOutIdeal.τ).loc Cert.FfnOutIdeal.main_arg5))
      ∧ θ_run (Cert.FfnOutRefIdeal.defs (F := Ideal)) (onTc (τ := Cert.FfnOutRefIdeal.τ) (Cert.FfnOutRefIdeal.main (F := Ideal))) ⟨m', fun _ => 0, g'⟩ (fun r => ∀ c : Dev Cert.FfnOutRefIdeal.nD,
          r.2.mem ((c.tc : Thread Cert.FfnOutRefIdeal.nD Cert.FfnOutRefIdeal.τ).loc Cert.FfnOutRefIdeal.main_v38) = v0 c
          ∧ r.2.mem ((c.tc : Thread Cert.FfnOutRefIdeal.nD Cert.FfnOutRefIdeal.τ).loc Cert.FfnOutRefIdeal.main_arg0) = m' ((c.tc : Thread Cert.FfnOutRefIdeal.nD Cert.FfnOutRefIdeal.τ).loc Cert.FfnOutRefIdeal.main_arg0)
          ∧ r.2.mem ((c.tc : Thread Cert.FfnOutRefIdeal.nD Cert.FfnOutRefIdeal.τ).loc Cert.FfnOutRefIdeal.main_arg1) = m' ((c.tc : Thread Cert.FfnOutRefIdeal.nD Cert.FfnOutRefIdeal.τ).loc Cert.FfnOutRefIdeal.main_arg1)
          ∧ r.2.mem ((c.tc : Thread Cert.FfnOutRefIdeal.nD Cert.FfnOutRefIdeal.τ).loc Cert.FfnOutRefIdeal.main_arg2) = m' ((c.tc : Thread Cert.FfnOutRefIdeal.nD Cert.FfnOutRefIdeal.τ).loc Cert.FfnOutRefIdeal.main_arg2)
          ∧ r.2.mem ((c.tc : Thread Cert.FfnOutRefIdeal.nD Cert.FfnOutRefIdeal.τ).loc Cert.FfnOutRefIdeal.main_arg3) = m' ((c.tc : Thread Cert.FfnOutRefIdeal.nD Cert.FfnOutRefIdeal.τ).loc Cert.FfnOutRefIdeal.main_arg3)
          ∧ r.2.mem ((c.tc : Thread Cert.FfnOutRefIdeal.nD Cert.FfnOutRefIdeal.τ).loc Cert.FfnOutRefIdeal.main_arg4) = m' ((c.tc : Thread Cert.FfnOutRefIdeal.nD Cert.FfnOutRefIdeal.τ).loc Cert.FfnOutRefIdeal.main_arg4)
          ∧ r.2.mem ((c.tc : Thread Cert.FfnOutRefIdeal.nD Cert.FfnOutRefIdeal.τ).loc Cert.FfnOutRefIdeal.main_arg5) = m' ((c.tc : Thread Cert.FfnOutRefIdeal.nD Cert.FfnOutRefIdeal.τ).loc Cert.FfnOutRefIdeal.main_arg5))

def preserves_Memkv_MemkvIdeal : Prop :=
  True

def algebraic_MemkvIdeal_MemkvRefIdeal [hMemkvIdeal : Cert.MemkvIdeal.Facts] [hMemkvRefIdeal : Cert.MemkvRefIdeal.Facts] : Prop :=
  ∀ (m : (ℓ : Loc Cert.MemkvIdeal.nD Cert.MemkvIdeal.τ Cert.MemkvIdeal.sig) → Buf (Elt Ideal) ℓ) (g : Dev Cert.MemkvIdeal.nD → PrngReg)
    (m' : (ℓ : Loc Cert.MemkvRefIdeal.nD Cert.MemkvRefIdeal.τ Cert.MemkvRefIdeal.sig) → Buf (Elt Ideal) ℓ) (g' : Dev Cert.MemkvRefIdeal.nD → PrngReg), Pre_MemkvIdeal m →
    (∀ c : Dev Cert.MemkvIdeal.nD,
      m' ((c.tc : Thread Cert.MemkvRefIdeal.nD Cert.MemkvRefIdeal.τ).loc Cert.MemkvRefIdeal.main_arg0) = m ((c.tc : Thread Cert.MemkvIdeal.nD Cert.MemkvIdeal.τ).loc Cert.MemkvIdeal.main_arg0)
      ∧ m' ((c.tc : Thread Cert.MemkvRefIdeal.nD Cert.MemkvRefIdeal.τ).loc Cert.MemkvRefIdeal.main_arg1) = m ((c.tc : Thread Cert.MemkvIdeal.nD Cert.MemkvIdeal.τ).loc Cert.MemkvIdeal.main_arg1)
      ∧ m' ((c.tc : Thread Cert.MemkvRefIdeal.nD Cert.MemkvRefIdeal.τ).loc Cert.MemkvRefIdeal.main_arg2) = m ((c.tc : Thread Cert.MemkvIdeal.nD Cert.MemkvIdeal.τ).loc Cert.MemkvIdeal.main_arg2)
      ∧ m' ((c.tc : Thread Cert.MemkvRefIdeal.nD Cert.MemkvRefIdeal.τ).loc Cert.MemkvRefIdeal.main_arg3) = m ((c.tc : Thread Cert.MemkvIdeal.nD Cert.MemkvIdeal.τ).loc Cert.MemkvIdeal.main_arg3)) →
    ∃ (v0 : (c : Dev Cert.MemkvIdeal.nD) → Buf (Elt Ideal) ((c.tc : Thread Cert.MemkvIdeal.nD Cert.MemkvIdeal.τ).loc Cert.MemkvIdeal.main_v7_0)) (v1 : (c : Dev Cert.MemkvIdeal.nD) → Buf (Elt Ideal) ((c.tc : Thread Cert.MemkvIdeal.nD Cert.MemkvIdeal.τ).loc Cert.MemkvIdeal.main_v7_1)),
      θ_run (Cert.MemkvIdeal.defs (F := Ideal)) (onTc (τ := Cert.MemkvIdeal.τ) (Cert.MemkvIdeal.main (F := Ideal))) ⟨m, fun _ => 0, g⟩ (fun r => ∀ c : Dev Cert.MemkvIdeal.nD,
          r.2.mem ((c.tc : Thread Cert.MemkvIdeal.nD Cert.MemkvIdeal.τ).loc Cert.MemkvIdeal.main_v7_0) = v0 c
          ∧ r.2.mem ((c.tc : Thread Cert.MemkvIdeal.nD Cert.MemkvIdeal.τ).loc Cert.MemkvIdeal.main_v7_1) = v1 c
          ∧ r.2.mem ((c.tc : Thread Cert.MemkvIdeal.nD Cert.MemkvIdeal.τ).loc Cert.MemkvIdeal.main_arg0) = m ((c.tc : Thread Cert.MemkvIdeal.nD Cert.MemkvIdeal.τ).loc Cert.MemkvIdeal.main_arg0)
          ∧ r.2.mem ((c.tc : Thread Cert.MemkvIdeal.nD Cert.MemkvIdeal.τ).loc Cert.MemkvIdeal.main_arg1) = m ((c.tc : Thread Cert.MemkvIdeal.nD Cert.MemkvIdeal.τ).loc Cert.MemkvIdeal.main_arg1)
          ∧ r.2.mem ((c.tc : Thread Cert.MemkvIdeal.nD Cert.MemkvIdeal.τ).loc Cert.MemkvIdeal.main_arg2) = m ((c.tc : Thread Cert.MemkvIdeal.nD Cert.MemkvIdeal.τ).loc Cert.MemkvIdeal.main_arg2)
          ∧ r.2.mem ((c.tc : Thread Cert.MemkvIdeal.nD Cert.MemkvIdeal.τ).loc Cert.MemkvIdeal.main_arg3) = m ((c.tc : Thread Cert.MemkvIdeal.nD Cert.MemkvIdeal.τ).loc Cert.MemkvIdeal.main_arg3))
      ∧ θ_run (Cert.MemkvRefIdeal.defs (F := Ideal)) (onTc (τ := Cert.MemkvRefIdeal.τ) (Cert.MemkvRefIdeal.main (F := Ideal))) ⟨m', fun _ => 0, g'⟩ (fun r => ∀ c : Dev Cert.MemkvRefIdeal.nD,
          r.2.mem ((c.tc : Thread Cert.MemkvRefIdeal.nD Cert.MemkvRefIdeal.τ).loc Cert.MemkvRefIdeal.main_v16) = v0 c
          ∧ r.2.mem ((c.tc : Thread Cert.MemkvRefIdeal.nD Cert.MemkvRefIdeal.τ).loc Cert.MemkvRefIdeal.main_v19) = v1 c
          ∧ r.2.mem ((c.tc : Thread Cert.MemkvRefIdeal.nD Cert.MemkvRefIdeal.τ).loc Cert.MemkvRefIdeal.main_arg0) = m' ((c.tc : Thread Cert.MemkvRefIdeal.nD Cert.MemkvRefIdeal.τ).loc Cert.MemkvRefIdeal.main_arg0)
          ∧ r.2.mem ((c.tc : Thread Cert.MemkvRefIdeal.nD Cert.MemkvRefIdeal.τ).loc Cert.MemkvRefIdeal.main_arg1) = m' ((c.tc : Thread Cert.MemkvRefIdeal.nD Cert.MemkvRefIdeal.τ).loc Cert.MemkvRefIdeal.main_arg1)
          ∧ r.2.mem ((c.tc : Thread Cert.MemkvRefIdeal.nD Cert.MemkvRefIdeal.τ).loc Cert.MemkvRefIdeal.main_arg2) = m' ((c.tc : Thread Cert.MemkvRefIdeal.nD Cert.MemkvRefIdeal.τ).loc Cert.MemkvRefIdeal.main_arg2)
          ∧ r.2.mem ((c.tc : Thread Cert.MemkvRefIdeal.nD Cert.MemkvRefIdeal.τ).loc Cert.MemkvRefIdeal.main_arg3) = m' ((c.tc : Thread Cert.MemkvRefIdeal.nD Cert.MemkvRefIdeal.τ).loc Cert.MemkvRefIdeal.main_arg3))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)) →
    ∃ (v0 : (c : Dev Cert.InprojIdeal.nD) → Buf (Elt Ideal) ((c.tc : Thread Cert.InprojIdeal.nD Cert.InprojIdeal.τ).loc Cert.InprojIdeal.main_v68_0)) (v1 : (c : Dev Cert.InprojIdeal.nD) → Buf (Elt Ideal) ((c.tc : Thread Cert.InprojIdeal.nD Cert.InprojIdeal.τ).loc Cert.InprojIdeal.main_v68_1)) (v2 : (c : Dev Cert.InprojIdeal.nD) → Buf (Elt Ideal) ((c.tc : Thread Cert.InprojIdeal.nD Cert.InprojIdeal.τ).loc Cert.InprojIdeal.main_v68_2)) (v3 : (c : Dev Cert.InprojIdeal.nD) → Buf (Elt Ideal) ((c.tc : Thread Cert.InprojIdeal.nD Cert.InprojIdeal.τ).loc Cert.InprojIdeal.main_v68_6)) (v4 : (c : Dev Cert.InprojIdeal.nD) → Buf (Elt Ideal) ((c.tc : Thread Cert.InprojIdeal.nD Cert.InprojIdeal.τ).loc Cert.InprojIdeal.main_v68_7)) (v5 : (c : Dev Cert.InprojIdeal.nD) → Buf (Elt Ideal) ((c.tc : Thread Cert.InprojIdeal.nD Cert.InprojIdeal.τ).loc Cert.InprojIdeal.main_v68_8)) (v6 : (c : Dev Cert.InprojIdeal.nD) → Buf (Elt Ideal) ((c.tc : Thread Cert.InprojIdeal.nD Cert.InprojIdeal.τ).loc Cert.InprojIdeal.main_v68_9)) (v7 : (c : Dev Cert.InprojIdeal.nD) → Buf (Elt Ideal) ((c.tc : Thread Cert.InprojIdeal.nD Cert.InprojIdeal.τ).loc Cert.InprojIdeal.main_v68_10)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v68_0) = v0 c
          ∧ r.2.mem ((c.tc : Thread Cert.InprojIdeal.nD Cert.InprojIdeal.τ).loc Cert.InprojIdeal.main_v68_1) = v1 c
          ∧ r.2.mem ((c.tc : Thread Cert.InprojIdeal.nD Cert.InprojIdeal.τ).loc Cert.InprojIdeal.main_v68_2) = v2 c
          ∧ r.2.mem ((c.tc : Thread Cert.InprojIdeal.nD Cert.InprojIdeal.τ).loc Cert.InprojIdeal.main_v68_6) = v3 c
          ∧ r.2.mem ((c.tc : Thread Cert.InprojIdeal.nD Cert.InprojIdeal.τ).loc Cert.InprojIdeal.main_v68_7) = v4 c
          ∧ r.2.mem ((c.tc : Thread Cert.InprojIdeal.nD Cert.InprojIdeal.τ).loc Cert.InprojIdeal.main_v68_8) = v5 c
          ∧ r.2.mem ((c.tc : Thread Cert.InprojIdeal.nD Cert.InprojIdeal.τ).loc Cert.InprojIdeal.main_v68_9) = v6 c
          ∧ r.2.mem ((c.tc : Thread Cert.InprojIdeal.nD Cert.InprojIdeal.τ).loc Cert.InprojIdeal.main_v68_10) = v7 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v100) = v0 c
          ∧ r.2.mem ((c.tc : Thread Cert.InprojRefIdeal.nD Cert.InprojRefIdeal.τ).loc Cert.InprojRefIdeal.main_v101) = v1 c
          ∧ r.2.mem ((c.tc : Thread Cert.InprojRefIdeal.nD Cert.InprojRefIdeal.τ).loc Cert.InprojRefIdeal.main_v102) = v2 c
          ∧ r.2.mem ((c.tc : Thread Cert.InprojRefIdeal.nD Cert.InprojRefIdeal.τ).loc Cert.InprojRefIdeal.main_v103) = v3 c
          ∧ r.2.mem ((c.tc : Thread Cert.InprojRefIdeal.nD Cert.InprojRefIdeal.τ).loc Cert.InprojRefIdeal.main_v105) = v4 c
          ∧ r.2.mem ((c.tc : Thread Cert.InprojRefIdeal.nD Cert.InprojRefIdeal.τ).loc Cert.InprojRefIdeal.main_v107) = v5 c
          ∧ r.2.mem ((c.tc : Thread Cert.InprojRefIdeal.nD Cert.InprojRefIdeal.τ).loc Cert.InprojRefIdeal.main_v109) = v6 c
          ∧ r.2.mem ((c.tc : Thread Cert.InprojRefIdeal.nD Cert.InprojRefIdeal.τ).loc Cert.InprojRefIdeal.main_v110) = v7 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3))

def preserves_FfnOutS_FfnOutSIdeal : Prop :=
  True

def algebraic_FfnOutSIdeal_FfnOutSRefIdeal [hFfnOutSIdeal : Cert.FfnOutSIdeal.Facts] [hFfnOutSRefIdeal : Cert.FfnOutSRefIdeal.Facts] : Prop :=
  ∀ (m : (ℓ : Loc Cert.FfnOutSIdeal.nD Cert.FfnOutSIdeal.τ Cert.FfnOutSIdeal.sig) → Buf (Elt Ideal) ℓ) (g : Dev Cert.FfnOutSIdeal.nD → PrngReg)
    (m' : (ℓ : Loc Cert.FfnOutSRefIdeal.nD Cert.FfnOutSRefIdeal.τ Cert.FfnOutSRefIdeal.sig) → Buf (Elt Ideal) ℓ) (g' : Dev Cert.FfnOutSRefIdeal.nD → PrngReg), Pre_FfnOutSIdeal m →
    (∀ c : Dev Cert.FfnOutSIdeal.nD,
      m' ((c.tc : Thread Cert.FfnOutSRefIdeal.nD Cert.FfnOutSRefIdeal.τ).loc Cert.FfnOutSRefIdeal.main_arg0) = m ((c.tc : Thread Cert.FfnOutSIdeal.nD Cert.FfnOutSIdeal.τ).loc Cert.FfnOutSIdeal.main_arg0)
      ∧ m' ((c.tc : Thread Cert.FfnOutSRefIdeal.nD Cert.FfnOutSRefIdeal.τ).loc Cert.FfnOutSRefIdeal.main_arg1) = m ((c.tc : Thread Cert.FfnOutSIdeal.nD Cert.FfnOutSIdeal.τ).loc Cert.FfnOutSIdeal.main_arg1)
      ∧ m' ((c.tc : Thread Cert.FfnOutSRefIdeal.nD Cert.FfnOutSRefIdeal.τ).loc Cert.FfnOutSRefIdeal.main_arg2) = m ((c.tc : Thread Cert.FfnOutSIdeal.nD Cert.FfnOutSIdeal.τ).loc Cert.FfnOutSIdeal.main_arg2)
      ∧ m' ((c.tc : Thread Cert.FfnOutSRefIdeal.nD Cert.FfnOutSRefIdeal.τ).loc Cert.FfnOutSRefIdeal.main_arg3) = m ((c.tc : Thread Cert.FfnOutSIdeal.nD Cert.FfnOutSIdeal.τ).loc Cert.FfnOutSIdeal.main_arg3)
      ∧ m' ((c.tc : Thread Cert.FfnOutSRefIdeal.nD Cert.FfnOutSRefIdeal.τ).loc Cert.FfnOutSRefIdeal.main_arg4) = m ((c.tc : Thread Cert.FfnOutSIdeal.nD Cert.FfnOutSIdeal.τ).loc Cert.FfnOutSIdeal.main_arg4)
      ∧ m' ((c.tc : Thread Cert.FfnOutSRefIdeal.nD Cert.FfnOutSRefIdeal.τ).loc Cert.FfnOutSRefIdeal.main_arg5) = m ((c.tc : Thread Cert.FfnOutSIdeal.nD Cert.FfnOutSIdeal.τ).loc Cert.FfnOutSIdeal.main_arg5)) →
    ∃ (v0 : (c : Dev Cert.FfnOutSIdeal.nD) → Buf (Elt Ideal) ((c.tc : Thread Cert.FfnOutSIdeal.nD Cert.FfnOutSIdeal.τ).loc Cert.FfnOutSIdeal.main_v10)),
      θ_run (Cert.FfnOutSIdeal.defs (F := Ideal)) (onTc (τ := Cert.FfnOutSIdeal.τ) (Cert.FfnOutSIdeal.main (F := Ideal))) ⟨m, fun _ => 0, g⟩ (fun r => ∀ c : Dev Cert.FfnOutSIdeal.nD,
          r.2.mem ((c.tc : Thread Cert.FfnOutSIdeal.nD Cert.FfnOutSIdeal.τ).loc Cert.FfnOutSIdeal.main_v10) = v0 c
          ∧ r.2.mem ((c.tc : Thread Cert.FfnOutSIdeal.nD Cert.FfnOutSIdeal.τ).loc Cert.FfnOutSIdeal.main_arg0) = m ((c.tc : Thread Cert.FfnOutSIdeal.nD Cert.FfnOutSIdeal.τ).loc Cert.FfnOutSIdeal.main_arg0)
          ∧ r.2.mem ((c.tc : Thread Cert.FfnOutSIdeal.nD Cert.FfnOutSIdeal.τ).loc Cert.FfnOutSIdeal.main_arg1) = m ((c.tc : Thread Cert.FfnOutSIdeal.nD Cert.FfnOutSIdeal.τ).loc Cert.FfnOutSIdeal.main_arg1)
          ∧ r.2.mem ((c.tc : Thread Cert.FfnOutSIdeal.nD Cert.FfnOutSIdeal.τ).loc Cert.FfnOutSIdeal.main_arg2) = m ((c.tc : Thread Cert.FfnOutSIdeal.nD Cert.FfnOutSIdeal.τ).loc Cert.FfnOutSIdeal.main_arg2)
          ∧ r.2.mem ((c.tc : Thread Cert.FfnOutSIdeal.nD Cert.FfnOutSIdeal.τ).loc Cert.FfnOutSIdeal.main_arg3) = m ((c.tc : Thread Cert.FfnOutSIdeal.nD Cert.FfnOutSIdeal.τ).loc Cert.FfnOutSIdeal.main_arg3)
          ∧ r.2.mem ((c.tc : Thread Cert.FfnOutSIdeal.nD Cert.FfnOutSIdeal.τ).loc Cert.FfnOutSIdeal.main_arg4) = m ((c.tc : Thread Cert.FfnOutSIdeal.nD Cert.FfnOutSIdeal.τ).loc Cert.FfnOutSIdeal.main_arg4)
          ∧ r.2.mem ((c.tc : Thread Cert.FfnOutSIdeal.nD Cert.FfnOutSIdeal.τ).loc Cert.FfnOutSIdeal.main_arg5) = m ((c.tc : Thread Cert.FfnOutSIdeal.nD Cert.FfnOutSIdeal.τ).loc Cert.FfnOutSIdeal.main_arg5))
      ∧ θ_run (Cert.FfnOutSRefIdeal.defs (F := Ideal)) (onTc (τ := Cert.FfnOutSRefIdeal.τ) (Cert.FfnOutSRefIdeal.main (F := Ideal))) ⟨m', fun _ => 0, g'⟩ (fun r => ∀ c : Dev Cert.FfnOutSRefIdeal.nD,
          r.2.mem ((c.tc : Thread Cert.FfnOutSRefIdeal.nD Cert.FfnOutSRefIdeal.τ).loc Cert.FfnOutSRefIdeal.main_v38) = v0 c
          ∧ r.2.mem ((c.tc : Thread Cert.FfnOutSRefIdeal.nD Cert.FfnOutSRefIdeal.τ).loc Cert.FfnOutSRefIdeal.main_arg0) = m' ((c.tc : Thread Cert.FfnOutSRefIdeal.nD Cert.FfnOutSRefIdeal.τ).loc Cert.FfnOutSRefIdeal.main_arg0)
          ∧ r.2.mem ((c.tc : Thread Cert.FfnOutSRefIdeal.nD Cert.FfnOutSRefIdeal.τ).loc Cert.FfnOutSRefIdeal.main_arg1) = m' ((c.tc : Thread Cert.FfnOutSRefIdeal.nD Cert.FfnOutSRefIdeal.τ).loc Cert.FfnOutSRefIdeal.main_arg1)
          ∧ r.2.mem ((c.tc : Thread Cert.FfnOutSRefIdeal.nD Cert.FfnOutSRefIdeal.τ).loc Cert.FfnOutSRefIdeal.main_arg2) = m' ((c.tc : Thread Cert.FfnOutSRefIdeal.nD Cert.FfnOutSRefIdeal.τ).loc Cert.FfnOutSRefIdeal.main_arg2)
          ∧ r.2.mem ((c.tc : Thread Cert.FfnOutSRefIdeal.nD Cert.FfnOutSRefIdeal.τ).loc Cert.FfnOutSRefIdeal.main_arg3) = m' ((c.tc : Thread Cert.FfnOutSRefIdeal.nD Cert.FfnOutSRefIdeal.τ).loc Cert.FfnOutSRefIdeal.main_arg3)
          ∧ r.2.mem ((c.tc : Thread Cert.FfnOutSRefIdeal.nD Cert.FfnOutSRefIdeal.τ).loc Cert.FfnOutSRefIdeal.main_arg4) = m' ((c.tc : Thread Cert.FfnOutSRefIdeal.nD Cert.FfnOutSRefIdeal.τ).loc Cert.FfnOutSRefIdeal.main_arg4)
          ∧ r.2.mem ((c.tc : Thread Cert.FfnOutSRefIdeal.nD Cert.FfnOutSRefIdeal.τ).loc Cert.FfnOutSRefIdeal.main_arg5) = m' ((c.tc : Thread Cert.FfnOutSRefIdeal.nD Cert.FfnOutSRefIdeal.τ).loc Cert.FfnOutSRefIdeal.main_arg5))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)) →
    ∃ (v0 : (c : Dev Cert.MixIdeal.nD) → Buf (Elt Ideal) ((c.tc : Thread Cert.MixIdeal.nD Cert.MixIdeal.τ).loc Cert.MixIdeal.main_v15)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v15) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v41) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8))

def preserves_InprojS_InprojSIdeal : Prop :=
  True

def algebraic_InprojSIdeal_InprojSRefIdeal [hInprojSIdeal : Cert.InprojSIdeal.Facts] [hInprojSRefIdeal : Cert.InprojSRefIdeal.Facts] : Prop :=
  ∀ (m : (ℓ : Loc Cert.InprojSIdeal.nD Cert.InprojSIdeal.τ Cert.InprojSIdeal.sig) → Buf (Elt Ideal) ℓ) (g : Dev Cert.InprojSIdeal.nD → PrngReg)
    (m' : (ℓ : Loc Cert.InprojSRefIdeal.nD Cert.InprojSRefIdeal.τ Cert.InprojSRefIdeal.sig) → Buf (Elt Ideal) ℓ) (g' : Dev Cert.InprojSRefIdeal.nD → PrngReg), Pre_InprojSIdeal m →
    (∀ c : Dev Cert.InprojSIdeal.nD,
      m' ((c.tc : Thread Cert.InprojSRefIdeal.nD Cert.InprojSRefIdeal.τ).loc Cert.InprojSRefIdeal.main_arg0) = m ((c.tc : Thread Cert.InprojSIdeal.nD Cert.InprojSIdeal.τ).loc Cert.InprojSIdeal.main_arg0)
      ∧ m' ((c.tc : Thread Cert.InprojSRefIdeal.nD Cert.InprojSRefIdeal.τ).loc Cert.InprojSRefIdeal.main_arg1) = m ((c.tc : Thread Cert.InprojSIdeal.nD Cert.InprojSIdeal.τ).loc Cert.InprojSIdeal.main_arg1)
      ∧ m' ((c.tc : Thread Cert.InprojSRefIdeal.nD Cert.InprojSRefIdeal.τ).loc Cert.InprojSRefIdeal.main_arg2) = m ((c.tc : Thread Cert.InprojSIdeal.nD Cert.InprojSIdeal.τ).loc Cert.InprojSIdeal.main_arg2)
      ∧ m' ((c.tc : Thread Cert.InprojSRefIdeal.nD Cert.InprojSRefIdeal.τ).loc Cert.InprojSRefIdeal.main_arg3) = m ((c.tc : Thread Cert.InprojSIdeal.nD Cert.InprojSIdeal.τ).loc Cert.InprojSIdeal.main_arg3)) →
    ∃ (v0 : (c : Dev Cert.InprojSIdeal.nD) → Buf (Elt Ideal) ((c.tc : Thread Cert.InprojSIdeal.nD Cert.InprojSIdeal.τ).loc Cert.InprojSIdeal.main_v70_0)) (v1 : (c : Dev Cert.InprojSIdeal.nD) → Buf (Elt Ideal) ((c.tc : Thread Cert.InprojSIdeal.nD Cert.InprojSIdeal.τ).loc Cert.InprojSIdeal.main_v70_1)) (v2 : (c : Dev Cert.InprojSIdeal.nD) → Buf (Elt Ideal) ((c.tc : Thread Cert.InprojSIdeal.nD Cert.InprojSIdeal.τ).loc Cert.InprojSIdeal.main_v70_2)) (v3 : (c : Dev Cert.InprojSIdeal.nD) → Buf (Elt Ideal) ((c.tc : Thread Cert.InprojSIdeal.nD Cert.InprojSIdeal.τ).loc Cert.InprojSIdeal.main_v70_5)),
      θ_run (Cert.InprojSIdeal.defs (F := Ideal)) (onTc (τ := Cert.InprojSIdeal.τ) (Cert.InprojSIdeal.main (F := Ideal))) ⟨m, fun _ => 0, g⟩ (fun r => ∀ c : Dev Cert.InprojSIdeal.nD,
          r.2.mem ((c.tc : Thread Cert.InprojSIdeal.nD Cert.InprojSIdeal.τ).loc Cert.InprojSIdeal.main_v70_0) = v0 c
          ∧ r.2.mem ((c.tc : Thread Cert.InprojSIdeal.nD Cert.InprojSIdeal.τ).loc Cert.InprojSIdeal.main_v70_1) = v1 c
          ∧ r.2.mem ((c.tc : Thread Cert.InprojSIdeal.nD Cert.InprojSIdeal.τ).loc Cert.InprojSIdeal.main_v70_2) = v2 c
          ∧ r.2.mem ((c.tc : Thread Cert.InprojSIdeal.nD Cert.InprojSIdeal.τ).loc Cert.InprojSIdeal.main_v70_5) = v3 c
          ∧ r.2.mem ((c.tc : Thread Cert.InprojSIdeal.nD Cert.InprojSIdeal.τ).loc Cert.InprojSIdeal.main_arg0) = m ((c.tc : Thread Cert.InprojSIdeal.nD Cert.InprojSIdeal.τ).loc Cert.InprojSIdeal.main_arg0)
          ∧ r.2.mem ((c.tc : Thread Cert.InprojSIdeal.nD Cert.InprojSIdeal.τ).loc Cert.InprojSIdeal.main_arg1) = m ((c.tc : Thread Cert.InprojSIdeal.nD Cert.InprojSIdeal.τ).loc Cert.InprojSIdeal.main_arg1)
          ∧ r.2.mem ((c.tc : Thread Cert.InprojSIdeal.nD Cert.InprojSIdeal.τ).loc Cert.InprojSIdeal.main_arg2) = m ((c.tc : Thread Cert.InprojSIdeal.nD Cert.InprojSIdeal.τ).loc Cert.InprojSIdeal.main_arg2)
          ∧ r.2.mem ((c.tc : Thread Cert.InprojSIdeal.nD Cert.InprojSIdeal.τ).loc Cert.InprojSIdeal.main_arg3) = m ((c.tc : Thread Cert.InprojSIdeal.nD Cert.InprojSIdeal.τ).loc Cert.InprojSIdeal.main_arg3))
      ∧ θ_run (Cert.InprojSRefIdeal.defs (F := Ideal)) (onTc (τ := Cert.InprojSRefIdeal.τ) (Cert.InprojSRefIdeal.main (F := Ideal))) ⟨m', fun _ => 0, g'⟩ (fun r => ∀ c : Dev Cert.InprojSRefIdeal.nD,
          r.2.mem ((c.tc : Thread Cert.InprojSRefIdeal.nD Cert.InprojSRefIdeal.τ).loc Cert.InprojSRefIdeal.main_v101) = v0 c
          ∧ r.2.mem ((c.tc : Thread Cert.InprojSRefIdeal.nD Cert.InprojSRefIdeal.τ).loc Cert.InprojSRefIdeal.main_v102) = v1 c
          ∧ r.2.mem ((c.tc : Thread Cert.InprojSRefIdeal.nD Cert.InprojSRefIdeal.τ).loc Cert.InprojSRefIdeal.main_v103) = v2 c
          ∧ r.2.mem ((c.tc : Thread Cert.InprojSRefIdeal.nD Cert.InprojSRefIdeal.τ).loc Cert.InprojSRefIdeal.main_v104) = v3 c
          ∧ r.2.mem ((c.tc : Thread Cert.InprojSRefIdeal.nD Cert.InprojSRefIdeal.τ).loc Cert.InprojSRefIdeal.main_arg0) = m' ((c.tc : Thread Cert.InprojSRefIdeal.nD Cert.InprojSRefIdeal.τ).loc Cert.InprojSRefIdeal.main_arg0)
          ∧ r.2.mem ((c.tc : Thread Cert.InprojSRefIdeal.nD Cert.InprojSRefIdeal.τ).loc Cert.InprojSRefIdeal.main_arg1) = m' ((c.tc : Thread Cert.InprojSRefIdeal.nD Cert.InprojSRefIdeal.τ).loc Cert.InprojSRefIdeal.main_arg1)
          ∧ r.2.mem ((c.tc : Thread Cert.InprojSRefIdeal.nD Cert.InprojSRefIdeal.τ).loc Cert.InprojSRefIdeal.main_arg2) = m' ((c.tc : Thread Cert.InprojSRefIdeal.nD Cert.InprojSRefIdeal.τ).loc Cert.InprojSRefIdeal.main_arg2)
          ∧ r.2.mem ((c.tc : Thread Cert.InprojSRefIdeal.nD Cert.InprojSRefIdeal.τ).loc Cert.InprojSRefIdeal.main_arg3) = m' ((c.tc : Thread Cert.InprojSRefIdeal.nD Cert.InprojSRefIdeal.τ).loc Cert.InprojSRefIdeal.main_arg3))

def Claim : Prop :=
  ∃ (hFox : Cert.Fox.Facts) (hFoxIdeal : Cert.FoxIdeal.Facts) (hFoxRefIdeal : Cert.FoxRefIdeal.Facts) (hFfnIn : Cert.FfnIn.Facts) (hFfnInIdeal : Cert.FfnInIdeal.Facts) (hFfnInRefIdeal : Cert.FfnInRefIdeal.Facts) (hFfnOut : Cert.FfnOut.Facts) (hFfnOutIdeal : Cert.FfnOutIdeal.Facts) (hFfnOutRefIdeal : Cert.FfnOutRefIdeal.Facts) (hMemkv : Cert.Memkv.Facts) (hMemkvIdeal : Cert.MemkvIdeal.Facts) (hMemkvRefIdeal : Cert.MemkvRefIdeal.Facts) (hInproj : Cert.Inproj.Facts) (hInprojIdeal : Cert.InprojIdeal.Facts) (hInprojRefIdeal : Cert.InprojRefIdeal.Facts) (hFfnOutS : Cert.FfnOutS.Facts) (hFfnOutSIdeal : Cert.FfnOutSIdeal.Facts) (hFfnOutSRefIdeal : Cert.FfnOutSRefIdeal.Facts) (hMix : Cert.Mix.Facts) (hMixIdeal : Cert.MixIdeal.Facts) (hMixRefIdeal : Cert.MixRefIdeal.Facts) (hInprojS : Cert.InprojS.Facts) (hInprojSIdeal : Cert.InprojSIdeal.Facts) (hInprojSRefIdeal : Cert.InprojSRefIdeal.Facts) (hPre_finite_scores : Cert.Pre_finite_scores.Facts),
    quiescent_Fox (hFox := hFox)
    ∧ quiescent_FoxIdeal (hFoxIdeal := hFoxIdeal)
    ∧ quiescent_FoxIdeal_pre_finite_scores (hFoxIdeal := hFoxIdeal) (hPre_finite_scores := hPre_finite_scores)
    ∧ quiescent_FoxRefIdeal (hFoxRefIdeal := hFoxRefIdeal)
    ∧ quiescent_FoxRefIdeal_pre_finite_scores (hFoxRefIdeal := hFoxRefIdeal) (hPre_finite_scores := hPre_finite_scores)
    ∧ quiescent_FfnIn (hFfnIn := hFfnIn)
    ∧ quiescent_FfnInIdeal (hFfnInIdeal := hFfnInIdeal)
    ∧ quiescent_FfnInRefIdeal (hFfnInRefIdeal := hFfnInRefIdeal)
    ∧ quiescent_FfnOut (hFfnOut := hFfnOut)
    ∧ quiescent_FfnOutIdeal (hFfnOutIdeal := hFfnOutIdeal)
    ∧ quiescent_FfnOutRefIdeal (hFfnOutRefIdeal := hFfnOutRefIdeal)
    ∧ quiescent_Memkv (hMemkv := hMemkv)
    ∧ quiescent_MemkvIdeal (hMemkvIdeal := hMemkvIdeal)
    ∧ quiescent_MemkvRefIdeal (hMemkvRefIdeal := hMemkvRefIdeal)
    ∧ quiescent_Inproj (hInproj := hInproj)
    ∧ quiescent_InprojIdeal (hInprojIdeal := hInprojIdeal)
    ∧ quiescent_InprojRefIdeal (hInprojRefIdeal := hInprojRefIdeal)
    ∧ quiescent_FfnOutS (hFfnOutS := hFfnOutS)
    ∧ quiescent_FfnOutSIdeal (hFfnOutSIdeal := hFfnOutSIdeal)
    ∧ quiescent_FfnOutSRefIdeal (hFfnOutSRefIdeal := hFfnOutSRefIdeal)
    ∧ quiescent_Mix (hMix := hMix)
    ∧ quiescent_MixIdeal (hMixIdeal := hMixIdeal)
    ∧ quiescent_MixRefIdeal (hMixRefIdeal := hMixRefIdeal)
    ∧ quiescent_InprojS (hInprojS := hInprojS)
    ∧ quiescent_InprojSIdeal (hInprojSIdeal := hInprojSIdeal)
    ∧ quiescent_InprojSRefIdeal (hInprojSRefIdeal := hInprojSRefIdeal)
    ∧ preserves_Fox_FoxIdeal
    ∧ algebraic_FoxIdeal_FoxRefIdeal_pre_finite_scores (hFoxIdeal := hFoxIdeal) (hFoxRefIdeal := hFoxRefIdeal) (hPre_finite_scores := hPre_finite_scores)
    ∧ preserves_FfnIn_FfnInIdeal
    ∧ algebraic_FfnInIdeal_FfnInRefIdeal (hFfnInIdeal := hFfnInIdeal) (hFfnInRefIdeal := hFfnInRefIdeal)
    ∧ preserves_FfnOut_FfnOutIdeal
    ∧ algebraic_FfnOutIdeal_FfnOutRefIdeal (hFfnOutIdeal := hFfnOutIdeal) (hFfnOutRefIdeal := hFfnOutRefIdeal)
    ∧ preserves_Memkv_MemkvIdeal
    ∧ algebraic_MemkvIdeal_MemkvRefIdeal (hMemkvIdeal := hMemkvIdeal) (hMemkvRefIdeal := hMemkvRefIdeal)
    ∧ preserves_Inproj_InprojIdeal
    ∧ algebraic_InprojIdeal_InprojRefIdeal (hInprojIdeal := hInprojIdeal) (hInprojRefIdeal := hInprojRefIdeal)
    ∧ preserves_FfnOutS_FfnOutSIdeal
    ∧ algebraic_FfnOutSIdeal_FfnOutSRefIdeal (hFfnOutSIdeal := hFfnOutSIdeal) (hFfnOutSRefIdeal := hFfnOutSRefIdeal)
    ∧ preserves_Mix_MixIdeal
    ∧ algebraic_MixIdeal_MixRefIdeal (hMixIdeal := hMixIdeal) (hMixRefIdeal := hMixRefIdeal)
    ∧ preserves_InprojS_InprojSIdeal
    ∧ algebraic_InprojSIdeal_InprojSRefIdeal (hInprojSIdeal := hInprojSIdeal) (hInprojSRefIdeal := hInprojSRefIdeal)
-- ==== Pre_finite_scores.lean ====
abbrev S4x4096x8x64 : Shape := ⟨4, ![4, 4096, 8, 64]⟩
abbrev S4x4096x8 : Shape := ⟨3, ![4, 4096, 8]⟩
abbrev S_ : Shape := ⟨0, ![]⟩

class Facts : Prop where
  bcast_S_S4x4096x8x64 : S_.BroadcastsInDim S4x4096x8x64 (![] : Fin 0 → Fin S4x4096x8x64.rank)
  reducesTo_S4x4096x8x64_S_d0_1_2_3 : S4x4096x8x64.ReducesTo [0, 1, 2, 3] S_
  h_S_ : 0 < S_.numel
  bcast_S_S4x4096x8 : S_.BroadcastsInDim S4x4096x8 (![] : Fin 0 → Fin S4x4096x8.rank)
  reducesTo_S4x4096x8_S_d0_1_2 : S4x4096x8.ReducesTo [0, 1, 2] S_

variable [Facts]

def fn {F : FTy → Type} [FloatOps F] (main_arg0 : FVec F S4x4096x8x64 .f32) (main_arg1 : FVec F S4x4096x8x64 .f32) (main_arg2 : FVec F S4x4096x8x64 .f32) (main_arg3 : FVec F S4x4096x8 .f32) : IVec S_ 1 :=
  let main_v0 : FVec F S4x4096x8x64 .f32 := Host.absf main_arg0
  let main_cst : FVec F S_ .f32 := constant S_ .f32 0x7F800000#32
  let main_v1 : FVec F S4x4096x8x64 .f32 := broadcastInDim S4x4096x8x64 ![] bcast_S_S4x4096x8x64 main_cst
  let main_v2 : IVec S4x4096x8x64 1 := cmpf .olt main_v0 main_v1
  let main_c : IVec S_ 1 := constantI S_ 1 1#1
  let main_v3 : IVec S_ 1 := (fun x v => Host.reduce IntOp.andi x v reducesTo_S4x4096x8x64_S_d0_1_2_3 h_S_) main_v2 main_c
  let main_v4 : FVec F S4x4096x8x64 .f32 := Host.absf main_arg1
  let main_cst_0 : FVec F S_ .f32 := constant S_ .f32 0x7F800000#32
  let main_v5 : FVec F S4x4096x8x64 .f32 := broadcastInDim S4x4096x8x64 ![] bcast_S_S4x4096x8x64 main_cst_0
  let main_v6 : IVec S4x4096x8x64 1 := cmpf .olt main_v4 main_v5
  let main_c_1 : IVec S_ 1 := constantI S_ 1 1#1
  let main_v7 : IVec S_ 1 := (fun x v => Host.reduce IntOp.andi x v reducesTo_S4x4096x8x64_S_d0_1_2_3 h_S_) main_v6 main_c_1
  let main_v8 : IVec S_ 1 := andi main_v3 main_v7
  let main_v9 : FVec F S4x4096x8 .f32 := Host.absf main_arg3
  let main_cst_2 : FVec F S_ .f32 := constant S_ .f32 0x7F800000#32
  let main_v10 : FVec F S4x4096x8 .f32 := broadcastInDim S4x4096x8 ![] bcast_S_S4x4096x8 main_cst_2
  let main_v11 : IVec S4x4096x8 1 := cmpf .olt main_v9 main_v10
  let main_c_3 : IVec S_ 1 := constantI S_ 1 1#1
  let main_v12 : IVec S_ 1 := (fun x v => Host.reduce IntOp.andi x v reducesTo_S4x4096x8_S_d0_1_2 h_S_) main_v11 main_c_3
  let main_v13 : IVec S_ 1 := andi main_v8 main_v12
  main_v13
-- ==== Fox.lean ====
abbrev S4x4096x8x64 : Shape := ⟨4, ![4, 4096, 8, 64]⟩
abbrev S4x4096x8 : Shape := ⟨3, ![4, 4096, 8]⟩
abbrev S_ : Shape := ⟨0, ![]⟩
abbrev S4x4096x512 : Shape := ⟨3, ![4, 4096, 512]⟩
abbrev S4x512x4096 : Shape := ⟨3, ![4, 512, 4096]⟩
abbrev S4x16x256x512 : Shape := ⟨4, ![4, 16, 256, 512]⟩
abbrev S4x16x512x256 : Shape := ⟨4, ![4, 16, 512, 256]⟩
abbrev S4x4096x8x1 : Shape := ⟨4, ![4, 4096, 8, 1]⟩
abbrev S4x4096x8x3 : Shape := ⟨4, ![4, 4096, 8, 3]⟩
abbrev S4x4096x24 : Shape := ⟨3, ![4, 4096, 24]⟩
abbrev S4x4096x128 : Shape := ⟨3, ![4, 4096, 128]⟩
abbrev S4x8x4096 : Shape := ⟨3, ![4, 8, 4096]⟩
abbrev S1x256x256 : Shape := ⟨3, ![1, 256, 256]⟩
abbrev S1x4096x256 : Shape := ⟨3, ![1, 4096, 256]⟩
abbrev S1x4096x128 : Shape := ⟨3, ![1, 4096, 128]⟩
abbrev S1x16x256x256 : Shape := ⟨4, ![1, 16, 256, 256]⟩
abbrev S1x8x256 : Shape := ⟨3, ![1, 8, 256]⟩
abbrev S128x256 : Shape := ⟨2, ![128, 256]⟩
abbrev S1x128x256 : Shape := ⟨3, ![1, 128, 256]⟩
abbrev S256x256 : Shape := ⟨2, ![256, 256]⟩
abbrev S1x1x256 : Shape := ⟨3, ![1, 1, 256]⟩
abbrev S1x256 : Shape := ⟨2, ![1, 256]⟩
abbrev S256x512 : Shape := ⟨2, ![256, 512]⟩
abbrev S1x1024 : Shape := ⟨2, ![1, 1024]⟩
abbrev S64x1024 : Shape := ⟨2, ![64, 1024]⟩
abbrev S1x256x128 : Shape := ⟨3, ![1, 256, 128]⟩
abbrev S256x128 : Shape := ⟨2, ![256, 128]⟩
abbrev S256x1024 : Shape := ⟨2, ![256, 1024]⟩
abbrev S1024 : Shape := ⟨1, ![1024]⟩
abbrev S1x1x64x256 : Shape := ⟨4, ![1, 1, 64, 256]⟩
abbrev S64x256 : Shape := ⟨2, ![64, 256]⟩

abbrev nBuf : Space → Nat
  | .hbm => 33
  | .vmem => 12
  | .smem => 0
  | _ => 0

abbrev bufTy : (tb : Table) → Fin (tcTables nBuf tb) → BufTy
  | .hbm, ⟨0, _⟩ => ⟨S4x4096x8x64, .f32⟩
  | .hbm, ⟨1, _⟩ => ⟨S4x4096x8x64, .f32⟩
  | .hbm, ⟨2, _⟩ => ⟨S4x4096x8x64, .f32⟩
  | .hbm, ⟨3, _⟩ => ⟨S4x4096x8, .f32⟩
  | .hbm, ⟨4, _⟩ => ⟨S_, .f32⟩
  | .hbm, ⟨5, _⟩ => ⟨S4x4096x8x64, .f32⟩
  | .hbm, ⟨6, _⟩ => ⟨S4x4096x8x64, .f32⟩
  | .hbm, ⟨7, _⟩ => ⟨S4x4096x8x64, .bf16⟩
  | .hbm, ⟨8, _⟩ => ⟨S4x4096x512, .bf16⟩
  | .hbm, ⟨9, _⟩ => ⟨S4x512x4096, .bf16⟩
  | .hbm, ⟨10, _⟩ => ⟨S4x4096x8x64, .bf16⟩
  | .hbm, ⟨11, _⟩ => ⟨S4x4096x512, .bf16⟩
  | .hbm, ⟨12, _⟩ => ⟨S4x4096x8x64, .bf16⟩
  | .hbm, ⟨13, _⟩ => ⟨S4x16x256x512, .bf16⟩
  | .hbm, ⟨14, _⟩ => ⟨S4x16x512x256, .bf16⟩
  | .hbm, ⟨15, _⟩ => ⟨S4x4096x8, .f32⟩
  | .hbm, ⟨16, _⟩ => ⟨S4x4096x8, .bf16⟩
  | .hbm, ⟨17, _⟩ => ⟨S4x4096x8, .f32⟩
  | .hbm, ⟨18, _⟩ => ⟨S4x4096x8, .f32⟩
  | .hbm, ⟨19, _⟩ => ⟨S4x4096x8, .bf16⟩
  | .hbm, ⟨20, _⟩ => ⟨S4x4096x8, .f32⟩
  | .hbm, ⟨21, _⟩ => ⟨S4x4096x8, .f32⟩
  | .hbm, ⟨22, _⟩ => ⟨S4x4096x8, .bf16⟩
  | .hbm, ⟨23, _⟩ => ⟨S4x4096x8x1, .bf16⟩
  | .hbm, ⟨24, _⟩ => ⟨S4x4096x8x1, .bf16⟩
  | .hbm, ⟨25, _⟩ => ⟨S4x4096x8x1, .bf16⟩
  | .hbm, ⟨26, _⟩ => ⟨S4x4096x8x3, .bf16⟩
  | .hbm, ⟨27, _⟩ => ⟨S4x4096x24, .bf16⟩
  | .hbm, ⟨28, _⟩ => ⟨S_, .i32⟩
  | .hbm, ⟨29, _⟩ => ⟨S_, .bf16⟩
  | .hbm, ⟨30, _⟩ => ⟨S4x4096x128, .bf16⟩
  | .hbm, ⟨31, _⟩ => ⟨S4x8x4096, .f32⟩
  | .hbm, ⟨32, _⟩ => ⟨S4x4096x512, .bf16⟩
  | .local _ .vmem, ⟨0, _⟩ => ⟨S1x256x256, .bf16⟩
  | .local _ .vmem, ⟨1, _⟩ => ⟨S1x256x256, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x16x256x256, .bf16⟩
  | .local _ .vmem, ⟨7, _⟩ => ⟨S1x16x256x256, .bf16⟩
  | .local _ .vmem, ⟨8, _⟩ => ⟨S1x8x256, .f32⟩
  | .local _ .vmem, ⟨9, _⟩ => ⟨S1x8x256, .f32⟩
  | .local _ .vmem, ⟨10, _⟩ => ⟨S1x256x256, .bf16⟩
  | .local _ .vmem, ⟨11, _⟩ => ⟨S1x256x256, .bf16⟩
  | _, _ => ⟨S4x4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_c : Ref sig .tc := ⟨.hbm, 28, rfl⟩
abbrev main_call0_v0 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 2, 16], ![false, false, false]⟩

def k0_off1 (i : grid0.Coords) (c0_i32 : BitVec 32) (c0_i32_3 : BitVec 32) : Fin 3 → Nat :=
  let c0_7 : Index := 0#32
  let c2_i32_2 : BitVec 32 := 2#32
  let arg1 : BitVec 32 := BitVec.ofNat 32 (i 1).val
  let c2_i32 : BitVec 32 := 2#32
  let v4 : BitVec 32 := Scalar.muli arg1 c2_i32
  let v5 : BitVec 32 := Scalar.addi v4 c0_i32
  let v6 : BitVec 32 := Scalar.muli c2_i32_2 v5
  let v7 : BitVec 32 := Scalar.addi v6 c0_i32_3
  let v24 : Index := Scalar.indexCast v7
  let c0_8 : Index := 0#32
  ![0, v24.toNat, 0]
def k0_mult1 : BitVec 32 :=
  let c0_i32_49 : BitVec 32 := 0#32
  c0_i32_49
@[reducible] def k0_t1_loop (i : grid0.Coords) : Scf.Loop 32 :=
  let c0_i32_58 : BitVec 32 := 0#32
  let arg2 : BitVec 32 := BitVec.ofNat 32 (i 2).val
  let v120 : BitVec 32 := Scalar.subi arg2 c0_i32_58
  let c1_i32_59 : BitVec 32 := 1#32
  let v122 : BitVec 32 := Scalar.divsi v120 c1_i32_59
  let v123 : BitVec 32 := Scalar.muli v122 c1_i32_59
  let v124 : BitVec 32 := Scalar.addi c0_i32_58 v123
  let c1_i32_60 : BitVec 32 := 1#32
  ⟨c0_i32_58, v124, c1_i32_60⟩
def k0_mult2 (i : grid0.Coords) (k0_t1 : Fin (k0_t1_loop i).trips) : BitVec 32 :=
  let c0_i32_58 : BitVec 32 := 0#32
  let c1_i32_60 : BitVec 32 := 1#32
  let arg9 : BitVec 32 := Scf.iv c0_i32_58 c1_i32_60 k0_t1
  let c1_i32_82 : BitVec 32 := 1#32
  let v185 : BitVec 32 := Scalar.addi arg9 c1_i32_82
  let c256_i32 : BitVec 32 := 256#32
  let v186 : BitVec 32 := Scalar.muli v185 c256_i32
  v186
def k0_off2 (i : grid0.Coords) (k0_t1 : Fin (k0_t1_loop i).trips) : Fin 3 → Nat :=
  let c0_83 : Index := 0#32
  let c0_i32_58 : BitVec 32 := 0#32
  let c1_i32_60 : BitVec 32 := 1#32
  let arg9 : BitVec 32 := Scf.iv c0_i32_58 c1_i32_60 k0_t1
  let c1_i32_82 : BitVec 32 := 1#32
  let v185 : BitVec 32 := Scalar.addi arg9 c1_i32_82
  let c256_i32 : BitVec 32 := 256#32
  let v186 : BitVec 32 := Scalar.muli v185 c256_i32
  let v187 : BitVec 32 := v186
  let v188 : Index := Scalar.indexCast v187
  let c0_84 : Index := 0#32
  ![0, v188.toNat, 0]
def k0_off3 (i : grid0.Coords) (k0_t1 : Fin (k0_t1_loop i).trips) : Fin 3 → Nat :=
  let c0_85 : Index := 0#32
  let c0_i32_58 : BitVec 32 := 0#32
  let c1_i32_60 : BitVec 32 := 1#32
  let arg9 : BitVec 32 := Scf.iv c0_i32_58 c1_i32_60 k0_t1
  let c1_i32_82 : BitVec 32 := 1#32
  let v185 : BitVec 32 := Scalar.addi arg9 c1_i32_82
  let c256_i32 : BitVec 32 := 256#32
  let v186 : BitVec 32 := Scalar.muli v185 c256_i32
  let v187 : BitVec 32 := v186
  let v191 : Index := Scalar.indexCast v187
  let c0_86 : Index := 0#32
  ![0, v191.toNat, 0]
def k0_off4 (i : grid0.Coords) (k0_t1 : Fin (k0_t1_loop i).trips) : Fin 3 → Nat :=
  let c0_88 : Index := 0#32
  let c0_i32_58 : BitVec 32 := 0#32
  let c1_i32_60 : BitVec 32 := 1#32
  let arg9 : BitVec 32 := Scf.iv c0_i32_58 c1_i32_60 k0_t1
  let c1_i32_82 : BitVec 32 := 1#32
  let v185 : BitVec 32 := Scalar.addi arg9 c1_i32_82
  let c256_i32 : BitVec 32 := 256#32
  let v186 : BitVec 32 := Scalar.muli v185 c256_i32
  let v187 : BitVec 32 := v186
  let v196 : Index := Scalar.indexCast v187
  let c128_89 : Index := 128#32
  ![0, v196.toNat, 128]
def k0_off5 (i : grid0.Coords) (k0_t1 : Fin (k0_t1_loop i).trips) : Fin 4 → Nat :=
  let c0_92 : Index := 0#32
  let c0_i32_58 : BitVec 32 := 0#32
  let c1_i32_60 : BitVec 32 := 1#32
  let arg9 : BitVec 32 := Scf.iv c0_i32_58 c1_i32_60 k0_t1
  let v213 : Index := Scalar.indexCast arg9
  let c0_93 : Index := 0#32
  let c0_94 : Index := 0#32
  ![0, v213.toNat, 0, 0]
def k0_off6 (i : grid0.Coords) (k0_t1 : Fin (k0_t1_loop i).trips) : Fin 4 → Nat :=
  let c0_96 : Index := 0#32
  let c0_i32_58 : BitVec 32 := 0#32
  let c1_i32_60 : BitVec 32 := 1#32
  let arg9 : BitVec 32 := Scf.iv c0_i32_58 c1_i32_60 k0_t1
  let v218 : Index := Scalar.indexCast arg9
  let c64_97 : Index := 64#32
  let c0_98 : Index := 0#32
  ![0, v218.toNat, 64, 0]
def k0_off7 (i : grid0.Coords) (k0_t1 : Fin (k0_t1_loop i).trips) : Fin 4 → Nat :=
  let c0_100 : Index := 0#32
  let c0_i32_58 : BitVec 32 := 0#32
  let c1_i32_60 : BitVec 32 := 1#32
  let arg9 : BitVec 32 := Scf.iv c0_i32_58 c1_i32_60 k0_t1
  let v223 : Index := Scalar.indexCast arg9
  let c128_101 : Index := 128#32
  let c0_102 : Index := 0#32
  ![0, v223.toNat, 128, 0]
def k0_off8 (i : grid0.Coords) (k0_t1 : Fin (k0_t1_loop i).trips) : Fin 4 → Nat :=
  let c0_104 : Index := 0#32
  let c0_i32_58 : BitVec 32 := 0#32
  let c1_i32_60 : BitVec 32 := 1#32
  let arg9 : BitVec 32 := Scf.iv c0_i32_58 c1_i32_60 k0_t1
  let v228 : Index := Scalar.indexCast arg9
  let c192_105 : Index := 192#32
  let c0_106 : Index := 0#32
  ![0, v228.toNat, 192, 0]
@[reducible] def k0_t2_loop (i : grid0.Coords) : Scf.Loop 32 :=
  let c0_i32_58 : BitVec 32 := 0#32
  let arg2 : BitVec 32 := BitVec.ofNat 32 (i 2).val
  let v120 : BitVec 32 := Scalar.subi arg2 c0_i32_58
  let c1_i32_59 : BitVec 32 := 1#32
  let v122 : BitVec 32 := Scalar.divsi v120 c1_i32_59
  let v123 : BitVec 32 := Scalar.muli v122 c1_i32_59
  let v124 : BitVec 32 := Scalar.addi c0_i32_58 v123
  let v121 : BitVec 32 := Scalar.addi c0_i32_58 v120
  let c1_i32_61 : BitVec 32 := 1#32
  ⟨v124, v121, c1_i32_61⟩
def k0_mult3 (i : grid0.Coords) (k0_t2 : Fin (k0_t2_loop i).trips) : BitVec 32 :=
  let c0_i32_58 : BitVec 32 := 0#32
  let arg2 : BitVec 32 := BitVec.ofNat 32 (i 2).val
  let v120 : BitVec 32 := Scalar.subi arg2 c0_i32_58
  let c1_i32_59 : BitVec 32 := 1#32
  let v122 : BitVec 32 := Scalar.divsi v120 c1_i32_59
  let v123 : BitVec 32 := Scalar.muli v122 c1_i32_59
  let v124 : BitVec 32 := Scalar.addi c0_i32_58 v123
  let c1_i32_61 : BitVec 32 := 1#32
  let arg9 : BitVec 32 := Scf.iv v124 c1_i32_61 k0_t2
  let c1_i32_82 : BitVec 32 := 1#32
  let v185 : BitVec 32 := Scalar.addi arg9 c1_i32_82
  let c256_i32 : BitVec 32 := 256#32
  let v186 : BitVec 32 := Scalar.muli v185 c256_i32
  v186
def k0_off9 (i : grid0.Coords) (k0_t2 : Fin (k0_t2_loop i).trips) : Fin 3 → Nat :=
  let c0_83 : Index := 0#32
  let c0_i32_58 : BitVec 32 := 0#32
  let arg2 : BitVec 32 := BitVec.ofNat 32 (i 2).val
  let v120 : BitVec 32 := Scalar.subi arg2 c0_i32_58
  let c1_i32_59 : BitVec 32 := 1#32
  let v122 : BitVec 32 := Scalar.divsi v120 c1_i32_59
  let v123 : BitVec 32 := Scalar.muli v122 c1_i32_59
  let v124 : BitVec 32 := Scalar.addi c0_i32_58 v123
  let c1_i32_61 : BitVec 32 := 1#32
  let arg9 : BitVec 32 := Scf.iv v124 c1_i32_61 k0_t2
  let c1_i32_82 : BitVec 32 := 1#32
  let v185 : BitVec 32 := Scalar.addi arg9 c1_i32_82
  let c256_i32 : BitVec 32 := 256#32
  let v186 : BitVec 32 := Scalar.muli v185 c256_i32
  let v187 : BitVec 32 := v186
  let v188 : Index := Scalar.indexCast v187
  let c0_84 : Index := 0#32
  ![0, v188.toNat, 0]
def k0_off10 (i : grid0.Coords) (k0_t2 : Fin (k0_t2_loop i).trips) : Fin 3 → Nat :=
  let c0_85 : Index := 0#32
  let c0_i32_58 : BitVec 32 := 0#32
  let arg2 : BitVec 32 := BitVec.ofNat 32 (i 2).val
  let v120 : BitVec 32 := Scalar.subi arg2 c0_i32_58
  let c1_i32_59 : BitVec 32 := 1#32
  let v122 : BitVec 32 := Scalar.divsi v120 c1_i32_59
  let v123 : BitVec 32 := Scalar.muli v122 c1_i32_59
  let v124 : BitVec 32 := Scalar.addi c0_i32_58 v123
  let c1_i32_61 : BitVec 32 := 1#32
  let arg9 : BitVec 32 := Scf.iv v124 c1_i32_61 k0_t2
  let c1_i32_82 : BitVec 32 := 1#32
  let v185 : BitVec 32 := Scalar.addi arg9 c1_i32_82
  let c256_i32 : BitVec 32 := 256#32
  let v186 : BitVec 32 := Scalar.muli v185 c256_i32
  let v187 : BitVec 32 := v186
  let v191 : Index := Scalar.indexCast v187
  let c0_86 : Index := 0#32
  ![0, v191.toNat, 0]
def k0_off11 (i : grid0.Coords) (k0_t2 : Fin (k0_t2_loop i).trips) : Fin 3 → Nat :=
  let c0_88 : Index := 0#32
  let c0_i32_58 : BitVec 32 := 0#32
  let arg2 : BitVec 32 := BitVec.ofNat 32 (i 2).val
  let v120 : BitVec 32 := Scalar.subi arg2 c0_i32_58
  let c1_i32_59 : BitVec 32 := 1#32
  let v122 : BitVec 32 := Scalar.divsi v120 c1_i32_59
  let v123 : BitVec 32 := Scalar.muli v122 c1_i32_59
  let v124 : BitVec 32 := Scalar.addi c0_i32_58 v123
  let c1_i32_61 : BitVec 32 := 1#32
  let arg9 : BitVec 32 := Scf.iv v124 c1_i32_61 k0_t2
  let c1_i32_82 : BitVec 32 := 1#32
  let v185 : BitVec 32 := Scalar.addi arg9 c1_i32_82
  let c256_i32 : BitVec 32 := 256#32
  let v186 : BitVec 32 := Scalar.muli v185 c256_i32
  let v187 : BitVec 32 := v186
  let v196 : Index := Scalar.indexCast v187
  let c128_89 : Index := 128#32
  ![0, v196.toNat, 128]
def k0_off12 (i : grid0.Coords) (k0_t2 : Fin (k0_t2_loop i).trips) : Fin 4 → Nat :=
  let c0_92 : Index := 0#32
  let c0_i32_58 : BitVec 32 := 0#32
  let arg2 : BitVec 32 := BitVec.ofNat 32 (i 2).val
  let v120 : BitVec 32 := Scalar.subi arg2 c0_i32_58
  let c1_i32_59 : BitVec 32 := 1#32
  let v122 : BitVec 32 := Scalar.divsi v120 c1_i32_59
  let v123 : BitVec 32 := Scalar.muli v122 c1_i32_59
  let v124 : BitVec 32 := Scalar.addi c0_i32_58 v123
  let c1_i32_61 : BitVec 32 := 1#32
  let arg9 : BitVec 32 := Scf.iv v124 c1_i32_61 k0_t2
  let v213 : Index := Scalar.indexCast arg9
  let c0_93 : Index := 0#32
  let c0_94 : Index := 0#32
  ![0, v213.toNat, 0, 0]
def k0_off13 (i : grid0.Coords) (k0_t2 : Fin (k0_t2_loop i).trips) : Fin 4 → Nat :=
  let c0_96 : Index := 0#32
  let c0_i32_58 : BitVec 32 := 0#32
  let arg2 : BitVec 32 := BitVec.ofNat 32 (i 2).val
  let v120 : BitVec 32 := Scalar.subi arg2 c0_i32_58
  let c1_i32_59 : BitVec 32 := 1#32
  let v122 : BitVec 32 := Scalar.divsi v120 c1_i32_59
  let v123 : BitVec 32 := Scalar.muli v122 c1_i32_59
  let v124 : BitVec 32 := Scalar.addi c0_i32_58 v123
  let c1_i32_61 : BitVec 32 := 1#32
  let arg9 : BitVec 32 := Scf.iv v124 c1_i32_61 k0_t2
  let v218 : Index := Scalar.indexCast arg9
  let c64_97 : Index := 64#32
  let c0_98 : Index := 0#32
  ![0, v218.toNat, 64, 0]
def k0_off14 (i : grid0.Coords) (k0_t2 : Fin (k0_t2_loop i).trips) : Fin 4 → Nat :=
  let c0_100 : Index := 0#32
  let c0_i32_58 : BitVec 32 := 0#32
  let arg2 : BitVec 32 := BitVec.ofNat 32 (i 2).val
  let v120 : BitVec 32 := Scalar.subi arg2 c0_i32_58
  let c1_i32_59 : BitVec 32 := 1#32
  let v122 : BitVec 32 := Scalar.divsi v120 c1_i32_59
  let v123 : BitVec 32 := Scalar.muli v122 c1_i32_59
  let v124 : BitVec 32 := Scalar.addi c0_i32_58 v123
  let c1_i32_61 : BitVec 32 := 1#32
  let arg9 : BitVec 32 := Scf.iv v124 c1_i32_61 k0_t2
  let v223 : Index := Scalar.indexCast arg9
  let c128_101 : Index := 128#32
  let c0_102 : Index := 0#32
  ![0, v223.toNat, 128, 0]
def k0_off15 (i : grid0.Coords) (k0_t2 : Fin (k0_t2_loop i).trips) : Fin 4 → Nat :=
  let c0_104 : Index := 0#32
  let c0_i32_58 : BitVec 32 := 0#32
  let arg2 : BitVec 32 := BitVec.ofNat 32 (i 2).val
  let v120 : BitVec 32 := Scalar.subi arg2 c0_i32_58
  let c1_i32_59 : BitVec 32 := 1#32
  let v122 : BitVec 32 := Scalar.divsi v120 c1_i32_59
  let v123 : BitVec 32 := Scalar.muli v122 c1_i32_59
  let v124 : BitVec 32 := Scalar.addi c0_i32_58 v123
  let c1_i32_61 : BitVec 32 := 1#32
  let arg9 : BitVec 32 := Scf.iv v124 c1_i32_61 k0_t2
  let v228 : Index := Scalar.indexCast arg9
  let c192_105 : Index := 192#32
  let c0_106 : Index := 0#32
  ![0, v228.toNat, 192, 0]
def k0_off16 (i : grid0.Coords) : Fin 4 → Nat :=
  let c0_64 : Index := 0#32
  let arg2 : BitVec 32 := BitVec.ofNat 32 (i 2).val
  let v145 : Index := Scalar.indexCast arg2
  let c0_65 : Index := 0#32
  let c0_66 : Index := 0#32
  ![0, v145.toNat, 0, 0]
def k0_off17 (i : grid0.Coords) : Fin 4 → Nat :=
  let c0_68 : Index := 0#32
  let arg2 : BitVec 32 := BitVec.ofNat 32 (i 2).val
  let v150 : Index := Scalar.indexCast arg2
  let c64 : Index := 64#32
  let c0_69 : Index := 0#32
  ![0, v150.toNat, 64, 0]
def k0_off18 (i : grid0.Coords) : Fin 4 → Nat :=
  let c0_71 : Index := 0#32
  let arg2 : BitVec 32 := BitVec.ofNat 32 (i 2).val
  let v155 : Index := Scalar.indexCast arg2
  let c128_72 : Index := 128#32
  let c0_73 : Index := 0#32
  ![0, v155.toNat, 128, 0]
def k0_off19 (i : grid0.Coords) : Fin 4 → Nat :=
  let c0_75 : Index := 0#32
  let arg2 : BitVec 32 := BitVec.ofNat 32 (i 2).val
  let v160 : Index := Scalar.indexCast arg2
  let c192 : Index := 192#32
  let c0_76 : Index := 0#32
  ![0, v160.toNat, 192, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x16x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== FoxRefIdeal.lean ====
abbrev S4x4096x8x64 : Shape := ⟨4, ![4, 4096, 8, 64]⟩
abbrev S4x4096x8 : Shape := ⟨3, ![4, 4096, 8]⟩
abbrev S4x8x4096 : Shape := ⟨3, ![4, 8, 4096]⟩
abbrev S4x8x4096x4096 : Shape := ⟨4, ![4, 8, 4096, 4096]⟩
abbrev S_ : Shape := ⟨0, ![]⟩
abbrev S4x8x4096x1 : Shape := ⟨4, ![4, 8, 4096, 1]⟩
abbrev S4x8x1x4096 : Shape := ⟨4, ![4, 8, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x8x64x4096 : Shape := ⟨4, ![4, 8, 64, 4096]⟩
abbrev S4x4096x512 : Shape := ⟨3, ![4, 4096, 512]⟩

abbrev nBuf : Space → Nat
  | .hbm => 44
  | .vmem => 0
  | .smem => 0
  | _ => 0

abbrev bufTy : (tb : Table) → Fin (tcTables nBuf tb) → BufTy
  | .hbm, ⟨0, _⟩ => ⟨S4x4096x8x64, .f32⟩
  | .hbm, ⟨1, _⟩ => ⟨S4x4096x8x64, .f32⟩
  | .hbm, ⟨2, _⟩ => ⟨S4x4096x8x64, .f32⟩
  | .hbm, ⟨3, _⟩ => ⟨S4x4096x8, .f32⟩
  | .hbm, ⟨4, _⟩ => ⟨S4x8x4096, .f32⟩
  | .hbm, ⟨5, _⟩ => ⟨S4x8x4096x4096, .f32⟩
  | .hbm, ⟨6, _⟩ => ⟨S_, .f32⟩
  | .hbm, ⟨7, _⟩ => ⟨S4x8x4096x4096, .f32⟩
  | .hbm, ⟨8, _⟩ => ⟨S4x8x4096x4096, .f32⟩
  | .hbm, ⟨9, _⟩ => ⟨S4x8x4096x1, .f32⟩
  | .hbm, ⟨10, _⟩ => ⟨S4x8x4096x4096, .f32⟩
  | .hbm, ⟨11, _⟩ => ⟨S4x8x4096x4096, .f32⟩
  | .hbm, ⟨12, _⟩ => ⟨S4x8x1x4096, .f32⟩
  | .hbm, ⟨13, _⟩ => ⟨S4x8x4096x4096, .f32⟩
  | .hbm, ⟨14, _⟩ => ⟨S4x8x4096x4096, .f32⟩
  | .hbm, ⟨15, _⟩ => ⟨S4096, .i32⟩
  | .hbm, ⟨16, _⟩ => ⟨S1x4096, .i32⟩
  | .hbm, ⟨17, _⟩ => ⟨S4096x1, .i32⟩
  | .hbm, ⟨18, _⟩ => ⟨S4096x4096, .i32⟩
  | .hbm, ⟨19, _⟩ => ⟨S4096x4096, .i32⟩
  | .hbm, ⟨20, _⟩ => ⟨S4096x4096, .i1⟩
  | .hbm, ⟨21, _⟩ => ⟨S_, .f32⟩
  | .hbm, ⟨22, _⟩ => ⟨S_, .f32⟩
  | .hbm, ⟨23, _⟩ => ⟨S4x8x4096x4096, .i1⟩
  | .hbm, ⟨24, _⟩ => ⟨S4x8x4096x4096, .f32⟩
  | .hbm, ⟨25, _⟩ => ⟨S4x8x4096x4096, .f32⟩
  | .hbm, ⟨26, _⟩ => ⟨S_, .f32⟩
  | .hbm, ⟨27, _⟩ => ⟨S4x8x4096, .f32⟩
  | .hbm, ⟨28, _⟩ => ⟨S_, .f32⟩
  | .hbm, ⟨29, _⟩ => ⟨S4x8x4096, .f32⟩
  | .hbm, ⟨30, _⟩ => ⟨S4x8x4096, .f32⟩
  | .hbm, ⟨31, _⟩ => ⟨S4x8x4096x1, .f32⟩
  | .hbm, ⟨32, _⟩ => ⟨S4x8x4096x4096, .f32⟩
  | .hbm, ⟨33, _⟩ => ⟨S4x8x4096x4096, .f32⟩
  | .hbm, ⟨34, _⟩ => ⟨S4x8x4096x4096, .f32⟩
  | .hbm, ⟨35, _⟩ => ⟨S_, .f32⟩
  | .hbm, ⟨36, _⟩ => ⟨S4x8x4096, .f32⟩
  | .hbm, ⟨37, _⟩ => ⟨S4x8x4096x1, .f32⟩
  | .hbm, ⟨38, _⟩ => ⟨S4x8x4096x4096, .f32⟩
  | .hbm, ⟨39, _⟩ => ⟨S4x8x4096x4096, .f32⟩
  | .hbm, ⟨40, _⟩ => ⟨S4x8x64x4096, .f32⟩
  | .hbm, ⟨41, _⟩ => ⟨S4x4096x8x64, .f32⟩
  | .hbm, ⟨42, _⟩ => ⟨S4x4096x512, .f32⟩
  | .hbm, ⟨43, _⟩ => ⟨S4x4096x512, .bf16⟩
  | _, _ => ⟨S4x4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]
-- ==== FfnIn.lean ====
abbrev S4x4096x1024 : Shape := ⟨3, ![4, 4096, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S16384x1024 : Shape := ⟨2, ![16384, 1024]⟩
abbrev S1024x2816 : Shape := ⟨2, ![1024, 2816]⟩
abbrev S2816x1024 : Shape := ⟨2, ![2816, 1024]⟩
abbrev S512x1024 : Shape := ⟨2, ![512, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 17
  | .vmem => 9
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1024, .f32⟩
  | .hbm, ⟨6, _⟩ => ⟨S16384x1024, .f32⟩
  | .hbm, ⟨7, _⟩ => ⟨S1024, .f32⟩
  | .hbm, ⟨8, _⟩ => ⟨S1x1024, .f32⟩
  | .hbm, ⟨9, _⟩ => ⟨S1024x2816, .f32⟩
  | .hbm, ⟨10, _⟩ => ⟨S1024x2816, .bf16⟩
  | .hbm, ⟨11, _⟩ => ⟨S1024x2816, .f32⟩
  | .hbm, ⟨12, _⟩ => ⟨S1024x2816, .bf16⟩
  | .hbm, ⟨13, _⟩ => ⟨S2816x1024, .f32⟩
  | .hbm, ⟨14, _⟩ => ⟨S2816x1024, .bf16⟩
  | .hbm, ⟨15, _⟩ => ⟨S1x1024, .f32⟩
  | .hbm, ⟨16, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnInRefIdeal.lean ====
abbrev S4x4096x1024 : Shape := ⟨3, ![4, 4096, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1024x2816 : Shape := ⟨2, ![1024, 2816]⟩
abbrev S2816x1024 : Shape := ⟨2, ![2816, 1024]⟩
abbrev S4x4096x2816 : Shape := ⟨3, ![4, 4096, 2816]⟩
abbrev S16384x1024 : Shape := ⟨2, ![16384, 1024]⟩

abbrev nBuf : Space → Nat
  | .hbm => 44
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1024, .f32⟩
  | .hbm, ⟨6, _⟩ => ⟨S1024, .f32⟩
  | .hbm, ⟨7, _⟩ => ⟨S4x4096x1024, .f32⟩
  | .hbm, ⟨8, _⟩ => ⟨S_, .f32⟩
  | .hbm, ⟨9, _⟩ => ⟨S4x4096, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S4x4096x1, .f32⟩
  | .hbm, ⟨18, _⟩ => ⟨S4x4096x1024, .f32⟩
  | .hbm, ⟨19, _⟩ => ⟨S4x4096x1024, .f32⟩
  | .hbm, ⟨20, _⟩ => ⟨S1x1x1024, .f32⟩
  | .hbm, ⟨21, _⟩ => ⟨S4x4096x1024, .f32⟩
  | .hbm, ⟨22, _⟩ => ⟨S4x4096x1024, .f32⟩
  | .hbm, ⟨23, _⟩ => ⟨S1024x2816, .f32⟩
  | .hbm, ⟨24, _⟩ => ⟨S1024x2816, .f32⟩
  | .hbm, ⟨25, _⟩ => ⟨S2816x1024, .f32⟩
  | .hbm, ⟨26, _⟩ => ⟨S4x4096x2816, .f32⟩
  | .hbm, ⟨27, _⟩ => ⟨S4x4096x2816, .f32⟩
  | .hbm, ⟨28, _⟩ => ⟨S4x4096x2816, .f32⟩
  | .hbm, ⟨29, _⟩ => ⟨S_, .f32⟩
  | .hbm, ⟨30, _⟩ => ⟨S4x4096x2816, .f32⟩
  | .hbm, ⟨31, _⟩ => ⟨S4x4096x2816, .f32⟩
  | .hbm, ⟨32, _⟩ => ⟨S_, .f32⟩
  | .hbm, ⟨33, _⟩ => ⟨S4x4096x2816, .f32⟩
  | .hbm, ⟨34, _⟩ => ⟨S4x4096x2816, .f32⟩
  | .hbm, ⟨35, _⟩ => ⟨S4x4096x2816, .f32⟩
  | .hbm, ⟨36, _⟩ => ⟨S4x4096x2816, .f32⟩
  | .hbm, ⟨37, _⟩ => ⟨S4x4096x2816, .f32⟩
  | .hbm, ⟨38, _⟩ => ⟨S4x4096x1024, .f32⟩
  | .hbm, ⟨39, _⟩ => ⟨S_, .f32⟩
  | .hbm, ⟨40, _⟩ => ⟨S4x4096x1024, .f32⟩
  | .hbm, ⟨41, _⟩ => ⟨S4x4096x1024, .f32⟩
  | .hbm, ⟨42, _⟩ => ⟨S4x4096x1024, .f32⟩
  | .hbm, ⟨43, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩

abbrev nD : Nat := 1
abbrev τ : Topo := Topo.v7x

variable {F : FTy → Type} [FloatOps F]
-- ==== FfnOut.lean ====
abbrev S4x4096x1024 : Shape := ⟨3, ![4, 4096, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S16384x1024 : Shape := ⟨2, ![16384, 1024]⟩
abbrev S1024x2816 : Shape := ⟨2, ![1024, 2816]⟩
abbrev S2816x1024 : Shape := ⟨2, ![2816, 1024]⟩
abbrev S512x1024 : Shape := ⟨2, ![512, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 17
  | .vmem => 9
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1024, .f32⟩
  | .hbm, ⟨6, _⟩ => ⟨S16384x1024, .f32⟩
  | .hbm, ⟨7, _⟩ => ⟨S1024, .f32⟩
  | .hbm, ⟨8, _⟩ => ⟨S1x1024, .f32⟩
  | .hbm, ⟨9, _⟩ => ⟨S1024x2816, .f32⟩
  | .hbm, ⟨10, _⟩ => ⟨S1024x2816, .bf16⟩
  | .hbm, ⟨11, _⟩ => ⟨S1024x2816, .f32⟩
  | .hbm, ⟨12, _⟩ => ⟨S1024x2816, .bf16⟩
  | .hbm, ⟨13, _⟩ => ⟨S2816x1024, .f32⟩
  | .hbm, ⟨14, _⟩ => ⟨S2816x1024, .bf16⟩
  | .hbm, ⟨15, _⟩ => ⟨S1x1024, .f32⟩
  | .hbm, ⟨16, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnOutIdeal.lean ====
abbrev S4x4096x1024 : Shape := ⟨3, ![4, 4096, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S16384x1024 : Shape := ⟨2, ![16384, 1024]⟩
abbrev S1024x2816 : Shape := ⟨2, ![1024, 2816]⟩
abbrev S2816x1024 : Shape := ⟨2, ![2816, 1024]⟩
abbrev S512x1024 : Shape := ⟨2, ![512, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 17
  | .vmem => 9
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1024, .f32⟩
  | .hbm, ⟨6, _⟩ => ⟨S16384x1024, .f32⟩
  | .hbm, ⟨7, _⟩ => ⟨S1024, .f32⟩
  | .hbm, ⟨8, _⟩ => ⟨S1x1024, .f32⟩
  | .hbm, ⟨9, _⟩ => ⟨S1024x2816, .f32⟩
  | .hbm, ⟨10, _⟩ => ⟨S1024x2816, .bf16⟩
  | .hbm, ⟨11, _⟩ => ⟨S1024x2816, .f32⟩
  | .hbm, ⟨12, _⟩ => ⟨S1024x2816, .bf16⟩
  | .hbm, ⟨13, _⟩ => ⟨S2816x1024, .f32⟩
  | .hbm, ⟨14, _⟩ => ⟨S2816x1024, .bf16⟩
  | .hbm, ⟨15, _⟩ => ⟨S1x1024, .f32⟩
  | .hbm, ⟨16, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnOutRefIdeal.lean ====
abbrev S4x4096x1024 : Shape := ⟨3, ![4, 4096, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1024x2816 : Shape := ⟨2, ![1024, 2816]⟩
abbrev S2816x1024 : Shape := ⟨2, ![2816, 1024]⟩
abbrev S4x4096x2816 : Shape := ⟨3, ![4, 4096, 2816]⟩
abbrev S16384x1024 : Shape := ⟨2, ![16384, 1024]⟩

abbrev nBuf : Space → Nat
  | .hbm => 60
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1024, .f32⟩
  | .hbm, ⟨6, _⟩ => ⟨S1024, .f32⟩
  | .hbm, ⟨7, _⟩ => ⟨S4x4096x1024, .f32⟩
  | .hbm, ⟨8, _⟩ => ⟨S_, .f32⟩
  | .hbm, ⟨9, _⟩ => ⟨S4x4096, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S4x4096x1, .f32⟩
  | .hbm, ⟨18, _⟩ => ⟨S4x4096x1024, .f32⟩
  | .hbm, ⟨19, _⟩ => ⟨S4x4096x1024, .f32⟩
  | .hbm, ⟨20, _⟩ => ⟨S1x1x1024, .f32⟩
  | .hbm, ⟨21, _⟩ => ⟨S4x4096x1024, .f32⟩
  | .hbm, ⟨22, _⟩ => ⟨S4x4096x1024, .f32⟩
  | .hbm, ⟨23, _⟩ => ⟨S1024x2816, .f32⟩
  | .hbm, ⟨24, _⟩ => ⟨S1024x2816, .f32⟩
  | .hbm, ⟨25, _⟩ => ⟨S2816x1024, .f32⟩
  | .hbm, ⟨26, _⟩ => ⟨S4x4096x2816, .f32⟩
  | .hbm, ⟨27, _⟩ => ⟨S4x4096x2816, .f32⟩
  | .hbm, ⟨28, _⟩ => ⟨S4x4096x2816, .f32⟩
  | .hbm, ⟨29, _⟩ => ⟨S_, .f32⟩
  | .hbm, ⟨30, _⟩ => ⟨S4x4096x2816, .f32⟩
  | .hbm, ⟨31, _⟩ => ⟨S4x4096x2816, .f32⟩
  | .hbm, ⟨32, _⟩ => ⟨S_, .f32⟩
  | .hbm, ⟨33, _⟩ => ⟨S4x4096x2816, .f32⟩
  | .hbm, ⟨34, _⟩ => ⟨S4x4096x2816, .f32⟩
  | .hbm, ⟨35, _⟩ => ⟨S4x4096x2816, .f32⟩
  | .hbm, ⟨36, _⟩ => ⟨S4x4096x2816, .f32⟩
  | .hbm, ⟨37, _⟩ => ⟨S4x4096x2816, .f32⟩
  | .hbm, ⟨38, _⟩ => ⟨S4x4096x1024, .f32⟩
  | .hbm, ⟨39, _⟩ => ⟨S_, .f32⟩
  | .hbm, ⟨40, _⟩ => ⟨S4x4096x1024, .f32⟩
  | .hbm, ⟨41, _⟩ => ⟨S4x4096x1024, .f32⟩
  | .hbm, ⟨42, _⟩ => ⟨S4x4096x1024, .f32⟩
  | .hbm, ⟨43, _⟩ => ⟨S4x4096x1024, .f32⟩
  | .hbm, ⟨44, _⟩ => ⟨S_, .f32⟩
  | .hbm, ⟨45, _⟩ => ⟨S4x4096, .f32⟩
  | .hbm, ⟨46, _⟩ => ⟨S4x4096x1, .f32⟩
  | .hbm, ⟨47, _⟩ => ⟨S_, .f32⟩
  | .hbm, ⟨48, _⟩ => ⟨S4x4096x1, .f32⟩
  | .hbm, ⟨49, _⟩ => ⟨S4x4096x1, .f32⟩
  | .hbm, ⟨50, _⟩ => ⟨S_, .f32⟩
  | .hbm, ⟨51, _⟩ => ⟨S4x4096x1, .f32⟩
  | .hbm, ⟨52, _⟩ => ⟨S4x4096x1, .f32⟩
  | .hbm, ⟨53, _⟩ => ⟨S4x4096x1, .f32⟩
  | .hbm, ⟨54, _⟩ => ⟨S4x4096x1024, .f32⟩
  | .hbm, ⟨55, _⟩ => ⟨S4x4096x1024, .f32⟩
  | .hbm, ⟨56, _⟩ => ⟨S1x1x1024, .f32⟩
  | .hbm, ⟨57, _⟩ => ⟨S4x4096x1024, .f32⟩
  | .hbm, ⟨58, _⟩ => ⟨S4x4096x1024, .f32⟩
  | .hbm, ⟨59, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_cst_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩

abbrev nD : Nat := 1
abbrev τ : Topo := Topo.v7x

variable {F : FTy → Type} [FloatOps F]
-- ==== Memkv.lean ====
abbrev S4x256x1024 : Shape := ⟨3, ![4, 256, 1024]⟩
abbrev S1x1024 : Shape := ⟨2, ![1, 1024]⟩
abbrev S1x1024x256 : Shape := ⟨3, ![1, 1024, 256]⟩
abbrev S1024x1024 : Shape := ⟨2, ![1024, 1024]⟩
abbrev S1024 : Shape := ⟨1, ![1024]⟩
abbrev S1024x256 : Shape := ⟨2, ![1024, 256]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩

abbrev nBuf : Space → Nat
  | .hbm => 13
  | .vmem => 9
  | .smem => 0
  | _ => 0

abbrev bufTy : (tb : Table) → Fin (tcTables nBuf tb) → BufTy
  | .hbm, ⟨0, _⟩ => ⟨S4x256x1024, .f32⟩
  | .hbm, ⟨1, _⟩ => ⟨S1x1024, .f32⟩
  | .hbm, ⟨2, _⟩ => ⟨S1x1024x256, .f32⟩
  | .hbm, ⟨3, _⟩ => ⟨S1x1024x256, .f32⟩
  | .hbm, ⟨4, _⟩ => ⟨S1024x1024, .f32⟩
  | .hbm, ⟨5, _⟩ => ⟨S1024, .f32⟩
  | .hbm, ⟨6, _⟩ => ⟨S1x1024, .f32⟩
  | .hbm, ⟨7, _⟩ => ⟨S1024x256, .f32⟩
  | .hbm, ⟨8, _⟩ => ⟨S1024x256, .bf16⟩
  | .hbm, ⟨9, _⟩ => ⟨S1024x256, .f32⟩
  | .hbm, ⟨10, _⟩ => ⟨S1024x256, .bf16⟩
  | .hbm, ⟨11, _⟩ => ⟨S1024x256, .f32⟩
  | .hbm, ⟨12, _⟩ => ⟨S1024x256, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x256, .bf16⟩
  | .local _ .vmem, ⟨4, _⟩ => ⟨S1024x256, .bf16⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MemkvRefIdeal.lean ====
abbrev S4x256x1024 : Shape := ⟨3, ![4, 256, 1024]⟩
abbrev S1x1024 : Shape := ⟨2, ![1, 1024]⟩
abbrev S1x1024x256 : Shape := ⟨3, ![1, 1024, 256]⟩
abbrev S1024 : Shape := ⟨1, ![1024]⟩
abbrev S_ : Shape := ⟨0, ![]⟩
abbrev S4x256 : Shape := ⟨2, ![4, 256]⟩
abbrev S4x256x1 : Shape := ⟨3, ![4, 256, 1]⟩
abbrev S1x1x1024 : Shape := ⟨3, ![1, 1, 1024]⟩
abbrev S1024x256 : Shape := ⟨2, ![1024, 256]⟩
abbrev S4x256x256 : Shape := ⟨3, ![4, 256, 256]⟩

abbrev nBuf : Space → Nat
  | .hbm => 27
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S1x1024, .f32⟩
  | .hbm, ⟨2, _⟩ => ⟨S1x1024x256, .f32⟩
  | .hbm, ⟨3, _⟩ => ⟨S1x1024x256, .f32⟩
  | .hbm, ⟨4, _⟩ => ⟨S1024, .f32⟩
  | .hbm, ⟨5, _⟩ => ⟨S4x256x1024, .f32⟩
  | .hbm, ⟨6, _⟩ => ⟨S_, .f32⟩
  | .hbm, ⟨7, _⟩ => ⟨S4x256, .f32⟩
  | .hbm, ⟨8, _⟩ => ⟨S4x256x1, .f32⟩
  | .hbm, ⟨9, _⟩ => ⟨S_, .f32⟩
  | .hbm, ⟨10, _⟩ => ⟨S4x256x1, .f32⟩
  | .hbm, ⟨11, _⟩ => ⟨S4x256x1, .f32⟩
  | .hbm, ⟨12, _⟩ => ⟨S_, .f32⟩
  | .hbm, ⟨13, _⟩ => ⟨S4x256x1, .f32⟩
  | .hbm, ⟨14, _⟩ => ⟨S4x256x1, .f32⟩
  | .hbm, ⟨15, _⟩ => ⟨S4x256x1, .f32⟩
  | .hbm, ⟨16, _⟩ => ⟨S4x256x1024, .f32⟩
  | .hbm, ⟨17, _⟩ => ⟨S4x256x1024, .f32⟩
  | .hbm, ⟨18, _⟩ => ⟨S1x1x1024, .f32⟩
  | .hbm, ⟨19, _⟩ => ⟨S4x256x1024, .f32⟩
  | .hbm, ⟨20, _⟩ => ⟨S4x256x1024, .f32⟩
  | .hbm, ⟨21, _⟩ => ⟨S1024x256, .f32⟩
  | .hbm, ⟨22, _⟩ => ⟨S4x256x256, .f32⟩
  | .hbm, ⟨23, _⟩ => ⟨S1024x256, .f32⟩
  | .hbm, ⟨24, _⟩ => ⟨S1024x256, .f32⟩
  | .hbm, ⟨25, _⟩ => ⟨S4x256x256, .f32⟩
  | .hbm, ⟨26, _⟩ => ⟨S1024x256, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Inproj.lean ====
abbrev S4x4096x1024 : Shape := ⟨3, ![4, 4096, 1024]⟩
abbrev S1x1024 : Shape := ⟨2, ![1, 1024]⟩
abbrev S1x1024x3592 : Shape := ⟨3, ![1, 1024, 3592]⟩
abbrev S1x8 : Shape := ⟨2, ![1, 8]⟩
abbrev S1024x3592 : Shape := ⟨2, ![1024, 3592]⟩
abbrev S1024x8 : Shape := ⟨2, ![1024, 8]⟩
abbrev S_ : Shape := ⟨0, ![]⟩
abbrev S1024x128 : Shape := ⟨2, ![1024, 128]⟩
abbrev S8 : Shape := ⟨1, ![8]⟩
abbrev S1x128 : Shape := ⟨2, ![1, 128]⟩
abbrev S1024x512 : Shape := ⟨2, ![1024, 512]⟩
abbrev S512 : Shape := ⟨1, ![512]⟩
abbrev S512x1 : Shape := ⟨2, ![512, 1]⟩
abbrev S1024x3072 : Shape := ⟨2, ![1024, 3072]⟩
abbrev S4096 : Shape := ⟨1, ![4096]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S1x4096x1x64 : Shape := ⟨4, ![1, 4096, 1, 64]⟩
abbrev S1x4096x8x64 : Shape := ⟨4, ![1, 4096, 8, 64]⟩
abbrev S4096x512 : Shape := ⟨2, ![4096, 512]⟩
abbrev S3592x1024 : Shape := ⟨2, ![3592, 1024]⟩
abbrev S16384x1024 : Shape := ⟨2, ![16384, 1024]⟩
abbrev S1024 : Shape := ⟨1, ![1024]⟩
abbrev S1536x1024 : Shape := ⟨2, ![1536, 1024]⟩
abbrev S4x512x4096 : Shape := ⟨3, ![4, 512, 4096]⟩
abbrev S16384x512 : Shape := ⟨2, ![16384, 512]⟩
abbrev S4x16x512x256 : Shape := ⟨4, ![4, 16, 512, 256]⟩
abbrev S16384x128 : Shape := ⟨2, ![16384, 128]⟩
abbrev S16384x8 : Shape := ⟨2, ![16384, 8]⟩
abbrev S512x1024 : Shape := ⟨2, ![512, 1024]⟩
abbrev S512x512 : Shape := ⟨2, ![512, 512]⟩
abbrev S1x512x512 : Shape := ⟨3, ![1, 512, 512]⟩
abbrev S1x2x512x256 : Shape := ⟨4, ![1, 2, 512, 256]⟩
abbrev S512x128 : Shape := ⟨2, ![512, 128]⟩
abbrev S512x8 : Shape := ⟨2, ![512, 8]⟩
abbrev S512x256 : Shape := ⟨2, ![512, 256]⟩
abbrev S1x1x512x256 : Shape := ⟨4, ![1, 1, 512, 256]⟩
abbrev S128x512 : Shape := ⟨2, ![128, 512]⟩
abbrev S8x512 : Shape := ⟨2, ![8, 512]⟩

abbrev nBuf : Space → Nat
  | .hbm => 117
  | .vmem => 34
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024x3592, .f32⟩
  | .hbm, ⟨3, _⟩ => ⟨S1x8, .f32⟩
  | .hbm, ⟨4, _⟩ => ⟨S1024x3592, .f32⟩
  | .hbm, ⟨5, _⟩ => ⟨S1024x8, .f32⟩
  | .hbm, ⟨6, _⟩ => ⟨S_, .i32⟩
  | .hbm, ⟨7, _⟩ => ⟨S_, .f32⟩
  | .hbm, ⟨8, _⟩ => ⟨S1024x128, .f32⟩
  | .hbm, ⟨9, _⟩ => ⟨S1024x128, .bf16⟩
  | .hbm, ⟨10, _⟩ => ⟨S8, .f32⟩
  | .hbm, ⟨11, _⟩ => ⟨S1x8, .f32⟩
  | .hbm, ⟨12, _⟩ => ⟨S_, .i32⟩
  | .hbm, ⟨13, _⟩ => ⟨S_, .f32⟩
  | .hbm, ⟨14, _⟩ => ⟨S1x128, .f32⟩
  | .hbm, ⟨15, _⟩ => ⟨S1024x512, .f32⟩
  | .hbm, ⟨16, _⟩ => ⟨S1024x512, .f32⟩
  | .hbm, ⟨17, _⟩ => ⟨S1024x512, .f32⟩
  | .hbm, ⟨18, _⟩ => ⟨S1024x512, .f32⟩
  | .hbm, ⟨19, _⟩ => ⟨S512, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i1⟩
  | .hbm, ⟨24, _⟩ => ⟨S_, .i32⟩
  | .hbm, ⟨25, _⟩ => ⟨S_, .i32⟩
  | .hbm, ⟨26, _⟩ => ⟨S512, .i32⟩
  | .hbm, ⟨27, _⟩ => ⟨S512, .i32⟩
  | .hbm, ⟨28, _⟩ => ⟨S_, .i32⟩
  | .hbm, ⟨29, _⟩ => ⟨S512, .i32⟩
  | .hbm, ⟨30, _⟩ => ⟨S512, .i1⟩
  | .hbm, ⟨31, _⟩ => ⟨S_, .i32⟩
  | .hbm, ⟨32, _⟩ => ⟨S512, .i32⟩
  | .hbm, ⟨33, _⟩ => ⟨S512, .i1⟩
  | .hbm, ⟨34, _⟩ => ⟨S_, .i32⟩
  | .hbm, ⟨35, _⟩ => ⟨S_, .i1⟩
  | .hbm, ⟨36, _⟩ => ⟨S512, .i1⟩
  | .hbm, ⟨37, _⟩ => ⟨S512, .i1⟩
  | .hbm, ⟨38, _⟩ => ⟨S512, .i1⟩
  | .hbm, ⟨39, _⟩ => ⟨S512, .i32⟩
  | .hbm, ⟨40, _⟩ => ⟨S512, .i32⟩
  | .hbm, ⟨41, _⟩ => ⟨S512, .i32⟩
  | .hbm, ⟨42, _⟩ => ⟨S_, .i32⟩
  | .hbm, ⟨43, _⟩ => ⟨S512, .i32⟩
  | .hbm, ⟨44, _⟩ => ⟨S512, .i1⟩
  | .hbm, ⟨45, _⟩ => ⟨S_, .i32⟩
  | .hbm, ⟨46, _⟩ => ⟨S512, .i32⟩
  | .hbm, ⟨47, _⟩ => ⟨S512, .i32⟩
  | .hbm, ⟨48, _⟩ => ⟨S_, .i32⟩
  | .hbm, ⟨49, _⟩ => ⟨S512, .i32⟩
  | .hbm, ⟨50, _⟩ => ⟨S512, .i32⟩
  | .hbm, ⟨51, _⟩ => ⟨S512, .i32⟩
  | .hbm, ⟨52, _⟩ => ⟨S_, .i32⟩
  | .hbm, ⟨53, _⟩ => ⟨S512, .i32⟩
  | .hbm, ⟨54, _⟩ => ⟨S512, .i1⟩
  | .hbm, ⟨55, _⟩ => ⟨S_, .i32⟩
  | .hbm, ⟨56, _⟩ => ⟨S512, .i32⟩
  | .hbm, ⟨57, _⟩ => ⟨S512, .i32⟩
  | .hbm, ⟨58, _⟩ => ⟨S512, .i32⟩
  | .hbm, ⟨59, _⟩ => ⟨S512x1, .i32⟩
  | .hbm, ⟨60, _⟩ => ⟨S1024x512, .f32⟩
  | .hbm, ⟨61, _⟩ => ⟨S_, .i32⟩
  | .hbm, ⟨62, _⟩ => ⟨S512, .i32⟩
  | .hbm, ⟨63, _⟩ => ⟨S512, .i1⟩
  | .hbm, ⟨64, _⟩ => ⟨S_, .i32⟩
  | .hbm, ⟨65, _⟩ => ⟨S512, .i32⟩
  | .hbm, ⟨66, _⟩ => ⟨S512, .i32⟩
  | .hbm, ⟨67, _⟩ => ⟨S512, .i32⟩
  | .hbm, ⟨68, _⟩ => ⟨S512x1, .i32⟩
  | .hbm, ⟨69, _⟩ => ⟨S1024x512, .f32⟩
  | .hbm, ⟨70, _⟩ => ⟨S1024x3072, .f32⟩
  | .hbm, ⟨71, _⟩ => ⟨S1024x3072, .bf16⟩
  | .hbm, ⟨72, _⟩ => ⟨S4096, .i32⟩
  | .hbm, ⟨73, _⟩ => ⟨S32, .f32⟩
  | .hbm, ⟨74, _⟩ => ⟨S32, .f32⟩
  | .hbm, ⟨75, _⟩ => ⟨S_, .f32⟩
  | .hbm, ⟨76, _⟩ => ⟨S32, .f32⟩
  | .hbm, ⟨77, _⟩ => ⟨S32, .f32⟩
  | .hbm, ⟨78, _⟩ => ⟨S_, .f32⟩
  | .hbm, ⟨79, _⟩ => ⟨S32, .f32⟩
  | .hbm, ⟨80, _⟩ => ⟨S32, .f32⟩
  | .hbm, ⟨81, _⟩ => ⟨S4096, .f32⟩
  | .hbm, ⟨82, _⟩ => ⟨S4096x1, .f32⟩
  | .hbm, ⟨83, _⟩ => ⟨S1x32, .f32⟩
  | .hbm, ⟨84, _⟩ => ⟨S4096x32, .f32⟩
  | .hbm, ⟨85, _⟩ => ⟨S4096x32, .f32⟩
  | .hbm, ⟨86, _⟩ => ⟨S4096x32, .f32⟩
  | .hbm, ⟨87, _⟩ => ⟨S4096x32, .f32⟩
  | .hbm, ⟨88, _⟩ => ⟨S4096x32, .f32⟩
  | .hbm, ⟨89, _⟩ => ⟨S4096x64, .f32⟩
  | .hbm, ⟨90, _⟩ => ⟨S1x4096x1x64, .f32⟩
  | .hbm, ⟨91, _⟩ => ⟨S1x4096x8x64, .f32⟩
  | .hbm, ⟨92, _⟩ => ⟨S4096x512, .f32⟩
  | .hbm, ⟨93, _⟩ => ⟨S4096x32, .f32⟩
  | .hbm, ⟨94, _⟩ => ⟨S4096x64, .f32⟩
  | .hbm, ⟨95, _⟩ => ⟨S1x4096x1x64, .f32⟩
  | .hbm, ⟨96, _⟩ => ⟨S1x4096x8x64, .f32⟩
  | .hbm, ⟨97, _⟩ => ⟨S4096x512, .f32⟩
  | .hbm, ⟨98, _⟩ => ⟨S3592x1024, .f32⟩
  | .hbm, ⟨99, _⟩ => ⟨S16384x1024, .f32⟩
  | .hbm, ⟨100, _⟩ => ⟨S1024, .f32⟩
  | .hbm, ⟨101, _⟩ => ⟨S1x1024, .f32⟩
  | .hbm, ⟨102, _⟩ => ⟨S1536x1024, .f32⟩
  | .hbm, ⟨103, _⟩ => ⟨S1536x1024, .bf16⟩
  | .hbm, ⟨104, _⟩ => ⟨S1024x512, .f32⟩
  | .hbm, ⟨105, _⟩ => ⟨S1024x512, .bf16⟩
  | .hbm, ⟨106, _⟩ => ⟨S4x512x4096, .bf16⟩
  | .hbm, ⟨107, _⟩ => ⟨S16384x512, .f32⟩
  | .hbm, ⟨108, _⟩ => ⟨S16384x512, .f32⟩
  | .hbm, ⟨109, _⟩ => ⟨S16384x512, .bf16⟩
  | .hbm, ⟨110, _⟩ => ⟨S4x16x512x256, .bf16⟩
  | .hbm, ⟨111, _⟩ => ⟨S16384x128, .f32⟩
  | .hbm, ⟨112, _⟩ => ⟨S16384x8, .f32⟩
  | .hbm, ⟨113, _⟩ => ⟨S16384x512, .bf16⟩
  | .hbm, ⟨114, _⟩ => ⟨S16384x512, .bf16⟩
  | .hbm, ⟨115, _⟩ => ⟨S16384x512, .bf16⟩
  | .hbm, ⟨116, _⟩ => ⟨S16384x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1536x1024, .bf16⟩
  | .local _ .vmem, ⟨4, _⟩ => ⟨S1024x512, .bf16⟩
  | .local _ .vmem, ⟨5, _⟩ => ⟨S1024x128, .bf16⟩
  | .local _ .vmem, ⟨6, _⟩ => ⟨S1x128, .f32⟩
  | .local _ .vmem, ⟨7, _⟩ => ⟨S1024x3072, .bf16⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S1x512x512, .bf16⟩
  | .local _ .vmem, ⟨13, _⟩ => ⟨S1x512x512, .bf16⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .bf16⟩
  | .local _ .vmem, ⟨19, _⟩ => ⟨S512x512, .bf16⟩
  | .local _ .vmem, ⟨20, _⟩ => ⟨S1x2x512x256, .bf16⟩
  | .local _ .vmem, ⟨21, _⟩ => ⟨S1x2x512x256, .bf16⟩
  | .local _ .vmem, ⟨22, _⟩ => ⟨S512x128, .f32⟩
  | .local _ .vmem, ⟨23, _⟩ => ⟨S512x128, .f32⟩
  | .local _ .vmem, ⟨24, _⟩ => ⟨S512x8, .f32⟩
  | .local _ .vmem, ⟨25, _⟩ => ⟨S512x8, .f32⟩
  | .local _ .vmem, ⟨26, _⟩ => ⟨S512x512, .bf16⟩
  | .local _ .vmem, ⟨27, _⟩ => ⟨S512x512, .bf16⟩
  | .local _ .vmem, ⟨28, _⟩ => ⟨S512x512, .bf16⟩
  | .local _ .vmem, ⟨29, _⟩ => ⟨S512x512, .bf16⟩
  | .local _ .vmem, ⟨30, _⟩ => ⟨S512x512, .bf16⟩
  | .local _ .vmem, ⟨31, _⟩ => ⟨S512x512, .bf16⟩
  | .local _ .vmem, ⟨32, _⟩ => ⟨S512x512, .f32⟩
  | .local _ .vmem, ⟨33, _⟩ => ⟨S512x512, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_call1_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_call2_v0 : Ref sig .tc := ⟨.hbm, 21, rfl⟩
abbrev main_call2_c : Ref sig .tc := ⟨.hbm, 22, rfl⟩
abbrev main_call2_v1 : Ref sig .tc := ⟨.hbm, 23, rfl⟩
abbrev main_call2_c_0 : Ref sig .tc := ⟨.hbm, 24, rfl⟩
abbrev main_call2_v2 : Ref sig .tc := ⟨.hbm, 25, rfl⟩
abbrev main_call2_v3 : Ref sig .tc := ⟨.hbm, 26, rfl⟩
abbrev main_call2_v4 : Ref sig .tc := ⟨.hbm, 27, rfl⟩
abbrev main_call2_c_1 : Ref sig .tc := ⟨.hbm, 28, rfl⟩
abbrev main_call2_v5 : Ref sig .tc := ⟨.hbm, 29, rfl⟩
abbrev main_call2_v6 : Ref sig .tc := ⟨.hbm, 30, rfl⟩
abbrev main_call2_c_2 : Ref sig .tc := ⟨.hbm, 31, rfl⟩
abbrev main_call2_v7 : Ref sig .tc := ⟨.hbm, 32, rfl⟩
abbrev main_call2_v8 : Ref sig .tc := ⟨.hbm, 33, rfl⟩
abbrev main_call2_c_3 : Ref sig .tc := ⟨.hbm, 34, rfl⟩
abbrev main_call2_v9 : Ref sig .tc := ⟨.hbm, 35, rfl⟩
abbrev main_call2_v10 : Ref sig .tc := ⟨.hbm, 36, rfl⟩
abbrev main_call2_v11 : Ref sig .tc := ⟨.hbm, 37, rfl⟩
abbrev main_call2_v12 : Ref sig .tc := ⟨.hbm, 38, rfl⟩
abbrev main_call2_v13 : Ref sig .tc := ⟨.hbm, 39, rfl⟩
abbrev main_call2_v14 : Ref sig .tc := ⟨.hbm, 40, rfl⟩
abbrev main_v12 : Ref sig .tc := ⟨.hbm, 41, rfl⟩
abbrev main_c_2 : Ref sig .tc := ⟨.hbm, 42, rfl⟩
abbrev main_v13 : Ref sig .tc := ⟨.hbm, 43, rfl⟩
abbrev main_v14 : Ref sig .tc := ⟨.hbm, 44, rfl⟩
abbrev main_c_3 : Ref sig .tc := ⟨.hbm, 45, rfl⟩
abbrev main_v15 : Ref sig .tc := ⟨.hbm, 46, rfl⟩
abbrev main_v16 : Ref sig .tc := ⟨.hbm, 47, rfl⟩
abbrev main_c_4 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_c_5 : Ref sig .tc := ⟨.hbm, 52, rfl⟩
abbrev main_v20 : Ref sig .tc := ⟨.hbm, 53, rfl⟩
abbrev main_v21 : Ref sig .tc := ⟨.hbm, 54, rfl⟩
abbrev main_c_6 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_c_7 : Ref sig .tc := ⟨.hbm, 61, rfl⟩
abbrev main_v27 : Ref sig .tc := ⟨.hbm, 62, rfl⟩
abbrev main_v28 : Ref sig .tc := ⟨.hbm, 63, rfl⟩
abbrev main_c_8 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_cst : Ref sig .tc := ⟨.hbm, 75, rfl⟩
abbrev main_v39 : Ref sig .tc := ⟨.hbm, 76, rfl⟩
abbrev main_v40 : Ref sig .tc := ⟨.hbm, 77, rfl⟩
abbrev main_cst_9 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68_0 : Ref sig .tc := ⟨.hbm, 106, rfl⟩
abbrev main_v68_1 : Ref sig .tc := ⟨.hbm, 107, rfl⟩
abbrev main_v68_2 : Ref sig .tc := ⟨.hbm, 108, rfl⟩
abbrev main_v68_3 : Ref sig .tc := ⟨.hbm, 109, rfl⟩
abbrev main_v68_4 : Ref sig .tc := ⟨.hbm, 110, rfl⟩
abbrev main_v68_5 : Ref sig .tc := ⟨.hbm, 111, rfl⟩
abbrev main_v68_6 : Ref sig .tc := ⟨.hbm, 112, rfl⟩
abbrev main_v68_7 : Ref sig .tc := ⟨.hbm, 113, rfl⟩
abbrev main_v68_8 : Ref sig .tc := ⟨.hbm, 114, rfl⟩
abbrev main_v68_9 : Ref sig .tc := ⟨.hbm, 115, rfl⟩
abbrev main_v68_10 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1536x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x2x512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x8 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== InprojRefIdeal.lean ====
abbrev S4x4096x1024 : Shape := ⟨3, ![4, 4096, 1024]⟩
abbrev S1x1024 : Shape := ⟨2, ![1, 1024]⟩
abbrev S1x1024x3592 : Shape := ⟨3, ![1, 1024, 3592]⟩
abbrev S1x8 : Shape := ⟨2, ![1, 8]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1024x3592 : Shape := ⟨2, ![1024, 3592]⟩
abbrev S8 : Shape := ⟨1, ![8]⟩
abbrev S4096 : Shape := ⟨1, ![4096]⟩
abbrev S4x4096x3592 : Shape := ⟨3, ![4, 4096, 3592]⟩
abbrev S4x4096x512 : Shape := ⟨3, ![4, 4096, 512]⟩
abbrev S4x4096x8 : Shape := ⟨3, ![4, 4096, 8]⟩
abbrev S1x1x8 : Shape := ⟨3, ![1, 1, 8]⟩
abbrev S4x4096x8x64 : Shape := ⟨4, ![4, 4096, 8, 64]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S4x4096x8x32 : Shape := ⟨4, ![4, 4096, 8, 32]⟩
abbrev S4x8x64x4096 : Shape := ⟨4, ![4, 8, 64, 4096]⟩
abbrev S4x512x4096 : Shape := ⟨3, ![4, 512, 4096]⟩
abbrev S16384x512 : Shape := ⟨2, ![16384, 512]⟩
abbrev S16384x8 : Shape := ⟨2, ![16384, 8]⟩

abbrev nBuf : Space → Nat
  | .hbm => 139
  | .vmem => 0
  | .smem => 0
  | _ => 0

abbrev hbmTy0_0 (i : Nat) : BufTy := match i % 128 with
  | 0 => ⟨S4x4096x1024, .f32⟩
  | 1 => ⟨S1x1024, .f32⟩
  | 2 => ⟨S1x1024x3592, .f32⟩
  | 3 => ⟨S1x8, .f32⟩
  | 4 => ⟨S1024, .f32⟩
  | 5 => ⟨S4x4096x1024, .f32⟩
  | 6 => ⟨S_, .f32⟩
  | 7 => ⟨S4x4096, .f32⟩
  | 8 => ⟨S4x4096x1, .f32⟩
  | 9 => ⟨S_, .f32⟩
  | 10 => ⟨S4x4096x1, .f32⟩
  | 11 => ⟨S4x4096x1, .f32⟩
  | 12 => ⟨S_, .f32⟩
  | 13 => ⟨S4x4096x1, .f32⟩
  | 14 => ⟨S4x4096x1, .f32⟩
  | 15 => ⟨S4x4096x1, .f32⟩
  | 16 => ⟨S4x4096x1024, .f32⟩
  | 17 => ⟨S4x4096x1024, .f32⟩
  | 18 => ⟨S1x1x1024, .f32⟩
  | 19 => ⟨S4x4096x1024, .f32⟩
  | 20 => ⟨S4x4096x1024, .f32⟩
  | 21 => ⟨S1024x3592, .f32⟩
  | 22 => ⟨S8, .f32⟩
  | 23 => ⟨S4096, .i32⟩
  | 24 => ⟨S4x4096x3592, .f32⟩
  | 25 => ⟨S4x4096x512, .f32⟩
  | 26 => ⟨S4x4096x512, .f32⟩
  | 27 => ⟨S4x4096x512, .f32⟩
  | 28 => ⟨S4x4096x8, .f32⟩
  | 29 => ⟨S4x4096x512, .f32⟩
  | 30 => ⟨S4x4096x512, .f32⟩
  | 31 => ⟨S4x4096x512, .f32⟩
  | 32 => ⟨S4x4096x512, .f32⟩
  | 33 => ⟨S1x1x8, .f32⟩
  | 34 => ⟨S4x4096x8, .f32⟩
  | 35 => ⟨S4x4096x8, .f32⟩
  | 36 => ⟨S4x4096x8, .f32⟩
  | 37 => ⟨S_, .f32⟩
  | 38 => ⟨S4x4096x8, .f32⟩
  | 39 => ⟨S4x4096x8, .f32⟩
  | 40 => ⟨S4x4096x8, .f32⟩
  | 41 => ⟨S4x4096x8, .f32⟩
  | 42 => ⟨S4x4096x8, .i1⟩
  | 43 => ⟨S4x4096x8, .f32⟩
  | 44 => ⟨S4x4096x8, .f32⟩
  | 45 => ⟨S4x4096x8, .f32⟩
  | 46 => ⟨S4x4096x8, .f32⟩
  | 47 => ⟨S4x4096x8, .f32⟩
  | 48 => ⟨S4x4096x8, .f32⟩
  | 49 => ⟨S4x4096x8, .f32⟩
  | 50 => ⟨S4x4096x8, .f32⟩
  | 51 => ⟨S4x4096x8, .f32⟩
  | 52 => ⟨S4x4096x8x64, .f32⟩
  | 53 => ⟨S32, .f32⟩
  | 54 => ⟨S32, .f32⟩
  | 55 => ⟨S_, .f32⟩
  | 56 => ⟨S32, .f32⟩
  | 57 => ⟨S32, .f32⟩
  | 58 => ⟨S_, .f32⟩
  | 59 => ⟨S32, .f32⟩
  | 60 => ⟨S32, .f32⟩
  | 61 => ⟨S4096, .f32⟩
  | 62 => ⟨S4096x1, .f32⟩
  | 63 => ⟨S1x32, .f32⟩
  | 64 => ⟨S4096x32, .f32⟩
  | 65 => ⟨S4096x32, .f32⟩
  | 66 => ⟨S4096x32, .f32⟩
  | 67 => ⟨S4096x32, .f32⟩
  | 68 => ⟨S1x4096x1x32, .f32⟩
  | 69 => ⟨S4096x32, .f32⟩
  | 70 => ⟨S1x4096x1x32, .f32⟩
  | 71 => ⟨S4x4096x8x32, .f32⟩
  | 72 => ⟨S4x4096x8x32, .f32⟩
  | 73 => ⟨S4x4096x8x32, .f32⟩
  | 74 => ⟨S4x4096x8x32, .f32⟩
  | 75 => ⟨S4x4096x8x32, .f32⟩
  | 76 => ⟨S4x4096x8x32, .f32⟩
  | 77 => ⟨S4x4096x8x32, .f32⟩
  | 78 => ⟨S4x4096x8x32, .f32⟩
  | 79 => ⟨S4x4096x8x32, .f32⟩
  | 80 => ⟨S4x4096x8x32, .f32⟩
  | 81 => ⟨S4x4096x8x32, .f32⟩
  | 82 => ⟨S4x4096x8x32, .f32⟩
  | 83 => ⟨S4x4096x8x64, .f32⟩
  | 84 => ⟨S4x4096x8x64, .f32⟩
  | 85 => ⟨S32, .f32⟩
  | 86 => ⟨S32, .f32⟩
  | 87 => ⟨S_, .f32⟩
  | 88 => ⟨S32, .f32⟩
  | 89 => ⟨S32, .f32⟩
  | 90 => ⟨S_, .f32⟩
  | 91 => ⟨S32, .f32⟩
  | 92 => ⟨S32, .f32⟩
  | 93 => ⟨S4096, .f32⟩
  | 94 => ⟨S4096x1, .f32⟩
  | 95 => ⟨S1x32, .f32⟩
  | 96 => ⟨S4096x32, .f32⟩
  | 97 => ⟨S4096x32, .f32⟩
  | 98 => ⟨S4096x32, .f32⟩
  | 99 => ⟨S4096x32, .f32⟩
  | 100 => ⟨S1x4096x1x32, .f32⟩
  | 101 => ⟨S4096x32, .f32⟩
  | 102 => ⟨S1x4096x1x32, .f32⟩
  | 103 => ⟨S4x4096x8x32, .f32⟩
  | 104 => ⟨S4x4096x8x32, .f32⟩
  | 105 => ⟨S4x4096x8x32, .f32⟩
  | 106 => ⟨S4x4096x8x32, .f32⟩
  | 107 => ⟨S4x4096x8x32, .f32⟩
  | 108 => ⟨S4x4096x8x32, .f32⟩
  | 109 => ⟨S4x4096x8x32, .f32⟩
  | 110 => ⟨S4x4096x8x32, .f32⟩
  | 111 => ⟨S4x4096x8x32, .f32⟩
  | 112 => ⟨S4x4096x8x32, .f32⟩
  | 113 => ⟨S4x4096x8x32, .f32⟩
  | 114 => ⟨S4x4096x8x32, .f32⟩
  | 115 => ⟨S4x4096x8x64, .f32⟩
  | 116 => ⟨S_, .f32⟩
  | 117 => ⟨S4x4096x8x64, .f32⟩
  | 118 => ⟨S4x4096x8x64, .f32⟩
  | 119 => ⟨S4x4096x8x64, .f32⟩
  | 120 => ⟨S4x4096x8x64, .f32⟩
  | 121 => ⟨S4x4096x8x64, .f32⟩
  | 122 => ⟨S4x4096x8x64, .f32⟩
  | 123 => ⟨S_, .f32⟩
  | 124 => ⟨S4x4096x8x64, .f32⟩
  | 125 => ⟨S4x4096x8x64, .f32⟩
  | 126 => ⟨S4x4096x8x64, .bf16⟩
  | 127 => ⟨S4x8x64x4096, .bf16⟩
  | _ => ⟨S4x4096x1024, .f32⟩

abbrev hbmTy0_1 (i : Nat) : BufTy := match i % 128 with
  | 0 => ⟨S4x512x4096, .bf16⟩
  | 1 => ⟨S16384x512, .f32⟩
  | 2 => ⟨S16384x512, .f32⟩
  | 3 => ⟨S16384x8, .f32⟩
  | 4 => ⟨S16384x512, .f32⟩
  | 5 => ⟨S16384x512, .bf16⟩
  | 6 => ⟨S16384x512, .f32⟩
  | 7 => ⟨S16384x512, .bf16⟩
  | 8 => ⟨S16384x512, .f32⟩
  | 9 => ⟨S16384x512, .bf16⟩
  | 10 => ⟨S16384x512, .f32⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_call0_v0 : Ref sig .tc := ⟨.hbm, 36, rfl⟩
abbrev main_call0_call0_cst : Ref sig .tc := ⟨.hbm, 37, rfl⟩
abbrev main_call0_call0_v0 : Ref sig .tc := ⟨.hbm, 38, rfl⟩
abbrev main_call0_call0_v1 : Ref sig .tc := ⟨.hbm, 39, rfl⟩
abbrev main_call0_call0_v2 : Ref sig .tc := ⟨.hbm, 40, rfl⟩
abbrev main_call0_call0_v3 : Ref sig .tc := ⟨.hbm, 41, rfl⟩
abbrev main_call0_call0_v4 : Ref sig .tc := ⟨.hbm, 42, rfl⟩
abbrev main_call0_call0_v5 : Ref sig .tc := ⟨.hbm, 43, rfl⟩
abbrev main_call0_call0_v6 : Ref sig .tc := ⟨.hbm, 44, rfl⟩
abbrev main_call0_call0_v7 : Ref sig .tc := ⟨.hbm, 45, rfl⟩
abbrev main_call0_call0_v8 : Ref sig .tc := ⟨.hbm, 46, rfl⟩
abbrev main_call0_call0_v9 : Ref sig .tc := ⟨.hbm, 47, rfl⟩
abbrev main_call0_call0_v10 : Ref sig .tc := ⟨.hbm, 48, rfl⟩
abbrev main_call0_call0_v11 : Ref sig .tc := ⟨.hbm, 49, rfl⟩
abbrev main_call0_v1 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_2 : Ref sig .tc := ⟨.hbm, 55, rfl⟩
abbrev main_v33 : Ref sig .tc := ⟨.hbm, 56, rfl⟩
abbrev main_v34 : Ref sig .tc := ⟨.hbm, 57, rfl⟩
abbrev main_cst_3 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_4 : Ref sig .tc := ⟨.hbm, 87, rfl⟩
abbrev main_v63 : Ref sig .tc := ⟨.hbm, 88, rfl⟩
abbrev main_v64 : Ref sig .tc := ⟨.hbm, 89, rfl⟩
abbrev main_cst_5 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_cst_6 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_cst_7 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩

abbrev nD : Nat := 1
abbrev τ : Topo := Topo.v7x

variable {F : FTy → Type} [FloatOps F]
-- ==== FfnOutS.lean ====
abbrev S128x4x1024 : Shape := ⟨3, ![128, 4, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S512x1024 : Shape := ⟨2, ![512, 1024]⟩
abbrev S1024x2816 : Shape := ⟨2, ![1024, 2816]⟩
abbrev S2816x1024 : Shape := ⟨2, ![2816, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 17
  | .vmem => 7
  | .smem => 0
  | _ => 0

abbrev bufTy : (tb : Table) → Fin (tcTables nBuf tb) → BufTy
  | .hbm, ⟨0, _⟩ => ⟨S128x4x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1024, .f32⟩
  | .hbm, ⟨6, _⟩ => ⟨S512x1024, .f32⟩
  | .hbm, ⟨7, _⟩ => ⟨S1024, .f32⟩
  | .hbm, ⟨8, _⟩ => ⟨S1x1024, .f32⟩
  | .hbm, ⟨9, _⟩ => ⟨S1024x2816, .f32⟩
  | .hbm, ⟨10, _⟩ => ⟨S1024x2816, .bf16⟩
  | .hbm, ⟨11, _⟩ => ⟨S1024x2816, .f32⟩
  | .hbm, ⟨12, _⟩ => ⟨S1024x2816, .bf16⟩
  | .hbm, ⟨13, _⟩ => ⟨S2816x1024, .f32⟩
  | .hbm, ⟨14, _⟩ => ⟨S2816x1024, .bf16⟩
  | .hbm, ⟨15, _⟩ => ⟨S1x1024, .f32⟩
  | .hbm, ⟨16, _⟩ => ⟨S512x1024, .f32⟩
  | .local _ .vmem, ⟨0, _⟩ => ⟨S512x1024, .f32⟩
  | .local _ .vmem, ⟨1, _⟩ => ⟨S1x1024, .f32⟩
  | .local _ .vmem, ⟨2, _⟩ => ⟨S1024x2816, .bf16⟩
  | .local _ .vmem, ⟨3, _⟩ => ⟨S1024x2816, .bf16⟩
  | .local _ .vmem, ⟨4, _⟩ => ⟨S2816x1024, .bf16⟩
  | .local _ .vmem, ⟨5, _⟩ => ⟨S1x1024, .f32⟩
  | .local _ .vmem, ⟨6, _⟩ => ⟨S512x1024, .f32⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== FfnOutSRefIdeal.lean ====
abbrev S128x4x1024 : Shape := ⟨3, ![128, 4, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S128x4 : Shape := ⟨2, ![128, 4]⟩
abbrev S128x4x1 : Shape := ⟨3, ![128, 4, 1]⟩
abbrev S1x1x1024 : Shape := ⟨3, ![1, 1, 1024]⟩
abbrev S1024x2816 : Shape := ⟨2, ![1024, 2816]⟩
abbrev S2816x1024 : Shape := ⟨2, ![2816, 1024]⟩
abbrev S128x4x2816 : Shape := ⟨3, ![128, 4, 2816]⟩
abbrev S512x1024 : Shape := ⟨2, ![512, 1024]⟩

abbrev nBuf : Space → Nat
  | .hbm => 60
  | .vmem => 0
  | .smem => 0
  | _ => 0

abbrev bufTy : (tb : Table) → Fin (tcTables nBuf tb) → BufTy
  | .hbm, ⟨0, _⟩ => ⟨S128x4x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1024, .f32⟩
  | .hbm, ⟨6, _⟩ => ⟨S1024, .f32⟩
  | .hbm, ⟨7, _⟩ => ⟨S128x4x1024, .f32⟩
  | .hbm, ⟨8, _⟩ => ⟨S_, .f32⟩
  | .hbm, ⟨9, _⟩ => ⟨S128x4, .f32⟩
  | .hbm, ⟨10, _⟩ => ⟨S128x4x1, .f32⟩
  | .hbm, ⟨11, _⟩ => ⟨S_, .f32⟩
  | .hbm, ⟨12, _⟩ => ⟨S128x4x1, .f32⟩
  | .hbm, ⟨13, _⟩ => ⟨S128x4x1, .f32⟩
  | .hbm, ⟨14, _⟩ => ⟨S_, .f32⟩
  | .hbm, ⟨15, _⟩ => ⟨S128x4x1, .f32⟩
  | .hbm, ⟨16, _⟩ => ⟨S128x4x1, .f32⟩
  | .hbm, ⟨17, _⟩ => ⟨S128x4x1, .f32⟩
  | .hbm, ⟨18, _⟩ => ⟨S128x4x1024, .f32⟩
  | .hbm, ⟨19, _⟩ => ⟨S128x4x1024, .f32⟩
  | .hbm, ⟨20, _⟩ => ⟨S1x1x1024, .f32⟩
  | .hbm, ⟨21, _⟩ => ⟨S128x4x1024, .f32⟩
  | .hbm, ⟨22, _⟩ => ⟨S128x4x1024, .f32⟩
  | .hbm, ⟨23, _⟩ => ⟨S1024x2816, .f32⟩
  | .hbm, ⟨24, _⟩ => ⟨S1024x2816, .f32⟩
  | .hbm, ⟨25, _⟩ => ⟨S2816x1024, .f32⟩
  | .hbm, ⟨26, _⟩ => ⟨S128x4x2816, .f32⟩
  | .hbm, ⟨27, _⟩ => ⟨S128x4x2816, .f32⟩
  | .hbm, ⟨28, _⟩ => ⟨S128x4x2816, .f32⟩
  | .hbm, ⟨29, _⟩ => ⟨S_, .f32⟩
  | .hbm, ⟨30, _⟩ => ⟨S128x4x2816, .f32⟩
  | .hbm, ⟨31, _⟩ => ⟨S128x4x2816, .f32⟩
  | .hbm, ⟨32, _⟩ => ⟨S_, .f32⟩
  | .hbm, ⟨33, _⟩ => ⟨S128x4x2816, .f32⟩
  | .hbm, ⟨34, _⟩ => ⟨S128x4x2816, .f32⟩
  | .hbm, ⟨35, _⟩ => ⟨S128x4x2816, .f32⟩
  | .hbm, ⟨36, _⟩ => ⟨S128x4x2816, .f32⟩
  | .hbm, ⟨37, _⟩ => ⟨S128x4x2816, .f32⟩
  | .hbm, ⟨38, _⟩ => ⟨S128x4x1024, .f32⟩
  | .hbm, ⟨39, _⟩ => ⟨S_, .f32⟩
  | .hbm, ⟨40, _⟩ => ⟨S128x4x1024, .f32⟩
  | .hbm, ⟨41, _⟩ => ⟨S128x4x1024, .f32⟩
  | .hbm, ⟨42, _⟩ => ⟨S128x4x1024, .f32⟩
  | .hbm, ⟨43, _⟩ => ⟨S128x4x1024, .f32⟩
  | .hbm, ⟨44, _⟩ => ⟨S_, .f32⟩
  | .hbm, ⟨45, _⟩ => ⟨S128x4, .f32⟩
  | .hbm, ⟨46, _⟩ => ⟨S128x4x1, .f32⟩
  | .hbm, ⟨47, _⟩ => ⟨S_, .f32⟩
  | .hbm, ⟨48, _⟩ => ⟨S128x4x1, .f32⟩
  | .hbm, ⟨49, _⟩ => ⟨S128x4x1, .f32⟩
  | .hbm, ⟨50, _⟩ => ⟨S_, .f32⟩
  | .hbm, ⟨51, _⟩ => ⟨S128x4x1, .f32⟩
  | .hbm, ⟨52, _⟩ => ⟨S128x4x1, .f32⟩
  | .hbm, ⟨53, _⟩ => ⟨S128x4x1, .f32⟩
  | .hbm, ⟨54, _⟩ => ⟨S128x4x1024, .f32⟩
  | .hbm, ⟨55, _⟩ => ⟨S128x4x1024, .f32⟩
  | .hbm, ⟨56, _⟩ => ⟨S1x1x1024, .f32⟩
  | .hbm, ⟨57, _⟩ => ⟨S128x4x1024, .f32⟩
  | .hbm, ⟨58, _⟩ => ⟨S128x4x1024, .f32⟩
  | .hbm, ⟨59, _⟩ => ⟨S512x1024, .f32⟩
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_cst_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩

abbrev nD : Nat := 1
abbrev τ : Topo := Topo.v7x

variable {F : FTy → Type} [FloatOps F]
-- ==== Mix.lean ====
abbrev S4x4096x1024 : Shape := ⟨3, ![4, 4096, 1024]⟩
abbrev S4x4096x512 : Shape := ⟨3, ![4, 4096, 512]⟩
abbrev S1x1024x1024 : Shape := ⟨3, ![1, 1024, 1024]⟩
abbrev S1x1024 : Shape := ⟨2, ![1, 1024]⟩
abbrev S1x1024x256 : Shape := ⟨3, ![1, 1024, 256]⟩
abbrev S4x256x4x64 : Shape := ⟨4, ![4, 256, 4, 64]⟩
abbrev S1x256x1024 : Shape := ⟨3, ![1, 256, 1024]⟩
abbrev S16384x1024 : Shape := ⟨2, ![16384, 1024]⟩
abbrev S16384x512 : Shape := ⟨2, ![16384, 512]⟩
abbrev S1024x1024 : Shape := ⟨2, ![1024, 1024]⟩
abbrev S1024 : Shape := ⟨1, ![1024]⟩
abbrev S1024x256 : Shape := ⟨2, ![1024, 256]⟩
abbrev S256x1024 : Shape := ⟨2, ![256, 1024]⟩
abbrev S512x1024 : Shape := ⟨2, ![512, 1024]⟩
abbrev S512x512 : Shape := ⟨2, ![512, 512]⟩
abbrev S256x256 : Shape := ⟨2, ![256, 256]⟩
abbrev S512 : Shape := ⟨1, ![512]⟩
abbrev S512x1 : Shape := ⟨2, ![512, 1]⟩
abbrev S512x256 : Shape := ⟨2, ![512, 256]⟩
abbrev S2048x256 : Shape := ⟨2, ![2048, 256]⟩
abbrev S2048 : Shape := ⟨1, ![2048]⟩
abbrev S2048x1 : Shape := ⟨2, ![2048, 1]⟩

abbrev nBuf : Space → Nat
  | .hbm => 25
  | .vmem => 16
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .f32⟩
  | .hbm, ⟨2, _⟩ => ⟨S4x4096x512, .f32⟩
  | .hbm, ⟨3, _⟩ => ⟨S1x1024x1024, .f32⟩
  | .hbm, ⟨4, _⟩ => ⟨S1x1024, .f32⟩
  | .hbm, ⟨5, _⟩ => ⟨S1x1024x256, .f32⟩
  | .hbm, ⟨6, _⟩ => ⟨S4x256x4x64, .f32⟩
  | .hbm, ⟨7, _⟩ => ⟨S4x256x4x64, .f32⟩
  | .hbm, ⟨8, _⟩ => ⟨S1x256x1024, .f32⟩
  | .hbm, ⟨9, _⟩ => ⟨S16384x1024, .f32⟩
  | .hbm, ⟨10, _⟩ => ⟨S16384x512, .f32⟩
  | .hbm, ⟨11, _⟩ => ⟨S16384x512, .bf16⟩
  | .hbm, ⟨12, _⟩ => ⟨S16384x512, .f32⟩
  | .hbm, ⟨13, _⟩ => ⟨S16384x512, .bf16⟩
  | .hbm, ⟨14, _⟩ => ⟨S1024x1024, .f32⟩
  | .hbm, ⟨15, _⟩ => ⟨S1024x1024, .bf16⟩
  | .hbm, ⟨16, _⟩ => ⟨S1024, .f32⟩
  | .hbm, ⟨17, _⟩ => ⟨S1x1024, .f32⟩
  | .hbm, ⟨18, _⟩ => ⟨S1024x256, .f32⟩
  | .hbm, ⟨19, _⟩ => ⟨S1024x256, .bf16⟩
  | .hbm, ⟨20, _⟩ => ⟨S1024x256, .f32⟩
  | .hbm, ⟨21, _⟩ => ⟨S1024x256, .f32⟩
  | .hbm, ⟨22, _⟩ => ⟨S256x1024, .f32⟩
  | .hbm, ⟨23, _⟩ => ⟨S256x1024, .bf16⟩
  | .hbm, ⟨24, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x1024, .bf16⟩
  | .local _ .vmem, ⟨7, _⟩ => ⟨S1x1024, .f32⟩
  | .local _ .vmem, ⟨8, _⟩ => ⟨S1024x256, .bf16⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x1024, .bf16⟩
  | .local _ .vmem, ⟨14, _⟩ => ⟨S512x1024, .f32⟩
  | .local _ .vmem, ⟨15, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_7 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MixRefIdeal.lean ====
abbrev S4x4096x1024 : Shape := ⟨3, ![4, 4096, 1024]⟩
abbrev S4x4096x512 : Shape := ⟨3, ![4, 4096, 512]⟩
abbrev S1x1024x1024 : Shape := ⟨3, ![1, 1024, 1024]⟩
abbrev S1x1024 : Shape := ⟨2, ![1, 1024]⟩
abbrev S1x1024x256 : Shape := ⟨3, ![1, 1024, 256]⟩
abbrev S4x256x4x64 : Shape := ⟨4, ![4, 256, 4, 64]⟩
abbrev S1x256x1024 : Shape := ⟨3, ![1, 256, 1024]⟩
abbrev S1024x1024 : Shape := ⟨2, ![1024, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1024x256 : Shape := ⟨2, ![1024, 256]⟩
abbrev S256x1024 : Shape := ⟨2, ![256, 1024]⟩
abbrev S4x4096x256 : Shape := ⟨3, ![4, 4096, 256]⟩
abbrev S4x4096x4x64 : Shape := ⟨4, ![4, 4096, 4, 64]⟩
abbrev S4x4x4096x256 : Shape := ⟨4, ![4, 4, 4096, 256]⟩
abbrev S4x4x4096 : Shape := ⟨3, ![4, 4, 4096]⟩
abbrev S4x4x4096x1 : Shape := ⟨4, ![4, 4, 4096, 1]⟩
abbrev S4x4x64x4096 : Shape := ⟨4, ![4, 4, 64, 4096]⟩
abbrev S16384x1024 : Shape := ⟨2, ![16384, 1024]⟩

abbrev nBuf : Space → Nat
  | .hbm => 58
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .f32⟩
  | .hbm, ⟨2, _⟩ => ⟨S4x4096x512, .f32⟩
  | .hbm, ⟨3, _⟩ => ⟨S1x1024x1024, .f32⟩
  | .hbm, ⟨4, _⟩ => ⟨S1x1024, .f32⟩
  | .hbm, ⟨5, _⟩ => ⟨S1x1024x256, .f32⟩
  | .hbm, ⟨6, _⟩ => ⟨S4x256x4x64, .f32⟩
  | .hbm, ⟨7, _⟩ => ⟨S4x256x4x64, .f32⟩
  | .hbm, ⟨8, _⟩ => ⟨S1x256x1024, .f32⟩
  | .hbm, ⟨9, _⟩ => ⟨S4x4096x1024, .f32⟩
  | .hbm, ⟨10, _⟩ => ⟨S1024x1024, .f32⟩
  | .hbm, ⟨11, _⟩ => ⟨S4x4096x1024, .f32⟩
  | .hbm, ⟨12, _⟩ => ⟨S4x4096x1024, .f32⟩
  | .hbm, ⟨13, _⟩ => ⟨S1024, .f32⟩
  | .hbm, ⟨14, _⟩ => ⟨S4x4096x1024, .f32⟩
  | .hbm, ⟨15, _⟩ => ⟨S_, .f32⟩
  | .hbm, ⟨16, _⟩ => ⟨S4x4096, .f32⟩
  | .hbm, ⟨17, _⟩ => ⟨S4x4096x1, .f32⟩
  | .hbm, ⟨18, _⟩ => ⟨S_, .f32⟩
  | .hbm, ⟨19, _⟩ => ⟨S4x4096x1, .f32⟩
  | .hbm, ⟨20, _⟩ => ⟨S4x4096x1, .f32⟩
  | .hbm, ⟨21, _⟩ => ⟨S_, .f32⟩
  | .hbm, ⟨22, _⟩ => ⟨S4x4096x1, .f32⟩
  | .hbm, ⟨23, _⟩ => ⟨S4x4096x1, .f32⟩
  | .hbm, ⟨24, _⟩ => ⟨S4x4096x1, .f32⟩
  | .hbm, ⟨25, _⟩ => ⟨S4x4096x1024, .f32⟩
  | .hbm, ⟨26, _⟩ => ⟨S4x4096x1024, .f32⟩
  | .hbm, ⟨27, _⟩ => ⟨S1x1x1024, .f32⟩
  | .hbm, ⟨28, _⟩ => ⟨S4x4096x1024, .f32⟩
  | .hbm, ⟨29, _⟩ => ⟨S4x4096x1024, .f32⟩
  | .hbm, ⟨30, _⟩ => ⟨S1024x256, .f32⟩
  | .hbm, ⟨31, _⟩ => ⟨S256x1024, .f32⟩
  | .hbm, ⟨32, _⟩ => ⟨S4x4096x256, .f32⟩
  | .hbm, ⟨33, _⟩ => ⟨S4x4096x4x64, .f32⟩
  | .hbm, ⟨34, _⟩ => ⟨S4x4x4096x256, .f32⟩
  | .hbm, ⟨35, _⟩ => ⟨S_, .f32⟩
  | .hbm, ⟨36, _⟩ => ⟨S4x4x4096x256, .f32⟩
  | .hbm, ⟨37, _⟩ => ⟨S4x4x4096x256, .f32⟩
  | .hbm, ⟨38, _⟩ => ⟨S_, .f32⟩
  | .hbm, ⟨39, _⟩ => ⟨S4x4x4096, .f32⟩
  | .hbm, ⟨40, _⟩ => ⟨S_, .f32⟩
  | .hbm, ⟨41, _⟩ => ⟨S4x4x4096, .f32⟩
  | .hbm, ⟨42, _⟩ => ⟨S4x4x4096, .f32⟩
  | .hbm, ⟨43, _⟩ => ⟨S4x4x4096x1, .f32⟩
  | .hbm, ⟨44, _⟩ => ⟨S4x4x4096x256, .f32⟩
  | .hbm, ⟨45, _⟩ => ⟨S4x4x4096x256, .f32⟩
  | .hbm, ⟨46, _⟩ => ⟨S4x4x4096x256, .f32⟩
  | .hbm, ⟨47, _⟩ => ⟨S_, .f32⟩
  | .hbm, ⟨48, _⟩ => ⟨S4x4x4096, .f32⟩
  | .hbm, ⟨49, _⟩ => ⟨S4x4x4096x1, .f32⟩
  | .hbm, ⟨50, _⟩ => ⟨S4x4x4096x256, .f32⟩
  | .hbm, ⟨51, _⟩ => ⟨S4x4x4096x256, .f32⟩
  | .hbm, ⟨52, _⟩ => ⟨S4x4x64x4096, .f32⟩
  | .hbm, ⟨53, _⟩ => ⟨S4x4096x4x64, .f32⟩
  | .hbm, ⟨54, _⟩ => ⟨S4x4096x256, .f32⟩
  | .hbm, ⟨55, _⟩ => ⟨S4x4096x1024, .f32⟩
  | .hbm, ⟨56, _⟩ => ⟨S4x4096x1024, .f32⟩
  | .hbm, ⟨57, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩

abbrev nD : Nat := 1
abbrev τ : Topo := Topo.v7x

variable {F : FTy → Type} [FloatOps F]
-- ==== InprojS.lean ====
abbrev S128x4x1024 : Shape := ⟨3, ![128, 4, 1024]⟩
abbrev S1x1024 : Shape := ⟨2, ![1, 1024]⟩
abbrev S1x1024x3592 : Shape := ⟨3, ![1, 1024, 3592]⟩
abbrev S1x8 : Shape := ⟨2, ![1, 8]⟩
abbrev S1024x3592 : Shape := ⟨2, ![1024, 3592]⟩
abbrev S1024x1536 : Shape := ⟨2, ![1024, 1536]⟩
abbrev S1024x8 : Shape := ⟨2, ![1024, 8]⟩
abbrev S_ : Shape := ⟨0, ![]⟩
abbrev S1024x128 : Shape := ⟨2, ![1024, 128]⟩
abbrev S8 : Shape := ⟨1, ![8]⟩
abbrev S1x128 : Shape := ⟨2, ![1, 128]⟩
abbrev S1024x512 : Shape := ⟨2, ![1024, 512]⟩
abbrev S512 : Shape := ⟨1, ![512]⟩
abbrev S512x1 : Shape := ⟨2, ![512, 1]⟩
abbrev S1024x3072 : Shape := ⟨2, ![1024, 3072]⟩
abbrev S4 : Shape := ⟨1, ![4]⟩
abbrev S1x4 : Shape := ⟨2, ![1, 4]⟩
abbrev S128x4 : Shape := ⟨2, ![128, 4]⟩
abbrev S32 : Shape := ⟨1, ![32]⟩
abbrev S1x32 : Shape := ⟨2, ![1, 32]⟩
abbrev S512x32 : Shape := ⟨2, ![512, 32]⟩
abbrev S512x64 : Shape := ⟨2, ![512, 64]⟩
abbrev S1x512x1x64 : Shape := ⟨4, ![1, 512, 1, 64]⟩
abbrev S1x512x8x64 : Shape := ⟨4, ![1, 512, 8, 64]⟩
abbrev S512x512 : Shape := ⟨2, ![512, 512]⟩
abbrev S512x1024 : Shape := ⟨2, ![512, 1024]⟩
abbrev S1024 : Shape := ⟨1, ![1024]⟩
abbrev S512x8 : Shape := ⟨2, ![512, 8]⟩
abbrev S512x128 : Shape := ⟨2, ![512, 128]⟩

abbrev nBuf : Space → Nat
  | .hbm => 119
  | .vmem => 18
  | .smem => 0
  | _ => 0

abbrev bufTy : (tb : Table) → Fin (tcTables nBuf tb) → BufTy
  | .hbm, ⟨0, _⟩ => ⟨S128x4x1024, .f32⟩
  | .hbm, ⟨1, _⟩ => ⟨S1x1024, .f32⟩
  | .hbm, ⟨2, _⟩ => ⟨S1x1024x3592, .f32⟩
  | .hbm, ⟨3, _⟩ => ⟨S1x8, .f32⟩
  | .hbm, ⟨4, _⟩ => ⟨S1024x3592, .f32⟩
  | .hbm, ⟨5, _⟩ => ⟨S1024x1536, .f32⟩
  | .hbm, ⟨6, _⟩ => ⟨S1024x1536, .bf16⟩
  | .hbm, ⟨7, _⟩ => ⟨S1024x8, .f32⟩
  | .hbm, ⟨8, _⟩ => ⟨S_, .i32⟩
  | .hbm, ⟨9, _⟩ => ⟨S_, .f32⟩
  | .hbm, ⟨10, _⟩ => ⟨S1024x128, .f32⟩
  | .hbm, ⟨11, _⟩ => ⟨S1024x128, .bf16⟩
  | .hbm, ⟨12, _⟩ => ⟨S8, .f32⟩
  | .hbm, ⟨13, _⟩ => ⟨S1x8, .f32⟩
  | .hbm, ⟨14, _⟩ => ⟨S_, .i32⟩
  | .hbm, ⟨15, _⟩ => ⟨S_, .f32⟩
  | .hbm, ⟨16, _⟩ => ⟨S1x128, .f32⟩
  | .hbm, ⟨17, _⟩ => ⟨S1024x512, .f32⟩
  | .hbm, ⟨18, _⟩ => ⟨S1024x512, .f32⟩
  | .hbm, ⟨19, _⟩ => ⟨S1024x512, .f32⟩
  | .hbm, ⟨20, _⟩ => ⟨S1024x512, .f32⟩
  | .hbm, ⟨21, _⟩ => ⟨S512, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S512, .i32⟩
  | .hbm, ⟨29, _⟩ => ⟨S512, .i32⟩
  | .hbm, ⟨30, _⟩ => ⟨S_, .i32⟩
  | .hbm, ⟨31, _⟩ => ⟨S512, .i32⟩
  | .hbm, ⟨32, _⟩ => ⟨S512, .i1⟩
  | .hbm, ⟨33, _⟩ => ⟨S_, .i32⟩
  | .hbm, ⟨34, _⟩ => ⟨S512, .i32⟩
  | .hbm, ⟨35, _⟩ => ⟨S512, .i1⟩
  | .hbm, ⟨36, _⟩ => ⟨S_, .i32⟩
  | .hbm, ⟨37, _⟩ => ⟨S_, .i1⟩
  | .hbm, ⟨38, _⟩ => ⟨S512, .i1⟩
  | .hbm, ⟨39, _⟩ => ⟨S512, .i1⟩
  | .hbm, ⟨40, _⟩ => ⟨S512, .i1⟩
  | .hbm, ⟨41, _⟩ => ⟨S512, .i32⟩
  | .hbm, ⟨42, _⟩ => ⟨S512, .i32⟩
  | .hbm, ⟨43, _⟩ => ⟨S512, .i32⟩
  | .hbm, ⟨44, _⟩ => ⟨S_, .i32⟩
  | .hbm, ⟨45, _⟩ => ⟨S512, .i32⟩
  | .hbm, ⟨46, _⟩ => ⟨S512, .i1⟩
  | .hbm, ⟨47, _⟩ => ⟨S_, .i32⟩
  | .hbm, ⟨48, _⟩ => ⟨S512, .i32⟩
  | .hbm, ⟨49, _⟩ => ⟨S512, .i32⟩
  | .hbm, ⟨50, _⟩ => ⟨S_, .i32⟩
  | .hbm, ⟨51, _⟩ => ⟨S512, .i32⟩
  | .hbm, ⟨52, _⟩ => ⟨S512, .i32⟩
  | .hbm, ⟨53, _⟩ => ⟨S512, .i32⟩
  | .hbm, ⟨54, _⟩ => ⟨S_, .i32⟩
  | .hbm, ⟨55, _⟩ => ⟨S512, .i32⟩
  | .hbm, ⟨56, _⟩ => ⟨S512, .i1⟩
  | .hbm, ⟨57, _⟩ => ⟨S_, .i32⟩
  | .hbm, ⟨58, _⟩ => ⟨S512, .i32⟩
  | .hbm, ⟨59, _⟩ => ⟨S512, .i32⟩
  | .hbm, ⟨60, _⟩ => ⟨S512, .i32⟩
  | .hbm, ⟨61, _⟩ => ⟨S512x1, .i32⟩
  | .hbm, ⟨62, _⟩ => ⟨S1024x512, .f32⟩
  | .hbm, ⟨63, _⟩ => ⟨S_, .i32⟩
  | .hbm, ⟨64, _⟩ => ⟨S512, .i32⟩
  | .hbm, ⟨65, _⟩ => ⟨S512, .i1⟩
  | .hbm, ⟨66, _⟩ => ⟨S_, .i32⟩
  | .hbm, ⟨67, _⟩ => ⟨S512, .i32⟩
  | .hbm, ⟨68, _⟩ => ⟨S512, .i32⟩
  | .hbm, ⟨69, _⟩ => ⟨S512, .i32⟩
  | .hbm, ⟨70, _⟩ => ⟨S512x1, .i32⟩
  | .hbm, ⟨71, _⟩ => ⟨S1024x512, .f32⟩
  | .hbm, ⟨72, _⟩ => ⟨S1024x3072, .f32⟩
  | .hbm, ⟨73, _⟩ => ⟨S1024x3072, .bf16⟩
  | .hbm, ⟨74, _⟩ => ⟨S4, .i32⟩
  | .hbm, ⟨75, _⟩ => ⟨S_, .i32⟩
  | .hbm, ⟨76, _⟩ => ⟨S4, .i32⟩
  | .hbm, ⟨77, _⟩ => ⟨S4, .i32⟩
  | .hbm, ⟨78, _⟩ => ⟨S1x4, .i32⟩
  | .hbm, ⟨79, _⟩ => ⟨S128x4, .i32⟩
  | .hbm, ⟨80, _⟩ => ⟨S512, .i32⟩
  | .hbm, ⟨81, _⟩ => ⟨S32, .f32⟩
  | .hbm, ⟨82, _⟩ => ⟨S32, .f32⟩
  | .hbm, ⟨83, _⟩ => ⟨S_, .f32⟩
  | .hbm, ⟨84, _⟩ => ⟨S32, .f32⟩
  | .hbm, ⟨85, _⟩ => ⟨S32, .f32⟩
  | .hbm, ⟨86, _⟩ => ⟨S_, .f32⟩
  | .hbm, ⟨87, _⟩ => ⟨S32, .f32⟩
  | .hbm, ⟨88, _⟩ => ⟨S32, .f32⟩
  | .hbm, ⟨89, _⟩ => ⟨S512, .f32⟩
  | .hbm, ⟨90, _⟩ => ⟨S512x1, .f32⟩
  | .hbm, ⟨91, _⟩ => ⟨S1x32, .f32⟩
  | .hbm, ⟨92, _⟩ => ⟨S512x32, .f32⟩
  | .hbm, ⟨93, _⟩ => ⟨S512x32, .f32⟩
  | .hbm, ⟨94, _⟩ => ⟨S512x32, .f32⟩
  | .hbm, ⟨95, _⟩ => ⟨S512x32, .f32⟩
  | .hbm, ⟨96, _⟩ => ⟨S512x32, .f32⟩
  | .hbm, ⟨97, _⟩ => ⟨S512x64, .f32⟩
  | .hbm, ⟨98, _⟩ => ⟨S1x512x1x64, .f32⟩
  | .hbm, ⟨99, _⟩ => ⟨S1x512x8x64, .f32⟩
  | .hbm, ⟨100, _⟩ => ⟨S512x512, .f32⟩
  | .hbm, ⟨101, _⟩ => ⟨S512x32, .f32⟩
  | .hbm, ⟨102, _⟩ => ⟨S512x64, .f32⟩
  | .hbm, ⟨103, _⟩ => ⟨S1x512x1x64, .f32⟩
  | .hbm, ⟨104, _⟩ => ⟨S1x512x8x64, .f32⟩
  | .hbm, ⟨105, _⟩ => ⟨S512x512, .f32⟩
  | .hbm, ⟨106, _⟩ => ⟨S512x1024, .f32⟩
  | .hbm, ⟨107, _⟩ => ⟨S1024, .f32⟩
  | .hbm, ⟨108, _⟩ => ⟨S1x1024, .f32⟩
  | .hbm, ⟨109, _⟩ => ⟨S512x512, .bf16⟩
  | .hbm, ⟨110, _⟩ => ⟨S512x512, .f32⟩
  | .hbm, ⟨111, _⟩ => ⟨S512x512, .f32⟩
  | .hbm, ⟨112, _⟩ => ⟨S512x512, .bf16⟩
  | .hbm, ⟨113, _⟩ => ⟨S512x512, .bf16⟩
  | .hbm, ⟨114, _⟩ => ⟨S512x8, .f32⟩
  | .hbm, ⟨115, _⟩ => ⟨S512x512, .bf16⟩
  | .hbm, ⟨116, _⟩ => ⟨S512x512, .bf16⟩
  | .hbm, ⟨117, _⟩ => ⟨S512x512, .bf16⟩
  | .hbm, ⟨118, _⟩ => ⟨S512x512, .f32⟩
  | .local _ .vmem, ⟨0, _⟩ => ⟨S512x1024, .f32⟩
  | .local _ .vmem, ⟨1, _⟩ => ⟨S1x1024, .f32⟩
  | .local _ .vmem, ⟨2, _⟩ => ⟨S1024x1536, .bf16⟩
  | .local _ .vmem, ⟨3, _⟩ => ⟨S1024x128, .bf16⟩
  | .local _ .vmem, ⟨4, _⟩ => ⟨S1x128, .f32⟩
  | .local _ .vmem, ⟨5, _⟩ => ⟨S1024x3072, .bf16⟩
  | .local _ .vmem, ⟨6, _⟩ => ⟨S512x512, .f32⟩
  | .local _ .vmem, ⟨7, _⟩ => ⟨S512x512, .f32⟩
  | .local _ .vmem, ⟨8, _⟩ => ⟨S512x512, .bf16⟩
  | .local _ .vmem, ⟨9, _⟩ => ⟨S512x512, .f32⟩
  | .local _ .vmem, ⟨10, _⟩ => ⟨S512x512, .f32⟩
  | .local _ .vmem, ⟨11, _⟩ => ⟨S512x512, .bf16⟩
  | .local _ .vmem, ⟨12, _⟩ => ⟨S512x512, .bf16⟩
  | .local _ .vmem, ⟨13, _⟩ => ⟨S512x8, .f32⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .f32⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_call1_v0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_call2_v0 : Ref sig .tc := ⟨.hbm, 23, rfl⟩
abbrev main_call2_c : Ref sig .tc := ⟨.hbm, 24, rfl⟩
abbrev main_call2_v1 : Ref sig .tc := ⟨.hbm, 25, rfl⟩
abbrev main_call2_c_0 : Ref sig .tc := ⟨.hbm, 26, rfl⟩
abbrev main_call2_v2 : Ref sig .tc := ⟨.hbm, 27, rfl⟩
abbrev main_call2_v3 : Ref sig .tc := ⟨.hbm, 28, rfl⟩
abbrev main_call2_v4 : Ref sig .tc := ⟨.hbm, 29, rfl⟩
abbrev main_call2_c_1 : Ref sig .tc := ⟨.hbm, 30, rfl⟩
abbrev main_call2_v5 : Ref sig .tc := ⟨.hbm, 31, rfl⟩
abbrev main_call2_v6 : Ref sig .tc := ⟨.hbm, 32, rfl⟩
abbrev main_call2_c_2 : Ref sig .tc := ⟨.hbm, 33, rfl⟩
abbrev main_call2_v7 : Ref sig .tc := ⟨.hbm, 34, rfl⟩
abbrev main_call2_v8 : Ref sig .tc := ⟨.hbm, 35, rfl⟩
abbrev main_call2_c_3 : Ref sig .tc := ⟨.hbm, 36, rfl⟩
abbrev main_call2_v9 : Ref sig .tc := ⟨.hbm, 37, rfl⟩
abbrev main_call2_v10 : Ref sig .tc := ⟨.hbm, 38, rfl⟩
abbrev main_call2_v11 : Ref sig .tc := ⟨.hbm, 39, rfl⟩
abbrev main_call2_v12 : Ref sig .tc := ⟨.hbm, 40, rfl⟩
abbrev main_call2_v13 : Ref sig .tc := ⟨.hbm, 41, rfl⟩
abbrev main_call2_v14 : Ref sig .tc := ⟨.hbm, 42, rfl⟩
abbrev main_v14 : Ref sig .tc := ⟨.hbm, 43, rfl⟩
abbrev main_c_2 : Ref sig .tc := ⟨.hbm, 44, rfl⟩
abbrev main_v15 : Ref sig .tc := ⟨.hbm, 45, rfl⟩
abbrev main_v16 : Ref sig .tc := ⟨.hbm, 46, rfl⟩
abbrev main_c_3 : Ref sig .tc := ⟨.hbm, 47, rfl⟩
abbrev main_v17 : Ref sig .tc := ⟨.hbm, 48, rfl⟩
abbrev main_v18 : Ref sig .tc := ⟨.hbm, 49, rfl⟩
abbrev main_c_4 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_c_5 : Ref sig .tc := ⟨.hbm, 54, rfl⟩
abbrev main_v22 : Ref sig .tc := ⟨.hbm, 55, rfl⟩
abbrev main_v23 : Ref sig .tc := ⟨.hbm, 56, rfl⟩
abbrev main_c_6 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_c_7 : Ref sig .tc := ⟨.hbm, 63, rfl⟩
abbrev main_v29 : Ref sig .tc := ⟨.hbm, 64, rfl⟩
abbrev main_v30 : Ref sig .tc := ⟨.hbm, 65, rfl⟩
abbrev main_c_8 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_c_9 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_cst : Ref sig .tc := ⟨.hbm, 83, rfl⟩
abbrev main_v46 : Ref sig .tc := ⟨.hbm, 84, rfl⟩
abbrev main_v47 : Ref sig .tc := ⟨.hbm, 85, rfl⟩
abbrev main_cst_10 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70_0 : Ref sig .tc := ⟨.hbm, 109, rfl⟩
abbrev main_v70_1 : Ref sig .tc := ⟨.hbm, 110, rfl⟩
abbrev main_v70_2 : Ref sig .tc := ⟨.hbm, 111, rfl⟩
abbrev main_v70_3 : Ref sig .tc := ⟨.hbm, 112, rfl⟩
abbrev main_v70_4 : Ref sig .tc := ⟨.hbm, 113, rfl⟩
abbrev main_v70_5 : Ref sig .tc := ⟨.hbm, 114, rfl⟩
abbrev main_v70_6 : Ref sig .tc := ⟨.hbm, 115, rfl⟩
abbrev main_v70_7 : Ref sig .tc := ⟨.hbm, 116, rfl⟩
abbrev main_v70_8 : Ref sig .tc := ⟨.hbm, 117, rfl⟩
abbrev main_v70_9 : Ref sig .tc := ⟨.hbm, 118, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S512x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S512x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S512x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S512x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S512x8 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S512x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S512x512 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S512x512 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]

abbrev stage0_17 : Fin 1 → Memref sig .tc .vmem S512x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true]
-- ==== InprojSRefIdeal.lean ====
abbrev S128x4x1024 : Shape := ⟨3, ![128, 4, 1024]⟩
abbrev S1x1024 : Shape := ⟨2, ![1, 1024]⟩
abbrev S1x1024x3592 : Shape := ⟨3, ![1, 1024, 3592]⟩
abbrev S1x8 : Shape := ⟨2, ![1, 8]⟩
abbrev S4 : Shape := ⟨1, ![4]⟩
abbrev S_ : Shape := ⟨0, ![]⟩
abbrev S1024 : Shape := ⟨1, ![1024]⟩
abbrev S128x4 : Shape := ⟨2, ![128, 4]⟩
abbrev S128x4x1 : Shape := ⟨3, ![128, 4, 1]⟩
abbrev S1x1x1024 : Shape := ⟨3, ![1, 1, 1024]⟩
abbrev S1024x3592 : Shape := ⟨2, ![1024, 3592]⟩
abbrev S8 : Shape := ⟨1, ![8]⟩
abbrev S128x4x3592 : Shape := ⟨3, ![128, 4, 3592]⟩
abbrev S128x4x512 : Shape := ⟨3, ![128, 4, 512]⟩
abbrev S128x4x8 : Shape := ⟨3, ![128, 4, 8]⟩
abbrev S1x1x8 : Shape := ⟨3, ![1, 1, 8]⟩
abbrev S128x4x8x64 : Shape := ⟨4, ![128, 4, 8, 64]⟩
abbrev S32 : Shape := ⟨1, ![32]⟩
abbrev S4x1 : Shape := ⟨2, ![4, 1]⟩
abbrev S1x32 : Shape := ⟨2, ![1, 32]⟩
abbrev S4x32 : Shape := ⟨2, ![4, 32]⟩
abbrev S1x4x1x32 : Shape := ⟨4, ![1, 4, 1, 32]⟩
abbrev S128x4x8x32 : Shape := ⟨4, ![128, 4, 8, 32]⟩
abbrev S512x512 : Shape := ⟨2, ![512, 512]⟩
abbrev S512x8 : Shape := ⟨2, ![512, 8]⟩

abbrev nBuf : Space → Nat
  | .hbm => 134
  | .vmem => 0
  | .smem => 0
  | _ => 0

abbrev hbmTy0_0 (i : Nat) : BufTy := match i % 128 with
  | 0 => ⟨S128x4x1024, .f32⟩
  | 1 => ⟨S1x1024, .f32⟩
  | 2 => ⟨S1x1024x3592, .f32⟩
  | 3 => ⟨S1x8, .f32⟩
  | 4 => ⟨S4, .i32⟩
  | 5 => ⟨S_, .i32⟩
  | 6 => ⟨S4, .i32⟩
  | 7 => ⟨S4, .i32⟩
  | 8 => ⟨S1024, .f32⟩
  | 9 => ⟨S128x4x1024, .f32⟩
  | 10 => ⟨S_, .f32⟩
  | 11 => ⟨S128x4, .f32⟩
  | 12 => ⟨S128x4x1, .f32⟩
  | 13 => ⟨S_, .f32⟩
  | 14 => ⟨S128x4x1, .f32⟩
  | 15 => ⟨S128x4x1, .f32⟩
  | 16 => ⟨S_, .f32⟩
  | 17 => ⟨S128x4x1, .f32⟩
  | 18 => ⟨S128x4x1, .f32⟩
  | 19 => ⟨S128x4x1, .f32⟩
  | 20 => ⟨S128x4x1024, .f32⟩
  | 21 => ⟨S128x4x1024, .f32⟩
  | 22 => ⟨S1x1x1024, .f32⟩
  | 23 => ⟨S128x4x1024, .f32⟩
  | 24 => ⟨S128x4x1024, .f32⟩
  | 25 => ⟨S1024x3592, .f32⟩
  | 26 => ⟨S8, .f32⟩
  | 27 => ⟨S128x4x3592, .f32⟩
  | 28 => ⟨S128x4x512, .f32⟩
  | 29 => ⟨S128x4x512, .f32⟩
  | 30 => ⟨S128x4x512, .f32⟩
  | 31 => ⟨S128x4x8, .f32⟩
  | 32 => ⟨S128x4x512, .f32⟩
  | 33 => ⟨S128x4x512, .f32⟩
  | 34 => ⟨S128x4x512, .f32⟩
  | 35 => ⟨S128x4x512, .f32⟩
  | 36 => ⟨S1x1x8, .f32⟩
  | 37 => ⟨S128x4x8, .f32⟩
  | 38 => ⟨S128x4x8, .f32⟩
  | 39 => ⟨S128x4x8, .f32⟩
  | 40 => ⟨S_, .f32⟩
  | 41 => ⟨S128x4x8, .f32⟩
  | 42 => ⟨S128x4x8, .f32⟩
  | 43 => ⟨S128x4x8, .f32⟩
  | 44 => ⟨S128x4x8, .f32⟩
  | 45 => ⟨S128x4x8, .i1⟩
  | 46 => ⟨S128x4x8, .f32⟩
  | 47 => ⟨S128x4x8, .f32⟩
  | 48 => ⟨S128x4x8, .f32⟩
  | 49 => ⟨S128x4x8, .f32⟩
  | 50 => ⟨S128x4x8, .f32⟩
  | 51 => ⟨S128x4x8, .f32⟩
  | 52 => ⟨S128x4x8, .f32⟩
  | 53 => ⟨S128x4x8, .f32⟩
  | 54 => ⟨S128x4x8, .f32⟩
  | 55 => ⟨S128x4x8x64, .f32⟩
  | 56 => ⟨S32, .f32⟩
  | 57 => ⟨S32, .f32⟩
  | 58 => ⟨S_, .f32⟩
  | 59 => ⟨S32, .f32⟩
  | 60 => ⟨S32, .f32⟩
  | 61 => ⟨S_, .f32⟩
  | 62 => ⟨S32, .f32⟩
  | 63 => ⟨S32, .f32⟩
  | 64 => ⟨S4, .f32⟩
  | 65 => ⟨S4x1, .f32⟩
  | 66 => ⟨S1x32, .f32⟩
  | 67 => ⟨S4x32, .f32⟩
  | 68 => ⟨S4x32, .f32⟩
  | 69 => ⟨S4x32, .f32⟩
  | 70 => ⟨S4x32, .f32⟩
  | 71 => ⟨S1x4x1x32, .f32⟩
  | 72 => ⟨S4x32, .f32⟩
  | 73 => ⟨S1x4x1x32, .f32⟩
  | 74 => ⟨S128x4x8x32, .f32⟩
  | 75 => ⟨S128x4x8x32, .f32⟩
  | 76 => ⟨S128x4x8x32, .f32⟩
  | 77 => ⟨S128x4x8x32, .f32⟩
  | 78 => ⟨S128x4x8x32, .f32⟩
  | 79 => ⟨S128x4x8x32, .f32⟩
  | 80 => ⟨S128x4x8x32, .f32⟩
  | 81 => ⟨S128x4x8x32, .f32⟩
  | 82 => ⟨S128x4x8x32, .f32⟩
  | 83 => ⟨S128x4x8x32, .f32⟩
  | 84 => ⟨S128x4x8x32, .f32⟩
  | 85 => ⟨S128x4x8x32, .f32⟩
  | 86 => ⟨S128x4x8x64, .f32⟩
  | 87 => ⟨S128x4x8x64, .f32⟩
  | 88 => ⟨S32, .f32⟩
  | 89 => ⟨S32, .f32⟩
  | 90 => ⟨S_, .f32⟩
  | 91 => ⟨S32, .f32⟩
  | 92 => ⟨S32, .f32⟩
  | 93 => ⟨S_, .f32⟩
  | 94 => ⟨S32, .f32⟩
  | 95 => ⟨S32, .f32⟩
  | 96 => ⟨S4, .f32⟩
  | 97 => ⟨S4x1, .f32⟩
  | 98 => ⟨S1x32, .f32⟩
  | 99 => ⟨S4x32, .f32⟩
  | 100 => ⟨S4x32, .f32⟩
  | 101 => ⟨S4x32, .f32⟩
  | 102 => ⟨S4x32, .f32⟩
  | 103 => ⟨S1x4x1x32, .f32⟩
  | 104 => ⟨S4x32, .f32⟩
  | 105 => ⟨S1x4x1x32, .f32⟩
  | 106 => ⟨S128x4x8x32, .f32⟩
  | 107 => ⟨S128x4x8x32, .f32⟩
  | 108 => ⟨S128x4x8x32, .f32⟩
  | 109 => ⟨S128x4x8x32, .f32⟩
  | 110 => ⟨S128x4x8x32, .f32⟩
  | 111 => ⟨S128x4x8x32, .f32⟩
  | 112 => ⟨S128x4x8x32, .f32⟩
  | 113 => ⟨S128x4x8x32, .f32⟩
  | 114 => ⟨S128x4x8x32, .f32⟩
  | 115 => ⟨S128x4x8x32, .f32⟩
  | 116 => ⟨S128x4x8x32, .f32⟩
  | 117 => ⟨S128x4x8x32, .f32⟩
  | 118 => ⟨S128x4x8x64, .f32⟩
  | 119 => ⟨S_, .f32⟩
  | 120 => ⟨S128x4x8x64, .f32⟩
  | 121 => ⟨S128x4x8x64, .f32⟩
  | 122 => ⟨S128x4x8x64, .f32⟩
  | 123 => ⟨S128x4x8x64, .f32⟩
  | 124 => ⟨S128x4x8x64, .f32⟩
  | 125 => ⟨S128x4x8x64, .f32⟩
  | 126 => ⟨S_, .f32⟩
  | 127 => ⟨S128x4x8x64, .f32⟩
  | _ => ⟨S128x4x1024, .f32⟩

abbrev hbmTy0_1 (i : Nat) : BufTy := match i % 128 with
  | 0 => ⟨S128x4x8x64, .f32⟩
  | 1 => ⟨S512x512, .f32⟩
  | 2 => ⟨S512x512, .bf16⟩
  | 3 => ⟨S512x512, .f32⟩
  | 4 => ⟨S512x512, .f32⟩
  | 5 => ⟨S512x8, .f32⟩
  | _ => ⟨S128x4x1024, .f32⟩

abbrev hbmTy (i : Nat) : BufTy := match i / 128 with
  | 0 => hbmTy0_0 i
  | 1 => hbmTy0_1 i
  | _ => ⟨S128x4x1024, .f32⟩

abbrev bufTy : (tb : Table) → Fin (tcTables nBuf tb) → BufTy
  | .hbm, ⟨i, _⟩ => hbmTy i
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_call0_v0 : Ref sig .tc := ⟨.hbm, 39, rfl⟩
abbrev main_call0_call0_cst : Ref sig .tc := ⟨.hbm, 40, rfl⟩
abbrev main_call0_call0_v0 : Ref sig .tc := ⟨.hbm, 41, rfl⟩
abbrev main_call0_call0_v1 : Ref sig .tc := ⟨.hbm, 42, rfl⟩
abbrev main_call0_call0_v2 : Ref sig .tc := ⟨.hbm, 43, rfl⟩
abbrev main_call0_call0_v3 : Ref sig .tc := ⟨.hbm, 44, rfl⟩
abbrev main_call0_call0_v4 : Ref sig .tc := ⟨.hbm, 45, rfl⟩
abbrev main_call0_call0_v5 : Ref sig .tc := ⟨.hbm, 46, rfl⟩
abbrev main_call0_call0_v6 : Ref sig .tc := ⟨.hbm, 47, rfl⟩
abbrev main_call0_call0_v7 : Ref sig .tc := ⟨.hbm, 48, rfl⟩
abbrev main_call0_call0_v8 : Ref sig .tc := ⟨.hbm, 49, rfl⟩
abbrev main_call0_call0_v9 : Ref sig .tc := ⟨.hbm, 50, rfl⟩
abbrev main_call0_call0_v10 : Ref sig .tc := ⟨.hbm, 51, rfl⟩
abbrev main_call0_call0_v11 : Ref sig .tc := ⟨.hbm, 52, rfl⟩
abbrev main_call0_v1 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_2 : Ref sig .tc := ⟨.hbm, 58, rfl⟩
abbrev main_v35 : Ref sig .tc := ⟨.hbm, 59, rfl⟩
abbrev main_v36 : Ref sig .tc := ⟨.hbm, 60, rfl⟩
abbrev main_cst_3 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_4 : Ref sig .tc := ⟨.hbm, 90, rfl⟩
abbrev main_v65 : Ref sig .tc := ⟨.hbm, 91, rfl⟩
abbrev main_v66 : Ref sig .tc := ⟨.hbm, 92, rfl⟩
abbrev main_cst_5 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_cst_6 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_cst_7 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩

abbrev nD : Nat := 1
abbrev τ : Topo := Topo.v7x

variable {F : FTy → Type} [FloatOps F]
-- ==== Proof.FfnSpec.lean ====
/- The SwiGLU half-step of one token, as a function of its row and of the weights; sums over the inner width cut as the
   kernel cuts them. -/
module

public import Idealize.ShloMosaic.Lib.Pointwise
public import Idealize.ShloMosaic.Lib.Claim

@[expose] public section

noncomputable section

namespace Cert.FfnSpec

open Idealize.ShloMosaic

/-- The row over its root mean square, times the gain. -/
def norm (x g : Fin 1024 → EReal) (l : Fin 1024) : EReal :=
  x l * Ideal.rsqrt (Ideal.div (∑ k, x k * x k) (Ideal.ofBits .f32 0x44800000#32) + Ideal.ofBits .f32 0x358637BD#32) * g l

/-- The gated inner value `u`. -/
def act (h : Fin 1024 → EReal) (wg wu : Fin 1024 → Fin 2816 → EReal) (u : Fin 2816) : EReal :=
  (∑ l, h l * wg l u) * Ideal.logistic (∑ l, h l * wg l u) * ∑ l, h l * wu l u

/-- The row plus half of what the network makes of its normalised row. -/
def step (x g : Fin 1024 → EReal) (wg wu : Fin 1024 → Fin 2816 → EReal) (wd : Fin 2816 → Fin 1024 → EReal)
    (j : Fin 1024) : EReal :=
  x j + Ideal.ofBits .f32 0x3F000000#32 * ∑ u, act (norm x g) wg wu u * wd u j

/-- A sum over the inner width, as five pieces of 512 and one of 256. -/
theorem sum_pieces (f : Fin 2816 → EReal) :
    ∑ u, f u = ∑ k : Fin 512, f ⟨k, by omega⟩ + ∑ k : Fin 512, f ⟨512 + k, by omega⟩ + ∑ k : Fin 512, f ⟨1024 + k, by omega⟩
      + ∑ k : Fin 512, f ⟨1536 + k, by omega⟩ + ∑ k : Fin 512, f ⟨2048 + k, by omega⟩ + ∑ k : Fin 256, f ⟨2560 + k, by omega⟩ := by
  have cut : ∀ (a b : ℕ) (g : Fin (a + b) → EReal),
      ∑ u, g u = ∑ k : Fin a, g ⟨k, by omega⟩ + ∑ k : Fin b, g ⟨a + k, by omega⟩ := fun a b g => Fin.sum_univ_add g
  rw [cut 2560 256 f, cut 2048 512 (fun u => f ⟨u, by omega⟩), cut 1536 512 (fun u => f ⟨u, by omega⟩),
    cut 1024 512 (fun u => f ⟨u, by omega⟩), cut 512 512 (fun u => f ⟨u, by omega⟩)]

end Cert.FfnSpec

end
-- ==== Proof.FfnInValue.lean ====
/- The first SwiGLU half-step: the kernel's result array is the reference's. -/
module

public import proofs.«01_k».proof.Proof.FfnSpec
public import proofs.«01_k».proof.Proof.Gen.FfnInIdeal.Value
public import proofs.«01_k».proof.Proof.Gen.FfnInRefIdeal.Run
public import proofs.«01_k».proof.Proof.Gen.FfnInRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.FfnInValue

open Cert.FfnInIdeal Cert.FfnInIdeal.Gen
open Idealize.ShloMosaic Idealize.ShloMosaic.TcCoe Idealize.SL.Sem
open Idealize.ShloMosaic.Pipeline (Dat)

variable (m : (ℓ : Loc nD τ sig) → Buf (Elt Ideal) ℓ)

/-- The normalised row that the products take. -/
theorem hidden (x : FVec Ideal S512x1024 .f32) (g : FVec Ideal S1x1024 .f32) (r : Fin 512) (l : Fin 1024) :
    k0_pay3 (F := Ideal) x g (ix2 r l) = FfnSpec.norm (fun k => x (ix2 r k)) (fun k => g (ix2 0 k)) l := by
  pointwise [k0_pay3, k0_pay2]
  rfl

set_option maxHeartbeats 1600000 in
/-- One entry of the stored block. -/
theorem stored (x : FVec Ideal S512x1024 .f32) (g : FVec Ideal S1x1024 .f32) (wg wu : FVec Ideal S1024x2816 .bf16)
    (wd : FVec Ideal S2816x1024 .bf16) (gf : FVec Ideal S1x1024 .f32) (r : Fin 512) (j : Fin 1024) :
    out0_6 (F := Ideal) x g wg wu wd gf (ix2 r j)
    = FfnSpec.step (fun k => x (ix2 r k)) (fun k => g (ix2 0 k)) (fun l u => wg (ix2 l u)) (fun l u => wu (ix2 l u))
        (fun u j => wd (ix2 u j)) j := by
  unfold FfnSpec.step
  rw [FfnSpec.sum_pieces]
  unfold out0_6
  frame_out
  pointwise [k0_pay1, k0_pay7, k0_pay6, k0_pay5, k0_pay4, k0_pay2, hidden]
  rfl

theorem idx : ∀ t : Fin cfg0.N, win0_0.index t = ![t.val, 0] ∧ win0_1.index t = ![0, 0]
    ∧ win0_2.index t = ![0, 0] ∧ win0_3.index t = ![0, 0] ∧ win0_4.index t = ![0, 0] ∧ win0_5.index t = ![0, 0]
    ∧ win0_6.index t = ![t.val, 0] ∧ t.val < 32 :=
  (by decide +kernel : ∀ t : Fin grid0.N, _)

theorem read0 (c : Dev nD) (t : Fin cfg0.N) (r : Fin 512) (l : Fin 1024) (R : Fin 16384) (h : (R : ℕ) = t.val * 512 + r) :
    (show EReal from iblk m c 0 t (ix2 r l)) = m ((c : Thread nD τ).loc main_arg0)
      (ix3 (⟨(R : ℕ) / 4096, by omega⟩ : Fin 4) (⟨(R : ℕ) % 4096, by omega⟩ : Fin 4096) l) := by
  blk_simp [iblk, idx t]
  entry_read
  pointwise
  blk_ext [idx t]

theorem read1 (c : Dev nD) (t : Fin cfg0.N) (l : Fin 1024) :
    (show EReal from iblk m c 1 t (ix2 0 l)) = m ((c : Thread nD τ).loc main_arg1) (ix2 0 l) := by
  blk_simp [iblk, idx t]
  entry_read
  pointwise
  blk_ext [idx t]

theorem read2 (c : Dev nD) (t : Fin cfg0.N) (l : Fin 1024) (u : Fin 2816) :
    (show EReal from iblk m c 2 t (ix2 l u)) = m ((c : Thread nD τ).loc main_arg2) (ix3 0 l u) := by
  blk_simp [iblk, idx t]
  entry_read
  pointwise
  blk_ext [idx t]

theorem read3 (c : Dev nD) (t : Fin cfg0.N) (l : Fin 1024) (u : Fin 2816) :
    (show EReal from iblk m c 3 t (ix2 l u)) = m ((c : Thread nD τ).loc main_arg3) (ix3 0 l u) := by
  blk_simp [iblk, idx t]
  entry_read
  pointwise
  blk_ext [idx t]

theorem read4 (c : Dev nD) (t : Fin cfg0.N) (u : Fin 2816) (j : Fin 1024) :
    (show EReal from iblk m c 4 t (ix2 u j)) = m ((c : Thread nD τ).loc main_arg4) (ix3 0 u j) := by
  blk_simp [iblk, idx t]
  entry_read
  pointwise
  blk_ext [idx t]

section
open Cert.FfnInRefIdeal.Read

variable (X : FVec Ideal S4x4096x1024 .f32) (G : FVec Ideal S1x1024 .f32) (Wg Wu : FVec Ideal S1x1024x2816 .f32)
  (Wd : FVec Ideal S1x2816x1024 .f32)

/-- The reference's result over its arguments. -/
def rowsRef : FVec Ideal S16384x1024 .f32 :=
  val_main_v25 (F := Ideal) X G Wg Wu Wd

theorem ref_hidden (b : Fin 4) (s : Fin 4096) (l : Fin 1024) : val_main_v13 (F := Ideal) X G (ix3 b s l)
    = FfnSpec.norm (fun k => X (ix3 b s k)) (fun k => G (ix2 0 k)) l := by
  pointwise [val_main_v13, val_main_v12, val_main_v11,
    val_main_v10, val_main_v9, val_main_v8, val_main_v7, val_main_v6, val_main_v5, val_main_v4, val_main_v3, val_main_v2,
    val_main_v1, val_main_v0, val_main_cst, val_main_cst_0, val_main_cst_1]
  rfl

theorem ref_stepped (b : Fin 4) (s : Fin 4096) (j : Fin 1024) : val_main_v24 (F := Ideal) X G Wg Wu Wd (ix3 b s j)
    = FfnSpec.step (fun k => X (ix3 b s k)) (fun k => G (ix2 0 k)) (fun l u => Wg (ix3 0 l u)) (fun l u => Wu (ix3 0 l u))
        (fun u j => Wd (ix3 0 u j)) j := by
  unfold FfnSpec.step FfnSpec.act
  pointwise [val_main_v24, val_main_v23, val_main_v22, val_main_v21, val_main_v20, val_main_v19, val_main_v18, val_main_v17,
    val_main_v16, val_main_v15, val_main_v14, val_main_call0_v0, val_main_call0_v1, val_main_call0_v2, val_main_call0_v3,
    val_main_call0_v4, val_main_call0_v5, val_main_call0_cst, val_main_call0_cst_0, val_main_cst_2, ref_hidden]
  rfl

theorem ref_rows (R : Fin 16384) (j : Fin 1024) : rowsRef X G Wg Wu Wd (ix2 R j)
    = FfnSpec.step
        (fun k => X (ix3 (⟨(R : ℕ) / 4096, by omega⟩ : Fin 4) (⟨(R : ℕ) % 4096, by omega⟩ : Fin 4096) k))
        (fun k => G (ix2 0 k)) (fun l u => Wg (ix3 0 l u)) (fun l u => Wu (ix3 0 l u)) (fun u j => Wd (ix3 0 u j)) j := by
  pointwise [rowsRef, val_main_v25, ref_stepped]

end

/-- After the run, the result array is the reference's. -/
theorem final_rows (c : Dev nD) : (dats m 0 c).arrAt 6 cfg0.N
    = rowsRef (m ((c : Thread nD τ).loc main_arg0)) (m ((c : Thread nD τ).loc main_arg1))
        (m ((c : Thread nD τ).loc main_arg2)) (m ((c : Thread nD τ).loc main_arg3))
        (m ((c : Thread nD τ).loc main_arg4)) := by
  refine (dats m 0 c).arrAt_eq_of_covers 6 _ (by decide +kernel) fun t _ y => ?_
  blk_simp [idx t]
  rw [after0_6]
  obtain ⟨r, hr⟩ : ∃ r : Fin 512, r = y 0 := ⟨_, rfl⟩
  obtain ⟨j, hj⟩ : ∃ j : Fin 1024, j = y 1 := ⟨_, rfl⟩
  have ht : t.val < 32 := (idx t).2.2.2.2.2.2.2
  have hy : y = ix2 r j := by rw [hr, hj]; exact eq_ix2 y
  rw [hy]
  have h0 := fun l => read0 m c t r l ⟨t.val * 512 + r, by omega⟩ rfl
  have h1 := read1 m c t
  have h2 := read2 m c t
  have h3 := read3 m c t
  have h4 := read4 m c t
  refine ((stored _ _ _ _ _ _ r j).trans ?_).trans ((ref_rows _ _ _ _ _ ⟨t.val * 512 + r, by omega⟩ j).symm.trans (congrArg _ ?_))
  · simp only [show (fun k => _) = _ from funext h0, h1, h2, h3, h4]
  · blk_ext [idx t]

end Cert.FfnInValue

end
-- ==== Proof.FfnOutValue.lean ====
/- The last SwiGLU half-step with the final normalisation: the kernel's result array is the reference's. -/
module

public import proofs.«01_k».proof.Proof.FfnSpec
public import proofs.«01_k».proof.Proof.Gen.FfnOutIdeal.Value
public import proofs.«01_k».proof.Proof.Gen.FfnOutRefIdeal.Run
public import proofs.«01_k».proof.Proof.Gen.FfnOutRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.FfnOutValue

open Cert.FfnOutIdeal Cert.FfnOutIdeal.Gen
open Idealize.ShloMosaic Idealize.ShloMosaic.TcCoe Idealize.SL.Sem
open Idealize.ShloMosaic.Pipeline (Dat)

variable (m : (ℓ : Loc nD τ sig) → Buf (Elt Ideal) ℓ)

/-- The normalised row that the products take. -/
theorem hidden (x : FVec Ideal S512x1024 .f32) (g : FVec Ideal S1x1024 .f32) (r : Fin 512) (l : Fin 1024) :
    k0_pay3 (F := Ideal) x g (ix2 r l) = FfnSpec.norm (fun k => x (ix2 r k)) (fun k => g (ix2 0 k)) l := by
  pointwise [k0_pay3, k0_pay2]
  rfl

set_option maxHeartbeats 1600000 in
/-- The row after the half-step, before the final normalisation. -/
theorem stepped (x : FVec Ideal S512x1024 .f32) (g : FVec Ideal S1x1024 .f32) (wg wu : FVec Ideal S1024x2816 .bf16)
    (wd : FVec Ideal S2816x1024 .bf16) (gf : FVec Ideal S1x1024 .f32) (r : Fin 512) (j : Fin 1024) :
    k0_pay7 (F := Ideal) (k0_pay10 x g wg wu wd gf) (k0_pay11 x g wg wu wd gf) (k0_pay12 x g wg wu wd gf)
      (View.ld wg r0_10) (View.ld wu r0_10) (View.ld wd r0_11) (View.ld wg r0_12) (View.ld wu r0_12) (View.ld wd r0_13) (ix2 r j)
    = FfnSpec.step (fun k => x (ix2 r k)) (fun k => g (ix2 0 k)) (fun l u => wg (ix2 l u)) (fun l u => wu (ix2 l u))
        (fun u j => wd (ix2 u j)) j := by
  unfold FfnSpec.step
  rw [FfnSpec.sum_pieces]
  pointwise [k0_pay7, k0_pay10, k0_pay11, k0_pay12, k0_pay6, k0_pay5, k0_pay4, k0_pay2, hidden]
  rfl

/-- One entry of the stored block. -/
theorem stored (x : FVec Ideal S512x1024 .f32) (g : FVec Ideal S1x1024 .f32) (wg wu : FVec Ideal S1024x2816 .bf16)
    (wd : FVec Ideal S2816x1024 .bf16) (gf : FVec Ideal S1x1024 .f32) (r : Fin 512) (j : Fin 1024) :
    out0_6 (F := Ideal) x g wg wu wd gf (ix2 r j)
    = FfnSpec.norm (FfnSpec.step (fun k => x (ix2 r k)) (fun k => g (ix2 0 k)) (fun l u => wg (ix2 l u))
        (fun l u => wu (ix2 l u)) (fun u j => wd (ix2 u j))) (fun k => gf (ix2 0 k)) j := by
  unfold out0_6
  frame_out
  pointwise [k0_pay1, k0_pay9, k0_pay8, stepped]
  rfl

theorem idx : ∀ t : Fin cfg0.N, win0_0.index t = ![t.val, 0] ∧ win0_1.index t = ![0, 0]
    ∧ win0_2.index t = ![0, 0] ∧ win0_3.index t = ![0, 0] ∧ win0_4.index t = ![0, 0] ∧ win0_5.index t = ![0, 0]
    ∧ win0_6.index t = ![t.val, 0] ∧ t.val < 32 :=
  (by decide +kernel : ∀ t : Fin grid0.N, _)

theorem read0 (c : Dev nD) (t : Fin cfg0.N) (r : Fin 512) (l : Fin 1024) (R : Fin 16384) (h : (R : ℕ) = t.val * 512 + r) :
    (show EReal from iblk m c 0 t (ix2 r l)) = m ((c : Thread nD τ).loc main_arg0)
      (ix3 (⟨(R : ℕ) / 4096, by omega⟩ : Fin 4) (⟨(R : ℕ) % 4096, by omega⟩ : Fin 4096) l) := by
  blk_simp [iblk, idx t]
  entry_read
  pointwise
  blk_ext [idx t]

theorem read1 (c : Dev nD) (t : Fin cfg0.N) (l : Fin 1024) :
    (show EReal from iblk m c 1 t (ix2 0 l)) = m ((c : Thread nD τ).loc main_arg1) (ix2 0 l) := by
  blk_simp [iblk, idx t]
  entry_read
  pointwise
  blk_ext [idx t]

theorem read2 (c : Dev nD) (t : Fin cfg0.N) (l : Fin 1024) (u : Fin 2816) :
    (show EReal from iblk m c 2 t (ix2 l u)) = m ((c : Thread nD τ).loc main_arg2) (ix3 0 l u) := by
  blk_simp [iblk, idx t]
  entry_read
  pointwise
  blk_ext [idx t]

theorem read3 (c : Dev nD) (t : Fin cfg0.N) (l : Fin 1024) (u : Fin 2816) :
    (show EReal from iblk m c 3 t (ix2 l u)) = m ((c : Thread nD τ).loc main_arg3) (ix3 0 l u) := by
  blk_simp [iblk, idx t]
  entry_read
  pointwise
  blk_ext [idx t]

theorem read4 (c : Dev nD) (t : Fin cfg0.N) (u : Fin 2816) (j : Fin 1024) :
    (show EReal from iblk m c 4 t (ix2 u j)) = m ((c : Thread nD τ).loc main_arg4) (ix3 0 u j) := by
  blk_simp [iblk, idx t]
  entry_read
  pointwise
  blk_ext [idx t]

theorem read5 (c : Dev nD) (t : Fin cfg0.N) (l : Fin 1024) :
    (show EReal from iblk m c 5 t (ix2 0 l)) = m ((c : Thread nD τ).loc main_arg5) (ix1 l) := by
  blk_simp [iblk, idx t]
  entry_read
  pointwise
  blk_ext [idx t]

section
open Cert.FfnOutRefIdeal.Read

variable (X : FVec Ideal S4x4096x1024 .f32) (G : FVec Ideal S1x1024 .f32) (Wg Wu : FVec Ideal S1x1024x2816 .f32)
  (Wd : FVec Ideal S1x2816x1024 .f32) (Gf : FVec Ideal S1024 .f32)

/-- The reference's result over its arguments. -/
def rowsRef : FVec Ideal S16384x1024 .f32 :=
  val_main_v38 (F := Ideal) X G Wg Wu Wd Gf

theorem ref_hidden (b : Fin 4) (s : Fin 4096) (l : Fin 1024) : val_main_v13 (F := Ideal) X G (ix3 b s l)
    = FfnSpec.norm (fun k => X (ix3 b s k)) (fun k => G (ix2 0 k)) l := by
  pointwise [val_main_v13, val_main_v12, val_main_v11,
    val_main_v10, val_main_v9, val_main_v8, val_main_v7, val_main_v6, val_main_v5, val_main_v4, val_main_v3, val_main_v2,
    val_main_v1, val_main_v0, val_main_cst, val_main_cst_0, val_main_cst_1]
  rfl

theorem ref_stepped (b : Fin 4) (s : Fin 4096) (j : Fin 1024) : val_main_v24 (F := Ideal) X G Wg Wu Wd (ix3 b s j)
    = FfnSpec.step (fun k => X (ix3 b s k)) (fun k => G (ix2 0 k)) (fun l u => Wg (ix3 0 l u)) (fun l u => Wu (ix3 0 l u))
        (fun u j => Wd (ix3 0 u j)) j := by
  unfold FfnSpec.step FfnSpec.act
  pointwise [val_main_v24, val_main_v23, val_main_v22, val_main_v21, val_main_v20, val_main_v19, val_main_v18, val_main_v17,
    val_main_v16, val_main_v15, val_main_v14, val_main_call0_v0, val_main_call0_v1, val_main_call0_v2, val_main_call0_v3,
    val_main_call0_v4, val_main_call0_v5, val_main_call0_cst, val_main_call0_cst_0, val_main_cst_2, ref_hidden]
  rfl

theorem ref_rows (R : Fin 16384) (j : Fin 1024) : rowsRef X G Wg Wu Wd Gf (ix2 R j)
    = FfnSpec.norm (FfnSpec.step
        (fun k => X (ix3 (⟨(R : ℕ) / 4096, by omega⟩ : Fin 4) (⟨(R : ℕ) % 4096, by omega⟩ : Fin 4096) k))
        (fun k => G (ix2 0 k)) (fun l u => Wg (ix3 0 l u)) (fun l u => Wu (ix3 0 l u)) (fun u j => Wd (ix3 0 u j)))
        (fun k => Gf (ix1 k)) j := by
  pointwise [rowsRef, val_main_v38, val_main_v37, val_main_v36, val_main_v35, val_main_v34, val_main_v33, val_main_v32,
    val_main_v31, val_main_v30, val_main_v29, val_main_v28, val_main_v27, val_main_v26, val_main_v25,
    val_main_cst_3, val_main_cst_4, val_main_cst_5, ref_stepped]
  rfl

end

/-- After the run, the result array is the reference's. -/
theorem final_rows (c : Dev nD) : (dats m 0 c).arrAt 6 cfg0.N
    = rowsRef (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5)) := by
  refine (dats m 0 c).arrAt_eq_of_covers 6 _ (by decide +kernel) fun t _ y => ?_
  blk_simp [idx t]
  rw [after0_6]
  obtain ⟨r, hr⟩ : ∃ r : Fin 512, r = y 0 := ⟨_, rfl⟩
  obtain ⟨j, hj⟩ : ∃ j : Fin 1024, j = y 1 := ⟨_, rfl⟩
  have ht : t.val < 32 := (idx t).2.2.2.2.2.2.2
  have hy : y = ix2 r j := by rw [hr, hj]; exact eq_ix2 y
  rw [hy]
  have h0 := fun l => read0 m c t r l ⟨t.val * 512 + r, by omega⟩ rfl
  have h1 := read1 m c t
  have h2 := read2 m c t
  have h3 := read3 m c t
  have h4 := read4 m c t
  have h5 := read5 m c t
  refine ((stored _ _ _ _ _ _ r j).trans ?_).trans ((ref_rows _ _ _ _ _ _ ⟨t.val * 512 + r, by omega⟩ j).symm.trans (congrArg _ ?_))
  · simp only [show (fun k => _) = _ from funext h0, h1, h2, h3, h4, h5]
  · blk_ext [idx t]

end Cert.FfnOutValue

end
-- ==== Proof.MemkvValue.lean ====
/- The keys and values of the memory: both result arrays of the kernel are the reference's, element by element. -/
module

public import proofs.«01_k».proof.Proof.Gen.MemkvIdeal.Value
public import proofs.«01_k».proof.Proof.Gen.MemkvRefIdeal.Run
public import proofs.«01_k».proof.Proof.Gen.MemkvRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.MemkvValue

open Cert.MemkvIdeal Cert.MemkvIdeal.Gen
open Idealize.ShloMosaic Idealize.ShloMosaic.TcCoe Idealize.SL.Sem
open Idealize.ShloMosaic.Pipeline (Dat)

variable (m : (ℓ : Loc nD τ sig) → Buf (Elt Ideal) ℓ)

/-- Where each window stands at a grid point: the rows and the results move with the point, the rest stays. -/
theorem idx : ∀ t : Fin cfg0.N, win0_0.index t = ![t.val, 0] ∧ win0_1.index t = ![0, 0]
    ∧ win0_2.index t = ![0, 0] ∧ win0_3.index t = ![0, 0] ∧ win0_4.index t = ![t.val, 0] ∧ win0_5.index t = ![t.val, 0]
    ∧ t.val < 2 :=
  (by decide +kernel : ∀ t : Fin grid0.N, _)

/-- The reference's keys over its arguments. -/
def keysRef (x : FVec Ideal S4x256x1024 .f32) (g : FVec Ideal S1x1024 .f32) (w : FVec Ideal S1x1024x256 .f32) :
    FVec Ideal S1024x256 .f32 :=
  Cert.MemkvRefIdeal.Read.val_main_v16 (F := Ideal) x g w

theorem read0 (c : Dev nD) (t : Fin cfg0.N) (r : Fin 512) (l : Fin 1024) (R : Fin 1024) (h : (R : ℕ) = t.val * 512 + r) :
    (show EReal from iblk m c 0 t (ix2 r l)) = m ((c : Thread nD τ).loc main_arg0)
      (ix3 (⟨(R : ℕ) / 256, by omega⟩ : Fin 4) (⟨(R : ℕ) % 256, by omega⟩ : Fin 256) l) := by
  blk_simp [iblk, idx t]
  entry_read
  pointwise
  blk_ext [idx t]

theorem read1 (c : Dev nD) (t : Fin cfg0.N) (l : Fin 1024) :
    (show EReal from iblk m c 1 t (ix2 0 l)) = m ((c : Thread nD τ).loc main_arg1) (ix2 0 l) := by
  blk_simp [iblk, idx t]
  entry_read
  pointwise
  blk_ext [idx t]

theorem read2 (c : Dev nD) (t : Fin cfg0.N) (l : Fin 1024) (j : Fin 256) :
    (show EReal from iblk m c 2 t (ix2 l j)) = m ((c : Thread nD τ).loc main_arg2) (ix3 0 l j) := by
  blk_simp [iblk, idx t]
  entry_read
  pointwise
  blk_ext [idx t]

theorem read3 (c : Dev nD) (t : Fin cfg0.N) (l : Fin 1024) (j : Fin 256) :
    (show EReal from iblk m c 3 t (ix2 l j)) = m ((c : Thread nD τ).loc main_arg3) (ix3 0 l j) := by
  blk_simp [iblk, idx t]
  entry_read
  pointwise
  blk_ext [idx t]

/-- The reference's values over its arguments. -/
def valuesRef (x : FVec Ideal S4x256x1024 .f32) (g : FVec Ideal S1x1024 .f32) (w : FVec Ideal S1x1024x256 .f32) :
    FVec Ideal S1024x256 .f32 :=
  Cert.MemkvRefIdeal.Read.val_main_v19 (F := Ideal) x g w

section
open Cert.MemkvRefIdeal.Read

/-- One entry of the stored keys: the normalised row times a column of the weights, on both sides. -/
theorem keys_pure (x : FVec Ideal S512x1024 .f32) (g : FVec Ideal S1x1024 .f32) (w : FVec Ideal S1024x256 .bf16)
    (X : FVec Ideal S4x256x1024 .f32) (G : FVec Ideal S1x1024 .f32) (W : FVec Ideal S1x1024x256 .f32)
    (r : Fin 512) (j : Fin 256) (R : Fin 1024)
    (hx : ∀ l : Fin 1024, x (ix2 r l) = X (ix3 (⟨(R : ℕ) / 256, by omega⟩ : Fin 4) (⟨(R : ℕ) % 256, by omega⟩ : Fin 256) l))
    (hg : ∀ l : Fin 1024, g (ix2 0 l) = G (ix2 0 l))
    (hw : ∀ (l : Fin 1024) (j : Fin 256), w (ix2 l j) = W (ix3 0 l j)) :
    k0_pay2 (F := Ideal) x g w (ix2 r j) = keysRef X G W (ix2 R j) := by
  pointwise [k0_pay2, k0_pay1, keysRef, val_main_v16, val_main_v15, val_main_v14, val_main_v13, val_main_v12, val_main_v11,
    val_main_v10, val_main_v9, val_main_v8, val_main_v7, val_main_v6, val_main_v5, val_main_v4, val_main_v3, val_main_v2,
    val_main_v1, val_main_v0, val_main_cst, val_main_cst_0, val_main_cst_1, hx, hg, hw]

/-- The same for the values. -/
theorem values_pure (x : FVec Ideal S512x1024 .f32) (g : FVec Ideal S1x1024 .f32) (w : FVec Ideal S1024x256 .bf16)
    (X : FVec Ideal S4x256x1024 .f32) (G : FVec Ideal S1x1024 .f32) (W : FVec Ideal S1x1024x256 .f32)
    (r : Fin 512) (j : Fin 256) (R : Fin 1024)
    (hx : ∀ l : Fin 1024, x (ix2 r l) = X (ix3 (⟨(R : ℕ) / 256, by omega⟩ : Fin 4) (⟨(R : ℕ) % 256, by omega⟩ : Fin 256) l))
    (hg : ∀ l : Fin 1024, g (ix2 0 l) = G (ix2 0 l))
    (hw : ∀ (l : Fin 1024) (j : Fin 256), w (ix2 l j) = W (ix3 0 l j)) :
    k0_pay3 (F := Ideal) x g w (ix2 r j) = valuesRef X G W (ix2 R j) := by
  pointwise [k0_pay3, k0_pay1, valuesRef, val_main_v19, val_main_v18, val_main_v17, val_main_v13, val_main_v12, val_main_v11,
    val_main_v10, val_main_v9, val_main_v8, val_main_v7, val_main_v6, val_main_v5, val_main_v4, val_main_v3, val_main_v2,
    val_main_v1, val_main_v0, val_main_cst, val_main_cst_0, val_main_cst_1, hx, hg, hw]

end

/-- After the run, the keys' array is the reference's. -/
theorem final_keys (c : Dev nD) : (dats m 0 c).arrAt 4 cfg0.N
    = keysRef (m ((c : Thread nD τ).loc main_arg0)) (m ((c : Thread nD τ).loc main_arg1))
        (m ((c : Thread nD τ).loc main_arg2)) := by
  refine (dats m 0 c).arrAt_eq_of_covers 4 _ (by decide +kernel) fun t _ y => ?_
  blk_simp [idx t]
  rw [after0_4]
  frame_out
  obtain ⟨r, hr⟩ : ∃ r : Fin 512, r = y 0 := ⟨_, rfl⟩
  obtain ⟨j, hj⟩ : ∃ j : Fin 256, j = y 1 := ⟨_, rfl⟩
  have ht : t.val < 2 := (idx t).2.2.2.2.2.2
  have hy : y = ix2 r j := by rw [hr, hj]; exact eq_ix2 y
  rw [hy]
  refine (keys_pure _ _ _ _ _ _ r j ⟨t.val * 512 + r, by omega⟩ (fun l => read0 m c t r l _ rfl) (read1 m c t)
    (read2 m c t)).trans (congrArg _ ?_)
  blk_ext [idx t]

/-- After the run, the values' array is the reference's. -/
theorem final_values (c : Dev nD) : (dats m 0 c).arrAt 5 cfg0.N
    = valuesRef (m ((c : Thread nD τ).loc main_arg0)) (m ((c : Thread nD τ).loc main_arg1))
        (m ((c : Thread nD τ).loc main_arg3)) := by
  refine (dats m 0 c).arrAt_eq_of_covers 5 _ (by decide +kernel) fun t _ y => ?_
  blk_simp [idx t]
  rw [after0_5]
  frame_out
  obtain ⟨r, hr⟩ : ∃ r : Fin 512, r = y 0 := ⟨_, rfl⟩
  obtain ⟨j, hj⟩ : ∃ j : Fin 256, j = y 1 := ⟨_, rfl⟩
  have ht : t.val < 2 := (idx t).2.2.2.2.2.2
  have hy : y = ix2 r j := by rw [hr, hj]; exact eq_ix2 y
  rw [hy]
  refine (values_pure _ _ _ _ _ _ r j ⟨t.val * 512 + r, by omega⟩ (fun l => read0 m c t r l _ rfl) (read1 m c t)
    (read3 m c t)).trans (congrArg _ ?_)
  blk_ext [idx t]

end Cert.MemkvValue

end
-- ==== Proof.PlainClaims.lean ====
/- The value claims of the two SwiGLU half-steps and of the memory's keys and values. -/
module

public import proofs.«01_k».proof.Proof.FfnInValue
public import proofs.«01_k».proof.Proof.FfnOutValue
public import proofs.«01_k».proof.Proof.MemkvValue
public import proofs.«01_k».proof.Defs

@[expose] public section

noncomputable section

namespace Cert.PlainClaims

open Idealize.ShloMosaic Idealize.SL.Sem

/-- The first half-step: both runs end with the same array. -/
theorem ffn_in : Cert.algebraic_FfnInIdeal_FfnInRefIdeal := by
  pair_intro
  · run_from Cert.FfnInIdeal.Value.run_blocks m g
  · run_from Cert.FfnInRefIdeal.Value.run m' g'
    exact (Cert.FfnInValue.final_rows m c).symm

/-- The last half-step, with the final normalisation. -/
theorem ffn_out : Cert.algebraic_FfnOutIdeal_FfnOutRefIdeal := by
  pair_intro
  · run_from Cert.FfnOutIdeal.Value.run_blocks m g
  · run_from Cert.FfnOutRefIdeal.Value.run m' g'
    obtain ⟨h0, h1, h2, h3, h4, h5⟩ := hagree c
    rw [Cert.FfnOutRefIdeal.Read.val_main_v38_eq, h0, h1, h2, h3, h4, h5]
    exact (Cert.FfnOutValue.final_rows m c).symm

/-- The memory's keys and values. -/
theorem memkv : Cert.algebraic_MemkvIdeal_MemkvRefIdeal := by
  pair_intro
  · run_from Cert.MemkvIdeal.Value.run_blocks m g
  · run_from Cert.MemkvRefIdeal.Value.run m' g'
    · exact (Cert.MemkvValue.final_keys m c).symm
    · exact (Cert.MemkvValue.final_values m c).symm

end Cert.PlainClaims

end
-- ==== Proof.FoxReads.lean ====
module

public import proofs.«01_k».proof.Proof.Gen.FoxIdeal.Value
public import Idealize.ShloMosaic.Lib.Pipeline.ValueKit
public import Idealize.ShloMosaic.Lib.Pointwise
public import Idealize.ShloMosaic.Lib.Claim

@[expose] public section

set_option maxRecDepth 16384

noncomputable section

/-!
# What each point of the forgetting attention reads

The blocks of the prepared arrays, in terms of the queries, keys, values and sums of forget gates.
-/

namespace Cert.FoxReads

open Cert.FoxIdeal Cert.FoxIdeal.Gen
open Idealize.ShloMosaic Idealize.ShloMosaic.TcCoe Idealize.SL.Sem
open Idealize.ShloMosaic.Pipeline (Dat)

variable (m : (ℓ : Loc nD τ sig) → Buf (Elt Ideal) ℓ) (c : Dev nD) (t : Fin cfg0.N)

/-- The point's batch, half of the heads, and block of queries. -/
abbrev bt : ℕ := (grid0.coords t 0).val
abbrev hg : ℕ := (grid0.coords t 1).val
abbrev qi : ℕ := (grid0.coords t 2).val

theorem bounds : ∀ t : Fin cfg0.N, bt t < 4 ∧ hg t < 2 ∧ qi t < 16 := by decide +kernel

theorem idx : ∀ t : Fin cfg0.N, win0_0.index t = ![bt t, hg t, qi t] ∧ win0_1.index t = ![bt t, 0, hg t]
    ∧ win0_2.index t = ![bt t, 0, 0] ∧ win0_3.index t = ![bt t, 0, hg t, 0] ∧ win0_4.index t = ![bt t, 0, qi t]
    ∧ win0_5.index t = ![bt t, qi t, hg t] := by decide +kernel

/-- The sums of the forget gates, their sign turned. -/
def minus : FVec Ideal S4x4096x8 .f32 := Host.negf (m ((c : Thread nD τ).loc main_arg3) : FVec Ideal S4x4096x8 .f32)

/-- What is left of them after the first rounding, and after the second. -/
def rest1 : FVec Ideal S4x4096x8 .f32 := subf (minus m c) (minus m c)
def rest2 : FVec Ideal S4x4096x8 .f32 := subf (rest1 m c) (rest1 m c)

theorem entry6 : V m c main_v6 =
    (shapeCast S4x4096x512 (truncf FTy.bf16 (m ((c : Thread nD τ).loc main_arg1) : FVec Ideal S4x4096x8x64 .f32) bitsLt_bf16_f32) shapeCasts_S4x4096x8x64_S4x4096x512 : FVec Ideal S4x4096x512 .bf16) := by
  unfold V
  rw [show ([hostOps0 (F := Ideal), hostOps0_1, hostOps0_2].flatten) = hostOps0 ++ (hostOps0_1 ++ hostOps0_2) from rfl]
  simp only [List.cons_append, List.append_nil, List.nil_append]
  entry_read
  rfl

theorem entry4 : V m c main_v4 =
    (transpose S4x512x4096 [0, 2, 1] (shapeCast S4x4096x512 (truncf FTy.bf16 (mulf (m ((c : Thread nD τ).loc main_arg0) : FVec Ideal S4x4096x8x64 .f32) (broadcastInDim S4x4096x8x64 ![] bcast_S_S4x4096x8x64 (constant S_ .f32 0x3E000000#32))) bitsLt_bf16_f32) shapeCasts_S4x4096x8x64_S4x4096x512) transposes_S4x4096x512_S4x512x4096_0_2_1 : FVec Ideal S4x512x4096 .bf16) := by
  unfold V
  rw [show ([hostOps0 (F := Ideal), hostOps0_1, hostOps0_2].flatten) = hostOps0 ++ (hostOps0_1 ++ hostOps0_2) from rfl]
  simp only [List.cons_append, List.append_nil, List.nil_append]
  entry_read
  rfl

theorem entry9 : V m c main_v9 =
    (transpose S4x16x512x256 [0, 1, 3, 2] (shapeCast S4x16x256x512 (truncf FTy.bf16 (m ((c : Thread nD τ).loc main_arg2) : FVec Ideal S4x4096x8x64 .f32) bitsLt_bf16_f32) shapeCasts_S4x4096x8x64_S4x16x256x512) transposes_S4x16x256x512_S4x16x512x256_0_1_3_2 : FVec Ideal S4x16x512x256 .bf16) := by
  unfold V
  rw [show ([hostOps0 (F := Ideal), hostOps0_1, hostOps0_2].flatten) = hostOps0 ++ (hostOps0_1 ++ hostOps0_2) from rfl]
  simp only [List.cons_append, List.append_nil, List.nil_append]
  entry_read
  rfl

theorem entry24 : V m c main_v24 =
    (transpose S4x8x4096 [0, 2, 1] (m ((c : Thread nD τ).loc main_arg3) : FVec Ideal S4x4096x8 .f32) transposes_S4x4096x8_S4x8x4096_0_2_1 : FVec Ideal S4x8x4096 .f32) := by
  unfold V
  rw [show ([hostOps0 (F := Ideal), hostOps0_1, hostOps0_2].flatten) = hostOps0 ++ (hostOps0_1 ++ hostOps0_2) from rfl]
  simp only [List.cons_append, List.append_nil, List.nil_append]
  entry_read
  rfl

/-! The operations before the padding in two stretches: up to the three shaped arrays, and their joining. -/

theorem late23 (σ : Valuation τ sig (Elt Ideal)) : StableHlo.after (hostOps0_1 (F := Ideal) ++ hostOps0_2) σ (Proc.tc.devRef main_v23) =
    (pad S4x4096x128 ![0, 0, 0] ![0, 0, 104] ![0, 0, 0] (σ (Proc.tc.devRef main_v22) : FVec Ideal S4x4096x24 .bf16) (sitofp .bf16 (σ (Proc.tc.devRef main_c) : IVec S_ 32)) pads_S4x4096x24_S4x4096x128_000_000_01040 h_S_ : FVec Ideal S4x4096x128 .bf16) := by
  simp only [List.cons_append, List.append_nil, List.nil_append]
  entry_read
  rfl

theorem late22 (σ : Valuation τ sig (Elt Ideal)) : StableHlo.after (List.drop 22 (hostOps0 (F := Ideal))) σ (Proc.tc.devRef main_v22) =
    (shapeCast S4x4096x24 (concatenate S4x4096x8x3 3 [⟨S4x4096x8x1, (σ (Proc.tc.devRef main_v18) : FVec Ideal S4x4096x8x1 .bf16)⟩, ⟨S4x4096x8x1, (σ (Proc.tc.devRef main_v19) : FVec Ideal S4x4096x8x1 .bf16)⟩, ⟨S4x4096x8x1, (σ (Proc.tc.devRef main_v20) : FVec Ideal S4x4096x8x1 .bf16)⟩] concatenates_S4x4096x8x1_S4x4096x8x1_S4x4096x8x1_S4x4096x8x3_d3) shapeCasts_S4x4096x8x3_S4x4096x24 : FVec Ideal S4x4096x24 .bf16) := by
  simp only [hostOps0, List.drop_succ_cons, List.drop_zero]
  entry_read
  rfl

theorem lateC (σ : Valuation τ sig (Elt Ideal)) : StableHlo.after (List.drop 22 (hostOps0 (F := Ideal))) σ (Proc.tc.devRef main_c) =
    (constantI S_ 32 0#32 : IVec S_ 32) := by
  simp only [hostOps0, List.drop_succ_cons, List.drop_zero]
  entry_read
  rfl

theorem early18 : StableHlo.after (List.take 22 (hostOps0 (F := Ideal))) (fun b => m (c, b)) (Proc.tc.devRef main_v18) =
    (broadcastInDim S4x4096x8x1 ![0, 1, 2] bcast_S4x4096x8_S4x4096x8x1_0_1_2 (truncf FTy.bf16 (minus m c) bitsLt_bf16_f32) : FVec Ideal S4x4096x8x1 .bf16) := by
  simp only [hostOps0, List.take_succ_cons, List.take_zero]
  entry_read
  rfl

theorem early19 : StableHlo.after (List.take 22 (hostOps0 (F := Ideal))) (fun b => m (c, b)) (Proc.tc.devRef main_v19) =
    (broadcastInDim S4x4096x8x1 ![0, 1, 2] bcast_S4x4096x8_S4x4096x8x1_0_1_2 (truncf FTy.bf16 (rest1 m c) bitsLt_bf16_f32) : FVec Ideal S4x4096x8x1 .bf16) := by
  simp only [hostOps0, List.take_succ_cons, List.take_zero]
  entry_read
  rfl

theorem early20 : StableHlo.after (List.take 22 (hostOps0 (F := Ideal))) (fun b => m (c, b)) (Proc.tc.devRef main_v20) =
    (broadcastInDim S4x4096x8x1 ![0, 1, 2] bcast_S4x4096x8_S4x4096x8x1_0_1_2 (truncf FTy.bf16 (rest2 m c) bitsLt_bf16_f32) : FVec Ideal S4x4096x8x1 .bf16) := by
  simp only [hostOps0, List.take_succ_cons, List.take_zero]
  entry_read
  rfl

theorem joined (σ : Valuation τ sig (Elt Ideal)) (x y z : FVec Ideal S4x4096x8x1 .bf16) (hx : σ (Proc.tc.devRef main_v18) = x)
    (hy : σ (Proc.tc.devRef main_v19) = y) (hz : σ (Proc.tc.devRef main_v20) = z) :
    StableHlo.after (List.drop 22 (hostOps0 (F := Ideal))) σ (Proc.tc.devRef main_v22) =
    (shapeCast S4x4096x24 (concatenate S4x4096x8x3 3 [⟨S4x4096x8x1, x⟩, ⟨S4x4096x8x1, y⟩, ⟨S4x4096x8x1, z⟩] concatenates_S4x4096x8x1_S4x4096x8x1_S4x4096x8x1_S4x4096x8x3_d3) shapeCasts_S4x4096x8x3_S4x4096x24 : FVec Ideal S4x4096x24 .bf16) := by
  subst hx hy hz
  exact late22 σ

theorem two_stretches (σ : Valuation τ sig (Elt Ideal)) : StableHlo.after (hostOps0 (F := Ideal)) σ
    = StableHlo.after (List.drop 22 (hostOps0 (F := Ideal))) (StableHlo.after (List.take 22 (hostOps0 (F := Ideal))) σ) := by
  rw [← StableHlo.after_append, List.take_append_drop]

theorem entry23 : V m c main_v23 =
    (pad S4x4096x128 ![0, 0, 0] ![0, 0, 104] ![0, 0, 0] (shapeCast S4x4096x24 (concatenate S4x4096x8x3 3 [⟨S4x4096x8x1, broadcastInDim S4x4096x8x1 ![0, 1, 2] bcast_S4x4096x8_S4x4096x8x1_0_1_2 (truncf FTy.bf16 (minus m c) bitsLt_bf16_f32)⟩, ⟨S4x4096x8x1, broadcastInDim S4x4096x8x1 ![0, 1, 2] bcast_S4x4096x8_S4x4096x8x1_0_1_2 (truncf FTy.bf16 (rest1 m c) bitsLt_bf16_f32)⟩, ⟨S4x4096x8x1, broadcastInDim S4x4096x8x1 ![0, 1, 2] bcast_S4x4096x8_S4x4096x8x1_0_1_2 (truncf FTy.bf16 (rest2 m c) bitsLt_bf16_f32)⟩] concatenates_S4x4096x8x1_S4x4096x8x1_S4x4096x8x1_S4x4096x8x3_d3) shapeCasts_S4x4096x8x3_S4x4096x24) (sitofp .bf16 (constantI S_ 32 0#32)) pads_S4x4096x24_S4x4096x128_000_000_01040 h_S_ : FVec Ideal S4x4096x128 .bf16) := by
  unfold V
  rw [show ([hostOps0 (F := Ideal), hostOps0_1, hostOps0_2].flatten) = hostOps0 ++ (hostOps0_1 ++ hostOps0_2) from rfl]
  rw [StableHlo.after_append, late23, two_stretches, lateC, joined _ _ _ _ (early18 m c) (early19 m c) (early20 m c)]

/-! ## Where a window's entry lies in its array -/

theorem place0 (X : S4x512x4096.Idx → EReal) (w q : Fin 256) : X ((win0_0.blk t).view.emb (ix3 0 w q))
    = X (ix3 ⟨bt t, (bounds t).1⟩ ⟨256 * hg t + w.val, by have := bounds t; omega⟩ ⟨256 * qi t + q.val, by have := bounds t; omega⟩) := by
  blk_ext [idx t]

theorem place1 (X : S4x4096x512.Idx → EReal) (k : Fin 4096) (l : Fin 256) : X ((win0_1.blk t).view.emb (ix3 0 k l))
    = X (ix3 ⟨bt t, (bounds t).1⟩ k ⟨256 * hg t + l.val, by have := bounds t; omega⟩) := by
  blk_ext [idx t]

theorem place2 (X : S4x4096x128.Idx → EReal) (k : Fin 4096) (l : Fin 128) : X ((win0_2.blk t).view.emb (ix3 0 k l))
    = X (ix3 ⟨bt t, (bounds t).1⟩ k l) := by
  blk_ext [idx t]

theorem place3 (X : S4x16x512x256.Idx → EReal) (n : Fin 16) (l k : Fin 256) : X ((win0_3.blk t).view.emb (ix4 0 n l k))
    = X (ix4 ⟨bt t, (bounds t).1⟩ n ⟨256 * hg t + l.val, by have := bounds t; omega⟩ k) := by
  blk_ext [idx t]

theorem place4 (X : S4x8x4096.Idx → EReal) (h : Fin 8) (q : Fin 256) : X ((win0_4.blk t).view.emb (ix3 0 h q))
    = X (ix3 ⟨bt t, (bounds t).1⟩ h ⟨256 * qi t + q.val, by have := bounds t; omega⟩) := by
  blk_ext [idx t]

/-! ## The prepared arrays at one entry -/

theorem ix4_congr {a b c d : ℕ} {x x' : Fin a} {y y' : Fin b} {z z' : Fin c} {w w' : Fin d}
    (h1 : x = x') (h2 : y = y') (h3 : z = z') (h4 : w = w') : ix4 x y z w = ix4 x' y' z' w' := by
  subst h1 h2 h3 h4; rfl

theorem cell6 (b : Fin 4) (k : Fin 4096) (l : Fin 512) : (show EReal from V m c main_v6 (ix3 b k l))
    = m ((c : Thread nD τ).loc main_arg1) (ix4 b k ⟨l.val / 64, by omega⟩ ⟨l.val % 64, by omega⟩) := by
  rw [entry6]
  pointwise

theorem cell4 (b : Fin 4) (w : Fin 512) (q : Fin 4096) : (show EReal from V m c main_v4 (ix3 b w q))
    = (show EReal from m ((c : Thread nD τ).loc main_arg0) (ix4 b q ⟨w.val / 64, by omega⟩ ⟨w.val % 64, by omega⟩)) * Ideal.ofBits .f32 0x3E000000#32 := by
  rw [entry4]
  pointwise

theorem split9 (x : S4x4096x8x64.Idx → EReal) (b : Fin 4) (n : Fin 16) (l : Fin 512) (k : Fin 256) :
    shapeCast S4x16x256x512 x shapeCasts_S4x4096x8x64_S4x16x256x512 (ix4 b n k l)
    = x (ix4 b ⟨256 * n.val + k.val, by omega⟩ ⟨l.val / 64, by omega⟩ ⟨l.val % 64, by omega⟩) := by
  refine shapeCast_apply _ _ _ _ ?_
  rw [Shape.rowMajor_val_four, Shape.rowMajor_val_four]
  simp only [S4x4096x8x64, S4x16x256x512, ix4_0, ix4_1, ix4_2, ix4_3]
  change ((b.val * 4096 + (256 * n.val + k.val)) * 8 + l.val / 64) * 64 + l.val % 64 = ((b.val * 16 + n.val) * 256 + k.val) * 512 + l.val
  omega

theorem cell9 (b : Fin 4) (n : Fin 16) (l : Fin 512) (k : Fin 256) : (show EReal from V m c main_v9 (ix4 b n l k))
    = m ((c : Thread nD τ).loc main_arg2) (ix4 b ⟨256 * n.val + k.val, by omega⟩ ⟨l.val / 64, by omega⟩ ⟨l.val % 64, by omega⟩) := by
  rw [entry9]
  refine Eq.trans (b := shapeCast S4x16x256x512 (m ((c : Thread nD τ).loc main_arg2) : S4x4096x8x64.Idx → EReal) shapeCasts_S4x4096x8x64_S4x16x256x512 (ix4 b n k l)) ?_ (split9 _ b n l k)
  refine transpose_apply _ _ _ _ _ fun a => ?_
  fin_cases a <;> rfl

theorem cell24 (b : Fin 4) (h : Fin 8) (q : Fin 4096) : (show EReal from V m c main_v24 (ix3 b h q))
    = m ((c : Thread nD τ).loc main_arg3) (ix3 b q h) := by
  rw [entry24]
  pointwise

theorem cell23 (b : Fin 4) (k : Fin 4096) (h : Fin 8) (i : Fin 3) : (show EReal from V m c main_v23 (ix3 b k ⟨3 * h.val + i.val, by omega⟩))
    = if i = 0 then minus m c (ix3 b k h) else if i = 1 then rest1 m c (ix3 b k h) else rest2 m c (ix3 b k h) := by
  rw [entry23]
  pointwise
  rw [dif_pos (by omega)]
  fin_cases i <;> rfl

end Cert.FoxReads

end
-- ==== Proof.FoxMath.lean ====
module

public import Idealize.ShloMosaic.Lib.Pipeline.ValueKit
public import Idealize.ShloMosaic.Lib.Pointwise
public import Idealize.ShloMosaic.Lib.Claim

@[expose] public section

/-!
# A softmax taken block by block

A running maximum, a running denominator and a running numerator, rescaled when the maximum grows,
hold the same quotient as the softmax taken at once. A key's score is a real number, or `⊥` where
the key is masked; its weight is the exponential of the score, so `0` where it is masked. Values
are any extended reals.
-/

noncomputable section

namespace Cert.FoxMath

open Idealize.ShloMosaic

/-- A nonnegative real factor moves into a sum of extended reals. -/
theorem coe_mul_sum {ι : Type*} (s : Finset ι) (e : ℝ) (he : 0 ≤ e) (g : ι → EReal) :
    (e : EReal) * ∑ x ∈ s, g x = ∑ x ∈ s, (e : EReal) * g x := by
  classical
  induction s using Finset.induction_on with
  | empty => simp
  | insert a s ha ih =>
    rw [Finset.sum_insert ha, Finset.sum_insert ha, ← ih,
      EReal.left_distrib_of_nonneg_of_ne_top (by exact_mod_cast he) (EReal.coe_ne_top e)]

/-- A sum of reals, read in the extended reals. -/
theorem coe_sum {ι : Type*} (s : Finset ι) (g : ι → ℝ) :
    ∑ x ∈ s, ((g x : ℝ) : EReal) = ((∑ x ∈ s, g x : ℝ) : EReal) := by
  classical
  induction s using Finset.induction_on with
  | empty => simp
  | insert a s ha ih => rw [Finset.sum_insert ha, Finset.sum_insert ha, ih, EReal.coe_add]

/-- A key's score `t`, with `f` still to be added, and its weight `w`. -/
def Key (f : ℝ) (t : EReal) (w : ℝ) : Prop :=
  (∃ r : ℝ, t = (r : EReal) ∧ w = Real.exp (r + f)) ∨ (t = ⊥ ∧ w = 0)

theorem Key.nonneg {f : ℝ} {t : EReal} {w : ℝ} (h : Key f t w) : 0 ≤ w := by
  rcases h with ⟨r, -, rfl⟩ | ⟨-, rfl⟩
  · exact (Real.exp_pos _).le
  · exact le_refl _

/-- The exponential the loop takes of a key, against the maximum `m`. -/
theorem Key.exp {f : ℝ} {t : EReal} {w : ℝ} (h : Key f t w) (m : ℝ) :
    Ideal.exp (t + ((f : EReal) - (m : EReal))) = ((Real.exp (-m) * w : ℝ) : EReal) := by
  rcases h with ⟨r, rfl, rfl⟩ | ⟨rfl, rfl⟩
  · rw [← EReal.coe_sub, ← EReal.coe_add, Ideal.exp_coe, ← Real.exp_add]
    congr 2; ring
  · rw [EReal.bot_add, Ideal.exp_bot, mul_zero, EReal.coe_zero]

/-- The exponential taken at once of a finished score. -/
theorem Key.exp_sub {t : EReal} {w : ℝ} (h : Key 0 t w) (m : ℝ) :
    Ideal.exp (t - (m : EReal)) = ((Real.exp (-m) * w : ℝ) : EReal) := by
  have := h.exp m
  rw [EReal.coe_zero, zero_sub] at this
  rw [sub_eq_add_neg]; exact this

/-- The maximum of scores none of which is `⊤`, one of them real, is real. -/
theorem fold_real {ι : Type*} [Fintype ι] (t : ι → EReal) (f : ℝ) (w : ι → ℝ)
    (h : ∀ x, Key f (t x) (w x)) (a : ι) (r : ℝ) (ha : t a = (r : EReal)) :
    ∃ m : ℝ, Finset.fold max ⊥ t Finset.univ = (m : EReal) := by
  have h1 : (r : EReal) ≤ Finset.fold max ⊥ t Finset.univ := by
    rw [Finset.le_fold_max]; exact Or.inr ⟨a, Finset.mem_univ _, ha.ge⟩
  have h2 : Finset.fold max ⊥ t Finset.univ < ⊤ := by
    rw [Finset.fold_max_lt]
    refine ⟨bot_lt_top, fun x _ => ?_⟩
    rcases h x with ⟨r, hr, -⟩ | ⟨hr, -⟩ <;> rw [hr]
    · exact EReal.coe_lt_top r
    · exact bot_lt_top
  exact ⟨_, (EReal.coe_toReal h2.ne (ne_of_gt (lt_of_lt_of_le (EReal.bot_lt_coe r) h1))).symm⟩

/-- What the running maximum, denominator and numerator hold once keys of total weight `S` and
    weighted value `V` have been taken: nothing yet, or those totals against the maximum. -/
def Holds (M l acc : EReal) (S : ℝ) (V : EReal) : Prop :=
  (M = ⊥ ∧ l = 0 ∧ acc = 0 ∧ S = 0 ∧ V = 0) ∨
  ∃ m : ℝ, M = (m : EReal) ∧ l = ((Real.exp (-m) * S : ℝ) : EReal) ∧
    acc = ((Real.exp (-m) : ℝ) : EReal) * V

theorem holds_start : Holds ⊥ 0 0 0 0 := Or.inl ⟨rfl, rfl, rfl, rfl, rfl⟩

/-- One block of keys. -/
theorem Holds.step {ι : Type*} [Fintype ι] {M l acc : EReal} {S : ℝ} {V : EReal}
    (hold : Holds M l acc S V) (f : ℝ) (t : ι → EReal) (w : ι → ℝ) (v : ι → EReal)
    (h : ∀ x, Key f (t x) (w x)) (a : ι) (r : ℝ) (ha : t a = (r : EReal))
    {M' : EReal} (hM : M' = max M (Finset.fold max ⊥ t Finset.univ + (f : EReal))) :
    Holds M' (Ideal.exp (M - M') * l + ∑ x, Ideal.exp (t x + ((f : EReal) - M')))
      (Ideal.exp (M - M') * acc + ∑ x, v x * Ideal.exp (t x + ((f : EReal) - M')))
      (S + ∑ x, w x) (V + ∑ x, v x * ((w x : ℝ) : EReal)) := by
  obtain ⟨m0, hm0⟩ := fold_real t f w h a r ha
  rw [hm0, ← EReal.coe_add] at hM
  obtain ⟨m', rfl⟩ : ∃ m' : ℝ, M' = (m' : EReal) := by
    rcases hold with ⟨rfl, -⟩ | ⟨m, rfl, -⟩
    · exact ⟨_, by rw [hM, max_eq_right bot_le]⟩
    · exact ⟨max m (m0 + f), by rw [hM, EReal.coe_strictMono.monotone.map_max]⟩
  refine Or.inr ⟨m', rfl, ?_, ?_⟩
  · simp only [fun x => (h x).exp m']
    rw [coe_sum, ← Finset.mul_sum]
    rcases hold with ⟨rfl, rfl, -, rfl, -⟩ | ⟨m, rfl, rfl, -⟩
    · rw [mul_zero, zero_add, zero_add]
    · rw [← EReal.coe_sub, Ideal.exp_coe, ← EReal.coe_mul, ← EReal.coe_add, ← mul_assoc,
        ← Real.exp_add, mul_add]
      congr 3; congr 1; ring
  · simp only [fun x => (h x).exp m']
    have hs : ∑ x, v x * ((Real.exp (-m') * w x : ℝ) : EReal)
        = ((Real.exp (-m') : ℝ) : EReal) * ∑ x, v x * ((w x : ℝ) : EReal) := by
      rw [coe_mul_sum _ _ (Real.exp_pos _).le]
      refine Finset.sum_congr rfl fun x _ => ?_
      rw [EReal.coe_mul, ← mul_assoc, ← mul_assoc, mul_comm (v x)]
    rw [hs, EReal.left_distrib_of_nonneg_of_ne_top (by exact_mod_cast (Real.exp_pos _).le)
      (EReal.coe_ne_top _)]
    rcases hold with ⟨rfl, -, rfl, -, rfl⟩ | ⟨m, rfl, -, rfl⟩
    · rw [mul_zero, mul_zero]
    · rw [← EReal.coe_sub, Ideal.exp_coe, ← mul_assoc, ← EReal.coe_mul, ← Real.exp_add]
      congr 4; ring

/-- The quotient at the end. -/
theorem Holds.div {M l acc : EReal} {S : ℝ} {V : EReal} (hold : Holds M l acc S V) (hS : 0 < S) :
    Ideal.div acc l = V * ((1 / S : ℝ) : EReal) := by
  rcases hold with ⟨-, -, -, rfl, -⟩ | ⟨m, -, rfl, rfl⟩
  · exact absurd hS (lt_irrefl _)
  · have he := Real.exp_pos (-m)
    rw [Ideal.div_coe (mul_pos he hS).ne', mul_comm _ V, mul_assoc, ← EReal.coe_mul]
    congr 2; field_simp

/-- The softmax taken at once, over all keys, as a weighted value. -/
theorem softmax_once {ι : Type*} [Fintype ι] (t : ι → EReal) (w : ι → ℝ) (v : ι → EReal)
    (h : ∀ x, Key 0 (t x) (w x)) (a : ι) (r : ℝ) (ha : t a = (r : EReal)) :
    ∑ x, v x * Ideal.div (Ideal.exp (t x - Finset.fold max ⊥ t Finset.univ))
        (∑ y, Ideal.exp (t y - Finset.fold max ⊥ t Finset.univ))
      = (∑ x, v x * ((w x : ℝ) : EReal)) * ((1 / ∑ x, w x : ℝ) : EReal) := by
  obtain ⟨m, hm⟩ := fold_real t 0 w h a r ha
  have hw : 0 < ∑ x, w x := by
    refine Finset.sum_pos' (fun x _ => (h x).nonneg) ⟨a, Finset.mem_univ _, ?_⟩
    rcases h a with ⟨r, -, hr⟩ | ⟨hr, -⟩
    · rw [hr]; exact Real.exp_pos _
    · rw [ha] at hr; exact absurd hr (EReal.coe_ne_bot r)
  simp only [hm, fun x => (h x).exp_sub m]
  have he := Real.exp_pos (-m)
  rw [coe_sum, ← Finset.mul_sum, mul_comm _ ((1 / ∑ x, w x : ℝ) : EReal),
    coe_mul_sum _ _ (one_div_pos.2 hw).le]
  refine Finset.sum_congr rfl fun x _ => ?_
  rw [Ideal.div_coe (mul_pos he hw).ne', ← EReal.coe_mul, mul_left_comm, ← EReal.coe_mul]
  congr 2; field_simp

end Cert.FoxMath

end
-- ==== Proof.FoxStep.lean ====
module

public import proofs.«01_k».proof.Proof.Gen.FoxIdeal.Value
public import proofs.«01_k».proof.Proof.FoxMath
public import Idealize.ShloMosaic.Lib.Pipeline.ValueKit
public import Idealize.ShloMosaic.Lib.Pointwise
public import Idealize.ShloMosaic.Lib.Claim

@[expose] public section

set_option maxRecDepth 16384

noncomputable section

/-!
# One block of keys in the forgetting attention

The 1024 columns are four heads of 256 queries. What one block of keys makes of a column's running
maximum, denominator and numerator, entry by entry.
-/

namespace Cert.FoxStep

open Cert.FoxIdeal Cert.FoxIdeal.Gen
open Idealize.ShloMosaic Idealize.ShloMosaic.TcCoe Idealize.SL.Sem
open Idealize.ShloMosaic.WordCmp

variable (f : FVec Ideal S1x1024 .f32) (t : FVec Ideal S256x1024 .f32) (M : FVec Ideal S1x1024 .f32)

/-- The word of minus infinity. -/
theorem neg_inf : Ideal.ofBits FTy.f32 4286578688#32 = (⊥ : EReal) := by
  simp [Ideal.ofBits, Ideal.ieee]

/-- The new maximum of column `j`. -/
def top (j : Fin 1024) : EReal :=
  max (M (ix2 0 j)) (Finset.fold max ⊥ (fun x => t (ix2 x j)) Finset.univ + f (ix2 0 j))

theorem pay3_at (j : Fin 1024) : k0_pay3 (F := Ideal) f t M (ix2 0 j) = top f t M j := by
  pointwise [k0_pay3]
  rw [neg_inf]; rfl

theorem pay4_at (k : Fin 256) (j : Fin 1024) : k0_pay4 (F := Ideal) f t M (ix2 k j)
    = Ideal.exp (t (ix2 k j) + (f (ix2 0 j) - top f t M j)) := by
  pointwise [k0_pay4, pay3_at]

theorem pay5_at (j : Fin 1024) : k0_pay5 (F := Ideal) f t M (ix2 0 j)
    = Ideal.exp (M (ix2 0 j) - top f t M j) := by
  pointwise [k0_pay5, pay3_at]

theorem pay6_at (k : Fin 256) (j : Fin 1024) : k0_pay6 (F := Ideal) f t M (ix2 k j)
    = Ideal.exp (t (ix2 k j) + (f (ix2 0 j) - top f t M j)) := by
  pointwise [k0_pay6, pay4_at]

theorem pay33_at (l a : FVec Ideal S1x1024 .f32) (p : FVec Ideal S256x1024 .f32) (j : Fin 1024) :
    k0_pay33 (F := Ideal) l p a (ix2 0 j) = a (ix2 0 j) * l (ix2 0 j) + ∑ x, p (ix2 x j) := by
  pointwise [k0_pay33]

theorem pay7_at (y : Vec Ideal S1x1x64x256 .bf16) (d : Fin 64) (j : Fin 256) :
    k0_pay7 (F := Ideal) f t M y (ix2 d j)
    = ∑ x : Fin 256, y (ix4 0 0 d x) * k0_pay6 (F := Ideal) f t M (ix2 x ⟨j.val, by omega⟩) := by
  pointwise [k0_pay7]

theorem pay8_at (y : Vec Ideal S1x1x64x256 .bf16) (d : Fin 64) (j : Fin 256) :
    k0_pay8 (F := Ideal) f t M y (ix2 d j)
    = ∑ x : Fin 256, y (ix4 0 0 d x) * k0_pay6 (F := Ideal) f t M (ix2 x ⟨256 + j.val, by omega⟩) := by
  pointwise [k0_pay8]

theorem pay34_at (acc : FVec Ideal S64x1024 .f32) (a : FVec Ideal S1x1024 .f32)
    (p : FVec Ideal S256x1024 .bf16) (u w : FVec Ideal S64x256 .f32) (y z : Vec Ideal S1x1x64x256 .bf16)
    (Y : Fin 256 → Fin 256 → EReal)
    (hu : ∀ (d : Fin 64) (j : Fin 256), u (ix2 d j) = ∑ x : Fin 256, Y ⟨d.val, by omega⟩ x * p (ix2 x ⟨j.val, by omega⟩))
    (hw : ∀ (d : Fin 64) (j : Fin 256), w (ix2 d j) = ∑ x : Fin 256, Y ⟨64 + d.val, by omega⟩ x * p (ix2 x ⟨256 + j.val, by omega⟩))
    (hy : ∀ (d : Fin 64) (x : Fin 256), y (ix4 0 0 d x) = Y ⟨128 + d.val, by omega⟩ x)
    (hz : ∀ (d : Fin 64) (x : Fin 256), z (ix4 0 0 d x) = Y ⟨192 + d.val, by omega⟩ x)
    (d : Fin 64) (j : Fin 1024) :
    k0_pay34 (F := Ideal) acc a p u w y z (ix2 d j) = a (ix2 0 j) * acc (ix2 d j)
      + ∑ x : Fin 256, Y ⟨64 * (j.val / 256) + d.val, by omega⟩ x * p (ix2 x j) := by
  pointwise [k0_pay34, hu, hw, hy, hz]
  split_ifs <;> congr! 6 <;> omega

set_option maxHeartbeats 2000000 in
/-- The last block and the division, written to query `r`, lane `j`. -/
theorem pay1_at (l : FVec Ideal S1x1024 .f32) (acc : FVec Ideal S64x1024 .f32) (a : FVec Ideal S1x1024 .f32)
    (p : FVec Ideal S256x1024 .bf16) (p' : FVec Ideal S256x1024 .f32)
    (u w : FVec Ideal S64x256 .f32) (y z : Vec Ideal S1x1x64x256 .bf16)
    (Y : Fin 256 → Fin 256 → EReal)
    (hu : ∀ (d : Fin 64) (j : Fin 256), u (ix2 d j) = ∑ x : Fin 256, Y ⟨d.val, by omega⟩ x * p (ix2 x ⟨j.val, by omega⟩))
    (hw : ∀ (d : Fin 64) (j : Fin 256), w (ix2 d j) = ∑ x : Fin 256, Y ⟨64 + d.val, by omega⟩ x * p (ix2 x ⟨256 + j.val, by omega⟩))
    (hy : ∀ (d : Fin 64) (x : Fin 256), y (ix4 0 0 d x) = Y ⟨128 + d.val, by omega⟩ x)
    (hz : ∀ (d : Fin 64) (x : Fin 256), z (ix4 0 0 d x) = Y ⟨192 + d.val, by omega⟩ x)
    (r j : Fin 256) :
    k0_pay1 (F := Ideal) l acc p' a p u w y z (ix3 0 r j)
      = Ideal.div (a (ix2 0 ⟨256 * (j.val / 64) + r.val, by omega⟩) * acc (ix2 ⟨j.val % 64, by omega⟩ ⟨256 * (j.val / 64) + r.val, by omega⟩)
          + ∑ x : Fin 256, Y j x * p (ix2 x ⟨256 * (j.val / 64) + r.val, by omega⟩))
        (a (ix2 0 ⟨256 * (j.val / 64) + r.val, by omega⟩) * l (ix2 0 ⟨256 * (j.val / 64) + r.val, by omega⟩)
          + ∑ x : Fin 256, p' (ix2 x ⟨256 * (j.val / 64) + r.val, by omega⟩)) := by
  pointwise [k0_pay1, hu, hw, hy, hz]
  have key : ∀ (c c' : Fin 1024) (d d' : Fin 64) (n n' : Fin 256), c.val = c'.val → d.val = d'.val →
      n.val = n'.val →
      Ideal.div (a (ix2 0 c) * acc (ix2 d c) + ∑ x : Fin 256, Y n x * p (ix2 x c))
        (a (ix2 0 c) * l (ix2 0 c) + ∑ x : Fin 256, p' (ix2 x c))
      = Ideal.div (a (ix2 0 c') * acc (ix2 d' c') + ∑ x : Fin 256, Y n' x * p (ix2 x c'))
        (a (ix2 0 c') * l (ix2 0 c') + ∑ x : Fin 256, p' (ix2 x c')) := by
    intro c c' d d' n n' h1 h2 h3
    rw [Fin.ext h1, Fin.ext h2, Fin.ext h3]
  have fix : ∀ (n n' : Fin 256) (c c' : Fin 1024), n.val = n'.val → c.val = c'.val →
      ∑ x : Fin 256, Y n x * p (ix2 x c) = ∑ x : Fin 256, Y n' x * p (ix2 x c') := by
    intro n n' c c' h1 h2
    rw [Fin.ext h1, Fin.ext h2]
  by_cases h1 : j.val < 64
  · rw [dif_pos h1]
    exact key ⟨r.val, by omega⟩ ⟨256 * (j.val / 64) + r.val, by omega⟩ ⟨j.val, by omega⟩ ⟨j.val % 64, by omega⟩ j j
      (by dsimp only; omega) (by dsimp only; omega) rfl
  rw [dif_neg h1]
  by_cases h2 : j.val - 64 < 64
  · rw [dif_pos h2]
    exact key ⟨256 + r.val, by omega⟩ ⟨256 * (j.val / 64) + r.val, by omega⟩ ⟨j.val - 64, by omega⟩ ⟨j.val % 64, by omega⟩
      ⟨64 + (j.val - 64), by omega⟩ j (by dsimp only; omega) (by dsimp only; omega) (by dsimp only; omega)
  rw [dif_neg h2]
  by_cases h3 : j.val - 64 - 64 < 64
  · rw [dif_pos h3, dif_neg (by omega), dif_neg (by omega), dif_pos (by omega)]
    refine (congrArg (fun s => Ideal.div (a (ix2 0 ⟨512 + r.val, by omega⟩) * acc (ix2 ⟨j.val - 64 - 64, by omega⟩ ⟨512 + r.val, by omega⟩) + s)
      (a (ix2 0 ⟨512 + r.val, by omega⟩) * l (ix2 0 ⟨512 + r.val, by omega⟩) + ∑ x : Fin 256, p' (ix2 x ⟨512 + r.val, by omega⟩)))
      (fix ⟨128 + (j.val - 64 - 64), by omega⟩ j ⟨512 + (512 + r.val - 256 - 256), by omega⟩ ⟨512 + r.val, by omega⟩
        (by dsimp only; omega) (by dsimp only; omega))).trans ?_
    exact key ⟨512 + r.val, by omega⟩ ⟨256 * (j.val / 64) + r.val, by omega⟩ ⟨j.val - 64 - 64, by omega⟩
      ⟨j.val % 64, by omega⟩ j j (by dsimp only; omega) (by dsimp only; omega) rfl
  · rw [dif_neg h3, dif_neg (by omega), dif_neg (by omega), dif_neg (by omega)]
    refine (congrArg (fun s => Ideal.div (a (ix2 0 ⟨768 + r.val, by omega⟩) * acc (ix2 ⟨j.val - 64 - 64 - 64, by omega⟩ ⟨768 + r.val, by omega⟩) + s)
      (a (ix2 0 ⟨768 + r.val, by omega⟩) * l (ix2 0 ⟨768 + r.val, by omega⟩) + ∑ x : Fin 256, p' (ix2 x ⟨768 + r.val, by omega⟩)))
      (fix ⟨192 + (j.val - 64 - 64 - 64), by omega⟩ j ⟨768 + (768 + r.val - 256 - 256 - 256), by omega⟩ ⟨768 + r.val, by omega⟩
        (by dsimp only; omega) (by dsimp only; omega))).trans ?_
    exact key ⟨768 + r.val, by omega⟩ ⟨256 * (j.val / 64) + r.val, by omega⟩ ⟨j.val - 64 - 64 - 64, by omega⟩
      ⟨j.val % 64, by omega⟩ j j (by dsimp only; omega) (by dsimp only; omega) rfl

theorem pay38_eq : k0_pay38 (F := Ideal) f t M = k0_pay3 f (k0_pay37 t) M := rfl
theorem pay39_eq : k0_pay39 (F := Ideal) f t M = k0_pay4 f (k0_pay37 t) M := rfl
theorem pay40_eq : k0_pay40 (F := Ideal) f t M = k0_pay5 f (k0_pay37 t) M := rfl
theorem pay41_eq : k0_pay41 (F := Ideal) f t M = k0_pay6 f (k0_pay37 t) M := rfl
theorem pay42_eq (y : Vec Ideal S1x1x64x256 .bf16) :
    k0_pay42 (F := Ideal) f t M y = k0_pay7 f (k0_pay37 t) M y := rfl
theorem pay43_eq (y : Vec Ideal S1x1x64x256 .bf16) :
    k0_pay43 (F := Ideal) f t M y = k0_pay8 f (k0_pay37 t) M y := rfl
theorem pay32_eq (v50 v100 : FVec Ideal S256x512 .bf16) (b k1 k2 : Vec Ideal S1x256x128 .bf16) :
    k0_pay32 (F := Ideal) v100 (k0_pay30 b) (k0_pay31 v50 b k1) k2 = k0_pay2 v50 v100 b k1 k2 := rfl

/-- The last block's mask: key `k` is seen by the queries at or after it. -/
theorem pay37_at (k : Fin 256) (j : Fin 1024) :
    k0_pay37 (F := Ideal) t (ix2 k j) = if k.val ≤ j.val % 256 then t (ix2 k j) else ⊥ := by
  have e : IntOp.andi (BitVec.ofNat 32 j.val) 255#32 = BitVec.ofNat 32 (j.val % 256) := by
    apply BitVec.eq_of_toNat_eq
    have h1 := Nat.and_two_pow_sub_one_eq_mod j.val 8
    have h2 : j.val < 1024 := j.isLt
    show (BitVec.ofNat 32 j.val &&& 255#32).toNat = _
    rw [BitVec.toNat_and, BitVec.toNat_ofNat, BitVec.toNat_ofNat, BitVec.toNat_ofNat,
      Nat.mod_eq_of_lt (by omega : j.val < 2 ^ 32), Nat.mod_eq_of_lt (by omega : 255 < 2 ^ 32),
      Nat.mod_eq_of_lt (by omega : j.val % 256 < 2 ^ 32)]
    exact h1
  pointwise [k0_pay37]
  rw [e, cmpi_sle_ofNat (by omega) (by omega), select_decide, neg_inf]

/-- The running maximum starts at a real number. -/
theorem pay27_at (j : Fin 1024) : ∃ m : ℝ, k0_pay27 (F := Ideal) (ix2 0 j) = (m : EReal) := by
  have h : ∃ m : ℝ, Ideal.ofBits FTy.f32 4048155338#32 = (m : EReal) := by
    simp only [Ideal.ofBits, Ideal.ieee]
    rw [if_neg (by decide), if_neg (by decide)]
    exact ⟨_, rfl⟩
  obtain ⟨m, hm⟩ := h
  refine ⟨m, ?_⟩
  rw [← hm]
  pointwise [k0_pay27]

theorem pay28_at (j : Fin 1024) : k0_pay28 (F := Ideal) (ix2 0 j) = 0 := by
  pointwise [k0_pay28]

theorem pay29_at (d : Fin 64) (j : Fin 1024) : k0_pay29 (F := Ideal) (ix2 d j) = 0 := by
  pointwise [k0_pay29]

end Cert.FoxStep

end
-- ==== Proof.FoxScore.lean ====
module

public import proofs.«01_k».proof.Proof.Gen.FoxIdeal.Value
public import proofs.«01_k».proof.Proof.FoxMath
public import Idealize.ShloMosaic.Lib.Pipeline.ValueKit
public import Idealize.ShloMosaic.Lib.Pointwise
public import Idealize.ShloMosaic.Lib.Claim

@[expose] public section

set_option maxRecDepth 16384

noncomputable section

/-!
# The scores of one block of keys

A column's queries lie beside ones at the head's three bias lanes, so one product adds the bias to
the scores.
-/

namespace Cert.FoxScore

open Cert.FoxIdeal Cert.FoxIdeal.Gen
open Idealize.ShloMosaic Idealize.ShloMosaic.TcCoe Idealize.SL.Sem
open Idealize.ShloMosaic.WordCmp

/-- The lanes of head `h` of the pair: the queries of its own half, ones at the three lanes from
    `3 * H` on. -/
def lanes (x : Vec Ideal S1x128x256 .bf16) (h H : ℕ) (d : Fin 256) (q : Fin 256) : EReal :=
  if hd : d.val < 128 then (if d.val / 64 = h then x (ix3 0 ⟨d.val, hd⟩ q) else 0)
  else if 3 * H ≤ d.val - 128 ∧ d.val - 128 < 3 * H + 3 then 1 else 0

theorem pick_lt (a b : ℕ) (ha : a < 256) (hb : b < 256) (x y : EReal) :
    Scalar.select (IntOp.cmpi CmpIPredicate.slt (BitVec.ofNat 32 a) (BitVec.ofNat 32 b)) x y
      = if a < b then x else y := by
  rw [cmpi_slt_ofNat (by omega) (by omega), select_decide]

theorem pick_ge (a b : ℕ) (ha : a < 256) (hb : b < 256) (x y : EReal) :
    Scalar.select (IntOp.cmpi CmpIPredicate.sge (BitVec.ofNat 32 a) (BitVec.ofNat 32 b)) x y
      = if b ≤ a then x else y := by
  rw [cmpi_sge_ofNat (by omega) (by omega), select_decide]

theorem pick_band (a lo hi : ℕ) (lw hw : BitVec 32) (hl : lw = BitVec.ofNat 32 lo) (hh : hw = BitVec.ofNat 32 hi)
    (ha : a < 256) (h1 : lo < 256) (h2 : hi < 256) (x y : EReal) :
    Scalar.select (IntOp.andi (IntOp.cmpi CmpIPredicate.sge (BitVec.ofNat 32 a) lw)
        (IntOp.cmpi CmpIPredicate.slt (BitVec.ofNat 32 a) hw)) x y
      = if lo ≤ a ∧ a < hi then x else y := by
  subst hl hh
  rw [cmpi_sge_ofNat (by omega) (by omega), cmpi_slt_ofNat (by omega) (by omega),
    andi_ofBool, select_ofBool]
  simp only [Bool.and_eq_true, decide_eq_true_eq]

theorem coord (i : grid0.Coords) : (i 1).val = 0 ∨ (i 1).val = 1 := by
  have := (i 1).isLt
  change (i 1).val < 2 at this
  omega

theorem first_pair (i : grid0.Coords) (x : Vec Ideal S1x128x256 .bf16) (d : Fin 256) (j : Fin 512) :
    k0_pay22 (F := Ideal) (iota Kind.tc S128x256 32 [0] iota_S128x256_d0_w32) (k0_pay16 x) (k0_pay17 i x) k0_pay19
      (Scalar.muli (3#32) (Scalar.addi (Scalar.muli (2#32)
        (Scalar.addi (Scalar.muli (BitVec.ofNat 32 (i 1).val) 2#32) 0#32)) 1#32)) (k0_pay20 i) (ix2 d j)
    = lanes x (j.val / 256) (4 * (i 1).val + j.val / 256) d ⟨j.val % 256, by omega⟩ := by
  unfold lanes
  pointwise [k0_pay22, k0_pay16, k0_pay17, k0_pay19, k0_pay20]
  by_cases hj : j.val < 256
  · have e : j.val / 256 = 0 := by omega
    have e' : j.val % 256 = j.val := by omega
    rw [dif_pos hj]
    by_cases hd : d.val < 128
    · rw [dif_pos hd, dif_pos hd, pick_lt _ 64 (by omega) (by omega)]
      simp only [e, e']
      split_ifs <;> first | omega | rfl | rw [if_pos (by omega)] | rw [if_neg (by omega)]
    · rw [dif_neg hd, dif_neg hd]
      rcases coord i with hg | hg <;> rw [hg, e]
      · exact pick_band (d.val - 128) (3 * (4 * 0 + 0)) (3 * (4 * 0 + 0) + 3) _ _ rfl rfl (by omega) (by omega) (by omega) _ _
      · exact pick_band (d.val - 128) (3 * (4 * 1 + 0)) (3 * (4 * 1 + 0) + 3) _ _ rfl rfl (by omega) (by omega) (by omega) _ _
  · have e : j.val / 256 = 1 := by omega
    have e' : j.val % 256 = j.val - 256 := by omega
    rw [dif_neg hj]
    by_cases hd : d.val < 128
    · rw [dif_pos hd, dif_pos hd, pick_ge _ 64 (by omega) (by omega)]
      simp only [e, e']
      by_cases h64 : 64 ≤ d.val
      · rw [if_pos h64]
        exact (if_pos (by omega)).symm
      · rw [if_neg h64]
        exact (if_neg (by omega)).symm
    · rw [dif_neg hd, dif_neg hd]
      rcases coord i with hg | hg <;> rw [hg, e]
      · exact pick_band (d.val - 128) (3 * (4 * 0 + 1)) (3 * (4 * 0 + 1) + 3) _ _ rfl rfl (by omega) (by omega) (by omega) _ _
      · exact pick_band (d.val - 128) (3 * (4 * 1 + 1)) (3 * (4 * 1 + 1) + 3) _ _ rfl rfl (by omega) (by omega) (by omega) _ _

theorem second_pair (i : grid0.Coords) (x : Vec Ideal S1x128x256 .bf16) (d : Fin 256) (j : Fin 512) :
    k0_pay25 (F := Ideal) (BitVec.ofNat 32 (i 1).val) (iota Kind.tc S128x256 32 [0] iota_S128x256_d0_w32) (k0_pay23 x)
      (k0_pay24 (BitVec.ofNat 32 (i 1).val) (iota Kind.tc S128x256 32 [0] iota_S128x256_d0_w32) x) (ix2 d j)
    = lanes x (j.val / 256) (4 * (i 1).val + 2 + j.val / 256) d ⟨j.val % 256, by omega⟩ := by
  unfold lanes
  pointwise [k0_pay25, k0_pay23, k0_pay24]
  by_cases hj : j.val < 256
  · have e : j.val / 256 = 0 := by omega
    have e' : j.val % 256 = j.val := by omega
    rw [dif_pos hj]
    by_cases hd : d.val < 128
    · rw [dif_pos hd, dif_pos hd, pick_lt _ 64 (by omega) (by omega)]
      simp only [e, e']
      split_ifs <;> first | omega | rfl | rw [if_pos (by omega)] | rw [if_neg (by omega)]
    · rw [dif_neg hd, dif_neg hd]
      rcases coord i with hg | hg <;> rw [hg, e]
      · exact pick_band (d.val - 128) (3 * (4 * 0 + 2 + 0)) (3 * (4 * 0 + 2 + 0) + 3) _ _ rfl rfl (by omega) (by omega) (by omega) _ _
      · exact pick_band (d.val - 128) (3 * (4 * 1 + 2 + 0)) (3 * (4 * 1 + 2 + 0) + 3) _ _ rfl rfl (by omega) (by omega) (by omega) _ _
  · have e : j.val / 256 = 1 := by omega
    have e' : j.val % 256 = j.val - 256 := by omega
    rw [dif_neg hj]
    by_cases hd : d.val < 128
    · rw [dif_pos hd, dif_pos hd, pick_ge _ 64 (by omega) (by omega)]
      simp only [e, e']
      by_cases h64 : 64 ≤ d.val
      · rw [if_pos h64]
        exact (if_pos (by omega)).symm
      · rw [if_neg h64]
        exact (if_neg (by omega)).symm
    · rw [dif_neg hd, dif_neg hd]
      rcases coord i with hg | hg <;> rw [hg, e]
      · exact pick_band (d.val - 128) (3 * (4 * 0 + 2 + 1)) (3 * (4 * 0 + 2 + 1) + 3) _ _ rfl rfl (by omega) (by omega) (by omega) _ _
      · exact pick_band (d.val - 128) (3 * (4 * 1 + 2 + 1)) (3 * (4 * 1 + 2 + 1) + 3) _ _ rfl rfl (by omega) (by omega) (by omega) _ _

/-- Of the pair's 128 lanes only the head's own 64 count. -/
theorem own_half (A : Fin 128 → EReal) (x : Vec Ideal S1x128x256 .bf16) (h H : ℕ) (hh : h < 2) (q : Fin 256) :
    ∑ d : Fin 128, A d * lanes x h H ⟨d.val, by omega⟩ q
      = ∑ n : Fin 64, A ⟨64 * h + n.val, by omega⟩ * x (ix3 0 ⟨64 * h + n.val, by omega⟩ q) := by
  have e : ∀ d : Fin 128, A d * lanes x h H ⟨d.val, by omega⟩ q = if d.val / 64 = h then A d * x (ix3 0 d q) else 0 := by
    intro d
    rw [lanes, dif_pos d.isLt, mul_ite, mul_zero]
  simp only [e]
  rw [Fin.sum_univ_add (a := 64) (b := 64) (fun d : Fin (64 + 64) => if d.val / 64 = h then A d * x (ix3 0 d q) else 0)]
  have hc : h = 0 ∨ h = 1 := by omega
  rcases hc with rfl | rfl
  · rw [Finset.sum_eq_zero (s := Finset.univ) (f := fun n : Fin 64 => if (Fin.natAdd 64 n).val / 64 = 0 then _ else 0), add_zero]
    · refine Finset.sum_congr rfl fun n _ => ?_
      rw [if_pos (by rw [Fin.val_castAdd]; omega)]
      have : Fin.castAdd 64 n = (⟨64 * 0 + n.val, by omega⟩ : Fin 128) := Fin.ext (by simp)
      rw [this]
    · intro n _
      rw [if_neg (by rw [Fin.val_natAdd]; omega)]
  · rw [Finset.sum_eq_zero (s := Finset.univ) (f := fun n : Fin 64 => if (Fin.castAdd 64 n).val / 64 = 1 then _ else 0), zero_add]
    · refine Finset.sum_congr rfl fun n _ => ?_
      rw [if_pos (by rw [Fin.val_natAdd]; omega)]
      have : Fin.natAdd 64 n = (⟨64 * 1 + n.val, by omega⟩ : Fin 128) := Fin.ext (by simp; omega)
      rw [this]
    · intro n _
      rw [if_neg (by rw [Fin.val_castAdd]; omega)]

/-- The ones pick the head's three bias lanes. -/
theorem three_lanes (B : Fin 128 → EReal) (x : Vec Ideal S1x128x256 .bf16) (h H : ℕ) (hH : H < 8) (q : Fin 256) :
    ∑ e : Fin 128, B e * lanes x h H ⟨128 + e.val, by omega⟩ q
      = B ⟨3 * H, by omega⟩ + B ⟨3 * H + 1, by omega⟩ + B ⟨3 * H + 2, by omega⟩ := by
  have e : ∀ e : Fin 128, B e * lanes x h H ⟨128 + e.val, by omega⟩ q
      = (if e = ⟨3 * H, by omega⟩ then B e else 0) + (if e = ⟨3 * H + 1, by omega⟩ then B e else 0)
        + (if e = ⟨3 * H + 2, by omega⟩ then B e else 0) := by
    intro e
    rw [lanes, dif_neg (by dsimp only; omega), mul_ite, mul_zero, mul_one]
    simp only [Fin.ext_iff]
    split_ifs <;> first | omega | simp
  simp only [e]
  rw [Finset.sum_add_distrib, Finset.sum_add_distrib]
  simp only [Finset.sum_ite_eq', Finset.mem_univ, if_true]

/-- One block's scores, column by column: the head's product, and its bias. -/
theorem score_at (v50 v100 : FVec Ideal S256x512 .bf16) (b k1 k2 : Vec Ideal S1x256x128 .bf16)
    (x1 x2 : Vec Ideal S1x128x256 .bf16) (g : ℕ) (hg : g < 2)
    (h50 : ∀ (d : Fin 256) (j : Fin 512), v50 (ix2 d j) = lanes x1 (j.val / 256) (4 * g + j.val / 256) d ⟨j.val % 256, by omega⟩)
    (h100 : ∀ (d : Fin 256) (j : Fin 512), v100 (ix2 d j) = lanes x2 (j.val / 256) (4 * g + 2 + j.val / 256) d ⟨j.val % 256, by omega⟩)
    (κ : Fin 256) (K : Fin 256 → EReal) (X : Fin 256 → Fin 256 → EReal)
    (hk1 : ∀ d : Fin 128, k1 (ix3 0 κ d) = K ⟨d.val, by omega⟩)
    (hk2 : ∀ d : Fin 128, k2 (ix3 0 κ d) = K ⟨128 + d.val, by omega⟩)
    (hx1 : ∀ (d : Fin 128) (q : Fin 256), x1 (ix3 0 d q) = X ⟨d.val, by omega⟩ q)
    (hx2 : ∀ (d : Fin 128) (q : Fin 256), x2 (ix3 0 d q) = X ⟨128 + d.val, by omega⟩ q) (j : Fin 1024) :
    k0_pay2 (F := Ideal) v50 v100 b k1 k2 (ix2 κ j)
      = ∑ n : Fin 64, K ⟨64 * (j.val / 256) + n.val, by omega⟩
          * X ⟨64 * (j.val / 256) + n.val, by omega⟩ ⟨j.val % 256, by omega⟩
        + (b (ix3 0 κ ⟨3 * (4 * g + j.val / 256), by omega⟩) + b (ix3 0 κ ⟨3 * (4 * g + j.val / 256) + 1, by omega⟩)
          + b (ix3 0 κ ⟨3 * (4 * g + j.val / 256) + 2, by omega⟩)) := by
  pointwise [k0_pay2, h50, h100]
  by_cases hj : j.val < 512
  · rw [dif_pos hj, own_half (fun d => k1 (ix3 0 κ d)) _ _ _ (by omega), three_lanes (fun d => b (ix3 0 κ d)) _ _ _ (by omega)]
    simp only [hk1, hx1]
  · rw [dif_neg hj, own_half (fun d => k2 (ix3 0 κ d)) _ _ _ (by omega), three_lanes (fun d => b (ix3 0 κ d)) _ _ _ (by omega)]
    simp only [hk2, hx2]
    have key : ∀ (n n' : Fin 64 → Fin 256) (q q' : Fin 256) (u v w u' v' w' : Fin 128),
        (∀ x, (n x).val = (n' x).val) → q.val = q'.val → u.val = u'.val → v.val = v'.val → w.val = w'.val →
        ∑ x, K (n x) * X (n x) q + (b (ix3 0 κ u) + b (ix3 0 κ v) + b (ix3 0 κ w))
        = ∑ x, K (n' x) * X (n' x) q' + (b (ix3 0 κ u') + b (ix3 0 κ v') + b (ix3 0 κ w')) := by
      intro n n' q q' u v w u' v' w' h1 h2 h3 h4 h5
      rw [funext fun x => Fin.ext (h1 x), Fin.ext h2, Fin.ext h3, Fin.ext h4, Fin.ext h5]
    exact key (fun x => ⟨128 + (64 * ((j.val - 512) / 256) + x.val), by omega⟩)
      (fun x => ⟨64 * (j.val / 256) + x.val, by omega⟩) ⟨(j.val - 512) % 256, by omega⟩ ⟨j.val % 256, by omega⟩
      ⟨3 * (4 * g + 2 + (j.val - 512) / 256), by omega⟩ ⟨3 * (4 * g + 2 + (j.val - 512) / 256) + 1, by omega⟩
      ⟨3 * (4 * g + 2 + (j.val - 512) / 256) + 2, by omega⟩ ⟨3 * (4 * g + j.val / 256), by omega⟩
      ⟨3 * (4 * g + j.val / 256) + 1, by omega⟩ ⟨3 * (4 * g + j.val / 256) + 2, by omega⟩
      (fun x => by dsimp only; omega) (by dsimp only; omega) (by dsimp only; omega) (by dsimp only; omega)
      (by dsimp only; omega)

end Cert.FoxScore

end
-- ==== Proof.FoxTrip.lean ====
module

public import proofs.«01_k».proof.Proof.FoxStep
public import proofs.«01_k».proof.Proof.FoxScore

@[expose] public section

set_option maxRecDepth 16384

noncomputable section

/-!
# The loop over the blocks of keys

What the loop carries, one trip of it, and what the point stores, in the kernel's own terms; and
where its loads lie.
-/

namespace Cert.FoxTrip

open Cert.FoxIdeal Cert.FoxIdeal.Gen
open Idealize.ShloMosaic Idealize.ShloMosaic.TcCoe Idealize.SL.Sem
open Idealize.ShloMosaic.Pipeline (Dat)

variable (m : (ℓ : Loc nD τ sig) → Buf (Elt Ideal) ℓ) (c : Dev nD) (t : Fin cfg0.N)

/-- The queries of the first two heads of the point. -/
def qa : Vec Ideal S1x128x256 .bf16 :=
  View.ld (iblk m c 0 t) (Rect.unit ![0, 0, 0] ![1, 128, 256] inb_S1x256x256_S1x128x256_0_0_0)

/-- The queries of the last two heads of the point. -/
def qb : Vec Ideal S1x128x256 .bf16 :=
  View.ld (iblk m c 0 t) (Rect.unit ![0, 128, 0] ![1, 128, 256] inb_S1x256x256_S1x128x256_0_128_0)

/-- The columns of the first two heads: queries over ones at their bias lanes. -/
def va : FVec Ideal S256x512 .bf16 :=
  k0_pay22 (iota Kind.tc S128x256 32 [0] iota_S128x256_d0_w32) (k0_pay16 (qa m c t))
    (k0_pay17 (grid0.coords t) (qa m c t)) k0_pay19
    (Scalar.muli (3#32) (Scalar.addi (Scalar.muli (2#32)
      (Scalar.addi (Scalar.muli (BitVec.ofNat 32 (grid0.coords t 1).val) 2#32) 0#32)) 1#32)) (k0_pay20 (grid0.coords t))

/-- The columns of the last two heads. -/
def vb : FVec Ideal S256x512 .bf16 :=
  k0_pay25 (BitVec.ofNat 32 (grid0.coords t 1).val) (iota Kind.tc S128x256 32 [0] iota_S128x256_d0_w32) (k0_pay23 (qb m c t))
    (k0_pay24 (BitVec.ofNat 32 (grid0.coords t 1).val) (iota Kind.tc S128x256 32 [0] iota_S128x256_d0_w32) (qb m c t))

/-- The queries' sums of forget gates, one row over all columns. -/
def vf : FVec Ideal S1x1024 .f32 :=
  k0_pay26 (k0_pay18 (View.ld (iblk m c 4 t) (Rect.unit (k0_off1 (grid0.coords t) 0#32 0#32) ![1, 1, 256] (Facts₀.k0_off1_inb _ 0 0))))
    (k0_pay21 (View.ld (iblk m c 4 t) (Rect.unit (k0_off1 (grid0.coords t) 0#32 1#32) ![1, 1, 256] (Facts₀.k0_off1_inb _ 0 1))))
    (View.ld (iblk m c 4 t) (Rect.unit (k0_off1 (grid0.coords t) 1#32 0#32) ![1, 1, 256] (Facts₀.k0_off1_inb _ 1 0)))
    (View.ld (iblk m c 4 t) (Rect.unit (k0_off1 (grid0.coords t) 1#32 1#32) ![1, 1, 256] (Facts₀.k0_off1_inb _ 1 1)))

/-- What the loop carries before trip `n`: the scores of block `n`, and the columns' running maxima,
    denominators and numerators. -/
def carried (n : ℕ) : FVec Ideal S256x1024 .f32 × FVec Ideal S1x1024 .f32 × FVec Ideal S1x1024 .f32 × FVec Ideal S64x1024 .f32 :=
  st_k0_t1 (F := Ideal) Variants.none c none (grid0.coords t) (ms0_0 t) (hs0_0 t) (ms0_1 t) (hs0_1 t) (ms0_2 t) (hs0_2 t)
    (ms0_3 t) (hs0_3 t) (ms0_4 t) (hs0_4 t) (ms0_5 t) (hs0_5 t) (BitVec.ofNat 32 (grid0.coords t 2).val)
    (va m c t) (vb m c t) (vf m c t) k0_pay27 k0_pay28 k0_pay29 0#32
    (k0_pay30 (View.ld (iblk m c 2 t) (Rect.unit ![0, 0, 0] ![1, 256, 128] inb_S1x4096x128_S1x256x128_0_0_0)))
    (k0_pay31 (va m c t) (View.ld (iblk m c 2 t) (Rect.unit ![0, 0, 0] ![1, 256, 128] inb_S1x4096x128_S1x256x128_0_0_0))
      (View.ld (iblk m c 1 t) (Rect.unit ![0, 0, 0] ![1, 256, 128] inb_S1x4096x256_S1x256x128_0_0_0)))
    ((hs0_1 t).unread (iblk m c 1 t)) ((hs0_2 t).unread (iblk m c 2 t)) ((hs0_3 t).unread (iblk m c 3 t))
    (k0_pay2 (va m c t) (vb m c t)
      (View.ld (iblk m c 2 t) (Rect.unit ![0, 0, 0] ![1, 256, 128] inb_S1x4096x128_S1x256x128_0_0_0))
      (View.ld (iblk m c 1 t) (Rect.unit ![0, 0, 0] ![1, 256, 128] inb_S1x4096x256_S1x256x128_0_0_0))
      (View.ld (iblk m c 1 t) (Rect.unit ![0, 0, 128] ![1, 256, 128] inb_S1x4096x256_S1x256x128_0_0_128)),
     k0_pay27, k0_pay28, k0_pay29) n

theorem carried_zero : carried m c t 0 = (k0_pay2 (va m c t) (vb m c t)
      (View.ld (iblk m c 2 t) (Rect.unit ![0, 0, 0] ![1, 256, 128] inb_S1x4096x128_S1x256x128_0_0_0))
      (View.ld (iblk m c 1 t) (Rect.unit ![0, 0, 0] ![1, 256, 128] inb_S1x4096x256_S1x256x128_0_0_0))
      (View.ld (iblk m c 1 t) (Rect.unit ![0, 0, 128] ![1, 256, 128] inb_S1x4096x256_S1x256x128_0_0_128)),
     k0_pay27, k0_pay28, k0_pay29) := by
  unfold carried
  exact st_k0_t1_zero ..

theorem carried_succ (k : Fin (k0_t1_loop (grid0.coords t)).trips) : carried m c t (k.val + 1) =
    (k0_pay2 (va m c t) (vb m c t)
      (View.ld (iblk m c 2 t) (Rect.unit (k0_off2 (grid0.coords t) k) ![1, 256, 128] (Facts₀.k0_off2_inb _ k)))
      (View.ld (iblk m c 1 t) (Rect.unit (k0_off3 (grid0.coords t) k) ![1, 256, 128] (Facts₀.k0_off3_inb _ k)))
      (View.ld (iblk m c 1 t) (Rect.unit (k0_off4 (grid0.coords t) k) ![1, 256, 128] (Facts₀.k0_off4_inb _ k))),
     k0_pay3 (vf m c t) (carried m c t k.val).1 (carried m c t k.val).2.1,
     k0_pay33 (carried m c t k.val).2.2.1 (k0_pay4 (vf m c t) (carried m c t k.val).1 (carried m c t k.val).2.1)
      (k0_pay5 (vf m c t) (carried m c t k.val).1 (carried m c t k.val).2.1),
     k0_pay34 (carried m c t k.val).2.2.2 (k0_pay5 (vf m c t) (carried m c t k.val).1 (carried m c t k.val).2.1)
      (k0_pay6 (vf m c t) (carried m c t k.val).1 (carried m c t k.val).2.1)
      (k0_pay7 (vf m c t) (carried m c t k.val).1 (carried m c t k.val).2.1
        (View.ld (iblk m c 3 t) (Rect.unit (k0_off5 (grid0.coords t) k) ![1, 1, 64, 256] (Facts₀.k0_off5_inb _ k))))
      (k0_pay8 (vf m c t) (carried m c t k.val).1 (carried m c t k.val).2.1
        (View.ld (iblk m c 3 t) (Rect.unit (k0_off6 (grid0.coords t) k) ![1, 1, 64, 256] (Facts₀.k0_off6_inb _ k))))
      (View.ld (iblk m c 3 t) (Rect.unit (k0_off7 (grid0.coords t) k) ![1, 1, 64, 256] (Facts₀.k0_off7_inb _ k)))
      (View.ld (iblk m c 3 t) (Rect.unit (k0_off8 (grid0.coords t) k) ![1, 1, 64, 256] (Facts₀.k0_off8_inb _ k)))) := by
  unfold carried
  rw [st_k0_t1_succ]
  generalize st_k0_t1 (F := Ideal) _ _ _ _ _ _ _ _ _ _ _ _ _ _ _ _ _ _ _ _ _ _ _ _ _ _ _ _ _ _ k.val = S
  unfold tripR_k0_t1 trip_k0_t1
  frame_out
  rfl

theorem trips_one : ∀ t : Fin cfg0.N, (k0_t1_loop (grid0.coords t)).trips = (grid0.coords t 2).val := by
  decide +kernel

theorem trips_two : ∀ t : Fin cfg0.N, (k0_t2_loop (grid0.coords t)).trips = 0 := by
  decide +kernel

theorem stored : outsAt0 m c t = k0_pay1 (carried m c t (grid0.coords t 2).val).2.2.1 (carried m c t (grid0.coords t 2).val).2.2.2
    (k0_pay39 (vf m c t) (carried m c t (grid0.coords t 2).val).1 (carried m c t (grid0.coords t 2).val).2.1)
    (k0_pay40 (vf m c t) (carried m c t (grid0.coords t 2).val).1 (carried m c t (grid0.coords t 2).val).2.1)
    (k0_pay41 (vf m c t) (carried m c t (grid0.coords t 2).val).1 (carried m c t (grid0.coords t 2).val).2.1)
    (k0_pay42 (vf m c t) (carried m c t (grid0.coords t 2).val).1 (carried m c t (grid0.coords t 2).val).2.1
      (View.ld (iblk m c 3 t) (Rect.unit (k0_off16 (grid0.coords t)) ![1, 1, 64, 256] (Facts₀.k0_off16_inb _))))
    (k0_pay43 (vf m c t) (carried m c t (grid0.coords t 2).val).1 (carried m c t (grid0.coords t 2).val).2.1
      (View.ld (iblk m c 3 t) (Rect.unit (k0_off17 (grid0.coords t)) ![1, 1, 64, 256] (Facts₀.k0_off17_inb _))))
    (View.ld (iblk m c 3 t) (Rect.unit (k0_off18 (grid0.coords t)) ![1, 1, 64, 256] (Facts₀.k0_off18_inb _)))
    (View.ld (iblk m c 3 t) (Rect.unit (k0_off19 (grid0.coords t)) ![1, 1, 64, 256] (Facts₀.k0_off19_inb _))) := by
  have h1 := trips_one t
  have h2 := trips_two t
  unfold outsAt0
  frame_out
  simp only [Scf.Loop.trips] at h1 h2
  rw [h1, h2]
  rw [st_k0_t2_zero]
  rfl

end Cert.FoxTrip

end
-- ==== Proof.FoxLoads.lean ====
module

public import proofs.«01_k».proof.Proof.FoxReads
public import proofs.«01_k».proof.Proof.FoxTrip

@[expose] public section

set_option maxRecDepth 16384

noncomputable section

/-!
# What the loads of the forgetting attention give

Each load of a window's block, entry by entry, in terms of the queries, keys, values and sums of forget gates.
-/

namespace Cert.FoxLoads

open Cert.FoxIdeal Cert.FoxIdeal.Gen Cert.FoxReads Cert.FoxTrip
open Idealize.ShloMosaic Idealize.ShloMosaic.TcCoe Idealize.SL.Sem
open Idealize.ShloMosaic.Pipeline (Dat)

/-- A load of rows and lanes of a three-axis block. -/
theorem ld3 {A B p q : ℕ} {e : EltTy} (x : (⟨3, ![1, A, B]⟩ : Shape).Idx → Elt Ideal e) (off : Fin 3 → ℕ)
    (h : ∀ a, off a + (![1, p, q] : Fin 3 → ℕ) a ≤ (![1, A, B] : Fin 3 → ℕ) a) (o1 o2 : ℕ) (ho : off = ![0, o1, o2]) (i : Fin p) (j : Fin q)
    (i' : Fin A) (j' : Fin B) (hi : i'.val = o1 + i.val) (hj : j'.val = o2 + j.val) :
    View.ld x (Rect.unit (s := ⟨3, ![1, A, B]⟩) off ![1, p, q] h) (ix3 0 i j) = x (ix3 0 i' j') := by
  subst ho
  refine View.ld_unit_apply_of _ _ _ _ _ _ fun a => ?_
  fin_cases a
  · rfl
  · exact hi
  · exact hj

/-- A load of one slab's rows of a four-axis block. -/
theorem ld4 {N A B p q : ℕ} {e : EltTy} (x : (⟨4, ![1, N, A, B]⟩ : Shape).Idx → Elt Ideal e) (off : Fin 4 → ℕ)
    (h : ∀ a, off a + (![1, 1, p, q] : Fin 4 → ℕ) a ≤ (![1, N, A, B] : Fin 4 → ℕ) a) (o0 o1 : ℕ) (ho : off = ![0, o0, o1, 0]) (i : Fin p) (j : Fin q)
    (n : Fin N) (i' : Fin A) (j' : Fin B) (hn : n.val = o0) (hi : i'.val = o1 + i.val) (hj : j'.val = j.val) :
    View.ld x (Rect.unit (s := ⟨4, ![1, N, A, B]⟩) off ![1, 1, p, q] h) (ix4 0 0 i j) = x (ix4 0 n i' j') := by
  subst ho
  refine View.ld_unit_apply_of _ _ _ _ _ _ fun a => ?_
  fin_cases a
  · rfl
  · simpa using hn
  · exact hi
  · simpa using hj

theorem off_loop : ∀ t : Fin cfg0.N, ∀ k : Fin (k0_t1_loop (grid0.coords t)).trips,
    k0_off2 (grid0.coords t) k = ![0, 256 * (k.val + 1), 0] ∧ k0_off3 (grid0.coords t) k = ![0, 256 * (k.val + 1), 0]
    ∧ k0_off4 (grid0.coords t) k = ![0, 256 * (k.val + 1), 128] ∧ k0_off5 (grid0.coords t) k = ![0, k.val, 0, 0]
    ∧ k0_off6 (grid0.coords t) k = ![0, k.val, 64, 0] ∧ k0_off7 (grid0.coords t) k = ![0, k.val, 128, 0]
    ∧ k0_off8 (grid0.coords t) k = ![0, k.val, 192, 0] := by decide +kernel

theorem off_last : ∀ t : Fin cfg0.N, k0_off16 (grid0.coords t) = ![0, qi t, 0, 0] ∧ k0_off17 (grid0.coords t) = ![0, qi t, 64, 0]
    ∧ k0_off18 (grid0.coords t) = ![0, qi t, 128, 0] ∧ k0_off19 (grid0.coords t) = ![0, qi t, 192, 0] := by decide +kernel

theorem off_row : ∀ t : Fin cfg0.N, k0_off1 (grid0.coords t) 0#32 0#32 = ![0, 4 * hg t, 0] ∧ k0_off1 (grid0.coords t) 0#32 1#32 = ![0, 4 * hg t + 1, 0]
    ∧ k0_off1 (grid0.coords t) 1#32 0#32 = ![0, 4 * hg t + 2, 0] ∧ k0_off1 (grid0.coords t) 1#32 1#32 = ![0, 4 * hg t + 3, 0] := by decide +kernel

variable (m : (ℓ : Loc nD τ sig) → Buf (Elt Ideal) ℓ) (c : Dev nD) (t : Fin cfg0.N)

/-- The queries, keys, values and sums of forget gates, as numbers. -/
def q (b : Fin 4) (i : Fin 4096) (h : Fin 8) (n : Fin 64) : EReal := m ((c : Thread nD τ).loc main_arg0) (ix4 b i h n)
def k (b : Fin 4) (i : Fin 4096) (h : Fin 8) (n : Fin 64) : EReal := m ((c : Thread nD τ).loc main_arg1) (ix4 b i h n)
def v (b : Fin 4) (i : Fin 4096) (h : Fin 8) (n : Fin 64) : EReal := m ((c : Thread nD τ).loc main_arg2) (ix4 b i h n)
def F (b : Fin 4) (i : Fin 4096) (h : Fin 8) : EReal := m ((c : Thread nD τ).loc main_arg3) (ix3 b i h)

/-- The point's batch, and its column's head and query. -/
abbrev bb : Fin 4 := ⟨bt t, (bounds t).1⟩
abbrev head (j : ℕ) (hj : j < 4) : Fin 8 := ⟨4 * hg t + j, by have := bounds t; omega⟩
abbrev query (i : Fin 256) : Fin 4096 := ⟨256 * qi t + i.val, by have := bounds t; omega⟩

theorem blk0 (w : Fin 256) (i : Fin 256) : (iblk m c 0 t (ix3 0 w i) : EReal)
    = q m c (bb t) (query t i) (head t (w.val / 64) (by omega)) ⟨w.val % 64, by omega⟩ * Ideal.ofBits .f32 0x3E000000#32 := by
  refine (place0 t (V m c main_v4) w i).trans ((cell4 m c _ _ _).trans ?_)
  refine congrArg (· * _) (congrArg (m ((c : Thread nD τ).loc main_arg0)) (ix4_congr rfl rfl (Fin.ext ?_) (Fin.ext ?_))) <;> simp only <;> omega

theorem blk1 (i : Fin 4096) (l : Fin 256) : (iblk m c 1 t (ix3 0 i l) : EReal)
    = k m c (bb t) i (head t (l.val / 64) (by omega)) ⟨l.val % 64, by omega⟩ := by
  refine (place1 t (V m c main_v6) i l).trans ((cell6 m c _ _ _).trans ?_)
  refine congrArg (m ((c : Thread nD τ).loc main_arg1)) (ix4_congr rfl rfl (Fin.ext ?_) (Fin.ext ?_)) <;> simp only <;> omega

theorem blk2 (i : Fin 4096) (h : Fin 8) (n : Fin 3) : (iblk m c 2 t (ix3 0 i ⟨3 * h.val + n.val, by omega⟩) : EReal)
    = if n = 0 then minus m c (ix3 (bb t) i h) else if n = 1 then rest1 m c (ix3 (bb t) i h) else rest2 m c (ix3 (bb t) i h) :=
  (place2 t (V m c main_v23) i _).trans (cell23 m c _ _ _ _)

theorem blk3 (n : Fin 16) (l : Fin 256) (i : Fin 256) : (iblk m c 3 t (ix4 0 n l i) : EReal)
    = v m c (bb t) ⟨256 * n.val + i.val, by omega⟩ (head t (l.val / 64) (by omega)) ⟨l.val % 64, by omega⟩ := by
  refine (place3 t (V m c main_v9) n l i).trans ((cell9 m c _ _ _ _).trans ?_)
  refine congrArg (m ((c : Thread nD τ).loc main_arg2)) (ix4_congr rfl rfl (Fin.ext ?_) (Fin.ext ?_)) <;> simp only <;> omega

theorem blk4 (h : Fin 8) (i : Fin 256) : (iblk m c 4 t (ix3 0 h i) : EReal) = F m c (bb t) (query t i) h :=
  (place4 t (V m c main_v24) h i).trans (cell24 m c _ _ _)

/-- An entry of the biases' block, as a number. -/
def lane (i : Fin 4096) (l : Fin 128) : EReal := iblk m c 2 t (ix3 0 i l)

/-- The three lanes of a head's bias add up to the sum with its sign turned, where that is a real number. -/
theorem bias (i : Fin 4096) (h : Fin 8) (r : ℝ) (hr : F m c (bb t) i h = (r : EReal)) :
    lane m c t i ⟨3 * h.val, by omega⟩ + lane m c t i ⟨3 * h.val + 1, by omega⟩ + lane m c t i ⟨3 * h.val + 2, by omega⟩ = ((-r : ℝ) : EReal) := by
  have h0 := blk2 m c t i h 0
  have h1 := blk2 m c t i h 1
  have h2 := blk2 m c t i h 2
  have e0 : (minus m c (ix3 (bb t) i h) : EReal) = ((-r : ℝ) : EReal) := by
    have : (minus m c (ix3 (bb t) i h) : EReal) = - F m c (bb t) i h := rfl
    rw [this, hr]; rfl
  have e1 : (rest1 m c (ix3 (bb t) i h) : EReal) = ((0 : ℝ) : EReal) := by
    have : (rest1 m c (ix3 (bb t) i h) : EReal) = minus m c (ix3 (bb t) i h) - minus m c (ix3 (bb t) i h) := rfl
    rw [this, e0, ← EReal.coe_sub, sub_self]
  have e2 : (rest2 m c (ix3 (bb t) i h) : EReal) = ((0 : ℝ) : EReal) := by
    have : (rest2 m c (ix3 (bb t) i h) : EReal) = rest1 m c (ix3 (bb t) i h) - rest1 m c (ix3 (bb t) i h) := rfl
    rw [this, e1, ← EReal.coe_sub, sub_self]
  have l0 : lane m c t i ⟨3 * h.val, by omega⟩ = ((-r : ℝ) : EReal) := h0.trans e0
  have l1 : lane m c t i ⟨3 * h.val + 1, by omega⟩ = ((0 : ℝ) : EReal) := h1.trans e1
  have l2 : lane m c t i ⟨3 * h.val + 2, by omega⟩ = ((0 : ℝ) : EReal) := h2.trans e2
  rw [l0, l1, l2, EReal.coe_zero, add_zero, add_zero]

/-- The row of the queries' sums, by column. -/
theorem vf_at (j : Fin 1024) : (vf m c t (ix2 0 j) : EReal)
    = F m c (bb t) (query t ⟨j.val % 256, by omega⟩) (head t (j.val / 256) (by omega)) := by
  have key : ∀ (off : Fin 3 → ℕ) (h) (n : ℕ) (hn : n < 4) (_ : off = ![0, 4 * hg t + n, 0]) (i : Fin 256),
      (View.ld (iblk m c 4 t) (Rect.unit off ![1, 1, 256] h) (ix3 0 0 i) : EReal) = F m c (bb t) (query t i) (head t n hn) := by
    intro off h n hn ho i
    exact (ld3 (iblk m c 4 t) off h _ _ ho 0 i (head t n hn) i rfl (by omega)).trans (blk4 m c t _ _)
  obtain ⟨o0, o1, o2, o3⟩ := off_row t
  have gen : ∀ (a b d e : Vec Ideal S1x1x256 .f32), (k0_pay26 (F := Ideal) (k0_pay18 a) (k0_pay21 b) d e (ix2 0 j) : EReal)
      = if h : j.val < 256 then a (ix3 0 0 ⟨j.val, h⟩) else if h : j.val - 256 < 256 then b (ix3 0 0 ⟨j.val - 256, h⟩)
        else if h : j.val - 256 - 256 < 256 then d (ix3 0 0 ⟨j.val - 256 - 256, h⟩)
        else e (ix3 0 0 ⟨j.val - 256 - 256 - 256, by omega⟩) := by
    intro a b d e
    pointwise [k0_pay26, k0_pay18, k0_pay21]
  have same : ∀ (i i' : Fin 256) (n n' : ℕ) (hn : n < 4) (hn' : n' < 4), i.val = i'.val → n = n' →
      F m c (bb t) (query t i) (head t n hn) = F m c (bb t) (query t i') (head t n' hn') := by
    intro i i' n n' hn hn' e1 e2
    obtain rfl := Fin.ext e1
    subst e2
    rfl
  refine (gen _ _ _ _).trans ?_
  by_cases h1 : j.val < 256
  · rw [dif_pos h1]
    exact (key _ _ 0 (by omega) o0 _).trans (same _ _ _ _ _ _ (by dsimp only; omega) (by omega))
  by_cases h2 : j.val - 256 < 256
  · rw [dif_neg h1, dif_pos h2]
    exact (key _ _ 1 (by omega) o1 _).trans (same _ _ _ _ _ _ (by dsimp only; omega) (by omega))
  by_cases h3 : j.val - 256 - 256 < 256
  · rw [dif_neg h1, dif_neg h2, dif_pos h3]
    exact (key _ _ 2 (by omega) o2 _).trans (same _ _ _ _ _ _ (by dsimp only; omega) (by omega))
  · rw [dif_neg h1, dif_neg h2, dif_neg h3]
    exact (key _ _ 3 (by omega) o3 _).trans (same _ _ _ _ _ _ (by dsimp only; omega) (by omega))

end Cert.FoxLoads

end
-- ==== Proof.FoxLoop.lean ====
module

public import proofs.«01_k».proof.Proof.FoxLoads

@[expose] public section

set_option maxRecDepth 16384

noncomputable section

/-!
# The running softmax over the blocks of keys

By induction on the trips: what the loop carries are the maximum, the sum of the keys' weights and their weighted
values, and the point stores the quotient of the last two.
-/

namespace Cert.FoxLoop

open Cert.FoxIdeal Cert.FoxIdeal.Gen Cert.FoxReads Cert.FoxTrip Cert.FoxLoads Cert.FoxStep Cert.FoxMath
open Idealize.ShloMosaic Idealize.ShloMosaic.TcCoe Idealize.SL.Sem

/-! ## One block, whatever its scores -/

section block
variable (f : FVec Ideal S1x1024 .f32) (T : FVec Ideal S256x1024 .f32) (M l : FVec Ideal S1x1024 .f32) (acc : FVec Ideal S64x1024 .f32)
  (y5 y6 y7 y8 : Vec Ideal S1x1x64x256 .bf16) (Y : Fin 256 → Fin 256 → EReal)

theorem block_den (j : Fin 1024) : k0_pay33 (F := Ideal) l (k0_pay4 f T M) (k0_pay5 f T M) (ix2 0 j)
    = Ideal.exp (M (ix2 0 j) - top f T M j) * l (ix2 0 j) + ∑ x : Fin 256, Ideal.exp (T (ix2 x j) + (f (ix2 0 j) - top f T M j)) := by
  rw [pay33_at, pay5_at]
  simp only [pay4_at]

theorem block_num (h5 : ∀ (d : Fin 64) (x : Fin 256), y5 (ix4 0 0 d x) = Y ⟨d.val, by omega⟩ x)
    (h6 : ∀ (d : Fin 64) (x : Fin 256), y6 (ix4 0 0 d x) = Y ⟨64 + d.val, by omega⟩ x)
    (h7 : ∀ (d : Fin 64) (x : Fin 256), y7 (ix4 0 0 d x) = Y ⟨128 + d.val, by omega⟩ x)
    (h8 : ∀ (d : Fin 64) (x : Fin 256), y8 (ix4 0 0 d x) = Y ⟨192 + d.val, by omega⟩ x) (d : Fin 64) (j : Fin 1024) :
    k0_pay34 (F := Ideal) acc (k0_pay5 f T M) (k0_pay6 f T M) (k0_pay7 f T M y5) (k0_pay8 f T M y6) y7 y8 (ix2 d j)
    = Ideal.exp (M (ix2 0 j) - top f T M j) * acc (ix2 d j)
      + ∑ x : Fin 256, Y ⟨64 * (j.val / 256) + d.val, by omega⟩ x * Ideal.exp (T (ix2 x j) + (f (ix2 0 j) - top f T M j)) := by
  rw [pay34_at acc _ _ _ _ y7 y8 Y (fun d j => by rw [pay7_at]; simp only [h5]) (fun d j => by rw [pay8_at]; simp only [h6]) h7 h8,
    pay5_at]
  simp only [pay6_at]

theorem block_out (h5 : ∀ (d : Fin 64) (x : Fin 256), y5 (ix4 0 0 d x) = Y ⟨d.val, by omega⟩ x)
    (h6 : ∀ (d : Fin 64) (x : Fin 256), y6 (ix4 0 0 d x) = Y ⟨64 + d.val, by omega⟩ x)
    (h7 : ∀ (d : Fin 64) (x : Fin 256), y7 (ix4 0 0 d x) = Y ⟨128 + d.val, by omega⟩ x)
    (h8 : ∀ (d : Fin 64) (x : Fin 256), y8 (ix4 0 0 d x) = Y ⟨192 + d.val, by omega⟩ x) (r o : Fin 256) (j : Fin 1024)
    (hj : j.val = 256 * (o.val / 64) + r.val) (d : Fin 64) (hd : d.val = o.val % 64) :
    k0_pay1 (F := Ideal) l acc (k0_pay4 f T M) (k0_pay5 f T M) (k0_pay6 f T M) (k0_pay7 f T M y5) (k0_pay8 f T M y6) y7 y8 (ix3 0 r o)
    = Ideal.div (Ideal.exp (M (ix2 0 j) - top f T M j) * acc (ix2 d j)
        + ∑ x : Fin 256, Y o x * Ideal.exp (T (ix2 x j) + (f (ix2 0 j) - top f T M j)))
      (Ideal.exp (M (ix2 0 j) - top f T M j) * l (ix2 0 j) + ∑ x : Fin 256, Ideal.exp (T (ix2 x j) + (f (ix2 0 j) - top f T M j))) := by
  obtain ⟨j, hjb⟩ := j
  obtain ⟨d, hdb⟩ := d
  obtain rfl : j = 256 * (o.val / 64) + r.val := hj
  obtain rfl : d = o.val % 64 := hd
  rw [pay1_at l acc _ _ _ _ _ y7 y8 Y (fun d j => by rw [pay7_at]; simp only [h5]) (fun d j => by rw [pay8_at]; simp only [h6]) h7 h8,
    pay5_at]
  simp only [pay6_at, pay4_at]

end block

/-! ## The blocks of this point -/

variable (m : (ℓ : Loc nD τ sig) → Buf (Elt Ideal) ℓ) (c : Dev nD) (t : Fin cfg0.N)
variable (qr kr : Fin 4 → Fin 4096 → Fin 8 → Fin 64 → ℝ) (fr : Fin 4 → Fin 4096 → Fin 8 → ℝ) (E : ℝ)

/-- Key `κ` of block `n`. -/
def key (n : ℕ) (κ : Fin 256) : Fin 4096 := ⟨(256 * n + κ.val) % 4096, by omega⟩

theorem key_val (n : ℕ) (hn : n < 16) (κ : Fin 256) : (key n κ).val = 256 * n + κ.val := by
  unfold key; dsimp only; omega

/-- A column's head and query. -/
abbrev hd (j : Fin 1024) : Fin 8 := head t (j.val / 256) (by omega)
abbrev qy (j : Fin 1024) : Fin 4096 := query t ⟨j.val % 256, by omega⟩

/-- The score of key `i` for column `j`, but for the query's own sum. -/
def sc (i : Fin 4096) (j : Fin 1024) : ℝ :=
  ∑ n, kr (bb t) i (hd t j) n * (qr (bb t) (qy t j) (hd t j) n * E) + -fr (bb t) i (hd t j)

/-- The weight of key `i` for column `j`. -/
def wt (i : Fin 4096) (j : Fin 1024) : ℝ := Real.exp (sc t qr kr fr E i j + fr (bb t) (qy t j) (hd t j))

/-- The values of the point's four heads, lane by lane. -/
def vl (n : ℕ) (l : Fin 256) (x : Fin 256) : EReal :=
  v m c (bb t) (key n x) (head t (l.val / 64) (by omega)) ⟨l.val % 64, by omega⟩

theorem vals (n : ℕ) (hn : n < 16) (o : ℕ) (off : Fin 4 → ℕ) (h) (ho : off = ![0, n, o, 0]) (hb : o + 64 ≤ 256) (d : Fin 64) (x : Fin 256) :
    (View.ld (iblk m c 3 t) (Rect.unit off ![1, 1, 64, 256] h) (ix4 0 0 d x) : EReal) = vl m c t n ⟨o + d.val, by omega⟩ x := by
  refine (ld4 (iblk m c 3 t) off h n o ho d x ⟨n, hn⟩ ⟨o + d.val, by omega⟩ x rfl rfl rfl).trans ((blk3 m c t _ _ _).trans ?_)
  unfold vl
  have : (⟨256 * n + x.val, by omega⟩ : Fin 4096) = key n x := Fin.ext (key_val n hn x).symm
  exact congrArg (fun i => v m c (bb t) i _ _) this

variable (hq : ∀ b i h n, q m c b i h n = (qr b i h n : EReal)) (hk : ∀ b i h n, k m c b i h n = (kr b i h n : EReal))
  (hf : ∀ b i h, F m c b i h = (fr b i h : EReal)) (hE : Ideal.ofBits .f32 0x3E000000#32 = (E : EReal))

include hq hk hf hE in
/-- The scores of block `n`, as the loop computes them. -/
theorem block_score (n : ℕ) (hn : n < 16) (off off' off'' : Fin 3 → ℕ) (h h' h'') (ho : off = ![0, 256 * n, 0]) (ho' : off' = ![0, 256 * n, 0])
    (ho'' : off'' = ![0, 256 * n, 128]) (κ : Fin 256) (j : Fin 1024) :
    k0_pay2 (F := Ideal) (va m c t) (vb m c t) (View.ld (iblk m c 2 t) (Rect.unit off ![1, 256, 128] h))
      (View.ld (iblk m c 1 t) (Rect.unit off' ![1, 256, 128] h')) (View.ld (iblk m c 1 t) (Rect.unit off'' ![1, 256, 128] h'')) (ix2 κ j)
    = (sc t qr kr fr E (key n κ) j : EReal) := by
  have hv := key_val n hn κ
  refine (FoxScore.score_at _ _ _ _ _ (qa m c t) (qb m c t) (hg t) (bounds t).2.1 (fun d j => FoxScore.first_pair _ _ d j)
    (fun d j => FoxScore.second_pair _ _ d j) κ
    (fun d => k m c (bb t) (key n κ) (head t (d.val / 64) (by omega)) ⟨d.val % 64, by omega⟩)
    (fun d i => q m c (bb t) (query t i) (head t (d.val / 64) (by omega)) ⟨d.val % 64, by omega⟩ * Ideal.ofBits .f32 0x3E000000#32)
    (fun d => (ld3 (iblk m c 1 t) _ h' _ _ ho' κ d (key n κ) ⟨d.val, by omega⟩ hv (Nat.zero_add _).symm).trans (blk1 m c t _ _))
    (fun d => (ld3 (iblk m c 1 t) _ h'' _ _ ho'' κ d (key n κ) ⟨128 + d.val, by omega⟩ hv rfl).trans (blk1 m c t _ _))
    (fun d i => (ld3 (iblk m c 0 t) _ inb_S1x256x256_S1x128x256_0_0_0 0 0 rfl d i ⟨d.val, by omega⟩ i (Nat.zero_add _).symm (Nat.zero_add _).symm).trans (blk0 m c t _ _))
    (fun d i => (ld3 (iblk m c 0 t) _ inb_S1x256x256_S1x128x256_0_128_0 128 0 rfl d i ⟨128 + d.val, by omega⟩ i rfl (Nat.zero_add _).symm).trans (blk0 m c t _ _)) j).trans ?_
  have hb : ∀ l l' : Fin 128, l'.val = l.val → (View.ld (iblk m c 2 t) (Rect.unit off ![1, 256, 128] h) (ix3 0 κ l) : EReal) = lane m c t (key n κ) l' :=
    fun l l' e => ld3 (iblk m c 2 t) _ h _ _ ho κ l (key n κ) l' hv (by omega)
  have hs := bias m c t (key n κ) (hd t j) _ (hf _ _ _)
  have e : ∀ x : Fin 64, k m c (bb t) (key n κ) (head t ((64 * (j.val / 256) + x.val) / 64) (by omega)) ⟨(64 * (j.val / 256) + x.val) % 64, by omega⟩
      * (q m c (bb t) (qy t j) (head t ((64 * (j.val / 256) + x.val) / 64) (by omega)) ⟨(64 * (j.val / 256) + x.val) % 64, by omega⟩ * Ideal.ofBits .f32 0x3E000000#32)
      = ((kr (bb t) (key n κ) (hd t j) x * (qr (bb t) (qy t j) (hd t j) x * E) : ℝ) : EReal) := by
    intro x
    have e1 : head t ((64 * (j.val / 256) + x.val) / 64) (by omega) = hd t j := Fin.ext (by dsimp only; omega)
    have e2 : (⟨(64 * (j.val / 256) + x.val) % 64, by omega⟩ : Fin 64) = x := Fin.ext (by dsimp only; omega)
    rw [e1, e2, hk, hq, hE, ← EReal.coe_mul, ← EReal.coe_mul]
  refine (congrArg₂ (fun a b : EReal => a + b) (Finset.sum_congr rfl fun x _ => e x) ((congrArg₂ (fun a b : EReal => a + b) (congrArg₂ (fun a b : EReal => a + b)
    (hb _ ⟨3 * (hd t j).val, by omega⟩ rfl) (hb _ ⟨3 * (hd t j).val + 1, by omega⟩ rfl)) (hb _ ⟨3 * (hd t j).val + 2, by omega⟩ rfl)).trans hs)).trans ?_
  rw [coe_sum, ← EReal.coe_add]
  rfl

/-- The weights of the first `n` blocks, and their weighted values at lane `d` of the column's head. -/
def den (n : ℕ) (j : Fin 1024) : ℝ := ∑ b ∈ Finset.range n, ∑ x : Fin 256, wt t qr kr fr E (key b x) j
def num (n : ℕ) (d : Fin 64) (j : Fin 1024) : EReal :=
  ∑ b ∈ Finset.range n, ∑ x : Fin 256, vl m c t b ⟨64 * (j.val / 256) + d.val, by omega⟩ x * ((wt t qr kr fr E (key b x) j : ℝ) : EReal)

include hf in
theorem vf_real (j : Fin 1024) : (vf m c t (ix2 0 j) : EReal) = (fr (bb t) (qy t j) (hd t j) : EReal) :=
  (vf_at m c t j).trans (hf _ _ _)

include hq hk hf hE in
theorem inv (n : ℕ) (hn : n ≤ qi t) :
    (∀ κ j, (carried m c t n).1 (ix2 κ j) = (sc t qr kr fr E (key n κ) j : EReal))
    ∧ ∀ d j, Holds ((carried m c t n).2.1 (ix2 0 j)) ((carried m c t n).2.2.1 (ix2 0 j)) ((carried m c t n).2.2.2 (ix2 d j))
        (den t qr kr fr E n j) (num m c t qr kr fr E n d j) := by
  have hb := bounds t
  induction n with
  | zero =>
    rw [carried_zero]
    refine ⟨fun κ j => block_score m c t qr kr fr E hq hk hf hE 0 (by omega) _ _ _ _ _ _ rfl rfl rfl κ j, fun d j => ?_⟩
    obtain ⟨M, hM⟩ := pay27_at j
    refine Or.inr ⟨M, hM, (pay28_at j).trans ?_, (pay29_at d j).trans ?_⟩
    · simp [den]
    · simp [num]
  | succ n ih =>
    obtain ⟨ih1, ih2⟩ := ih (by omega)
    have hk' : n < (k0_t1_loop (grid0.coords t)).trips := by rw [trips_one]; exact hn
    have ho := off_loop t ⟨n, hk'⟩
    obtain ⟨o2, o3, o4, o5, o6, o7, o8⟩ := ho
    rw [carried_succ m c t ⟨n, hk'⟩]
    refine ⟨fun κ j => block_score m c t qr kr fr E hq hk hf hE (n + 1) (by omega) _ _ _ _ _ _ o2 o3 o4 κ j, fun d j => ?_⟩
    have hvf := vf_real m c t fr hf j
    have st := (ih2 d j).step (fr (bb t) (qy t j) (hd t j)) (fun x => (carried m c t n).1 (ix2 x j))
      (fun x => wt t qr kr fr E (key n x) j) (fun x => vl m c t n ⟨64 * (j.val / 256) + d.val, by omega⟩ x)
      (fun x => Or.inl ⟨_, ih1 x j, rfl⟩) 0 _ (ih1 0 j) (M' := top (vf m c t) (carried m c t n).1 (carried m c t n).2.1 j)
      (by unfold top; rw [hvf])
    rw [← hvf] at st
    dsimp only
    rw [pay3_at, block_den, block_num (vf m c t) (carried m c t n).1 (carried m c t n).2.1 (carried m c t n).2.2.2 _ _ _ _ (vl m c t n)
      (fun d x => (vals m c t n (by omega) 0 _ _ o5 (by omega) d x).trans (congrArg (fun i => vl m c t n i x) (Fin.ext (Nat.zero_add _))))
      (vals m c t n (by omega) 64 _ _ o6 (by omega)) (vals m c t n (by omega) 128 _ _ o7 (by omega)) (vals m c t n (by omega) 192 _ _ o8 (by omega))]
    unfold den num
    rw [Finset.sum_range_succ, Finset.sum_range_succ]
    exact st

/-- The last block's weights: a key after the query has none. -/
def wl (n : ℕ) (x : Fin 256) (j : Fin 1024) : ℝ := if x.val ≤ j.val % 256 then wt t qr kr fr E (key n x) j else 0

include hq hk hf hE in
/-- What the point stores. -/
theorem out_at (r o : Fin 256) (j : Fin 1024) (hj : j.val = 256 * (o.val / 64) + r.val) (d : Fin 64) (hd' : d.val = o.val % 64) :
    outsAt0 m c t (ix3 0 r o)
    = (num m c t qr kr fr E (qi t) d j + ∑ x : Fin 256, vl m c t (qi t) o x * ((wl t qr kr fr E (qi t) x j : ℝ) : EReal))
      * ((1 / (den t qr kr fr E (qi t) j + ∑ x : Fin 256, wl t qr kr fr E (qi t) x j) : ℝ) : EReal) := by
  have hb := bounds t
  obtain ⟨o5, o6, o7, o8⟩ := off_last t
  obtain ⟨ih1, ih2⟩ := inv m c t qr kr fr E hq hk hf hE (qi t) le_rfl
  have hvf := vf_real m c t fr hf j
  have hK : ∀ x : Fin 256, FoxMath.Key (fr (bb t) (qy t j) (hd t j)) (k0_pay37 (F := Ideal) (carried m c t (qi t)).1 (ix2 x j))
      (wl t qr kr fr E (qi t) x j) := by
    intro x
    rw [pay37_at]
    unfold wl
    by_cases h : x.val ≤ j.val % 256
    · rw [if_pos h, if_pos h]; exact Or.inl ⟨_, ih1 x j, rfl⟩
    · rw [if_neg h, if_neg h]; exact Or.inr ⟨rfl, rfl⟩
  have h0 : k0_pay37 (F := Ideal) (carried m c t (qi t)).1 (ix2 (0 : Fin 256) j) = (sc t qr kr fr E (key (qi t) 0) j : EReal) := by
    rw [pay37_at, if_pos (show (0 : Fin 256).val ≤ _ from Nat.zero_le _)]; exact ih1 0 j
  have st := (ih2 d j).step (fr (bb t) (qy t j) (hd t j)) (fun x => k0_pay37 (F := Ideal) (carried m c t (qi t)).1 (ix2 x j))
      (fun x => wl t qr kr fr E (qi t) x j) (fun x => vl m c t (qi t) o x)
      hK 0 _ h0 (M' := top (vf m c t) (k0_pay37 (carried m c t (qi t)).1) (carried m c t (qi t)).2.1 j)
      (by unfold top; rw [hvf])
  rw [← hvf] at st
  have pos : 0 < den t qr kr fr E (qi t) j + ∑ x : Fin 256, wl t qr kr fr E (qi t) x j := by
    refine add_pos_of_nonneg_of_pos (Finset.sum_nonneg fun b _ => Finset.sum_nonneg fun x _ => (Real.exp_pos _).le) ?_
    refine Finset.sum_pos' (fun x _ => (hK x).nonneg) ⟨0, Finset.mem_univ _, ?_⟩
    unfold wl
    rw [if_pos (show (0 : Fin 256).val ≤ _ from Nat.zero_le _)]; exact Real.exp_pos _
  rw [stored, pay39_eq, pay40_eq, pay41_eq, pay42_eq, pay43_eq]
  refine (block_out (vf m c t) (k0_pay37 (carried m c t (qi t)).1) (carried m c t (qi t)).2.1 (carried m c t (qi t)).2.2.1
    (carried m c t (qi t)).2.2.2 _ _ _ _ (vl m c t (qi t))
      (fun d x => (vals m c t (qi t) (by omega) 0 _ _ o5 (by omega) d x).trans (congrArg (fun i => vl m c t (qi t) i x) (Fin.ext (Nat.zero_add _))))
      (vals m c t (qi t) (by omega) 64 _ _ o6 (by omega)) (vals m c t (qi t) (by omega) 128 _ _ o7 (by omega)) (vals m c t (qi t) (by omega) 192 _ _ o8 (by omega))
      r o j hj d hd').trans (st.div pos)

end Cert.FoxLoop

end
-- ==== Proof.FoxSplit.lean ====
module

public import proofs.«01_k».proof.Proof.FoxLoop

@[expose] public section

set_option maxRecDepth 16384

noncomputable section

/-!
# All keys, block by block

A sum over the keys up to a query is a sum over the blocks below the query's and a masked one over the query's block.
-/

namespace Cert.FoxSplit

open Cert.FoxIdeal Cert.FoxIdeal.Gen Cert.FoxReads Cert.FoxLoads Cert.FoxLoop Cert.FoxMath
open Idealize.ShloMosaic Idealize.ShloMosaic.TcCoe Idealize.SL.Sem

theorem sum_keys {M : Type*} [AddCommMonoid M] (G : Fin 4096 → M) : ∑ k, G k = ∑ b ∈ Finset.range 16, ∑ x : Fin 256, G (key b x) := by
  rw [Finset.sum_range (fun b => ∑ x : Fin 256, G (key b x)), ← Fintype.sum_prod_type' (fun (b : Fin 16) (x : Fin 256) => G (key b.val x))]
  refine (Fintype.sum_equiv (finProdFinEquiv : Fin 16 × Fin 256 ≃ Fin 4096) _ _ fun p => congrArg G (Fin.ext ?_)).symm
  rw [key_val _ p.1.isLt]
  show 256 * p.1.val + p.2.val = p.2.val + 256 * p.1.val
  omega

theorem sum_masked {M : Type*} [AddCommMonoid M] (A : Fin 4096 → M) (n : ℕ) (hn : n < 16) (r : ℕ) (hr : r < 256) (i : ℕ) (hi : i = 256 * n + r) :
    (∑ k : Fin 4096, if k.val ≤ i then A k else 0)
    = (∑ b ∈ Finset.range n, ∑ x : Fin 256, A (key b x)) + ∑ x : Fin 256, if x.val ≤ r then A (key n x) else 0 := by
  rw [sum_keys, ← Finset.sum_subset (Finset.range_subset_range.2 (show n + 1 ≤ 16 from hn)), Finset.sum_range_succ]
  · refine congrArg₂ (· + ·) (Finset.sum_congr rfl fun b hb => Finset.sum_congr rfl fun x _ => ?_) (Finset.sum_congr rfl fun x _ => ?_)
    · have hb := Finset.mem_range.1 hb
      have := key_val b (by omega) x
      exact if_pos (by omega)
    · have := key_val n hn x
      exact if_congr (by omega) rfl rfl
  · intro b hb hb'
    have hb := Finset.mem_range.1 hb
    rw [Finset.mem_range] at hb'
    refine Finset.sum_eq_zero fun x _ => ?_
    have := key_val b hb x
    exact if_neg (by omega)

variable (m : (ℓ : Loc nD τ sig) → Buf (Elt Ideal) ℓ) (c : Dev nD) (t : Fin cfg0.N)
variable (qr kr : Fin 4 → Fin 4096 → Fin 8 → Fin 64 → ℝ) (fr : Fin 4 → Fin 4096 → Fin 8 → ℝ) (E : ℝ)

/-- A key's weight for a column's query: none after the query. -/
def wf (k : Fin 4096) (j : Fin 1024) : ℝ := if k.val ≤ (qy t j).val then wt t qr kr fr E k j else 0

theorem total (j : Fin 1024) : ∑ k, wf t qr kr fr E k j = den t qr kr fr E (qi t) j + ∑ x, wl t qr kr fr E (qi t) x j :=
  sum_masked (fun k => wt t qr kr fr E k j) (qi t) (bounds t).2.2 (j.val % 256) (by omega) _ rfl

theorem valued (r o : Fin 256) (j : Fin 1024) (hj : j.val = 256 * (o.val / 64) + r.val) (d : Fin 64) (hd' : d.val = o.val % 64) :
    ∑ k, v m c (bb t) k (head t (o.val / 64) (by omega)) ⟨o.val % 64, by omega⟩ * ((wf t qr kr fr E k j : ℝ) : EReal)
    = num m c t qr kr fr E (qi t) d j + ∑ x : Fin 256, vl m c t (qi t) o x * ((wl t qr kr fr E (qi t) x j : ℝ) : EReal) := by
  have e : ∀ (p : Prop) [Decidable p] (y : EReal) (w : ℝ), y * ((if p then w else 0 : ℝ) : EReal) = if p then y * (w : EReal) else 0 := by
    intro p _ y w
    split_ifs
    · rfl
    · rw [EReal.coe_zero, mul_zero]
  have ho : (⟨64 * (j.val / 256) + d.val, by omega⟩ : Fin 256) = o := Fin.ext (by dsimp only; omega)
  unfold num wf wl
  simp only [e, ho]
  exact sum_masked (fun k => v m c (bb t) k (head t (o.val / 64) (by omega)) ⟨o.val % 64, by omega⟩ * ((wt t qr kr fr E k j : ℝ) : EReal))
    (qi t) (bounds t).2.2 (j.val % 256) (by omega) _ rfl

end Cert.FoxSplit

end
-- ==== Proof.FoxRefValue.lean ====
module

public import proofs.«01_k».proof.Proof.Gen.FoxRefIdeal.Read
public import proofs.«01_k».proof.Proof.FoxMath
public import Idealize.ShloMosaic.Lib.Pipeline.ValueKit
public import Idealize.ShloMosaic.Lib.Pointwise
public import Idealize.ShloMosaic.Lib.WordCmp
public import Idealize.ShloMosaic.Lib.Claim

@[expose] public section

set_option maxRecDepth 16384

noncomputable section

/-!
# The forgetting attention as the problem states it, entry by entry
-/

namespace Cert.FoxRefValue

open Cert.FoxRefIdeal Cert.FoxRefIdeal.Read
open Idealize.ShloMosaic Idealize.SL.Sem
open Idealize.ShloMosaic.WordCmp

theorem neg_inf : Ideal.ofBits FTy.f32 4286578688#32 = (⊥ : EReal) := by
  simp [Ideal.ofBits, Ideal.ieee]

variable (x0 x1 x2 : FVec Ideal S4x4096x8x64 .f32) (x3 : FVec Ideal S4x4096x8 .f32)

/-- The masked score of key `k` for query `i`. -/
def sref (b : Fin 4) (h : Fin 8) (i k : Fin 4096) : EReal :=
  if k.val ≤ i.val then (∑ n : Fin 64, x0 (ix4 b i h n) * x1 (ix4 b k h n)) * Ideal.ofBits .f32 0x3E000000#32 + x3 (ix3 b i h) - x3 (ix3 b k h)
  else ⊥

theorem score_at (b : Fin 4) (h : Fin 8) (i k : Fin 4096) : val_main_v16 (F := Ideal) x0 x1 x3 (ix4 b h i k) = sref x0 x1 x3 b h i k := by
  unfold sref
  pointwise [val_main_v16, val_main_call0_v0, val_main_call0_v1, val_main_call0_v2, val_main_v15, val_main_v14, val_main_v13, val_main_v12,
    val_main_v11, val_main_v10, val_main_v9, val_main_v8, val_main_v7, val_main_v6, val_main_v5, val_main_v4, val_main_v3, val_main_v2, val_main_v1,
    val_main_v0, val_main_cst, val_main_cst_0]
  have e : (id (constant (F := Ideal) S_ .f32 0xFF800000#32) ix0 : EReal) = ⊥ := neg_inf
  rw [cmpi_sle_ofNat (by omega) (by omega), select_decide]
  exact congrArg (fun z : EReal => if k.val ≤ i.val then _ else z) e

/-- The maximum over a query's keys. -/
def mref (b : Fin 4) (h : Fin 8) (i : Fin 4096) : EReal := Finset.fold max ⊥ (fun k => sref x0 x1 x3 b h i k) Finset.univ

/-- A maximum along the keys, of any scores. -/
theorem fold_at (y : FVec Ideal S4x8x4096x4096 .f32) (u : FVec Ideal S_ .f32) (b : Fin 4) (h : Fin 8) (i : Fin 4096) :
    (Host.reduce (FloatOps.maximumf (F := Ideal) (φ := .f32)) y u Gen.reducesTo_S4x8x4096x4096_S4x8x4096_d3 Gen.h_S_ (ix3 b h i) : EReal)
      = Finset.fold max (u (Shape.Idx.first Gen.h_S_)) (fun k : Fin 4096 => y (ix4 b h i k)) Finset.univ := by
  rw [Host.reduce_eq_fold, Shape.ReducesTo.fold_fiber_r4_a3]
  rfl

theorem top_at (b : Fin 4) (h : Fin 8) (i : Fin 4096) : val_main_v17 (F := Ideal) x0 x1 x3 (ix3 b h i) = mref x0 x1 x3 b h i := by
  unfold mref
  unfold val_main_v17
  rw [← funext fun k => score_at x0 x1 x3 b h i k]
  generalize val_main_v16 (F := Ideal) x0 x1 x3 = y
  refine (fold_at y _ b h i).trans ?_
  exact congrArg (fun z : EReal => Finset.fold max z (fun k : Fin 4096 => (y (ix4 b h i k) : EReal)) Finset.univ) neg_inf

theorem max_at (b : Fin 4) (h : Fin 8) (i : Fin 4096) : val_main_v19 (F := Ideal) x0 x1 x3 (ix3 b h i) = mref x0 x1 x3 b h i := by
  rw [val_main_v19_apply, top_at, val_main_v18_apply]
  generalize mref x0 x1 x3 b h i = z
  have n : (val_main_cst_2 (F := Ideal) (idx_main_v18 (ix3 b h i)) : EReal) = ⊥ := neg_inf
  exact (congrArg (fun w : EReal => max w z) n).trans (max_eq_right bot_le)

theorem exp_at (b : Fin 4) (h : Fin 8) (i k : Fin 4096) : val_main_v23 (F := Ideal) x0 x1 x3 (ix4 b h i k)
    = Ideal.exp (sref x0 x1 x3 b h i k - mref x0 x1 x3 b h i) := by
  pointwise [val_main_v23, val_main_v22, val_main_v21, val_main_v20, score_at, max_at]

theorem sum_at (b : Fin 4) (h : Fin 8) (i : Fin 4096) : val_main_v24 (F := Ideal) x0 x1 x3 (ix3 b h i)
    = ∑ k, Ideal.exp (sref x0 x1 x3 b h i k - mref x0 x1 x3 b h i) := by
  pointwise [val_main_v24, val_main_cst_3, exp_at]

theorem out_at (b : Fin 4) (i : Fin 4096) (h : Fin 8) (d : Fin 64) : val_main_v29 (F := Ideal) x0 x1 x2 x3 (ix4 b i h d)
    = ∑ k, x2 (ix4 b k h d) * Ideal.div (Ideal.exp (sref x0 x1 x3 b h i k - mref x0 x1 x3 b h i))
        (∑ k, Ideal.exp (sref x0 x1 x3 b h i k - mref x0 x1 x3 b h i)) := by
  pointwise [val_main_v29, val_main_v28, val_main_v27, val_main_v26, val_main_v25, exp_at, sum_at]

theorem result_at (b : Fin 4) (i : Fin 4096) (l : Fin 512) : val_main_v31 (F := Ideal) x0 x1 x2 x3 (ix3 b i l)
    = val_main_v29 (F := Ideal) x0 x1 x2 x3 (ix4 b i ⟨l.val / 64, by omega⟩ ⟨l.val % 64, by omega⟩) := by
  pointwise [val_main_v31, val_main_v30]

end Cert.FoxRefValue

end
-- ==== Proof.FoxFinite.lean ====
module

public import proofs.«01_k».proof.Pre_finite_scores
public import Idealize.ShloMosaic.Lib.ReduceAll
public import Idealize.ShloMosaic.Lib.Pointwise
public import Idealize.ShloMosaic.Lib.Claim

@[expose] public section

noncomputable section

/-!
# What the precondition of the forgetting attention says

Every query, key and sum of forget gates is a real number.
-/

namespace Cert.FoxFinite

open Idealize.ShloMosaic

theorem inf : Ideal.ofBits FTy.f32 0x7F800000#32 = (⊤ : EReal) := by
  simp [Ideal.ofBits, Ideal.ieee]

/-- An extended real whose absolute value is below infinity is a real number. -/
theorem real_of_lt (x : EReal) (h : max x (-x) < ⊤) : ∃ r : ℝ, x = (r : EReal) := by
  rw [max_lt_iff] at h
  refine ⟨x.toReal, (EReal.coe_toReal h.1.ne fun e => ?_).symm⟩
  rw [e, EReal.neg_bot] at h
  exact lt_irrefl _ h.2

theorem both (a b : BitVec 1) (h : IntOp.andi a b = 1#1) : a = 1#1 ∧ b = 1#1 := by
  revert h; revert a b; decide

theorem bit (p : Prop) [Decidable p] (h : BitVec.ofBool (decide p) = 1#1) : p := by
  by_contra hp
  rw [decide_eq_false hp] at h
  exact absurd h (by decide)

/-- An array all of whose entries pass the check is finite. -/
theorem finite_of {s u : Shape} [Subsingleton u.Idx] {axes : List (Fin s.rank)} (x : FVec Ideal s .f32) (b : FVec Ideal s .f32)
    (hb : ∀ i, (b i : EReal) = ⊤) (init : IVec u 1) (hr : s.ReducesTo axes u) (hu : 0 < u.numel) (j : u.Idx)
    (h : Host.reduce IntOp.andi (cmpf .olt (Host.absf x) b) init hr hu j = 1#1) (i : s.Idx) : ∃ r : ℝ, (x i : EReal) = (r : EReal) := by
  have e := Host.reduce_andi_all _ _ _ _ j h i
  have e' : BitVec.ofBool (decide (max (x i : EReal) (-(x i : EReal)) < (b i : EReal))) = 1#1 := e
  exact real_of_lt _ (lt_of_lt_of_eq (bit _ e') (hb i))

instance : Subsingleton Cert.Pre_finite_scores.S_.Idx := ⟨fun _ _ => funext fun a => a.elim0⟩

variable [Cert.Pre_finite_scores.Facts]
open Cert.Pre_finite_scores

theorem finite (x0 x1 x2 : FVec Ideal S4x4096x8x64 .f32) (x3 : FVec Ideal S4x4096x8 .f32)
    (h : fn (F := Ideal) x0 x1 x2 x3 = fun _ => 1#1) :
    (∀ i, ∃ r : ℝ, (x0 i : EReal) = (r : EReal)) ∧ (∀ i, ∃ r : ℝ, (x1 i : EReal) = (r : EReal)) ∧ ∀ i, ∃ r : ℝ, (x3 i : EReal) = (r : EReal) := by
  have h0 := congrFun h ix0
  unfold fn at h0
  dsimp only at h0
  obtain ⟨h12, h3⟩ := both _ _ h0
  obtain ⟨h1, h2⟩ := both _ _ h12
  exact ⟨finite_of x0 _ (fun i => inf) _ _ _ _ h1, finite_of x1 _ (fun i => inf) _ _ _ _ h2, finite_of x3 _ (fun i => inf) _ _ _ _ h3⟩

end Cert.FoxFinite

end
-- ==== Proof.FoxClaim.lean ====
module

public import proofs.«01_k».proof.Proof.FoxSplit
public import proofs.«01_k».proof.Proof.FoxRefValue
public import proofs.«01_k».proof.Proof.FoxFinite
public import proofs.«01_k».proof.Proof.Gen.FoxRefIdeal.Run
public import proofs.«01_k».proof.Defs

@[expose] public section

set_option maxRecDepth 16384

noncomputable section

/-!
# The forgetting attention ends with the problem's own softmax
-/

namespace Cert.FoxClaim

open Cert.FoxIdeal Cert.FoxIdeal.Gen Cert.FoxReads Cert.FoxLoads Cert.FoxLoop Cert.FoxMath Cert.FoxSplit
open Idealize.ShloMosaic Idealize.ShloMosaic.TcCoe Idealize.SL.Sem

variable (m : (ℓ : Loc nD τ sig) → Buf (Elt Ideal) ℓ) (c : Dev nD) (t : Fin cfg0.N)
variable (qr kr : Fin 4 → Fin 4096 → Fin 8 → Fin 64 → ℝ) (fr : Fin 4 → Fin 4096 → Fin 8 → ℝ) (E : ℝ)
variable (hq : ∀ b i h n, q m c b i h n = (qr b i h n : EReal)) (hk : ∀ b i h n, k m c b i h n = (kr b i h n : EReal))
  (hf : ∀ b i h, F m c b i h = (fr b i h : EReal)) (hE : Ideal.ofBits .f32 0x3E000000#32 = (E : EReal))

/-- The reference's score of key `κ` for a column. -/
abbrev sr (κ : Fin 4096) (j : Fin 1024) : EReal :=
  FoxRefValue.sref (m ((c : Thread nD τ).loc main_arg0)) (m ((c : Thread nD τ).loc main_arg1)) (m ((c : Thread nD τ).loc main_arg3))
    (bb t) (hd t j) (qy t j) κ

include hq hk hf hE in
theorem score_real (κ : Fin 4096) (j : Fin 1024) (h : κ.val ≤ (qy t j).val) :
    sr m c t κ j = ((sc t qr kr fr E κ j + fr (bb t) (qy t j) (hd t j) : ℝ) : EReal) := by
  unfold sr FoxRefValue.sref
  rw [if_pos h]
  have e1 : ∀ n, (m ((c : Thread nD τ).loc main_arg0) (ix4 (bb t) (qy t j) (hd t j) n) : EReal) = _ := fun n => hq (bb t) (qy t j) (hd t j) n
  have e2 : ∀ n, (m ((c : Thread nD τ).loc main_arg1) (ix4 (bb t) κ (hd t j) n) : EReal) = _ := fun n => hk (bb t) κ (hd t j) n
  have e3 : ∀ i, (m ((c : Thread nD τ).loc main_arg3) (ix3 (bb t) i (hd t j)) : EReal) = _ := fun i => hf (bb t) i (hd t j)
  refine (congrArg₂ (fun a b : EReal => a - b) (congrArg₂ (fun a b : EReal => a + b) (congrArg₂ (fun a b : EReal => a * b)
    (Finset.sum_congr rfl fun n _ => congrArg₂ (fun a b : EReal => a * b) (e1 n) (e2 n)) hE) (e3 (qy t j))) (e3 κ)).trans ?_
  simp only [← EReal.coe_mul, coe_sum]
  rw [← EReal.coe_add, ← EReal.coe_sub]
  refine congrArg _ ?_
  unfold sc
  rw [Finset.sum_mul, Finset.sum_congr rfl (fun n _ => show qr (bb t) (qy t j) (hd t j) n * kr (bb t) κ (hd t j) n * E
    = kr (bb t) κ (hd t j) n * (qr (bb t) (qy t j) (hd t j) n * E) by ring)]
  ring

include hq hk hf hE in
theorem score_key (κ : Fin 4096) (j : Fin 1024) : Key 0 (sr m c t κ j) (wf t qr kr fr E κ j) := by
  by_cases h : κ.val ≤ (qy t j).val
  · refine Or.inl ⟨_, score_real m c t qr kr fr E hq hk hf hE κ j h, ?_⟩
    unfold wf wt
    rw [if_pos h, add_zero]
  · refine Or.inr ⟨if_neg h, ?_⟩
    unfold wf
    rw [if_neg h]

include hq hk hf hE in
theorem ref_out (r o : Fin 256) (j : Fin 1024) (hj : j.val = 256 * (o.val / 64) + r.val) (d : Fin 64) (hd' : d.val = o.val % 64) :
    FoxRefIdeal.Read.val_main_v31 (F := Ideal) (m ((c : Thread nD τ).loc main_arg0)) (m ((c : Thread nD τ).loc main_arg1))
      (m ((c : Thread nD τ).loc main_arg2)) (m ((c : Thread nD τ).loc main_arg3))
      (ix3 (bb t) (query t r) ⟨256 * hg t + o.val, by have := bounds t; omega⟩)
    = outsAt0 m c t (ix3 0 r o) := by
  have hb := bounds t
  have e1 : query t r = qy t j := Fin.ext (by dsimp only; omega)
  have e2 : (⟨(256 * hg t + o.val) / 64, by omega⟩ : Fin 8) = hd t j := Fin.ext (by dsimp only; omega)
  have e3 : (⟨(256 * hg t + o.val) % 64, by omega⟩ : Fin 64) = ⟨o.val % 64, by omega⟩ := Fin.ext (by dsimp only; omega)
  have e4 : hd t j = head t (o.val / 64) (by omega) := Fin.ext (by dsimp only; omega)
  rw [FoxRefValue.result_at]
  dsimp only
  rw [e2, e3, e1, FoxRefValue.out_at]
  refine Eq.trans ?_ (out_at m c t qr kr fr E hq hk hf hE r o j hj d hd').symm
  rw [← total, ← valued m c t qr kr fr E r o j hj d hd']
  refine (softmax_once (fun κ => sr m c t κ j) (fun κ => wf t qr kr fr E κ j) _ (fun κ => score_key m c t qr kr fr E hq hk hf hE κ j)
    (qy t j) _ (score_real m c t qr kr fr E hq hk hf hE _ j (le_refl _))).trans ?_
  rw [e4]
  rfl

theorem literal : ∃ E : ℝ, Ideal.ofBits .f32 0x3E000000#32 = (E : EReal) := by
  simp only [Ideal.ofBits, Ideal.ieee]
  rw [if_neg (by decide), if_neg (by decide)]
  exact ⟨_, rfl⟩

/-- The whole output. -/
theorem final (h0 : ∀ i, ∃ r : ℝ, (m ((c : Thread nD τ).loc main_arg0) i : EReal) = (r : EReal))
    (h1 : ∀ i, ∃ r : ℝ, (m ((c : Thread nD τ).loc main_arg1) i : EReal) = (r : EReal))
    (h3 : ∀ i, ∃ r : ℝ, (m ((c : Thread nD τ).loc main_arg3) i : EReal) = (r : EReal)) :
    (dats m 0 c).arrAt 5 cfg0.N = FoxRefIdeal.Read.val_main_v31 (F := Ideal) (m ((c : Thread nD τ).loc main_arg0))
      (m ((c : Thread nD τ).loc main_arg1)) (m ((c : Thread nD τ).loc main_arg2)) (m ((c : Thread nD τ).loc main_arg3)) := by
  choose f0 h0 using h0
  choose f1 h1 using h1
  choose f3 h3 using h3
  obtain ⟨E, hE⟩ := literal
  refine (dats m 0 c).arrAt_eq_of_covers 5 _ (by decide +kernel) fun t _ y => ?_
  blk_simp [idx t]
  rw [after0_5]
  obtain ⟨r, hr⟩ : ∃ r : Fin 256, r = y 1 := ⟨_, rfl⟩
  obtain ⟨o, ho⟩ : ∃ o : Fin 256, o = y 2 := ⟨_, rfl⟩
  have hy : y = ix3 0 r o := by
    have h0 : y 0 = (0 : Fin 1) := Subsingleton.elim (α := Fin 1) _ _
    rw [hr, ho, ← h0]
    exact eq_ix3 y
  rw [hy]
  have hb := bounds t
  refine (ref_out m c t (fun b i h n => f0 (ix4 b i h n)) (fun b i h n => f1 (ix4 b i h n)) (fun b i h => f3 (ix3 b i h)) E
    (fun _ _ _ _ => h0 _) (fun _ _ _ _ => h1 _) (fun _ _ _ => h3 _) hE r o ⟨256 * (o.val / 64) + r.val, by omega⟩ rfl
    ⟨o.val % 64, by omega⟩ rfl).symm.trans (congrArg _ ?_)
  blk_ext [idx t]

/-- The forgetting attention: both runs end with the same array. -/
theorem fox [Cert.Pre_finite_scores.Facts] : Cert.algebraic_FoxIdeal_FoxRefIdeal_pre_finite_scores := by
  pair_intro
  · run_from Cert.FoxIdeal.Value.run_blocks m g
  · run_from Cert.FoxRefIdeal.Value.run m' g'
    obtain ⟨h0, h1, h2, h3⟩ := hagree c
    obtain ⟨f0, f1, f3⟩ := FoxFinite.finite _ _ _ _ (hpre c)
    rw [Cert.FoxRefIdeal.Read.val_main_v31_eq, h0, h1, h2, h3]
    exact (final m c f0 f1 f3).symm

end Cert.FoxClaim

end
-- ==== Proof.InprojIdealRun.lean ====
/- The run of the projection call (program InprojIdeal), by hand over the generated kit of its launch. The call has
   twenty windows: nine blocks come in (the rows, the norm's scale, the weights, the rotation tables) and eleven go out.
   The body reads each input whole or by a fixed rectangle and writes each output over its full block, so what it leaves
   in an output is a function of the input blocks: `out9` to `out19` below. From that the whole run follows. -/
module

public import proofs.«01_k».proof.Proof.Gen.InprojIdeal.Frame
public import proofs.«01_k».proof.Proof.Gen.InprojIdeal.Skeleton
public import Idealize.ShloMosaic.Lib.Claim
public import Idealize.ShloMosaic.Lib.Pipeline.Value

@[expose] public section

set_option maxRecDepth 16384

noncomputable section

namespace Cert.InprojIdeal.Hand

open Cert.InprojIdeal Cert.InprojIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The rectangles the body reads and writes -/

abbrev rX : Rect S512x1024 := Rect.unit (s := S512x1024) ![0, 0] S512x1024.size inb_S512x1024_S512x1024_0_0
abbrev rG : Rect S1x1024 := Rect.unit (s := S1x1024) ![0, 0] S1x1024.size inb_S1x1024_S1x1024_0_0
abbrev rWq : Rect S1536x1024 := Rect.unit (s := S1536x1024) ![0, 0] S512x1024.size inb_S1536x1024_S512x1024_0_0
abbrev rQt : Rect S1x512x512 := Rect.unit (s := S1x512x512) ![0, 0, 0] S1x512x512.size inb_S1x512x512_S1x512x512_0_0_0
abbrev rWk : Rect S1536x1024 := Rect.unit (s := S1536x1024) ![512, 0] S512x1024.size inb_S1536x1024_S512x1024_512_0
abbrev rSq : Rect S512x512 := Rect.unit (s := S512x512) ![0, 0] S512x512.size inb_S512x512_S512x512_0_0
abbrev rWv : Rect S1536x1024 := Rect.unit (s := S1536x1024) ![1024, 0] S512x1024.size inb_S1536x1024_S512x1024_1024_0
abbrev rVt0 : Rect S1x2x512x256 := Rect.unit (s := S1x2x512x256) ![0, 0, 0, 0] S1x1x512x256.size inb_S1x2x512x256_S1x1x512x256_0_0_0_0
abbrev rVt1 : Rect S1x2x512x256 := Rect.unit (s := S1x2x512x256) ![0, 1, 0, 0] S1x1x512x256.size inb_S1x2x512x256_S1x1x512x256_0_1_0_0
abbrev rWkb : Rect S1024x512 := Rect.unit (s := S1024x512) ![0, 0] S1024x512.size inb_S1024x512_S1024x512_0_0
abbrev rWf : Rect S1024x128 := Rect.unit (s := S1024x128) ![0, 0] S1024x128.size inb_S1024x128_S1024x128_0_0
abbrev rBf : Rect S1x128 := Rect.unit (s := S1x128) ![0, 0] S1x128.size inb_S1x128_S1x128_0_0
abbrev rLf : Rect S512x128 := Rect.unit (s := S512x128) ![0, 0] S512x128.size inb_S512x128_S512x128_0_0
abbrev rLf8 : Rect S512x8 := Rect.unit (s := S512x8) ![0, 0] S512x8.size inb_S512x8_S512x8_0_0
abbrev rR0 : Rect S1024x3072 := Rect.unit (s := S1024x3072) ![0, 0] S1024x512.size inb_S1024x3072_S1024x512_0_0
abbrev rR1 : Rect S1024x3072 := Rect.unit (s := S1024x3072) ![0, 512] S1024x512.size inb_S1024x3072_S1024x512_0_512
abbrev rR2 : Rect S1024x3072 := Rect.unit (s := S1024x3072) ![0, 1024] S1024x512.size inb_S1024x3072_S1024x512_0_1024
abbrev rR3 : Rect S1024x3072 := Rect.unit (s := S1024x3072) ![0, 1536] S1024x512.size inb_S1024x3072_S1024x512_0_1536
abbrev rR4 : Rect S1024x3072 := Rect.unit (s := S1024x3072) ![0, 2048] S1024x512.size inb_S1024x3072_S1024x512_0_2048
abbrev rR5 : Rect S1024x3072 := Rect.unit (s := S1024x3072) ![0, 2560] S1024x512.size inb_S1024x3072_S1024x512_0_2560

/-! ## What the body leaves in each output, from the input blocks -/

/-- The normalised, scaled rows. -/
abbrev normed (x0 : Vec F S512x1024 .f32) (x1 : Vec F S1x1024 .f32) : FVec F S512x1024 .bf16 := k0_pay4 (View.ld x0 rX) (View.ld x1 rG)

/-- Output 9: the queries, feature by feature, scaled. -/
def out9 (x0 : Vec F S512x1024 .f32) (x1 : Vec F S1x1024 .f32) (x2 : Vec F S1536x1024 .bf16) : Vec F S1x512x512 .bf16 :=
  View.canon [⟨rQt, k0_pay5 (View.ld x0 rX) (View.ld x1 rG) (View.ld x2 rWq)⟩]

/-- Output 10: the keys. -/
def out10 (x0 : Vec F S512x1024 .f32) (x1 : Vec F S1x1024 .f32) (x2 : Vec F S1536x1024 .bf16) : Vec F S512x512 .f32 :=
  View.canon [⟨rSq, k0_pay6 (View.ld x0 rX) (View.ld x1 rG) (View.ld x2 rWk)⟩]

/-- Output 11: the values. -/
def out11 (x0 : Vec F S512x1024 .f32) (x1 : Vec F S1x1024 .f32) (x2 : Vec F S1536x1024 .bf16) : Vec F S512x512 .f32 :=
  View.canon [⟨rSq, k0_pay8 (View.ld x0 rX) (View.ld x1 rG) (View.ld x2 rWv)⟩]

/-- Output 12: the keys, rounded. -/
def out12 (x0 : Vec F S512x1024 .f32) (x1 : Vec F S1x1024 .f32) (x3 : Vec F S1024x512 .bf16) : Vec F S512x512 .bf16 :=
  View.canon [⟨rSq, k0_pay11 (normed x0 x1) (View.ld x3 rWkb)⟩]

/-- Output 13: the values, feature by feature, rounded: two half blocks. -/
def out13 (x0 : Vec F S512x1024 .f32) (x1 : Vec F S1x1024 .f32) (x2 : Vec F S1536x1024 .bf16) : Vec F S1x2x512x256 .bf16 :=
  View.canon [⟨rVt1, k0_pay10 (k0_pay7 (View.ld x0 rX) (View.ld x1 rG) (View.ld x2 rWv))⟩, ⟨rVt0, k0_pay9 (k0_pay7 (View.ld x0 rX) (View.ld x1 rG) (View.ld x2 rWv))⟩]

/-- Output 14: the log-decays, all 128 lanes. -/
def out14 (x0 : Vec F S512x1024 .f32) (x1 : Vec F S1x1024 .f32) (x4 : Vec F S1024x128 .bf16) (x5 : Vec F S1x128 .f32) : Vec F S512x128 .f32 :=
  View.canon [⟨rLf, k0_pay16 (k0_pay13) (k0_pay14 (normed x0 x1) (View.ld x4 rWf) (View.ld x5 rBf)) (k0_pay15 (normed x0 x1) (View.ld x4 rWf) (View.ld x5 rBf))⟩]

/-- Output 15: the log-decays of the eight heads. -/
def out15 (x0 : Vec F S512x1024 .f32) (x1 : Vec F S1x1024 .f32) (x4 : Vec F S1024x128 .bf16) (x5 : Vec F S1x128 .f32) : Vec F S512x8 .f32 :=
  View.canon [⟨rLf8, k0_pay17 (k0_pay13) (k0_pay14 (normed x0 x1) (View.ld x4 rWf) (View.ld x5 rBf)) (k0_pay15 (normed x0 x1) (View.ld x4 rWf) (View.ld x5 rBf))⟩]

/-- Output 16: the rotated retention queries. -/
def out16 (x0 : Vec F S512x1024 .f32) (x1 : Vec F S1x1024 .f32) (x6 : Vec F S1024x3072 .bf16) (x7 : Vec F S512x512 .f32) (x8 : Vec F S512x512 .f32) : Vec F S512x512 .bf16 :=
  View.canon [⟨rSq, k0_pay20 (normed x0 x1) (View.ld x7 rSq) (View.ld x8 rSq) (View.ld x6 rR0) (View.ld x6 rR1)⟩]

/-- Output 17: the rotated, scaled retention keys. -/
def out17 (x0 : Vec F S512x1024 .f32) (x1 : Vec F S1x1024 .f32) (x6 : Vec F S1024x3072 .bf16) (x7 : Vec F S512x512 .f32) (x8 : Vec F S512x512 .f32) : Vec F S512x512 .bf16 :=
  View.canon [⟨rSq, k0_pay1 (k0_pay21 (normed x0 x1) (View.ld x7 rSq) (View.ld x8 rSq) (View.ld x6 rR2) (View.ld x6 rR3)) (k0_pay22 (F := F))⟩]

/-- Output 18: the retention values. -/
def out18 (x0 : Vec F S512x1024 .f32) (x1 : Vec F S1x1024 .f32) (x6 : Vec F S1024x3072 .bf16) : Vec F S512x512 .bf16 :=
  View.canon [⟨rSq, k0_pay2 (normed x0 x1) (View.ld x6 rR4)⟩]

/-- Output 19: the gates. -/
def out19 (x0 : Vec F S512x1024 .f32) (x1 : Vec F S1x1024 .f32) (x6 : Vec F S1024x3072 .bf16) : Vec F S512x512 .f32 :=
  View.canon [⟨rSq, k0_pay3 (normed x0 x1) (View.ld x6 rR5)⟩]

/-! The stores cover their blocks. -/

theorem cover9 (p0 : Vec F S1x512x512 .bf16) (y : S1x512x512.Idx) :
    ∃ pc ∈ ([⟨rQt, p0⟩] : List (View.Piece (Elt F) S1x512x512 .bf16)), y ∈ pc.1.set :=
  View.cover_of_tiled [⟨rQt, p0⟩] S1x512x512.size (by rfl) y

theorem cover10 (p0 : Vec F S512x512 .f32) (y : S512x512.Idx) :
    ∃ pc ∈ ([⟨rSq, p0⟩] : List (View.Piece (Elt F) S512x512 .f32)), y ∈ pc.1.set :=
  View.cover_of_tiled [⟨rSq, p0⟩] S512x512.size (by rfl) y

theorem cover12 (p0 : Vec F S512x512 .bf16) (y : S512x512.Idx) :
    ∃ pc ∈ ([⟨rSq, p0⟩] : List (View.Piece (Elt F) S512x512 .bf16)), y ∈ pc.1.set :=
  View.cover_of_tiled [⟨rSq, p0⟩] S512x512.size (by rfl) y

theorem cover13 (p0 p1 : Vec F S1x1x512x256 .bf16) (y : S1x2x512x256.Idx) :
    ∃ pc ∈ ([⟨rVt1, p0⟩, ⟨rVt0, p1⟩] : List (View.Piece (Elt F) S1x2x512x256 .bf16)), y ∈ pc.1.set :=
  View.cover_of_tiled [⟨rVt1, p0⟩, ⟨rVt0, p1⟩] S1x1x512x256.size (by rfl) y

theorem cover14 (p0 : Vec F S512x128 .f32) (y : S512x128.Idx) :
    ∃ pc ∈ ([⟨rLf, p0⟩] : List (View.Piece (Elt F) S512x128 .f32)), y ∈ pc.1.set :=
  View.cover_of_tiled [⟨rLf, p0⟩] S512x128.size (by rfl) y

theorem cover15 (p0 : Vec F S512x8 .f32) (y : S512x8.Idx) :
    ∃ pc ∈ ([⟨rLf8, p0⟩] : List (View.Piece (Elt F) S512x8 .f32)), y ∈ pc.1.set :=
  View.cover_of_tiled [⟨rLf8, p0⟩] S512x8.size (by rfl) y

/-! ## The body -/

set_option maxHeartbeats 1000000 in
/-- The body, run from blocks `x0` to `x8` and any contents of the outputs, keeps the inputs and leaves `out9` to `out19`. -/
theorem body_run (c : Dev nD) (E : Set ℕ) (i : grid0.Coords)
    (arg1 : Memref sig .tc .vmem S512x1024 .f32) (harg1 : arg1.IsWhole) (arg2 : Memref sig .tc .vmem S1x1024 .f32) (harg2 : arg2.IsWhole) (arg3 : Memref sig .tc .vmem S1536x1024 .bf16) (harg3 : arg3.IsWhole) (arg4 : Memref sig .tc .vmem S1024x512 .bf16) (harg4 : arg4.IsWhole) (arg5 : Memref sig .tc .vmem S1024x128 .bf16) (harg5 : arg5.IsWhole) (arg6 : Memref sig .tc .vmem S1x128 .f32) (harg6 : arg6.IsWhole) (arg7 : Memref sig .tc .vmem S1024x3072 .bf16) (harg7 : arg7.IsWhole) (arg8 : Memref sig .tc .vmem S512x512 .f32) (harg8 : arg8.IsWhole) (arg9 : Memref sig .tc .vmem S512x512 .f32) (harg9 : arg9.IsWhole) (arg10 : Memref sig .tc .vmem S1x512x512 .bf16) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .bf16) (harg13 : arg13.IsWhole) (arg14 : Memref sig .tc .vmem S1x2x512x256 .bf16) (harg14 : arg14.IsWhole) (arg15 : Memref sig .tc .vmem S512x128 .f32) (harg15 : arg15.IsWhole) (arg16 : Memref sig .tc .vmem S512x8 .f32) (harg16 : arg16.IsWhole) (arg17 : Memref sig .tc .vmem S512x512 .bf16) (harg17 : arg17.IsWhole) (arg18 : Memref sig .tc .vmem S512x512 .bf16) (harg18 : arg18.IsWhole) (arg19 : Memref sig .tc .vmem S512x512 .bf16) (harg19 : arg19.IsWhole) (arg20 : Memref sig .tc .vmem S512x512 .f32) (harg20 : arg20.IsWhole)
    (x0 : Vec F S512x1024 .f32) (x1 : Vec F S1x1024 .f32) (x2 : Vec F S1536x1024 .bf16) (x3 : Vec F S1024x512 .bf16) (x4 : Vec F S1024x128 .bf16) (x5 : Vec F S1x128 .f32) (x6 : Vec F S1024x3072 .bf16) (x7 : Vec F S512x512 .f32) (x8 : Vec F S512x512 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ (∃ d, owns (c : Thread nD τ) arg10 fullShare d)
        ∗ (∃ d, owns (c : Thread nD τ) arg11 fullShare d)
        ∗ (∃ d, owns (c : Thread nD τ) arg12 fullShare d)
        ∗ (∃ d, owns (c : Thread nD τ) arg13 fullShare d)
        ∗ (∃ d, owns (c : Thread nD τ) arg14 fullShare d)
        ∗ (∃ d, owns (c : Thread nD τ) arg15 fullShare d)
        ∗ (∃ d, owns (c : Thread nD τ) arg16 fullShare d)
        ∗ (∃ d, owns (c : Thread nD τ) arg17 fullShare d)
        ∗ (∃ d, owns (c : Thread nD τ) arg18 fullShare d)
        ∗ (∃ d, owns (c : Thread nD τ) arg19 fullShare d)
        ∗ (∃ d, owns (c : Thread nD τ) arg20 fullShare d)
        ∗ (iprop(owns (c : Thread nD τ) arg1 fullShare x0
          ∗ owns (c : Thread nD τ) arg2 fullShare x1
          ∗ owns (c : Thread nD τ) arg3 fullShare x2
          ∗ owns (c : Thread nD τ) arg4 fullShare x3
          ∗ owns (c : Thread nD τ) arg5 fullShare x4
          ∗ owns (c : Thread nD τ) arg6 fullShare x5
          ∗ owns (c : Thread nD τ) arg7 fullShare x6
          ∗ owns (c : Thread nD τ) arg8 fullShare x7
          ∗ owns (c : Thread nD τ) arg9 fullShare x8
          ∗ owns (c : Thread nD τ) arg10 fullShare (out9 x0 x1 x2)
          ∗ owns (c : Thread nD τ) arg11 fullShare (out10 x0 x1 x2)
          ∗ owns (c : Thread nD τ) arg12 fullShare (out11 x0 x1 x2)
          ∗ owns (c : Thread nD τ) arg13 fullShare (out12 x0 x1 x3)
          ∗ owns (c : Thread nD τ) arg14 fullShare (out13 x0 x1 x2)
          ∗ owns (c : Thread nD τ) arg15 fullShare (out14 x0 x1 x4 x5)
          ∗ owns (c : Thread nD τ) arg16 fullShare (out15 x0 x1 x4 x5)
          ∗ owns (c : Thread nD τ) arg17 fullShare (out16 x0 x1 x6 x7 x8)
          ∗ owns (c : Thread nD τ) arg18 fullShare (out17 x0 x1 x6 x7 x8)
          ∗ owns (c : Thread nD τ) arg19 fullShare (out18 x0 x1 x6)
          ∗ owns (c : Thread nD τ) arg20 fullShare (out19 x0 x1 x6)) -∗ K PUnit.unit))
      ⊢ wp frame (wpE (defs₀ (F := F)) Variants.none c none) E (cc0_inproj_prompt i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0_inproj_prompt_eq_skeleton]; unfold cc0_inproj_prompt_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, Hk⟩
  subst hf0 hf1 hf2 hf3 hf4 hf5 hf6 hf7 hf8
  sl_exec
  sl_step
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [H4]; · iexists f4; isplitr; (· ipureintro; rfl); iexact H4
  isplitl [H5]; · iexists f5; isplitr; (· ipureintro; rfl); iexact H5
  isplitl [H6]; · iexists f6; isplitr; (· ipureintro; rfl); iexact H6
  isplitl [H7]; · iexists f7; isplitr; (· ipureintro; rfl); iexact H7
  isplitl [H8]; · iexists f8; isplitr; (· ipureintro; rfl); iexact H8
  isplitl [H9]; · iexists _; isplitr; swap; (· iexact H9); ipureintro; exact (View.read_writes_eq_canon _ _ _ (cover9 _)).trans rfl
  isplitl [H10]; · iexists _; isplitr; swap; (· iexact H10); ipureintro; exact (View.read_writes_eq_canon _ _ _ (cover10 _)).trans rfl
  isplitl [H11]; · iexists _; isplitr; swap; (· iexact H11); ipureintro; exact (View.read_writes_eq_canon _ _ _ (cover10 _)).trans rfl
  isplitl [H12]; · iexists _; isplitr; swap; (· iexact H12); ipureintro; exact (View.read_writes_eq_canon _ _ _ (cover12 _)).trans rfl
  isplitl [H13]; · iexists _; isplitr; swap; (· iexact H13); ipureintro; exact (View.read_writes_eq_canon _ _ _ (cover13 _ _)).trans rfl
  isplitl [H14]; · iexists _; isplitr; swap; (· iexact H14); ipureintro; exact (View.read_writes_eq_canon _ _ _ (cover14 _)).trans rfl
  isplitl [H15]; · iexists _; isplitr; swap; (· iexact H15); ipureintro; exact (View.read_writes_eq_canon _ _ _ (cover15 _)).trans rfl
  isplitl [H16]; · iexists _; isplitr; swap; (· iexact H16); ipureintro; exact (View.read_writes_eq_canon _ _ _ (cover12 _)).trans rfl
  isplitl [H17]; · iexists _; isplitr; swap; (· iexact H17); ipureintro; exact (View.read_writes_eq_canon _ _ _ (cover12 _)).trans rfl
  isplitl [H18]; · iexists _; isplitr; swap; (· iexact H18); ipureintro; exact (View.read_writes_eq_canon _ _ _ (cover12 _)).trans rfl
  iexists _; isplitr; swap; (· iexact H19); ipureintro; exact (View.read_writes_eq_canon _ _ _ (cover10 _)).trans rfl

/-! ## The pipeline's data -/

/-- The arrays as the region finds them; after the body the inputs' blocks as they were and the outputs at `out9` to `out19`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out9 (iblk m c 0 t) (iblk m c 1 t) (iblk m c 2 t)
    | ⟨10, _⟩ => out10 (iblk m c 0 t) (iblk m c 1 t) (iblk m c 2 t)
    | ⟨11, _⟩ => out11 (iblk m c 0 t) (iblk m c 1 t) (iblk m c 2 t)
    | ⟨12, _⟩ => out12 (iblk m c 0 t) (iblk m c 1 t) (iblk m c 3 t)
    | ⟨13, _⟩ => out13 (iblk m c 0 t) (iblk m c 1 t) (iblk m c 2 t)
    | ⟨14, _⟩ => out14 (iblk m c 0 t) (iblk m c 1 t) (iblk m c 4 t) (iblk m c 5 t)
    | ⟨15, _⟩ => out15 (iblk m c 0 t) (iblk m c 1 t) (iblk m c 4 t) (iblk m c 5 t)
    | ⟨16, _⟩ => out16 (iblk m c 0 t) (iblk m c 1 t) (iblk m c 6 t) (iblk m c 7 t) (iblk m c 8 t)
    | ⟨17, _⟩ => out17 (iblk m c 0 t) (iblk m c 1 t) (iblk m c 6 t) (iblk m c 7 t) (iblk m c 8 t)
    | ⟨18, _⟩ => out18 (iblk m c 0 t) (iblk m c 1 t) (iblk m c 6 t)
    | ⟨19, _⟩ => out19 (iblk m c 0 t) (iblk m c 1 t) (iblk m c 6 t)
    | ⟨_ + 20, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = out9 (iblk m c 0 t) (iblk m c 1 t) (iblk m c 2 t) := by dsimp only [dats]
theorem after_10 (c : Dev nD) (t : Fin cfg0.N) : (dats m 0 c).after 10 t = out10 (iblk m c 0 t) (iblk m c 1 t) (iblk m c 2 t) := by dsimp only [dats]
theorem after_11 (c : Dev nD) (t : Fin cfg0.N) : (dats m 0 c).after 11 t = out11 (iblk m c 0 t) (iblk m c 1 t) (iblk m c 2 t) := by dsimp only [dats]
theorem after_12 (c : Dev nD) (t : Fin cfg0.N) : (dats m 0 c).after 12 t = out12 (iblk m c 0 t) (iblk m c 1 t) (iblk m c 3 t) := by dsimp only [dats]
theorem after_13 (c : Dev nD) (t : Fin cfg0.N) : (dats m 0 c).after 13 t = out13 (iblk m c 0 t) (iblk m c 1 t) (iblk m c 2 t) := by dsimp only [dats]
theorem after_14 (c : Dev nD) (t : Fin cfg0.N) : (dats m 0 c).after 14 t = out14 (iblk m c 0 t) (iblk m c 1 t) (iblk m c 4 t) (iblk m c 5 t) := by dsimp only [dats]
theorem after_15 (c : Dev nD) (t : Fin cfg0.N) : (dats m 0 c).after 15 t = out15 (iblk m c 0 t) (iblk m c 1 t) (iblk m c 4 t) (iblk m c 5 t) := by dsimp only [dats]
theorem after_16 (c : Dev nD) (t : Fin cfg0.N) : (dats m 0 c).after 16 t = out16 (iblk m c 0 t) (iblk m c 1 t) (iblk m c 6 t) (iblk m c 7 t) (iblk m c 8 t) := by dsimp only [dats]
theorem after_17 (c : Dev nD) (t : Fin cfg0.N) : (dats m 0 c).after 17 t = out17 (iblk m c 0 t) (iblk m c 1 t) (iblk m c 6 t) (iblk m c 7 t) (iblk m c 8 t) := by dsimp only [dats]
theorem after_18 (c : Dev nD) (t : Fin cfg0.N) : (dats m 0 c).after 18 t = out18 (iblk m c 0 t) (iblk m c 1 t) (iblk m c 6 t) := by dsimp only [dats]
theorem after_19 (c : Dev nD) (t : Fin cfg0.N) : (dats m 0 c).after 19 t = out19 (iblk m c 0 t) (iblk m c 1 t) (iblk m c 6 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d

/-! ## The body's obligation at a point -/

/-- What a point starts from. -/
def ante (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d)))

/-- What it ends with. -/
def done (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t))

set_option maxHeartbeats 400000 in
theorem point_run (c : Dev nD) (t : Fin cfg0.N) :
    ante m c t ⊢ wp frame (wpE (defs₀ (F := F)) Variants.none c none) Set.univ (bodyAt0 t) (fun _ => done m c t) := by
  unfold ante done bodyAt0
  simp only [before_0, before_1, before_2, before_3, before_4, before_5, before_6, before_7, before_8]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14, after_15, after_16, after_17, after_18, after_19]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply (body_run c Set.univ (grid0.coords t) _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  iintro ⟨H0, H1, H2, H3, H4, H5, H6, H7, H8, H9, H10, H11, H12, H13, H14, H15, H16, H17, H18, H19⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem row_eq (t : Fin cfg0.N) : defs₀ (F := F) .tc cfg0.body (cfg0.bodyArgs t (cfg0.slots t)) = bodyAt0 t := by
  unfold defs₀; rw [Defs.onTc_tc]

set_option maxHeartbeats 2000000 in
theorem obligation (c : Dev nD) : BodyObligation (dats (F := F) m 0 c) (defs₀ (F := F)) Variants.none () Set.univ := fun t => by
  rw [bigSep_W0, bigSep_W0, row_eq]
  exact triple_restated (point_run m c t) rfl .rfl fun _ => .rfl

/-! ## The run -/

set_option backward.isDefEq.respectTransparency.types false in
set_option maxHeartbeats 800000 in
/-- Every execution ends, with each array as the data above say and all counters at zero. -/
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

theorem run : θ_run defs (onTc (τ := τ) (main (F := F))) (s₀ m ρ) (Pipeline.FramePost cfgs (dats m) 0 (V m)) :=
  (θ_run defs _ _).mono (fun _ h => h.1) (run_quiescent m ρ)

/-- The frame: the arguments end as they began and the counters are at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run m ρ)) ((θ_run defs _ _).mono (fun _ h => h.2) (run_quiescent m ρ))

set_option maxHeartbeats 800000 in
/-- The run with the returned arrays named. -/
theorem run_arrays : θ_run defs (onTc (τ := τ) (main (F := F))) ⟨m, fun _ => 0, ρ⟩ fun r => ∀ c : Dev nD,
      r.2.mem ((c : Thread nD τ).loc main_v68_0) = (dats m 0 c).arrAt 9 cfg0.N
      ∧ r.2.mem ((c : Thread nD τ).loc main_v68_1) = (dats m 0 c).arrAt 10 cfg0.N
      ∧ r.2.mem ((c : Thread nD τ).loc main_v68_2) = (dats m 0 c).arrAt 11 cfg0.N
      ∧ r.2.mem ((c : Thread nD τ).loc main_v68_6) = (dats m 0 c).arrAt 15 cfg0.N
      ∧ r.2.mem ((c : Thread nD τ).loc main_v68_7) = (dats m 0 c).arrAt 16 cfg0.N
      ∧ r.2.mem ((c : Thread nD τ).loc main_v68_8) = (dats m 0 c).arrAt 17 cfg0.N
      ∧ r.2.mem ((c : Thread nD τ).loc main_v68_9) = (dats m 0 c).arrAt 18 cfg0.N
      ∧ r.2.mem ((c : Thread nD τ).loc main_v68_10) = (dats m 0 c).arrAt 19 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1 9,
    (h c).1 10,
    (h c).1 11,
    (h c).1 15,
    (h c).1 16,
    (h c).1 17,
    (h c).1 18,
    (h c).1 19,
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c)⟩)
    (run m ρ)

end Cert.InprojIdeal.Hand

end
-- ==== Proof.InprojMath.lean ====
/- Two facts of the extended reals: the logarithm of the logistic function in the two forms in which it is computed,
   and a pair of lanes turned by an angle. -/
module

public import Idealize.ShloMosaic.Lib.Pointwise
public import Idealize.ShloMosaic.Lib.Claim

@[expose] public section

noncomputable section

namespace Cert.InprojMath

open Idealize.ShloMosaic

/-- Turning the sign of the larger of `-z` and `0` gives the smaller of `z` and `0`. -/
theorem neg_max (z : EReal) : -(max (-z) 0) = min z 0 := by
  rcases le_total z 0 with h | h
  · rw [max_eq_left (EReal.neg_nonneg.mpr h), min_eq_left h, neg_neg]
  · rw [max_eq_right ((by simpa using h : -z ≤ 0)), min_eq_right h, neg_zero]

/-- The exponential is not negative. -/
theorem exp_nonneg (x : EReal) : 0 ≤ Ideal.exp x := by
  induction x with
  | bot => exact le_refl _
  | top => exact le_top
  | coe r => exact EReal.coe_nonneg.mpr (Real.exp_pos r).le

/-- The logarithm of one plus something not negative is not `⊥`. -/
theorem log1p_ne_bot {x : EReal} (h : 0 ≤ x) : Ideal.log1p x ≠ ⊥ := by
  induction x with
  | bot => exact absurd h (by simp)
  | top =>
    unfold Ideal.log1p
    rw [show (1 : EReal) + ⊤ = ⊤ from EReal.add_top_of_ne_bot (by decide)]
    exact top_ne_bot
  | coe r =>
    have hr : 0 ≤ r := EReal.coe_nonneg.mp h
    have e : (1 : EReal) + (r : EReal) = ((1 + r : ℝ) : EReal) := by norm_cast
    unfold Ideal.log1p
    rw [e]
    show (if 1 + r ≤ 0 then ⊥ else (Real.log (1 + r) : EReal)) ≠ ⊥
    rw [if_neg (by linarith)]
    exact EReal.coe_ne_bot _

/-- The reference's form of the log-sigmoid. -/
def logsig (z : EReal) : EReal := -(max (-z) 0 + Ideal.log1p (Ideal.exp (-(max (-z) (- -z)))))

/-- The kernel's form is the same. -/
theorem logsig_eq (z : EReal) : min z 0 - Ideal.log1p (Ideal.exp (0 - max z (-z))) = logsig z := by
  unfold logsig
  rw [neg_neg, max_comm (-z) z, zero_sub, EReal.neg_add (.inl ?_) (.inr (log1p_ne_bot (exp_nonneg _))), neg_max]
  exact ne_of_gt (lt_of_lt_of_le EReal.bot_lt_zero (le_max_right _ _))

/-- A lane of the first half, as the kernel adds it up. -/
theorem turn_first (p q a b : EReal) : p * a + q * -b = p * a - q * b := by
  rw [mul_neg, sub_eq_add_neg]

end Cert.InprojMath

end
-- ==== Proof.InprojPure.lean ====
/- What each stored block of the projection call holds, entry by entry, from the blocks that came in. -/
module

public import proofs.«01_k».proof.Proof.FfnSpec
public import proofs.«01_k».proof.Proof.InprojMath
public import proofs.«01_k».proof.Proof.InprojIdealRun
public import Idealize.ShloMosaic.Lib.Pipeline.ValueKit
public import Idealize.ShloMosaic.Lib.Pointwise
public import Idealize.ShloMosaic.Lib.WordCmp
public import Idealize.ShloMosaic.Lib.Claim

@[expose] public section

set_option maxRecDepth 16384

noncomputable section

namespace Cert.InprojPure

open Cert.InprojIdeal Cert.InprojIdeal.Gen Cert.InprojIdeal.Hand
open Idealize.ShloMosaic Idealize.ShloMosaic.TcCoe Idealize.SL.Sem
open Idealize.ShloMosaic.WordCmp

variable (x0 : FVec Ideal S512x1024 .f32) (x1 : FVec Ideal S1x1024 .f32) (x2 : FVec Ideal S1536x1024 .bf16)
  (x4 : FVec Ideal S1024x128 .bf16) (x5 : FVec Ideal S1x128 .f32) (x6 : FVec Ideal S1024x3072 .bf16)
  (x7 x8 : FVec Ideal S512x512 .f32)

/-- The normalised rows. -/
def hrow (r : Fin 512) (l : Fin 1024) : EReal := FfnSpec.norm (fun k => x0 (ix2 r k)) (fun k => x1 (ix2 0 k)) l

theorem hidden (r : Fin 512) (l : Fin 1024) : k0_pay4 (F := Ideal) x0 x1 (ix2 r l) = hrow x0 x1 r l := by
  unfold hrow
  pointwise [k0_pay4]
  rfl

/-- The same, of the blocks as the body reads them. -/
theorem hidden_read (r : Fin 512) (l : Fin 1024) : k0_pay4 (F := Ideal) (View.ld x0 rX) (View.ld x1 rG) (ix2 r l) = hrow x0 x1 r l := by
  refine (hidden _ _ r l).trans ?_
  unfold hrow
  congr 1 <;> funext k <;> pointwise

/-- The product of a normalised row with a column of the retention weights. -/
def col (r : Fin 512) (j : Fin 3072) : EReal := ∑ l, hrow x0 x1 r l * x6 (ix2 l j)

theorem stored9 (z : Fin 1) (j : Fin 512) (r : Fin 512) : out9 (F := Ideal) x0 x1 x2 (ix3 z j r)
    = (∑ l, x2 (ix2 (⟨j, by omega⟩ : Fin 1536) l) * hrow x0 x1 r l) * Ideal.ofBits .f32 0x3E000000#32 := by
  unfold out9
  frame_out
  pointwise [k0_pay5, hidden]

theorem stored10 (r : Fin 512) (j : Fin 512) : out10 (F := Ideal) x0 x1 x2 (ix2 r j)
    = ∑ l, x2 (ix2 (⟨512 + j, by omega⟩ : Fin 1536) l) * hrow x0 x1 r l := by
  unfold out10
  frame_out
  pointwise [k0_pay6, hidden]

theorem stored11 (r : Fin 512) (j : Fin 512) : out11 (F := Ideal) x0 x1 x2 (ix2 r j)
    = ∑ l, x2 (ix2 (⟨1024 + j, by omega⟩ : Fin 1536) l) * hrow x0 x1 r l := by
  unfold out11
  frame_out
  pointwise [k0_pay8, k0_pay7, hidden]

theorem lanes (r : Fin 512) (j : Fin 128) (h : j.val < 8) : k0_pay13 (ix2 r j) = 1#1 := by
  pointwise [k0_pay13]
  word_cmp

theorem stored15 (r : Fin 512) (h : Fin 8) : out15 (F := Ideal) x0 x1 x4 x5 (ix2 r h)
    = InprojMath.logsig ((∑ l, hrow x0 x1 r l * x4 (ix2 l (⟨h, by omega⟩ : Fin 128))) + x5 (ix2 0 (⟨h, by omega⟩ : Fin 128))) := by
  rw [← InprojMath.logsig_eq]
  unfold out15
  frame_out
  pointwise [k0_pay17, k0_pay16, k0_pay15, k0_pay14, k0_pay12, hidden_read]
  rw [lanes _ _ h.isLt]
  rfl

theorem stored16 (r : Fin 512) (j : Fin 512) : out16 (F := Ideal) x0 x1 x6 x7 x8 (ix2 r j)
    = col x0 x1 x6 r ⟨j, by omega⟩ * x7 (ix2 r j) + col x0 x1 x6 r ⟨512 + j, by omega⟩ * x8 (ix2 r j) := by
  unfold out16 col
  frame_out
  pointwise [k0_pay20, k0_pay19, k0_pay18, hidden_read]

theorem stored17 (r : Fin 512) (j : Fin 512) : out17 (F := Ideal) x0 x1 x6 x7 x8 (ix2 r j)
    = (col x0 x1 x6 r ⟨1024 + j, by omega⟩ * x7 (ix2 r j) + col x0 x1 x6 r ⟨1536 + j, by omega⟩ * x8 (ix2 r j))
      * Ideal.ofBits .f32 0x3E000000#32 := by
  unfold out17 col
  frame_out
  pointwise [k0_pay1, k0_pay21, k0_pay22, k0_pay19, k0_pay18, hidden_read]

theorem stored18 (r : Fin 512) (j : Fin 512) : out18 (F := Ideal) x0 x1 x6 (ix2 r j) = col x0 x1 x6 r ⟨2048 + j, by omega⟩ := by
  unfold out18 col
  frame_out
  pointwise [k0_pay2, hidden_read]

theorem stored19 (r : Fin 512) (j : Fin 512) : out19 (F := Ideal) x0 x1 x6 (ix2 r j) = col x0 x1 x6 r ⟨2560 + j, by omega⟩ := by
  unfold out19 col
  frame_out
  pointwise [k0_pay3, hidden_read]

end Cert.InprojPure

end
-- ==== Proof.InprojRefValue.lean ====
/- The projections of a token as the problem states them, entry by entry. -/
module

public import proofs.«01_k».proof.Proof.FfnSpec
public import proofs.«01_k».proof.Proof.InprojMath
public import proofs.«01_k».proof.Proof.Gen.InprojRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.InprojRefValue

open Cert.InprojRefIdeal Cert.InprojRefIdeal.Read
open Idealize.ShloMosaic Idealize.SL.Sem

variable (X : FVec Ideal S4x4096x1024 .f32) (G : FVec Ideal S1x1024 .f32) (W : FVec Ideal S1x1024x3592 .f32)
  (B : FVec Ideal S1x8 .f32)

/-- Column `j` of the token's projection: its normalised row times that column of the weights. -/
def proj (b : Fin 4) (s : Fin 4096) (j : Fin 3592) : EReal :=
  ∑ l, FfnSpec.norm (fun k => X (ix3 b s k)) (fun k => G (ix2 0 k)) l * W (ix3 0 l j)

theorem hidden_at (b : Fin 4) (s : Fin 4096) (l : Fin 1024) : val_main_v13 (F := Ideal) X G (ix3 b s l)
    = FfnSpec.norm (fun k => X (ix3 b s k)) (fun k => G (ix2 0 k)) l := by
  pointwise [val_main_v13, val_main_v12, val_main_v11,
    val_main_v10, val_main_v9, val_main_v8, val_main_v7, val_main_v6, val_main_v5, val_main_v4, val_main_v3, val_main_v2,
    val_main_v1, val_main_v0, val_main_cst, val_main_cst_0, val_main_cst_1]
  rfl

theorem proj_at (b : Fin 4) (s : Fin 4096) (j : Fin 3592) : val_main_v17 (F := Ideal) X G W (ix3 b s j) = proj X G W b s j := by
  unfold proj
  pointwise [val_main_v17, val_main_v14, hidden_at]

/-- The cosine of position `s` at frequency `n`, and its sine. -/
def cosT (s : Fin 4096) (n : Fin 32) : EReal := val_main_v43 (F := Ideal) (ix2 s n)
def sinT (s : Fin 4096) (n : Fin 32) : EReal := val_main_v45 (F := Ideal) (ix2 s n)

theorem query_at (b : Fin 4) (j : Fin 512) (s : Fin 4096) : val_main_v100 (F := Ideal) X G W (ix3 b j s)
    = proj X G W b s ⟨j, by omega⟩ * Ideal.ofBits .f32 0x3E000000#32 := by
  pointwise [val_main_v100, val_main_v99, val_main_v98, val_main_v97, val_main_v96, val_main_v92, val_main_v18, val_main_cst_7, proj_at]

theorem key_at (R : Fin 16384) (j : Fin 512) : val_main_v101 (F := Ideal) X G W (ix2 R j)
    = proj X G W ⟨R / 4096, by omega⟩ ⟨R % 4096, by omega⟩ ⟨512 + j, by omega⟩ := by
  pointwise [val_main_v101, val_main_v93, val_main_v19, proj_at]

theorem value_at (R : Fin 16384) (j : Fin 512) : val_main_v102 (F := Ideal) X G W (ix2 R j)
    = proj X G W ⟨R / 4096, by omega⟩ ⟨R % 4096, by omega⟩ ⟨1024 + j, by omega⟩ := by
  pointwise [val_main_v102, val_main_v94, val_main_v20, proj_at]

theorem ret_value_at (R : Fin 16384) (j : Fin 512) : val_main_v109 (F := Ideal) X G W (ix2 R j)
    = proj X G W ⟨R / 4096, by omega⟩ ⟨R % 4096, by omega⟩ ⟨2568 + j, by omega⟩ := by
  pointwise [val_main_v109, val_main_v108, val_main_v95, val_main_v24, proj_at]

theorem ret_gate_at (R : Fin 16384) (j : Fin 512) : val_main_v110 (F := Ideal) X G W (ix2 R j)
    = proj X G W ⟨R / 4096, by omega⟩ ⟨R % 4096, by omega⟩ ⟨3080 + j, by omega⟩ := by
  pointwise [val_main_v110, val_main_v25, proj_at]

/-- The two halves of a head, turned by the position's angles: `o` is where the head's columns begin. -/
def first (o : ℕ) (ho : o + 512 ≤ 3592) (b : Fin 4) (s : Fin 4096) (h : Fin 8) (n : Fin 32) : EReal :=
  proj X G W b s ⟨o + (h * 64 + n), by omega⟩ * cosT s n - proj X G W b s ⟨o + (h * 64 + (32 + n)), by omega⟩ * sinT s n
def second (o : ℕ) (ho : o + 512 ≤ 3592) (b : Fin 4) (s : Fin 4096) (h : Fin 8) (n : Fin 32) : EReal :=
  proj X G W b s ⟨o + (h * 64 + n), by omega⟩ * sinT s n + proj X G W b s ⟨o + (h * 64 + (32 + n)), by omega⟩ * cosT s n

/-- A lane of a turned head. -/
def turned (o : ℕ) (ho : o + 512 ≤ 3592) (b : Fin 4) (s : Fin 4096) (h : Fin 8) (n : Fin 64) : EReal :=
  if e : n.val < 32 then first X G W o ho b s h ⟨n, e⟩ else second X G W o ho b s h ⟨n - 32, by omega⟩

theorem query_first (b : Fin 4) (s : Fin 4096) (h : Fin 8) (n : Fin 32) : val_main_v53 (F := Ideal) X G W (ix4 b s h n)
    = first X G W 1544 (by omega) b s h n := by
  unfold first cosT sinT
  pointwise [val_main_v53, val_main_v52, val_main_v51, val_main_v50, val_main_v49, val_main_v48, val_main_v47, val_main_v46,
    val_main_v44, val_main_v30, val_main_v22, proj_at]

theorem query_second (b : Fin 4) (s : Fin 4096) (h : Fin 8) (n : Fin 32) : val_main_v58 (F := Ideal) X G W (ix4 b s h n)
    = second X G W 1544 (by omega) b s h n := by
  unfold second cosT sinT
  pointwise [val_main_v58, val_main_v57, val_main_v56, val_main_v55, val_main_v54, val_main_v48, val_main_v47, val_main_v46,
    val_main_v44, val_main_v30, val_main_v22, proj_at]

theorem same_angles (s : Fin 4096) (n : Fin 32) : val_main_v72 (F := Ideal) (ix2 s n) = val_main_v42 (F := Ideal) (ix2 s n) := rfl

theorem key_first (b : Fin 4) (s : Fin 4096) (h : Fin 8) (n : Fin 32) : val_main_v83 (F := Ideal) X G W (ix4 b s h n)
    = first X G W 2056 (by omega) b s h n := by
  unfold first cosT sinT
  pointwise [val_main_v83, val_main_v82, val_main_v81, val_main_v80, val_main_v79, val_main_v78, val_main_v77, val_main_v76,
    val_main_v74, val_main_v60, val_main_v23, val_main_v73, val_main_v75, val_main_v43, val_main_v45, same_angles, proj_at]

theorem key_second (b : Fin 4) (s : Fin 4096) (h : Fin 8) (n : Fin 32) : val_main_v88 (F := Ideal) X G W (ix4 b s h n)
    = second X G W 2056 (by omega) b s h n := by
  unfold second cosT sinT
  pointwise [val_main_v88, val_main_v87, val_main_v86, val_main_v85, val_main_v84, val_main_v78, val_main_v77, val_main_v76,
    val_main_v74, val_main_v60, val_main_v23, val_main_v73, val_main_v75, val_main_v43, val_main_v45, same_angles, proj_at]

theorem query_turned (b : Fin 4) (s : Fin 4096) (h : Fin 8) (n : Fin 64) : val_main_v59 (F := Ideal) X G W (ix4 b s h n)
    = turned X G W 1544 (by omega) b s h n := by
  unfold turned
  rw [← funext fun n => query_first X G W b s h n, ← funext fun n => query_second X G W b s h n]
  pointwise [val_main_v59]

theorem key_turned (b : Fin 4) (s : Fin 4096) (h : Fin 8) (n : Fin 64) : val_main_v89 (F := Ideal) X G W (ix4 b s h n)
    = turned X G W 2056 (by omega) b s h n := by
  unfold turned
  rw [← funext fun n => key_first X G W b s h n, ← funext fun n => key_second X G W b s h n]
  pointwise [val_main_v89]

theorem ret_query_at (R : Fin 16384) (j : Fin 512) : val_main_v105 (F := Ideal) X G W (ix2 R j)
    = turned X G W 1544 (by omega) ⟨R / 4096, by omega⟩ ⟨R % 4096, by omega⟩ ⟨j / 64, by omega⟩ ⟨j % 64, by omega⟩ := by
  pointwise [val_main_v105, val_main_v104, query_turned]

theorem ret_key_at (R : Fin 16384) (j : Fin 512) : val_main_v107 (F := Ideal) X G W (ix2 R j)
    = turned X G W 2056 (by omega) ⟨R / 4096, by omega⟩ ⟨R % 4096, by omega⟩ ⟨j / 64, by omega⟩ ⟨j % 64, by omega⟩
      * Ideal.ofBits .f32 0x3E000000#32 := by
  pointwise [val_main_v107, val_main_v106, val_main_v91, val_main_v90, val_main_cst_6, key_turned]

theorem logit_at (b : Fin 4) (s : Fin 4096) (h : Fin 8) : val_main_v28 (F := Ideal) X G W B (ix3 b s h)
    = proj X G W b s ⟨1536 + h, by omega⟩ + B (ix2 0 h) := by
  pointwise [val_main_v28, val_main_v27, val_main_v26, val_main_v21, val_main_v15, proj_at]

theorem decay_at (R : Fin 16384) (h : Fin 8) : val_main_v103 (F := Ideal) X G W B (ix2 R h)
    = InprojMath.logsig (proj X G W ⟨R / 4096, by omega⟩ ⟨R % 4096, by omega⟩ ⟨1536 + h, by omega⟩ + B (ix2 0 h)) := by
  unfold InprojMath.logsig
  pointwise [val_main_v103, val_main_v29, val_main_call0_v1, val_main_call0_v0, val_main_call0_call0_v11, val_main_call0_call0_v10,
    val_main_call0_call0_v9, val_main_call0_call0_v8, val_main_call0_call0_v7, val_main_call0_call0_v6, val_main_call0_call0_v5,
    val_main_call0_call0_v4, val_main_call0_call0_v3, val_main_call0_call0_v2, val_main_call0_call0_v1, val_main_call0_call0_v0,
    val_main_call0_call0_cst, logit_at]
  rw [if_neg (fun e => e rfl)]
  rfl

end Cert.InprojRefValue

end
-- ==== Proof.InprojReads.lean ====
/- What each point of the projection call reads: the blocks of the rows, of the gain and of the prepared weights, in
   terms of the arguments. -/
module

public import proofs.«01_k».proof.Proof.InprojIdealRun
public import Idealize.ShloMosaic.Lib.Pipeline.ValueKit
public import Idealize.ShloMosaic.Lib.Pointwise
public import Idealize.ShloMosaic.Lib.Claim

@[expose] public section

set_option maxRecDepth 16384

noncomputable section

namespace Cert.InprojReads

open Cert.InprojIdeal Cert.InprojIdeal.Gen
open Idealize.ShloMosaic Idealize.ShloMosaic.TcCoe Idealize.SL.Sem
open Idealize.ShloMosaic.Pipeline (Dat)

variable (m : (ℓ : Loc nD τ sig) → Buf (Elt Ideal) ℓ) (c : Dev nD) (t : Fin cfg0.N)

/-- Where each window stands at a grid point. -/
theorem idx : ∀ t : Fin cfg0.N, win0_0.index t = ![t.val, 0] ∧ win0_1.index t = ![0, 0]
    ∧ win0_2.index t = ![0, 0] ∧ win0_4.index t = ![0, 0] ∧ win0_5.index t = ![0, 0]
    ∧ win0_6.index t = ![0, 0] ∧ win0_7.index t = ![t.val % 8, 0] ∧ win0_8.index t = ![t.val % 8, 0]
    ∧ win0_9.index t = ![t.val / 8, 0, t.val % 8] ∧ win0_10.index t = ![t.val, 0] ∧ win0_11.index t = ![t.val, 0]
    ∧ win0_15.index t = ![t.val, 0] ∧ win0_16.index t = ![t.val, 0] ∧ win0_17.index t = ![t.val, 0]
    ∧ win0_18.index t = ![t.val, 0] ∧ win0_19.index t = ![t.val, 0] ∧ t.val < 32 :=
  (by decide +kernel : ∀ t : Fin grid0.N, _)

/-- The weights as a matrix. -/
def wIn : FVec Ideal S1024x3592 .f32 :=
  shapeCast S1024x3592 (m ((c : Thread nD τ).loc main_arg2) : FVec Ideal S1x1024x3592 .f32) shapeCasts_S1x1024x3592_S1024x3592

theorem all_ops : ([hostOps0 (F := Ideal), hostOps0_1, hostOps0_2, hostOps0_3, hostOps0_4, hostOps0_5, hostOps0_6, hostOps0_7, hostOps0_8].flatten)
    = hostOps0 ++ (hostOps0_1 ++ (hostOps0_2 ++ (hostOps0_3 ++ (hostOps0_4 ++ (hostOps0_5 ++ (hostOps0_6 ++ (hostOps0_7 ++ hostOps0_8))))))) := rfl

/-- The angles: each position times each frequency. -/
def angles : FVec Ideal S4096x32 .f32 :=
  mulf (broadcastInDim S4096x32 ![0, 1] bcast_S4096x1_S4096x32_0_1 (broadcastInDim S4096x1 ![0] bcast_S4096_S4096x1_0
      (sitofp .f32 (iotaInDim S4096 32 0))))
    (broadcastInDim S4096x32 ![0, 1] bcast_S1x32_S4096x32_0_1 (broadcastInDim S1x32 ![1] bcast_S32_S1x32_1
      (Host.powf (broadcastInDim S32 ![] bcast_S_S32 (constant S_ .f32 0x461C4000#32))
        (Host.divf (Host.negf (sitofp .f32 (iotaInDim S32 32 0))) (broadcastInDim S32 ![] bcast_S_S32 (constant S_ .f32 0x42000000#32))))))

/-- A table over the positions: two halves side by side, the same for each head. -/
def table (a b : FVec Ideal S4096x32 .f32) : FVec Ideal S4096x512 .f32 :=
  shapeCast S4096x512 (broadcastInDim S1x4096x8x64 ![0, 1, 2, 3] bcast_S1x4096x1x64_S1x4096x8x64_0_1_2_3
    (shapeCast S1x4096x1x64 (concatenate S4096x64 1 [⟨S4096x32, a⟩, ⟨S4096x32, b⟩] concatenates_S4096x32_S4096x32_S4096x64_d1)
      shapeCasts_S4096x64_S1x4096x1x64)) shapeCasts_S1x4096x8x64_S4096x512

/-- The lane a lane of a head is paired with, as the host computes it, and made a column of indices. -/
def six4 : IVec S_ 32 := select (cmpi .eq (constantI S_ 32 64#32) (constantI S_ 32 0#32)) (constantI S_ 32 1#32) (constantI S_ 32 64#32)
def rem4 : IVec S512 32 := Host.remsi (iotaInDim S512 32 0) (broadcastInDim S512 ![] bcast_S_S512 six4)
def rem : IVec S512 32 :=
  select (andi (cmpi .ne (cmpi .slt rem4 (broadcastInDim S512 ![] bcast_S_S512 (constantI S_ 32 0#32)))
      (broadcastInDim S512 ![] bcast_S_S512 (cmpi .slt six4 (constantI S_ 32 0#32))))
      (cmpi .ne rem4 (broadcastInDim S512 ![] bcast_S_S512 (constantI S_ 32 0#32))))
    (addi rem4 (broadcastInDim S512 ![] bcast_S_S512 six4)) rem4
def swap : IVec S512 32 :=
  select (cmpi .slt rem (broadcastInDim S512 ![] bcast_S_S512 (constantI S_ 32 32#32)))
    (addi (iotaInDim S512 32 0) (broadcastInDim S512 ![] bcast_S_S512 (constantI S_ 32 32#32)))
    (subi (iotaInDim S512 32 0) (broadcastInDim S512 ![] bcast_S_S512 (constantI S_ 32 32#32)))
def swapCol (w : IVec S512 32) : IVec S512x1 32 := broadcastInDim S512x1 ![0] bcast_S512_S512x1_0
  (select (cmpi .slt w (broadcastInDim S512 ![] bcast_S_S512 (constantI S_ 32 0#32)))
    (addi w (broadcastInDim S512 ![] bcast_S_S512 (constantI S_ 32 512#32))) w)

theorem entry61 : V m c main_v61 =
    (shapeCast S16384x1024 (m ((c : Thread nD τ).loc main_arg0) : FVec Ideal S4x4096x1024 .f32) shapeCasts_S4x4096x1024_S16384x1024 : FVec Ideal S16384x1024 .f32) := by
  unfold V
  rw [all_ops]
  simp only [List.cons_append, List.append_nil, List.nil_append]
  entry_read
  rfl

theorem entry63 : V m c main_v63 =
    (shapeCast S1x1024 (shapeCast S1024 (m ((c : Thread nD τ).loc main_arg1) : FVec Ideal S1x1024 .f32) shapeCasts_S1x1024_S1024) shapeCasts_S1024_S1x1024 : FVec Ideal S1x1024 .f32) := by
  unfold V
  rw [all_ops]
  simp only [List.cons_append, List.append_nil, List.nil_append]
  entry_read
  rfl

theorem entry65 : V m c main_v65 =
    (truncf .bf16 (extractStridedSlice S1536x1024 ![0, 0] (transpose S3592x1024 [1, 0] (wIn m c) transposes_S1024x3592_S3592x1024_1_0) slices_S3592x1024_S1536x1024_0_0) bitsLt_bf16_f32 : FVec Ideal S1536x1024 .bf16) := by
  unfold V
  rw [all_ops]
  simp only [List.cons_append, List.append_nil, List.nil_append]
  entry_read
  rfl

theorem entry3 : V m c main_v3 =
    (truncf .bf16 (pad S1024x128 ![0, 0] ![0, 120] ![0, 0] (extractStridedSlice S1024x8 ![0, 1536] (wIn m c) slices_S1024x3592_S1024x8_0_1536) (sitofp .f32 (constantI S_ 32 0#32)) pads_S1024x8_S1024x128_000_01200 h_S_) bitsLt_bf16_f32 : FVec Ideal S1024x128 .bf16) := by
  unfold V
  rw [all_ops]
  simp only [List.cons_append, List.append_nil, List.nil_append]
  entry_read
  rfl

theorem entry6 : V m c main_v6 =
    (pad S1x128 ![0, 0] ![0, 120] ![0, 0] (shapeCast S1x8 (shapeCast S8 (m ((c : Thread nD τ).loc main_arg3) : FVec Ideal S1x8 .f32) shapeCasts_S1x8_S8) shapeCasts_S8_S1x8) (sitofp .f32 (constantI S_ 32 0#32)) pads_S1x8_S1x128_000_01200 h_S_ : FVec Ideal S1x128 .f32) := by
  unfold V
  rw [all_ops]
  simp only [List.cons_append, List.append_nil, List.nil_append]
  entry_read
  rfl

theorem entry54 : V m c main_v54 =
    (table (Host.cos angles) (Host.cos angles) : FVec Ideal S4096x512 .f32) := by
  unfold V
  rw [all_ops]
  simp only [List.cons_append, List.append_nil, List.nil_append]
  entry_read
  rfl

theorem entry59 : V m c main_v59 =
    (table (Host.negf (Host.sin angles)) (Host.sin angles) : FVec Ideal S4096x512 .f32) := by
  unfold V
  rw [all_ops]
  simp only [List.cons_append, List.append_nil, List.nil_append]
  entry_read
  rfl

/-- The indices, once they are computed. -/
theorem swapped (σ : Valuation τ sig (Elt Ideal)) : StableHlo.after (hostOps0_4 (F := Ideal) ++ (hostOps0_5 ++ (hostOps0_6 ++ hostOps0_7))) σ
    (Proc.tc.devRef main_v19) = (swap : IVec S512 32) := by
  simp only [List.cons_append, List.append_nil, List.nil_append]
  entry_read
  rfl

theorem sliced7 (σ : Valuation τ sig (Elt Ideal)) : StableHlo.after (hostOps0_4 (F := Ideal) ++ (hostOps0_5 ++ (hostOps0_6 ++ hostOps0_7))) σ
    (Proc.tc.devRef main_v7) = (extractStridedSlice S1024x512 ![0, 1544] (σ (Proc.tc.devRef main_v0) : FVec Ideal S1024x3592 .f32) slices_S1024x3592_S1024x512_0_1544 : FVec Ideal S1024x512 .f32) := by
  simp only [List.cons_append, List.append_nil, List.nil_append]
  entry_read
  rfl

theorem sliced8 (σ : Valuation τ sig (Elt Ideal)) : StableHlo.after (hostOps0_4 (F := Ideal) ++ (hostOps0_5 ++ (hostOps0_6 ++ hostOps0_7))) σ
    (Proc.tc.devRef main_v8) = (extractStridedSlice S1024x512 ![0, 2056] (σ (Proc.tc.devRef main_v0) : FVec Ideal S1024x3592 .f32) slices_S1024x3592_S1024x512_0_2056 : FVec Ideal S1024x512 .f32) := by
  simp only [List.cons_append, List.append_nil, List.nil_append]
  entry_read
  rfl

theorem sliced9 (σ : Valuation τ sig (Elt Ideal)) : StableHlo.after (hostOps0_4 (F := Ideal) ++ (hostOps0_5 ++ (hostOps0_6 ++ hostOps0_7))) σ
    (Proc.tc.devRef main_v9) = (extractStridedSlice S1024x512 ![0, 2568] (σ (Proc.tc.devRef main_v0) : FVec Ideal S1024x3592 .f32) slices_S1024x3592_S1024x512_0_2568 : FVec Ideal S1024x512 .f32) := by
  simp only [List.cons_append, List.append_nil, List.nil_append]
  entry_read
  rfl

theorem sliced10 (σ : Valuation τ sig (Elt Ideal)) : StableHlo.after (hostOps0_4 (F := Ideal) ++ (hostOps0_5 ++ (hostOps0_6 ++ hostOps0_7))) σ
    (Proc.tc.devRef main_v10) = (extractStridedSlice S1024x512 ![0, 3080] (σ (Proc.tc.devRef main_v0) : FVec Ideal S1024x3592 .f32) slices_S1024x3592_S1024x512_0_3080 : FVec Ideal S1024x512 .f32) := by
  simp only [List.cons_append, List.append_nil, List.nil_append]
  entry_read
  rfl

theorem matrix : StableHlo.after (hostOps0 (F := Ideal) ++ (hostOps0_1 ++ (hostOps0_2 ++ hostOps0_3))) (fun b => m (c, b))
    (Proc.tc.devRef main_v0) = (wIn m c : FVec Ideal S1024x3592 .f32) := by
  simp only [List.cons_append, List.append_nil, List.nil_append]
  entry_read
  rfl

/-- The weights of the retention, the paired lanes beside their own. -/
def paired (w : IVec S512 32) (a b d e : FVec Ideal S1024x512 .f32) : FVec Ideal S1024x3072 .f32 :=
  concatenate S1024x3072 1 [⟨S1024x512, a⟩, ⟨S1024x512, Host.gather gather_S1024x512_S512x1_S1024x512_0_1_n_n_1_1_10241 a (swapCol w)⟩,
    ⟨S1024x512, b⟩, ⟨S1024x512, Host.gather gather_S1024x512_S512x1_S1024x512_0_1_n_n_1_1_10241 b (swapCol w)⟩, ⟨S1024x512, d⟩, ⟨S1024x512, e⟩]
    concatenates_S1024x512_S1024x512_S1024x512_S1024x512_S1024x512_S1024x512_S1024x3072_d1

theorem late (σ : Valuation τ sig (Elt Ideal)) : StableHlo.after (List.drop 18 (hostOps0_8 (F := Ideal))) σ (Proc.tc.devRef main_v35) =
    (truncf .bf16 (concatenate S1024x3072 1 [⟨S1024x512, (σ (Proc.tc.devRef main_v7) : FVec Ideal S1024x512 .f32)⟩,
      ⟨S1024x512, (σ (Proc.tc.devRef main_v26) : FVec Ideal S1024x512 .f32)⟩, ⟨S1024x512, (σ (Proc.tc.devRef main_v8) : FVec Ideal S1024x512 .f32)⟩,
      ⟨S1024x512, (σ (Proc.tc.devRef main_v33) : FVec Ideal S1024x512 .f32)⟩, ⟨S1024x512, (σ (Proc.tc.devRef main_v9) : FVec Ideal S1024x512 .f32)⟩,
      ⟨S1024x512, (σ (Proc.tc.devRef main_v10) : FVec Ideal S1024x512 .f32)⟩]
      concatenates_S1024x512_S1024x512_S1024x512_S1024x512_S1024x512_S1024x512_S1024x3072_d1) bitsLt_bf16_f32 : FVec Ideal S1024x3072 .bf16) := by
  simp only [hostOps0_8, List.drop_succ_cons, List.drop_zero]
  entry_read
  rfl

theorem gathered26 (σ : Valuation τ sig (Elt Ideal)) : StableHlo.after (List.take 18 (hostOps0_8 (F := Ideal))) σ (Proc.tc.devRef main_v26) =
    (Host.gather gather_S1024x512_S512x1_S1024x512_0_1_n_n_1_1_10241 (σ (Proc.tc.devRef main_v7) : FVec Ideal S1024x512 .f32)
      (swapCol (σ (Proc.tc.devRef main_v19) : IVec S512 32)) : FVec Ideal S1024x512 .f32) := by
  simp only [hostOps0_8, List.take_succ_cons, List.take_zero]
  entry_read
  rfl

theorem gathered33 (σ : Valuation τ sig (Elt Ideal)) : StableHlo.after (List.take 18 (hostOps0_8 (F := Ideal))) σ (Proc.tc.devRef main_v33) =
    (Host.gather gather_S1024x512_S512x1_S1024x512_0_1_n_n_1_1_10241 (σ (Proc.tc.devRef main_v8) : FVec Ideal S1024x512 .f32)
      (swapCol (σ (Proc.tc.devRef main_v19) : IVec S512 32)) : FVec Ideal S1024x512 .f32) := by
  simp only [hostOps0_8, List.take_succ_cons, List.take_zero]
  entry_read
  rfl

theorem kept7 (σ : Valuation τ sig (Elt Ideal)) : StableHlo.after (List.take 18 (hostOps0_8 (F := Ideal))) σ (Proc.tc.devRef main_v7)
    = σ (Proc.tc.devRef main_v7) := by
  simp only [hostOps0_8, List.take_succ_cons, List.take_zero]
  entry_read
  rfl

theorem kept8 (σ : Valuation τ sig (Elt Ideal)) : StableHlo.after (List.take 18 (hostOps0_8 (F := Ideal))) σ (Proc.tc.devRef main_v8)
    = σ (Proc.tc.devRef main_v8) := by
  simp only [hostOps0_8, List.take_succ_cons, List.take_zero]
  entry_read
  rfl

theorem kept9 (σ : Valuation τ sig (Elt Ideal)) : StableHlo.after (List.take 18 (hostOps0_8 (F := Ideal))) σ (Proc.tc.devRef main_v9)
    = σ (Proc.tc.devRef main_v9) := by
  simp only [hostOps0_8, List.take_succ_cons, List.take_zero]
  entry_read
  rfl

theorem kept10 (σ : Valuation τ sig (Elt Ideal)) : StableHlo.after (List.take 18 (hostOps0_8 (F := Ideal))) σ (Proc.tc.devRef main_v10)
    = σ (Proc.tc.devRef main_v10) := by
  simp only [hostOps0_8, List.take_succ_cons, List.take_zero]
  entry_read
  rfl

theorem joined (σ : Valuation τ sig (Elt Ideal)) : StableHlo.after (hostOps0_8 (F := Ideal)) σ (Proc.tc.devRef main_v35) =
    (truncf .bf16 (paired (σ (Proc.tc.devRef main_v19) : IVec S512 32) (σ (Proc.tc.devRef main_v7) : FVec Ideal S1024x512 .f32)
      (σ (Proc.tc.devRef main_v8) : FVec Ideal S1024x512 .f32) (σ (Proc.tc.devRef main_v9) : FVec Ideal S1024x512 .f32)
      (σ (Proc.tc.devRef main_v10) : FVec Ideal S1024x512 .f32)) bitsLt_bf16_f32 : FVec Ideal S1024x3072 .bf16) := by
  unfold paired
  rw [← List.take_append_drop 18 (hostOps0_8 (F := Ideal)), StableHlo.after_append, late, gathered26, gathered33, kept7, kept8, kept9, kept10]

theorem entry35 : V m c main_v35 =
    (truncf .bf16 (paired swap (extractStridedSlice S1024x512 ![0, 1544] (wIn m c) slices_S1024x3592_S1024x512_0_1544)
      (extractStridedSlice S1024x512 ![0, 2056] (wIn m c) slices_S1024x3592_S1024x512_0_2056)
      (extractStridedSlice S1024x512 ![0, 2568] (wIn m c) slices_S1024x3592_S1024x512_0_2568)
      (extractStridedSlice S1024x512 ![0, 3080] (wIn m c) slices_S1024x3592_S1024x512_0_3080)) bitsLt_bf16_f32 : FVec Ideal S1024x3072 .bf16) := by
  unfold V
  rw [show ([hostOps0 (F := Ideal), hostOps0_1, hostOps0_2, hostOps0_3, hostOps0_4, hostOps0_5, hostOps0_6, hostOps0_7, hostOps0_8].flatten)
    = (hostOps0 ++ (hostOps0_1 ++ (hostOps0_2 ++ hostOps0_3))) ++ ((hostOps0_4 ++ (hostOps0_5 ++ (hostOps0_6 ++ hostOps0_7))) ++ hostOps0_8) from rfl,
    StableHlo.after_append, StableHlo.after_append, joined, swapped, sliced7, sliced8, sliced9, sliced10, matrix]

end Cert.InprojReads

end
-- ==== Proof.InprojTables.lean ====
/- The prepared weights and tables of the projection call, entry by entry, and what each point reads of them. -/
module

public import proofs.«01_k».proof.Proof.InprojRefValue
public import proofs.«01_k».proof.Proof.InprojReads

@[expose] public section

set_option maxRecDepth 16384

noncomputable section

namespace Cert.InprojTables

open Cert.InprojIdeal Cert.InprojIdeal.Gen Cert.InprojReads
open Idealize.ShloMosaic Idealize.ShloMosaic.TcCoe Idealize.SL.Sem
open Idealize.ShloMosaic.Pipeline (Dat)

/-! ## The paired lanes -/

theorem swap_word : ∀ l : Fin 512, swapCol swap (ix2 l 0) = BitVec.ofNat 32 (if l.val % 64 < 32 then l.val + 32 else l.val - 32) := by
  intro l
  pointwise [swapCol, swap, rem, rem4, six4]
  revert l
  decide +kernel

/-- The gathering of whole columns. -/
abbrev cols : GatherDims S1024x512 S512x1 S1024x512 := gather_S1024x512_S512x1_S1024x512_0_1_n_n_1_1_10241

/-- Gathered columns are the columns the indices name. -/
theorem gathered (x : FVec Ideal S1024x512 .f32) (w : IVec S512x1 32) (r : Fin 1024) (l k : Fin 512)
    (h : (w (ix2 l 0)).toInt = k.val) :
    Host.gather cols x w (ix2 r l) = x (ix2 r k) := by
  unfold Host.gather
  congr 1
  funext a
  refine Fin.ext ?_
  show cols.start (ix2 r l) w a + cols.batchCoord (ix2 r l) a + cols.offCoord (ix2 r l) a = _
  rw [GatherDims.batchCoord_eq_zero _ _ _ (List.not_mem_nil)]
  have h01 : a = 0 ∨ a = 1 := by
    match a with
    | ⟨0, _⟩ => exact Or.inl rfl
    | ⟨1, _⟩ => exact Or.inr rfl
  rcases h01 with rfl | rfl
  · unfold GatherDims.start
    rw [dif_neg (show ¬ (0 : Fin 2) ∈ cols.startIndexMap from by decide)]
    unfold GatherDims.offCoord
    rw [dif_pos (show (0 : Fin 2) ∈ cols.sKept from (GatherDims.mem_sKept _ _).mpr ⟨by decide, by decide⟩)]
    simp only [Nat.zero_add, Nat.add_zero]
    rfl
  · rw [GatherDims.offCoord_eq_zero _ _ _ (fun e => ((GatherDims.mem_sKept _ _).mp e).1 (List.mem_singleton.mpr rfl))]
    simp only [Nat.add_zero]
    unfold GatherDims.start
    rw [dif_pos (show (1 : Fin 2) ∈ cols.startIndexMap from List.mem_singleton.mpr rfl)]
    have hsi : cols.siIdx (ix2 r l) ⟨List.idxOf (1 : Fin 2) cols.startIndexMap,
        List.idxOf_lt_length_iff.2 (List.mem_singleton.mpr rfl)⟩ = ix2 l (0 : Fin 1) := by
      funext b
      refine Fin.ext ?_
      match b with
      | ⟨0, _⟩ => rfl
      | ⟨1, _⟩ => rfl
    rw [hsi, h]
    have := k.isLt
    show min ((k.val : Int)).toNat 511 = k.val
    omega

/-- The lane a lane is paired with. -/
def mate (l : Fin 512) : Fin 512 := if h : l.val % 64 < 32 then ⟨l.val + 32, by omega⟩ else ⟨l.val - 32, by omega⟩

theorem swap_int : ∀ l : Fin 512, (swapCol swap (ix2 l 0)).toInt = (mate l).val := by
  intro l
  rw [swap_word l]
  revert l
  decide +kernel

/-! ## The angles -/

theorem cos_at (s : Fin 4096) (n : Fin 32) : Host.cos (F := Ideal) angles (ix2 s n) = InprojRefValue.cosT s n := rfl
theorem sin_at (s : Fin 4096) (n : Fin 32) : Host.sin (F := Ideal) angles (ix2 s n) = InprojRefValue.sinT s n := rfl

theorem table_at (a b : FVec Ideal S4096x32 .f32) (s : Fin 4096) (j : Fin 512) : table a b (ix2 s j)
    = if e : j.val % 64 < 32 then a (ix2 s ⟨j.val % 64, e⟩) else b (ix2 s ⟨j.val % 64 - 32, by omega⟩) := by
  pointwise [table]

/-! ## The six pieces of the retention weights -/

section
variable (a b d e : FVec Ideal S1024x512 .f32) (l : Fin 1024) (j : Fin 512)

theorem mated (x : FVec Ideal S1024x512 .f32) : Host.gather gather_S1024x512_S512x1_S1024x512_0_1_n_n_1_1_10241 x (swapCol swap) (ix2 l j)
    = x (ix2 l (mate j)) := gathered x _ l j (mate j) (swap_int j)

theorem piece0 : paired swap a b d e (ix2 l (⟨j, by omega⟩ : Fin 3072)) = a (ix2 l j) := by
  pointwise [paired]

theorem piece1 : paired swap a b d e (ix2 l (⟨512 + j, by omega⟩ : Fin 3072)) = a (ix2 l (mate j)) := by
  pointwise [paired, mated]

theorem piece2 : paired swap a b d e (ix2 l (⟨1024 + j, by omega⟩ : Fin 3072)) = b (ix2 l j) := by
  pointwise [paired]
  rw [dif_neg (by omega), dif_neg (by omega), dif_pos (by omega)]
  exact congrArg b (congrArg (ix2 l) (Fin.ext (by simp only; omega)))

theorem piece3 : paired swap a b d e (ix2 l (⟨1536 + j, by omega⟩ : Fin 3072)) = b (ix2 l (mate j)) := by
  pointwise [paired, mated]
  rw [dif_neg (by omega), dif_neg (by omega), dif_neg (by omega), dif_pos (by omega)]
  exact congrArg b (congrArg (ix2 l) (congrArg mate (Fin.ext (by simp only; omega))))

theorem piece4 : paired swap a b d e (ix2 l (⟨2048 + j, by omega⟩ : Fin 3072)) = d (ix2 l j) := by
  pointwise [paired]
  rw [dif_neg (by omega), dif_neg (by omega), dif_neg (by omega), dif_neg (by omega), dif_pos (by omega)]
  exact congrArg d (congrArg (ix2 l) (Fin.ext (by simp only; omega)))

theorem piece5 : paired swap a b d e (ix2 l (⟨2560 + j, by omega⟩ : Fin 3072)) = e (ix2 l j) := by
  pointwise [paired]
  rw [dif_neg (by omega), dif_neg (by omega), dif_neg (by omega), dif_neg (by omega), dif_neg (by omega)]
  exact congrArg e (congrArg (ix2 l) (Fin.ext (by simp only; omega)))

end

end Cert.InprojTables

end
-- ==== Proof.InprojLoads.lean ====
/- What each point of the projection call reads, in terms of the arguments. -/
module

public import proofs.«01_k».proof.Proof.InprojTables

@[expose] public section

set_option maxRecDepth 16384

noncomputable section

namespace Cert.InprojLoads

open Cert.InprojIdeal Cert.InprojIdeal.Gen Cert.InprojReads
open Idealize.ShloMosaic Idealize.ShloMosaic.TcCoe Idealize.SL.Sem
open Idealize.ShloMosaic.Pipeline (Dat)

variable (m : (ℓ : Loc nD τ sig) → Buf (Elt Ideal) ℓ) (c : Dev nD) (t : Fin cfg0.N)

theorem row_lt (r : Fin 512) : t.val * 512 + r.val < 16384 := by
  have := (idx t).2.2.2.2.2.2.2.2.2.2.2.2.2.2.2.2
  omega

/-! ## Where a window's entry lies in its array -/

theorem place0 (X : S16384x1024.Idx → EReal) (r : Fin 512) (l : Fin 1024) : X ((win0_0.blk t).view.emb (ix2 r l))
    = X (ix2 ⟨t.val * 512 + r.val, row_lt t r⟩ l) := by
  blk_ext [idx t]

theorem place1 (X : S1x1024.Idx → EReal) (l : Fin 1024) : X ((win0_1.blk t).view.emb (ix2 0 l)) = X (ix2 0 l) := by
  blk_ext [idx t]

theorem place2 (X : S1536x1024.Idx → EReal) (j : Fin 1536) (l : Fin 1024) : X ((win0_2.blk t).view.emb (ix2 j l)) = X (ix2 j l) := by
  blk_ext [idx t]

theorem place4 (X : S1024x128.Idx → EReal) (l : Fin 1024) (h : Fin 128) : X ((win0_4.blk t).view.emb (ix2 l h)) = X (ix2 l h) := by
  blk_ext [idx t]

theorem place5 (X : S1x128.Idx → EReal) (h : Fin 128) : X ((win0_5.blk t).view.emb (ix2 0 h)) = X (ix2 0 h) := by
  blk_ext [idx t]

theorem place6 (X : S1024x3072.Idx → EReal) (l : Fin 1024) (j : Fin 3072) : X ((win0_6.blk t).view.emb (ix2 l j)) = X (ix2 l j) := by
  blk_ext [idx t]

theorem place7 (X : S4096x512.Idx → EReal) (r j : Fin 512) : X ((win0_7.blk t).view.emb (ix2 r j))
    = X (ix2 ⟨t.val % 8 * 512 + r.val, by omega⟩ j) := by
  blk_ext [idx t]

theorem place8 (X : S4096x512.Idx → EReal) (r j : Fin 512) : X ((win0_8.blk t).view.emb (ix2 r j))
    = X (ix2 ⟨t.val % 8 * 512 + r.val, by omega⟩ j) := by
  blk_ext [idx t]

/-! ## The prepared arrays at one entry -/

theorem flat (X : FVec Ideal S4x4096x1024 .f32) (R : Fin 16384) (l : Fin 1024) :
    shapeCast S16384x1024 X shapeCasts_S4x4096x1024_S16384x1024 (ix2 R l)
    = X (ix3 (⟨(R : ℕ) / 4096, by omega⟩ : Fin 4) (⟨(R : ℕ) % 4096, by omega⟩ : Fin 4096) l) := by
  pointwise

theorem cell61 (R : Fin 16384) (l : Fin 1024) : (show EReal from V m c main_v61 (ix2 R l))
    = m ((c : Thread nD τ).loc main_arg0) (ix3 (⟨(R : ℕ) / 4096, by omega⟩ : Fin 4) (⟨(R : ℕ) % 4096, by omega⟩ : Fin 4096) l) := by
  rw [entry61]
  exact flat _ R l

theorem same (X : FVec Ideal S1x1024 .f32) (l : Fin 1024) :
    shapeCast S1x1024 (shapeCast S1024 X shapeCasts_S1x1024_S1024) shapeCasts_S1024_S1x1024 (ix2 0 l) = X (ix2 0 l) := by
  pointwise

theorem cell63 (l : Fin 1024) : (show EReal from V m c main_v63 (ix2 0 l)) = m ((c : Thread nD τ).loc main_arg1) (ix2 0 l) := by
  rw [entry63]
  exact same _ l

/-- The weights as a matrix hold the weights. -/
theorem matrix_at (X : FVec Ideal S1x1024x3592 .f32) (l : Fin 1024) (j : Fin 3592) :
    shapeCast S1024x3592 X shapeCasts_S1x1024x3592_S1024x3592 (ix2 l j) = X (ix3 0 l j) := by
  pointwise

theorem wIn_at (l : Fin 1024) (j : Fin 3592) : wIn m c (ix2 l j) = m ((c : Thread nD τ).loc main_arg2) (ix3 0 l j) := by
  unfold wIn
  exact matrix_at _ l j

theorem upright (X : FVec Ideal S1024x3592 .f32) (j : Fin 1536) (l : Fin 1024) :
    (truncf .bf16 (extractStridedSlice S1536x1024 ![0, 0] (transpose S3592x1024 [1, 0] X transposes_S1024x3592_S3592x1024_1_0) slices_S3592x1024_S1536x1024_0_0) bitsLt_bf16_f32 : FVec Ideal S1536x1024 .bf16) (ix2 j l)
    = X (ix2 l (⟨j, by omega⟩ : Fin 3592)) := by
  pointwise

theorem cell65 (j : Fin 1536) (l : Fin 1024) : (show EReal from V m c main_v65 (ix2 j l))
    = m ((c : Thread nD τ).loc main_arg2) (ix3 0 l (⟨j, by omega⟩ : Fin 3592)) := by
  rw [entry65]
  exact (upright _ j l).trans (wIn_at m c _ _)

theorem eight (X : FVec Ideal S1024x3592 .f32) (z : FVec Ideal S_ .f32) (l : Fin 1024) (h : Fin 8) :
    (truncf .bf16 (pad S1024x128 ![0, 0] ![0, 120] ![0, 0] (extractStridedSlice S1024x8 ![0, 1536] X slices_S1024x3592_S1024x8_0_1536) z pads_S1024x8_S1024x128_000_01200 h_S_) bitsLt_bf16_f32 : FVec Ideal S1024x128 .bf16)
      (ix2 l (⟨h, by omega⟩ : Fin 128)) = X (ix2 l (⟨1536 + h, by omega⟩ : Fin 3592)) := by
  pointwise

theorem cell3 (l : Fin 1024) (h : Fin 8) : (show EReal from V m c main_v3 (ix2 l (⟨h, by omega⟩ : Fin 128)))
    = m ((c : Thread nD τ).loc main_arg2) (ix3 0 l (⟨1536 + h, by omega⟩ : Fin 3592)) := by
  rw [entry3]
  exact (eight _ _ l h).trans (wIn_at m c _ _)

theorem bias (X : FVec Ideal S1x8 .f32) (z : FVec Ideal S_ .f32) (h : Fin 8) :
    (pad S1x128 ![0, 0] ![0, 120] ![0, 0] (shapeCast S1x8 (shapeCast S8 X shapeCasts_S1x8_S8) shapeCasts_S8_S1x8) z pads_S1x8_S1x128_000_01200 h_S_ : FVec Ideal S1x128 .f32)
      (ix2 0 (⟨h, by omega⟩ : Fin 128)) = X (ix2 0 h) := by
  pointwise

theorem cell6 (h : Fin 8) : (show EReal from V m c main_v6 (ix2 0 (⟨h, by omega⟩ : Fin 128)))
    = m ((c : Thread nD τ).loc main_arg3) (ix2 0 h) := by
  rw [entry6]
  exact bias _ _ h

theorem cell54 (s : Fin 4096) (j : Fin 512) : (show EReal from V m c main_v54 (ix2 s j))
    = InprojRefValue.cosT s ⟨j.val % 64 % 32, by omega⟩ := by
  rw [entry54]
  refine (InprojTables.table_at _ _ s j).trans ?_
  split_ifs with e
  · exact (InprojTables.cos_at s _).trans (congrArg (InprojRefValue.cosT s) (Fin.ext (by simp only; omega)))
  · exact (InprojTables.cos_at s _).trans (congrArg (InprojRefValue.cosT s) (Fin.ext (by simp only; omega)))

theorem cell59 (s : Fin 4096) (j : Fin 512) : (show EReal from V m c main_v59 (ix2 s j))
    = if j.val % 64 < 32 then - InprojRefValue.sinT s ⟨j.val % 64 % 32, by omega⟩ else InprojRefValue.sinT s ⟨j.val % 64 % 32, by omega⟩ := by
  rw [entry59]
  refine (InprojTables.table_at _ _ s j).trans ?_
  split_ifs with e
  · refine Eq.trans (b := - Host.sin (F := Ideal) angles (ix2 s ⟨j.val % 64, e⟩)) rfl ?_
    exact congrArg Neg.neg ((InprojTables.sin_at s _).trans (congrArg (InprojRefValue.sinT s) (Fin.ext (by simp only; omega))))
  · exact (InprojTables.sin_at s _).trans (congrArg (InprojRefValue.sinT s) (Fin.ext (by simp only; omega)))

/-! ## What a point reads -/

section
variable (r : Fin 512) (l : Fin 1024)

theorem read0 (R : Fin 16384) (h : (R : ℕ) = t.val * 512 + r) :
    (show EReal from iblk m c 0 t (ix2 r l)) = m ((c : Thread nD τ).loc main_arg0)
      (ix3 (⟨(R : ℕ) / 4096, by omega⟩ : Fin 4) (⟨(R : ℕ) % 4096, by omega⟩ : Fin 4096) l) := by
  obtain rfl : R = ⟨t.val * 512 + r.val, row_lt t r⟩ := Fin.ext h
  exact (place0 t (V m c main_v61) r l).trans (cell61 m c _ l)

theorem read1 : (show EReal from iblk m c 1 t (ix2 0 l)) = m ((c : Thread nD τ).loc main_arg1) (ix2 0 l) :=
  (place1 t (V m c main_v63) l).trans (cell63 m c l)

theorem read2 (j : Fin 1536) : (show EReal from iblk m c 2 t (ix2 j l))
    = m ((c : Thread nD τ).loc main_arg2) (ix3 0 l (⟨j, by omega⟩ : Fin 3592)) :=
  (place2 t (V m c main_v65) j l).trans (cell65 m c j l)

theorem read4 (h : Fin 8) : (show EReal from iblk m c 4 t (ix2 l (⟨h, by omega⟩ : Fin 128)))
    = m ((c : Thread nD τ).loc main_arg2) (ix3 0 l (⟨1536 + h, by omega⟩ : Fin 3592)) :=
  (place4 t (V m c main_v3) l _).trans (cell3 m c l h)

theorem read5 (h : Fin 8) : (show EReal from iblk m c 5 t (ix2 0 (⟨h, by omega⟩ : Fin 128)))
    = m ((c : Thread nD τ).loc main_arg3) (ix2 0 h) :=
  (place5 t (V m c main_v6) _).trans (cell6 m c h)

theorem read7 (j : Fin 512) : (show EReal from iblk m c 7 t (ix2 r j))
    = InprojRefValue.cosT ⟨t.val % 8 * 512 + r.val, by omega⟩ ⟨j.val % 64 % 32, by omega⟩ :=
  (place7 t (V m c main_v54) r j).trans (cell54 m c _ j)

theorem read8 (j : Fin 512) : (show EReal from iblk m c 8 t (ix2 r j))
    = if j.val % 64 < 32 then - InprojRefValue.sinT ⟨t.val % 8 * 512 + r.val, by omega⟩ ⟨j.val % 64 % 32, by omega⟩
      else InprojRefValue.sinT ⟨t.val % 8 * 512 + r.val, by omega⟩ ⟨j.val % 64 % 32, by omega⟩ :=
  (place8 t (V m c main_v59) r j).trans (cell59 m c _ j)

theorem read6 (j : Fin 3072) : (show EReal from iblk m c 6 t (ix2 l j)) = (show EReal from V m c main_v35 (ix2 l j)) :=
  place6 t (V m c main_v35) l j

/-- A stretch of the weights. -/
theorem stretch (X : FVec Ideal S1024x3592 .f32) (o : ℕ) (ho : o + 512 ≤ 3592) (q : S1024x3592.Slices ![0, o] S1024x512) (j : Fin 512) :
    extractStridedSlice S1024x512 ![0, o] X q (ix2 l j) = X (ix2 l (⟨o + j, by omega⟩ : Fin 3592)) := by
  pointwise

theorem sliced (o : ℕ) (ho : o + 512 ≤ 3592) (q : S1024x3592.Slices ![0, o] S1024x512) (j : Fin 512) :
    extractStridedSlice S1024x512 ![0, o] (wIn m c) q (ix2 l j) = m ((c : Thread nD τ).loc main_arg2) (ix3 0 l (⟨o + j, by omega⟩ : Fin 3592)) :=
  (stretch l _ o ho q j).trans (wIn_at m c _ _)

theorem turned6 (j : Fin 512) : (show EReal from iblk m c 6 t (ix2 l (⟨j, by omega⟩ : Fin 3072)))
    = m ((c : Thread nD τ).loc main_arg2) (ix3 0 l (⟨1544 + j, by omega⟩ : Fin 3592)) := by
  rw [read6, entry35]
  exact (InprojTables.piece0 _ _ _ _ l j).trans (sliced m c l 1544 (by omega) _ j)

theorem turned6_mate (j : Fin 512) : (show EReal from iblk m c 6 t (ix2 l (⟨512 + j, by omega⟩ : Fin 3072)))
    = m ((c : Thread nD τ).loc main_arg2) (ix3 0 l (⟨1544 + InprojTables.mate j, by omega⟩ : Fin 3592)) := by
  rw [read6, entry35]
  exact (InprojTables.piece1 _ _ _ _ l j).trans (sliced m c l 1544 (by omega) _ _)

theorem keyed6 (j : Fin 512) : (show EReal from iblk m c 6 t (ix2 l (⟨1024 + j, by omega⟩ : Fin 3072)))
    = m ((c : Thread nD τ).loc main_arg2) (ix3 0 l (⟨2056 + j, by omega⟩ : Fin 3592)) := by
  rw [read6, entry35]
  exact (InprojTables.piece2 _ _ _ _ l j).trans (sliced m c l 2056 (by omega) _ j)

theorem keyed6_mate (j : Fin 512) : (show EReal from iblk m c 6 t (ix2 l (⟨1536 + j, by omega⟩ : Fin 3072)))
    = m ((c : Thread nD τ).loc main_arg2) (ix3 0 l (⟨2056 + InprojTables.mate j, by omega⟩ : Fin 3592)) := by
  rw [read6, entry35]
  exact (InprojTables.piece3 _ _ _ _ l j).trans (sliced m c l 2056 (by omega) _ _)

theorem valued6 (j : Fin 512) : (show EReal from iblk m c 6 t (ix2 l (⟨2048 + j, by omega⟩ : Fin 3072)))
    = m ((c : Thread nD τ).loc main_arg2) (ix3 0 l (⟨2568 + j, by omega⟩ : Fin 3592)) := by
  rw [read6, entry35]
  exact (InprojTables.piece4 _ _ _ _ l j).trans (sliced m c l 2568 (by omega) _ j)

theorem gated6 (j : Fin 512) : (show EReal from iblk m c 6 t (ix2 l (⟨2560 + j, by omega⟩ : Fin 3072)))
    = m ((c : Thread nD τ).loc main_arg2) (ix3 0 l (⟨3080 + j, by omega⟩ : Fin 3592)) := by
  rw [read6, entry35]
  exact (InprojTables.piece5 _ _ _ _ l j).trans (sliced m c l 3080 (by omega) _ j)

end

end Cert.InprojLoads

end
-- ==== Proof.InprojValue.lean ====
/- What the projection call leaves in its arrays: the problem's projections, turned heads and log-decays. -/
module

public import proofs.«01_k».proof.Proof.InprojPure
public import proofs.«01_k».proof.Proof.InprojLoads

@[expose] public section

set_option maxRecDepth 16384

noncomputable section

namespace Cert.InprojValue

open Cert.InprojIdeal Cert.InprojIdeal.Gen Cert.InprojIdeal.Hand Cert.InprojReads Cert.InprojLoads Cert.InprojPure
open Idealize.ShloMosaic Idealize.ShloMosaic.TcCoe Idealize.SL.Sem
open Idealize.ShloMosaic.Pipeline (Dat)
open Cert.InprojRefValue (proj cosT sinT turned)

/-! ## A turned head, lane by lane -/

section
variable (X : FVec Ideal S4x4096x1024 .f32) (G : FVec Ideal S1x1024 .f32) (W : FVec Ideal S1x1024x3592 .f32)

/-- Each lane against its mate, with the sine's sign on the first half of a head. -/
theorem turned_lane (o : ℕ) (ho : o + 512 ≤ 3592) (b : Fin 4) (s : Fin 4096) (j : Fin 512) :
    proj X G W b s ⟨o + j, by omega⟩ * cosT s ⟨j.val % 64 % 32, by omega⟩
      + proj X G W b s ⟨o + InprojTables.mate j, by omega⟩
        * (if j.val % 64 < 32 then - sinT s ⟨j.val % 64 % 32, by omega⟩ else sinT s ⟨j.val % 64 % 32, by omega⟩)
    = turned X G W o ho b s ⟨j / 64, by omega⟩ ⟨j % 64, by omega⟩ := by
  unfold turned
  by_cases e : j.val % 64 < 32
  · have hm : InprojTables.mate j = ⟨j.val + 32, by omega⟩ := dif_pos e
    rw [if_pos e, dif_pos (show (⟨j.val % 64, by omega⟩ : Fin 64).val < 32 from e)]
    simp only [hm]
    unfold InprojRefValue.first
    rw [InprojMath.turn_first]
    have ha : (⟨o + j.val, by omega⟩ : Fin 3592) = ⟨o + (j.val / 64 * 64 + j.val % 64), by omega⟩ := Fin.ext (by simp only; omega)
    have hb : (⟨o + (j.val + 32), by omega⟩ : Fin 3592) = ⟨o + (j.val / 64 * 64 + (32 + j.val % 64)), by omega⟩ := Fin.ext (by simp only; omega)
    have hn : (⟨j.val % 64 % 32, by omega⟩ : Fin 32) = ⟨j.val % 64, e⟩ := Fin.ext (by simp only; omega)
    simp only [ha, hb, hn]
  · have hm : InprojTables.mate j = ⟨j.val - 32, by omega⟩ := dif_neg e
    rw [if_neg e, dif_neg (show ¬ (⟨j.val % 64, by omega⟩ : Fin 64).val < 32 from e)]
    simp only [hm]
    unfold InprojRefValue.second
    rw [add_comm]
    have ha : (⟨o + j.val, by omega⟩ : Fin 3592) = ⟨o + (j.val / 64 * 64 + (32 + (j.val % 64 - 32))), by omega⟩ := Fin.ext (by simp only; omega)
    have hb : (⟨o + (j.val - 32), by omega⟩ : Fin 3592) = ⟨o + (j.val / 64 * 64 + (j.val % 64 - 32)), by omega⟩ := Fin.ext (by simp only; omega)
    have hn : (⟨j.val % 64 % 32, by omega⟩ : Fin 32) = ⟨j.val % 64 - 32, by omega⟩ := Fin.ext (by simp only; omega)
    simp only [ha, hb, hn]

end

variable (m : (ℓ : Loc nD τ sig) → Buf (Elt Ideal) ℓ) (c : Dev nD) (t : Fin cfg0.N)

/-- The arguments: the tokens, the gain, the weights and the decay's bias. -/
abbrev xA : FVec Ideal S4x4096x1024 .f32 := m ((c : Thread nD τ).loc main_arg0)
abbrev gA : FVec Ideal S1x1024 .f32 := m ((c : Thread nD τ).loc main_arg1)
abbrev wA : FVec Ideal S1x1024x3592 .f32 := m ((c : Thread nD τ).loc main_arg2)
abbrev bA : FVec Ideal S1x8 .f32 := m ((c : Thread nD τ).loc main_arg3)

/-- The row of the tokens a block's row is. -/
abbrev row (r : Fin 512) : Fin 16384 := ⟨t.val * 512 + r.val, row_lt t r⟩

/-- A row's projection. -/
abbrev projR (R : Fin 16384) (j : Fin 3592) : EReal :=
  proj (xA m c) (gA m c) (wA m c) ⟨(R : ℕ) / 4096, by omega⟩ ⟨(R : ℕ) % 4096, by omega⟩ j

section
variable (r : Fin 512)

theorem hrow_at (l : Fin 1024) : hrow (iblk m c 0 t) (iblk m c 1 t) r l
    = FfnSpec.norm (fun k => xA m c (ix3 (⟨(row t r : ℕ) / 4096, by omega⟩ : Fin 4) (⟨(row t r : ℕ) % 4096, by omega⟩ : Fin 4096) k))
        (fun k => gA m c (ix2 0 k)) l := by
  unfold hrow
  congr 1
  · funext k
    exact read0 m c t r k (row t r) rfl
  · funext k
    exact read1 m c t k

theorem col_at (J : Fin 3072) (J' : Fin 3592)
    (h : ∀ l : Fin 1024, (show EReal from iblk m c 6 t (ix2 l J)) = wA m c (ix3 0 l J')) :
    col (iblk m c 0 t) (iblk m c 1 t) (iblk m c 6 t) r J = projR m c (row t r) J' := by
  unfold col projR proj
  exact Finset.sum_congr rfl fun l _ => congrArg₂ (· * ·) (hrow_at m c t r l) (h l)

theorem upright_at (J : Fin 1536) :
    (∑ l : Fin 1024, (show EReal from iblk m c 2 t (ix2 J l)) * hrow (iblk m c 0 t) (iblk m c 1 t) r l) = projR m c (row t r) ⟨J, by omega⟩ := by
  unfold projR proj
  exact Finset.sum_congr rfl fun l _ => (mul_comm _ _).trans (congrArg₂ (· * ·) (hrow_at m c t r l) (read2 m c t l J))

theorem logit_at (h : Fin 8) :
    (∑ l : Fin 1024, hrow (iblk m c 0 t) (iblk m c 1 t) r l * (show EReal from iblk m c 4 t (ix2 l (⟨h, by omega⟩ : Fin 128))))
    = projR m c (row t r) ⟨1536 + h, by omega⟩ := by
  unfold projR proj
  exact Finset.sum_congr rfl fun l _ => congrArg₂ (· * ·) (hrow_at m c t r l) (read4 m c t l h)

theorem pos_eq : (⟨t.val % 8 * 512 + r.val, by omega⟩ : Fin 4096) = ⟨(row t r : ℕ) % 4096, by omega⟩ := Fin.ext (by simp only; omega)

theorem turned_at (j : Fin 512) (J K : Fin 3072) (o : ℕ) (ho : o + 512 ≤ 3592)
    (hJ : ∀ l : Fin 1024, (show EReal from iblk m c 6 t (ix2 l J)) = wA m c (ix3 0 l (⟨o + j, by omega⟩ : Fin 3592)))
    (hK : ∀ l : Fin 1024, (show EReal from iblk m c 6 t (ix2 l K)) = wA m c (ix3 0 l (⟨o + InprojTables.mate j, by omega⟩ : Fin 3592))) :
    col (iblk m c 0 t) (iblk m c 1 t) (iblk m c 6 t) r J * (show EReal from iblk m c 7 t (ix2 r j))
      + col (iblk m c 0 t) (iblk m c 1 t) (iblk m c 6 t) r K * (show EReal from iblk m c 8 t (ix2 r j))
    = turned (xA m c) (gA m c) (wA m c) o ho ⟨(row t r : ℕ) / 4096, by omega⟩ ⟨(row t r : ℕ) % 4096, by omega⟩
        ⟨j / 64, by omega⟩ ⟨j % 64, by omega⟩ := by
  rw [col_at m c t r J _ hJ, col_at m c t r K _ hK, read7 m c t r j, read8 m c t r j, pos_eq t r]
  exact turned_lane (xA m c) (gA m c) (wA m c) o ho _ _ j

end

/-! ## The arrays at the end -/

set_option maxHeartbeats 2000000 in
/-- The queries, a feature to a row. -/
theorem final9 : (dats m 0 c).arrAt 9 cfg0.N = (Cert.InprojRefIdeal.Read.val_main_v100 (F := Ideal) (xA m c) (gA m c) (wA m c) : FVec Ideal S4x512x4096 .bf16) := by
  refine (dats m 0 c).arrAt_eq_of_covers 9 _ (by decide +kernel) fun t _ y => ?_
  blk_simp [idx t]
  rw [after_9]
  obtain ⟨j, hj⟩ : ∃ j : Fin 512, j = y 1 := ⟨_, rfl⟩
  obtain ⟨r, hr⟩ : ∃ r : Fin 512, r = y 2 := ⟨_, rfl⟩
  have ht := row_lt t r
  have h0 : y 0 = (0 : Fin 1) := Subsingleton.elim (α := Fin 1) _ _
  have hy : y = ix3 0 j r := by rw [hr, hj, ← h0]; exact eq_ix3 y
  rw [hy]
  refine ((stored9 _ _ _ 0 j r).trans ?_).trans
    ((Cert.InprojRefValue.query_at (xA m c) (gA m c) (wA m c) ⟨(row t r : ℕ) / 4096, by omega⟩ j ⟨(row t r : ℕ) % 4096, by omega⟩).symm.trans (congrArg _ ?_))
  · exact congrArg (· * Ideal.ofBits .f32 0x3E000000#32) (upright_at m c t r _)
  · blk_ext [idx t]

/-- The keys. -/
theorem final10 : (dats m 0 c).arrAt 10 cfg0.N = (Cert.InprojRefIdeal.Read.val_main_v101 (F := Ideal) (xA m c) (gA m c) (wA m c) : FVec Ideal S16384x512 .f32) := by
  refine (dats m 0 c).arrAt_eq_of_covers 10 _ (by decide +kernel) fun t _ y => ?_
  blk_simp [idx t]
  rw [after_10]
  obtain ⟨r, hr⟩ : ∃ r : Fin 512, r = y 0 := ⟨_, rfl⟩
  obtain ⟨j, hj⟩ : ∃ j : Fin 512, j = y 1 := ⟨_, rfl⟩
  have ht := row_lt t r
  have hy : y = ix2 r j := by rw [hr, hj]; exact eq_ix2 y
  rw [hy]
  refine ((stored10 _ _ _ r j).trans ?_).trans ((Cert.InprojRefValue.key_at (xA m c) (gA m c) (wA m c) (row t r) j).symm.trans (congrArg _ ?_))
  · exact upright_at m c t r _
  · blk_ext [idx t]

/-- The values. -/
theorem final11 : (dats m 0 c).arrAt 11 cfg0.N = (Cert.InprojRefIdeal.Read.val_main_v102 (F := Ideal) (xA m c) (gA m c) (wA m c) : FVec Ideal S16384x512 .f32) := by
  refine (dats m 0 c).arrAt_eq_of_covers 11 _ (by decide +kernel) fun t _ y => ?_
  blk_simp [idx t]
  rw [after_11]
  obtain ⟨r, hr⟩ : ∃ r : Fin 512, r = y 0 := ⟨_, rfl⟩
  obtain ⟨j, hj⟩ : ∃ j : Fin 512, j = y 1 := ⟨_, rfl⟩
  have ht := row_lt t r
  have hy : y = ix2 r j := by rw [hr, hj]; exact eq_ix2 y
  rw [hy]
  refine ((stored11 _ _ _ r j).trans ?_).trans ((Cert.InprojRefValue.value_at (xA m c) (gA m c) (wA m c) (row t r) j).symm.trans (congrArg _ ?_))
  · exact upright_at m c t r _
  · blk_ext [idx t]

/-- The log-decays. -/
theorem final15 : (dats m 0 c).arrAt 15 cfg0.N = (Cert.InprojRefIdeal.Read.val_main_v103 (F := Ideal) (xA m c) (gA m c) (wA m c) (bA m c) : FVec Ideal S16384x8 .f32) := by
  refine (dats m 0 c).arrAt_eq_of_covers 15 _ (by decide +kernel) fun t _ y => ?_
  blk_simp [idx t]
  rw [after_15]
  obtain ⟨r, hr⟩ : ∃ r : Fin 512, r = y 0 := ⟨_, rfl⟩
  obtain ⟨j, hj⟩ : ∃ j : Fin 8, j = y 1 := ⟨_, rfl⟩
  have ht := row_lt t r
  have hy : y = ix2 r j := by rw [hr, hj]; exact eq_ix2 y
  rw [hy]
  refine ((stored15 _ _ _ _ r j).trans ?_).trans ((Cert.InprojRefValue.decay_at (xA m c) (gA m c) (wA m c) (bA m c) (row t r) j).symm.trans (congrArg _ ?_))
  · exact congrArg InprojMath.logsig (congrArg₂ (· + ·) (logit_at m c t r j) (read5 m c t j))
  · blk_ext [idx t]

/-- The turned queries of the retention. -/
theorem final16 : (dats m 0 c).arrAt 16 cfg0.N = (Cert.InprojRefIdeal.Read.val_main_v105 (F := Ideal) (xA m c) (gA m c) (wA m c) : FVec Ideal S16384x512 .bf16) := by
  refine (dats m 0 c).arrAt_eq_of_covers 16 _ (by decide +kernel) fun t _ y => ?_
  blk_simp [idx t]
  rw [after_16]
  obtain ⟨r, hr⟩ : ∃ r : Fin 512, r = y 0 := ⟨_, rfl⟩
  obtain ⟨j, hj⟩ : ∃ j : Fin 512, j = y 1 := ⟨_, rfl⟩
  have ht := row_lt t r
  have hy : y = ix2 r j := by rw [hr, hj]; exact eq_ix2 y
  rw [hy]
  refine ((stored16 _ _ _ _ _ r j).trans ?_).trans ((Cert.InprojRefValue.ret_query_at (xA m c) (gA m c) (wA m c) (row t r) j).symm.trans (congrArg _ ?_))
  · exact turned_at m c t r j _ _ 1544 (by omega) (fun l => turned6 m c t l j) (fun l => turned6_mate m c t l j)
  · blk_ext [idx t]

/-- The turned keys of the retention, scaled. -/
theorem final17 : (dats m 0 c).arrAt 17 cfg0.N = (Cert.InprojRefIdeal.Read.val_main_v107 (F := Ideal) (xA m c) (gA m c) (wA m c) : FVec Ideal S16384x512 .bf16) := by
  refine (dats m 0 c).arrAt_eq_of_covers 17 _ (by decide +kernel) fun t _ y => ?_
  blk_simp [idx t]
  rw [after_17]
  obtain ⟨r, hr⟩ : ∃ r : Fin 512, r = y 0 := ⟨_, rfl⟩
  obtain ⟨j, hj⟩ : ∃ j : Fin 512, j = y 1 := ⟨_, rfl⟩
  have ht := row_lt t r
  have hy : y = ix2 r j := by rw [hr, hj]; exact eq_ix2 y
  rw [hy]
  refine ((stored17 _ _ _ _ _ r j).trans ?_).trans ((Cert.InprojRefValue.ret_key_at (xA m c) (gA m c) (wA m c) (row t r) j).symm.trans (congrArg _ ?_))
  · exact congrArg (· * Ideal.ofBits .f32 0x3E000000#32) (turned_at m c t r j _ _ 2056 (by omega) (fun l => keyed6 m c t l j) (fun l => keyed6_mate m c t l j))
  · blk_ext [idx t]

/-- The values of the retention. -/
theorem final18 : (dats m 0 c).arrAt 18 cfg0.N = (Cert.InprojRefIdeal.Read.val_main_v109 (F := Ideal) (xA m c) (gA m c) (wA m c) : FVec Ideal S16384x512 .bf16) := by
  refine (dats m 0 c).arrAt_eq_of_covers 18 _ (by decide +kernel) fun t _ y => ?_
  blk_simp [idx t]
  rw [after_18]
  obtain ⟨r, hr⟩ : ∃ r : Fin 512, r = y 0 := ⟨_, rfl⟩
  obtain ⟨j, hj⟩ : ∃ j : Fin 512, j = y 1 := ⟨_, rfl⟩
  have ht := row_lt t r
  have hy : y = ix2 r j := by rw [hr, hj]; exact eq_ix2 y
  rw [hy]
  refine ((stored18 _ _ _ r j).trans ?_).trans ((Cert.InprojRefValue.ret_value_at (xA m c) (gA m c) (wA m c) (row t r) j).symm.trans (congrArg _ ?_))
  · exact col_at m c t r _ _ (fun l => valued6 m c t l j)
  · blk_ext [idx t]

/-- The gates of the retention. -/
theorem final19 : (dats m 0 c).arrAt 19 cfg0.N = (Cert.InprojRefIdeal.Read.val_main_v110 (F := Ideal) (xA m c) (gA m c) (wA m c) : FVec Ideal S16384x512 .bf16) := by
  refine (dats m 0 c).arrAt_eq_of_covers 19 _ (by decide +kernel) fun t _ y => ?_
  blk_simp [idx t]
  rw [after_19]
  obtain ⟨r, hr⟩ : ∃ r : Fin 512, r = y 0 := ⟨_, rfl⟩
  obtain ⟨j, hj⟩ : ∃ j : Fin 512, j = y 1 := ⟨_, rfl⟩
  have ht := row_lt t r
  have hy : y = ix2 r j := by rw [hr, hj]; exact eq_ix2 y
  rw [hy]
  refine ((stored19 _ _ _ r j).trans ?_).trans ((Cert.InprojRefValue.ret_gate_at (xA m c) (gA m c) (wA m c) (row t r) j).symm.trans (congrArg _ ?_))
  · exact col_at m c t r _ _ (fun l => gated6 m c t l j)
  · blk_ext [idx t]

end Cert.InprojValue

end
-- ==== Proof.InprojClaim.lean ====
/- The value claim of the prompt's projections. -/
module

public import proofs.«01_k».proof.Proof.InprojValue
public import proofs.«01_k».proof.Proof.Gen.InprojRefIdeal.Run
public import proofs.«01_k».proof.Defs

@[expose] public section

noncomputable section

namespace Cert.InprojClaim

open Idealize.ShloMosaic Idealize.SL.Sem

set_option maxHeartbeats 8000000 in
/-- The projections: both runs end with the same eight arrays. -/
theorem inproj : Cert.algebraic_InprojIdeal_InprojRefIdeal := by
  pair_intro
  · run_from Cert.InprojIdeal.Hand.run_arrays m g
  · run_from Cert.InprojRefIdeal.Value.run m' g'
    all_goals obtain ⟨h0, h1, h2, h3⟩ := hagree c
    · rw [Cert.InprojRefIdeal.Read.val_main_v100_eq]
      exact (Cert.InprojValue.final9 m c).symm
    · rw [Cert.InprojRefIdeal.Read.val_main_v101_eq]
      exact (Cert.InprojValue.final10 m c).symm
    · rw [Cert.InprojRefIdeal.Read.val_main_v102_eq]
      exact (Cert.InprojValue.final11 m c).symm
    · rw [Cert.InprojRefIdeal.Read.val_main_v103_eq, h0, h1, h2, h3]
      exact (Cert.InprojValue.final15 m c).symm
    · rw [Cert.InprojRefIdeal.Read.val_main_v105_eq, h0, h1, h2]
      exact (Cert.InprojValue.final16 m c).symm
    · rw [Cert.InprojRefIdeal.Read.val_main_v107_eq, h0, h1, h2]
      exact (Cert.InprojValue.final17 m c).symm
    · rw [Cert.InprojRefIdeal.Read.val_main_v109_eq]
      exact (Cert.InprojValue.final18 m c).symm
    · rw [Cert.InprojRefIdeal.Read.val_main_v110_eq]
      exact (Cert.InprojValue.final19 m c).symm

end Cert.InprojClaim

end
-- ==== Proof.FfnOutSValue.lean ====
/- The last SwiGLU half-step of the sample with the final normalisation: the kernel's result array is the reference's. -/
module

public import proofs.«01_k».proof.Proof.FfnSpec
public import proofs.«01_k».proof.Proof.Gen.FfnOutSIdeal.Value
public import proofs.«01_k».proof.Proof.Gen.FfnOutSRefIdeal.Run
public import proofs.«01_k».proof.Proof.Gen.FfnOutSRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.FfnOutSValue

open Cert.FfnOutSIdeal Cert.FfnOutSIdeal.Gen
open Idealize.ShloMosaic Idealize.ShloMosaic.TcCoe Idealize.SL.Sem
open Idealize.ShloMosaic.Pipeline (Dat)

variable (m : (ℓ : Loc nD τ sig) → Buf (Elt Ideal) ℓ)

/-- The normalised row that the products take. -/
theorem hidden (x : FVec Ideal S512x1024 .f32) (g : FVec Ideal S1x1024 .f32) (r : Fin 512) (l : Fin 1024) :
    k0_pay3 (F := Ideal) x g (ix2 r l) = FfnSpec.norm (fun k => x (ix2 r k)) (fun k => g (ix2 0 k)) l := by
  pointwise [k0_pay3, k0_pay2]
  rfl

set_option maxHeartbeats 1600000 in
/-- The row after the half-step, before the final normalisation. -/
theorem stepped (x : FVec Ideal S512x1024 .f32) (g : FVec Ideal S1x1024 .f32) (wg wu : FVec Ideal S1024x2816 .bf16)
    (wd : FVec Ideal S2816x1024 .bf16) (gf : FVec Ideal S1x1024 .f32) (r : Fin 512) (j : Fin 1024) :
    k0_pay7 (F := Ideal) (k0_pay10 x g wg wu wd gf) (k0_pay11 x g wg wu wd gf) (k0_pay12 x g wg wu wd gf)
      (View.ld wg r0_10) (View.ld wu r0_10) (View.ld wd r0_11) (View.ld wg r0_12) (View.ld wu r0_12) (View.ld wd r0_13) (ix2 r j)
    = FfnSpec.step (fun k => x (ix2 r k)) (fun k => g (ix2 0 k)) (fun l u => wg (ix2 l u)) (fun l u => wu (ix2 l u))
        (fun u j => wd (ix2 u j)) j := by
  unfold FfnSpec.step
  rw [FfnSpec.sum_pieces]
  pointwise [k0_pay7, k0_pay10, k0_pay11, k0_pay12, k0_pay6, k0_pay5, k0_pay4, k0_pay2, hidden]
  rfl

/-- One entry of the stored block. -/
theorem stored (x : FVec Ideal S512x1024 .f32) (g : FVec Ideal S1x1024 .f32) (wg wu : FVec Ideal S1024x2816 .bf16)
    (wd : FVec Ideal S2816x1024 .bf16) (gf : FVec Ideal S1x1024 .f32) (r : Fin 512) (j : Fin 1024) :
    out0_6 (F := Ideal) x g wg wu wd gf (ix2 r j)
    = FfnSpec.norm (FfnSpec.step (fun k => x (ix2 r k)) (fun k => g (ix2 0 k)) (fun l u => wg (ix2 l u))
        (fun l u => wu (ix2 l u)) (fun u j => wd (ix2 u j))) (fun k => gf (ix2 0 k)) j := by
  unfold out0_6
  frame_out
  pointwise [k0_pay1, k0_pay9, k0_pay8, stepped]
  rfl

theorem idx : ∀ t : Fin cfg0.N, win0_0.index t = ![t.val, 0] ∧ win0_1.index t = ![0, 0]
    ∧ win0_2.index t = ![0, 0] ∧ win0_3.index t = ![0, 0] ∧ win0_4.index t = ![0, 0] ∧ win0_5.index t = ![0, 0]
    ∧ win0_6.index t = ![t.val, 0] ∧ t.val < 1 :=
  (by decide +kernel : ∀ t : Fin grid0.N, _)

theorem read0 (c : Dev nD) (t : Fin cfg0.N) (r : Fin 512) (l : Fin 1024) (R : Fin 512) (h : (R : ℕ) = t.val * 512 + r) :
    (show EReal from iblk m c 0 t (ix2 r l)) = m ((c : Thread nD τ).loc main_arg0)
      (ix3 (⟨(R : ℕ) / 4, by omega⟩ : Fin 128) (⟨(R : ℕ) % 4, by omega⟩ : Fin 4) l) := by
  blk_simp [iblk, idx t]
  entry_read
  pointwise
  blk_ext [idx t]

theorem read1 (c : Dev nD) (t : Fin cfg0.N) (l : Fin 1024) :
    (show EReal from iblk m c 1 t (ix2 0 l)) = m ((c : Thread nD τ).loc main_arg1) (ix2 0 l) := by
  blk_simp [iblk, idx t]
  entry_read
  pointwise
  blk_ext [idx t]

theorem read2 (c : Dev nD) (t : Fin cfg0.N) (l : Fin 1024) (u : Fin 2816) :
    (show EReal from iblk m c 2 t (ix2 l u)) = m ((c : Thread nD τ).loc main_arg2) (ix3 0 l u) := by
  blk_simp [iblk, idx t]
  entry_read
  pointwise
  blk_ext [idx t]

theorem read3 (c : Dev nD) (t : Fin cfg0.N) (l : Fin 1024) (u : Fin 2816) :
    (show EReal from iblk m c 3 t (ix2 l u)) = m ((c : Thread nD τ).loc main_arg3) (ix3 0 l u) := by
  blk_simp [iblk, idx t]
  entry_read
  pointwise
  blk_ext [idx t]

theorem read4 (c : Dev nD) (t : Fin cfg0.N) (u : Fin 2816) (j : Fin 1024) :
    (show EReal from iblk m c 4 t (ix2 u j)) = m ((c : Thread nD τ).loc main_arg4) (ix3 0 u j) := by
  blk_simp [iblk, idx t]
  entry_read
  pointwise
  blk_ext [idx t]

theorem read5 (c : Dev nD) (t : Fin cfg0.N) (l : Fin 1024) :
    (show EReal from iblk m c 5 t (ix2 0 l)) = m ((c : Thread nD τ).loc main_arg5) (ix1 l) := by
  blk_simp [iblk, idx t]
  entry_read
  pointwise
  blk_ext [idx t]

section
open Cert.FfnOutSRefIdeal.Read

variable (X : FVec Ideal S128x4x1024 .f32) (G : FVec Ideal S1x1024 .f32) (Wg Wu : FVec Ideal S1x1024x2816 .f32)
  (Wd : FVec Ideal S1x2816x1024 .f32) (Gf : FVec Ideal S1024 .f32)

/-- The reference's result over its arguments. -/
def rowsRef : FVec Ideal S512x1024 .f32 :=
  val_main_v38 (F := Ideal) X G Wg Wu Wd Gf

theorem ref_hidden (b : Fin 128) (s : Fin 4) (l : Fin 1024) : val_main_v13 (F := Ideal) X G (ix3 b s l)
    = FfnSpec.norm (fun k => X (ix3 b s k)) (fun k => G (ix2 0 k)) l := by
  pointwise [val_main_v13, val_main_v12, val_main_v11,
    val_main_v10, val_main_v9, val_main_v8, val_main_v7, val_main_v6, val_main_v5, val_main_v4, val_main_v3, val_main_v2,
    val_main_v1, val_main_v0, val_main_cst, val_main_cst_0, val_main_cst_1]
  rfl

theorem ref_stepped (b : Fin 128) (s : Fin 4) (j : Fin 1024) : val_main_v24 (F := Ideal) X G Wg Wu Wd (ix3 b s j)
    = FfnSpec.step (fun k => X (ix3 b s k)) (fun k => G (ix2 0 k)) (fun l u => Wg (ix3 0 l u)) (fun l u => Wu (ix3 0 l u))
        (fun u j => Wd (ix3 0 u j)) j := by
  unfold FfnSpec.step FfnSpec.act
  pointwise [val_main_v24, val_main_v23, val_main_v22, val_main_v21, val_main_v20, val_main_v19, val_main_v18, val_main_v17,
    val_main_v16, val_main_v15, val_main_v14, val_main_call0_v0, val_main_call0_v1, val_main_call0_v2, val_main_call0_v3,
    val_main_call0_v4, val_main_call0_v5, val_main_call0_cst, val_main_call0_cst_0, val_main_cst_2, ref_hidden]
  rfl

theorem ref_rows (R : Fin 512) (j : Fin 1024) : rowsRef X G Wg Wu Wd Gf (ix2 R j)
    = FfnSpec.norm (FfnSpec.step
        (fun k => X (ix3 (⟨(R : ℕ) / 4, by omega⟩ : Fin 128) (⟨(R : ℕ) % 4, by omega⟩ : Fin 4) k))
        (fun k => G (ix2 0 k)) (fun l u => Wg (ix3 0 l u)) (fun l u => Wu (ix3 0 l u)) (fun u j => Wd (ix3 0 u j)))
        (fun k => Gf (ix1 k)) j := by
  pointwise [rowsRef, val_main_v38, val_main_v37, val_main_v36, val_main_v35, val_main_v34, val_main_v33, val_main_v32,
    val_main_v31, val_main_v30, val_main_v29, val_main_v28, val_main_v27, val_main_v26, val_main_v25,
    val_main_cst_3, val_main_cst_4, val_main_cst_5, ref_stepped]
  rfl

end

/-- After the run, the result array is the reference's. -/
theorem final_rows (c : Dev nD) : (dats m 0 c).arrAt 6 cfg0.N
    = rowsRef (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5)) := by
  refine (dats m 0 c).arrAt_eq_of_covers 6 _ (by decide +kernel) fun t _ y => ?_
  blk_simp [idx t]
  rw [after0_6]
  obtain ⟨r, hr⟩ : ∃ r : Fin 512, r = y 0 := ⟨_, rfl⟩
  obtain ⟨j, hj⟩ : ∃ j : Fin 1024, j = y 1 := ⟨_, rfl⟩
  have ht : t.val < 1 := (idx t).2.2.2.2.2.2.2
  have hy : y = ix2 r j := by rw [hr, hj]; exact eq_ix2 y
  rw [hy]
  have h0 := fun l => read0 m c t r l ⟨t.val * 512 + r, by omega⟩ rfl
  have h1 := read1 m c t
  have h2 := read2 m c t
  have h3 := read3 m c t
  have h4 := read4 m c t
  have h5 := read5 m c t
  refine ((stored _ _ _ _ _ _ r j).trans ?_).trans ((ref_rows _ _ _ _ _ _ ⟨t.val * 512 + r, by omega⟩ j).symm.trans (congrArg _ ?_))
  · simp only [show (fun k => _) = _ from funext h0, h1, h2, h3, h4, h5]
  · blk_ext [idx t]

end Cert.FfnOutSValue

end
-- ==== Proof.MixPure.lean ====
/- The output projection with the attention over the memory, one block of rows of the kernel. -/
module

public import proofs.«01_k».proof.Proof.FfnSpec
public import proofs.«01_k».proof.Proof.FoxMath
public import proofs.«01_k».proof.Proof.Gen.MixIdeal.Value
public import Idealize.ShloMosaic.Lib.Pipeline.ValueKit
public import Idealize.ShloMosaic.Lib.Pointwise
public import Idealize.ShloMosaic.Lib.WordCmp
public import Idealize.ShloMosaic.Lib.Claim

@[expose] public section

set_option maxRecDepth 16384

noncomputable section

namespace Cert.MixPure

open Cert.MixIdeal Cert.MixIdeal.Gen
open Idealize.ShloMosaic Idealize.ShloMosaic.TcCoe Idealize.SL.Sem
open Idealize.ShloMosaic.Pipeline (Dat)

/-- The lane numbers of a block. -/
abbrev lanes : IVec S512x256 32 := iota .tc S512x256 32 [1] iota_S512x256_d1_w32

/-- The score of memory entry `k` for head `h`: the head's 64 lanes of the query and the key, scaled. -/
def score (q : Fin 256 → EReal) (K : Fin 256 → Fin 256 → EReal) (h : Fin 4) (k : Fin 256) : EReal :=
  (∑ d : Fin 64, q ⟨64 * h + d, by omega⟩ * K k ⟨64 * h + d, by omega⟩) * Ideal.ofBits .f32 0x3E000000#32

/-- The softmax weight of entry `k` for head `h`. -/
def weight (q : Fin 256 → EReal) (K : Fin 256 → Fin 256 → EReal) (h : Fin 4) (k : Fin 256) : EReal :=
  Ideal.div (Ideal.exp (score q K h k - Finset.fold max ⊥ (fun k => score q K h k) Finset.univ))
    (∑ k, Ideal.exp (score q K h k - Finset.fold max ⊥ (fun k => score q K h k) Finset.univ))

/-- Lane `l` of what the attention reads: its head's weights on the values. -/
def gather (q : Fin 256 → EReal) (K V : Fin 256 → Fin 256 → EReal) (l : Fin 256) : EReal :=
  ∑ k, V k l * weight q K ⟨l.val / 64, by omega⟩ k

/-- The row with the output projection added. -/
def mixed (x o : Fin 1024 → EReal) (w : Fin 1024 → Fin 1024 → EReal) (j : Fin 1024) : EReal :=
  x j + ∑ k, o k * w k j

/-- The query of a row. -/
def query (y g : Fin 1024 → EReal) (wq : Fin 1024 → Fin 256 → EReal) (n : Fin 256) : EReal :=
  ∑ l, FfnSpec.norm y g l * wq l n

/-- The row with the attention over the memory added. -/
def attended (y g : Fin 1024 → EReal) (wq : Fin 1024 → Fin 256 → EReal) (K V : Fin 256 → Fin 256 → EReal)
    (wo : Fin 256 → Fin 1024 → EReal) (j : Fin 1024) : EReal :=
  y j + ∑ l, gather (query y g wq) K V l * wo l j

theorem neg_inf : Ideal.ofBits FTy.f32 4286578688#32 = (⊥ : EReal) := by
  simp [Ideal.ofBits, Ideal.ieee]

/-- The scale is a nonnegative real. -/
theorem scale_real : ∃ c : ℝ, 0 ≤ c ∧ Ideal.ofBits FTy.f32 0x3E000000#32 = (c : EReal) := by
  refine ⟨1 / 8, by norm_num, ?_⟩
  simp [Ideal.ofBits, Ideal.ieee]
  rw [← EReal.coe_mul]
  norm_num

/-- The number of a lane's head, as the kernel finds it: a quotient rounded down. -/
def headWord (w : BitVec 32) : BitVec 32 :=
  Scalar.select
    (IntOp.andi
      (IntOp.cmpi CmpIPredicate.ne
        (IntOp.subi (BitVec.setWidth 32 (IntOp.cmpi CmpIPredicate.sgt w 0#32))
          (BitVec.setWidth 32 (IntOp.cmpi CmpIPredicate.slt w 0#32)))
        (Scalar.subi (Scalar.extui (Scalar.cmpi CmpIPredicate.sgt 64#32 0#32))
          (Scalar.extui (Scalar.cmpi CmpIPredicate.slt 64#32 0#32))))
      (IntOp.cmpi CmpIPredicate.ne (IntOp.remsi ArithUnit.vector w 64#32) 0#32))
    (IntOp.subi (IntOp.divsi ArithUnit.vector w 64#32) 1#32)
    (IntOp.divsi ArithUnit.vector w 64#32)

theorem head_word : ∀ l : Fin 256, headWord (BitVec.ofNat 32 l) = BitVec.ofNat 32 (l.val / 64) := by decide +kernel

theorem head_select (l : Fin 256) (n : ℕ) (hn : n < 4) (x y : EReal) :
    Scalar.select (IntOp.cmpi CmpIPredicate.eq (headWord (BitVec.ofNat 32 l)) (BitVec.ofNat 32 n)) x y
      = if l.val / 64 = n then x else y := by
  rw [head_word, WordCmp.cmpi_eq_ofNat (by omega) (by omega), WordCmp.select_decide]

theorem mask0 (q : FVec Ideal S512x256 .f32) (r : Fin 512) (l : Fin 256) :
    k0_pay5 (F := Ideal) q lanes 64#32 k0_pay4 (ix2 r l) = if l.val / 64 = 0 then q (ix2 r l) else 0 := by
  pointwise [k0_pay5, k0_pay4, lanes]
  exact head_select l 0 (by omega) _ _

theorem mask1 (q : FVec Ideal S512x256 .f32) (r : Fin 512) (l : Fin 256) :
    k0_pay9 (F := Ideal) q (k0_pay6 lanes) (k0_pay7 lanes) (k0_pay8 lanes) (ix2 r l) = if l.val / 64 = 1 then q (ix2 r l) else 0 := by
  pointwise [k0_pay9, k0_pay6, k0_pay7, k0_pay8, lanes]
  exact head_select l 1 (by omega) _ _

theorem mask2 (q : FVec Ideal S512x256 .f32) (r : Fin 512) (l : Fin 256) :
    k0_pay10 (F := Ideal) q lanes (ix2 r l) = if l.val / 64 = 2 then q (ix2 r l) else 0 := by
  pointwise [k0_pay10, lanes]
  exact head_select l 2 (by omega) _ _

/-- Of the 256 lanes only the head's own 64 count, and the scale leaves the sum. -/
theorem masked_sum (q k : Fin 256 → EReal) (h : Fin 4) (f : Fin 256 → EReal)
    (hf : ∀ l, f l = if l.val / 64 = h.val then q l * Ideal.ofBits .f32 0x3E000000#32 else 0) :
    ∑ l, f l * k l
      = (∑ d : Fin 64, q ⟨64 * h + d, by omega⟩ * k ⟨64 * h + d, by omega⟩) * Ideal.ofBits .f32 0x3E000000#32 := by
  obtain ⟨c, hc, e⟩ := scale_real
  have cut : ∀ (g : Fin (64 + 64 + 64 + 64) → EReal), ∑ l, g l
      = ∑ d : Fin 64, g ⟨d, by omega⟩ + ∑ d : Fin 64, g ⟨64 + d, by omega⟩
        + ∑ d : Fin 64, g ⟨64 + 64 + d, by omega⟩ + ∑ d : Fin 64, g ⟨64 + 64 + 64 + d, by omega⟩ := by
    intro g
    rw [Fin.sum_univ_add g, Fin.sum_univ_add, Fin.sum_univ_add]; rfl
  have own : ∀ l : Fin 256, l.val / 64 = h.val → f l * k l = (c : EReal) * (q l * k l) := by
    intro l hl; rw [hf, if_pos hl, e, mul_comm (q l), mul_assoc]
  have off : ∀ l : Fin 256, l.val / 64 ≠ h.val → f l * k l = 0 := by
    intro l hl; rw [hf, if_neg hl, zero_mul]
  rw [e, mul_comm _ (c : EReal), FoxMath.coe_mul_sum _ c hc]
  refine (cut (fun l => f l * k l)).trans ?_
  obtain ⟨h, hh⟩ := h
  have zero : ∀ g : Fin 64 → EReal, (∀ d, g d = 0) → ∑ d, g d = 0 := fun g hg => Finset.sum_eq_zero fun d _ => hg d
  rcases (show h = 0 ∨ h = 1 ∨ h = 2 ∨ h = 3 by omega) with rfl | rfl | rfl | rfl
  · rw [zero _ fun d => off ⟨64 + d, _⟩ (by simp only; omega), zero _ fun d => off ⟨64 + 64 + d, _⟩ (by simp only; omega),
      zero _ fun d => off ⟨64 + 64 + 64 + d, _⟩ (by simp only; omega), add_zero, add_zero, add_zero]
    refine Finset.sum_congr rfl fun d _ => ?_
    rw [own ⟨d, _⟩ (by simp only; omega)]
    simp only [Nat.mul_zero, Nat.zero_add]
  · rw [zero _ fun d => off ⟨d, _⟩ (by simp only; omega), zero _ fun d => off ⟨64 + 64 + d, _⟩ (by simp only; omega),
      zero _ fun d => off ⟨64 + 64 + 64 + d, _⟩ (by simp only; omega), add_zero, add_zero, zero_add]
    exact Finset.sum_congr rfl fun d _ => own ⟨64 + d, _⟩ (by simp only; omega)
  · rw [zero _ fun d => off ⟨d, _⟩ (by simp only; omega), zero _ fun d => off ⟨64 + d, _⟩ (by simp only; omega),
      zero _ fun d => off ⟨64 + 64 + 64 + d, _⟩ (by simp only; omega), add_zero, zero_add, zero_add]
    exact Finset.sum_congr rfl fun d _ => own ⟨64 + 64 + d, _⟩ (by simp only; omega)
  · rw [zero _ fun d => off ⟨d, _⟩ (by simp only; omega), zero _ fun d => off ⟨64 + d, _⟩ (by simp only; omega),
      zero _ fun d => off ⟨64 + 64 + d, _⟩ (by simp only; omega), zero_add, zero_add, zero_add]
    exact Finset.sum_congr rfl fun d _ => own ⟨64 + 64 + 64 + d, _⟩ (by simp only; omega)

/-- A head's weights on the values, once its scores are known. -/
theorem weighed (q : Fin 256 → EReal) (K V : Fin 256 → Fin 256 → EReal) (h : Fin 4) (l : Fin 256) (s : Fin 256 → EReal)
    (hs : ∀ k, s k = score q K h k) :
    ∑ k, Ideal.div (Ideal.exp (s k - Finset.fold max (Ideal.ofBits FTy.f32 4286578688#32) (fun k => s k) Finset.univ))
        (∑ k, Ideal.exp (s k - Finset.fold max (Ideal.ofBits FTy.f32 4286578688#32) (fun k => s k) Finset.univ)) * V k l
      = ∑ k, V k l * weight q K h k := by
  obtain rfl : s = fun k => score q K h k := funext hs
  rw [neg_inf]
  exact Finset.sum_congr rfl fun k _ => mul_comm _ _

variable (z : FVec Ideal S512x256 .f32) (K V : FVec Ideal S256x256 .f32) (q : Fin 256 → EReal) (r : Fin 512)

/-- The values read under the four masks, stacked. -/
def stack : FVec Ideal S2048x256 .f32 :=
  k0_pay13 (F := Ideal) z lanes (k0_pay5 z lanes 64#32 k0_pay4) (k0_pay9 z (k0_pay6 lanes) (k0_pay7 lanes) (k0_pay8 lanes))
    (k0_pay10 z lanes) 64#32 (k0_pay11 lanes) (k0_pay12 lanes) K V

theorem stack0 (hz : ∀ l, z (ix2 r l) = q l * Ideal.ofBits .f32 0x3E000000#32) (l : Fin 256) :
    stack z K V (ix2 (⟨r, by omega⟩ : Fin 2048) l) = ∑ k, V (ix2 k l) * weight q (fun k l => K (ix2 k l)) 0 k := by
  have hu : ∀ l, (k0_pay5 (F := Ideal) z lanes 64#32 k0_pay4) (ix2 r l)
      = if l.val / 64 = ((0 : Fin 4) : ℕ) then q l * Ideal.ofBits .f32 0x3E000000#32 else 0 := fun l => by
    rw [mask0, hz]; rfl
  unfold stack
  generalize (k0_pay5 z lanes 64#32 k0_pay4) = u0 at hu ⊢
  generalize (k0_pay9 z (k0_pay6 lanes) (k0_pay7 lanes) (k0_pay8 lanes)) = u1
  generalize (k0_pay10 z lanes) = u2
  pointwise [k0_pay13, k0_pay11, k0_pay12, lanes]
  refine weighed q (fun k l => K (ix2 k l)) (fun k l => V (ix2 k l)) 0 l _ fun k => ?_
  refine masked_sum q (fun l => K (ix2 k l)) 0 _ fun l => ?_
  exact hu l

theorem stack1 (hz : ∀ l, z (ix2 r l) = q l * Ideal.ofBits .f32 0x3E000000#32) (l : Fin 256) :
    stack z K V (ix2 (⟨512 + r, by omega⟩ : Fin 2048) l) = ∑ k, V (ix2 k l) * weight q (fun k l => K (ix2 k l)) 1 k := by
  have hu : ∀ l, (k0_pay9 (F := Ideal) z (k0_pay6 lanes) (k0_pay7 lanes) (k0_pay8 lanes)) (ix2 r l)
      = if l.val / 64 = ((1 : Fin 4) : ℕ) then q l * Ideal.ofBits .f32 0x3E000000#32 else 0 := fun l => by
    rw [mask1, hz]; rfl
  unfold stack
  generalize (k0_pay5 z lanes 64#32 k0_pay4) = u0
  generalize (k0_pay9 z (k0_pay6 lanes) (k0_pay7 lanes) (k0_pay8 lanes)) = u1 at hu ⊢
  generalize (k0_pay10 z lanes) = u2
  pointwise [k0_pay13, k0_pay11, k0_pay12, lanes]
  refine weighed q (fun k l => K (ix2 k l)) (fun k l => V (ix2 k l)) 1 l _ fun k => ?_
  refine masked_sum q (fun l => K (ix2 k l)) 1 _ fun l => ?_
  exact hu l

theorem stack2 (hz : ∀ l, z (ix2 r l) = q l * Ideal.ofBits .f32 0x3E000000#32) (l : Fin 256) :
    stack z K V (ix2 (⟨1024 + r, by omega⟩ : Fin 2048) l) = ∑ k, V (ix2 k l) * weight q (fun k l => K (ix2 k l)) 2 k := by
  have hu : ∀ l, (k0_pay10 (F := Ideal) z lanes) (ix2 r l)
      = if l.val / 64 = ((2 : Fin 4) : ℕ) then q l * Ideal.ofBits .f32 0x3E000000#32 else 0 := fun l => by
    rw [mask2, hz]; rfl
  unfold stack
  generalize (k0_pay5 z lanes 64#32 k0_pay4) = u0
  generalize (k0_pay9 z (k0_pay6 lanes) (k0_pay7 lanes) (k0_pay8 lanes)) = u1
  generalize (k0_pay10 z lanes) = u2 at hu ⊢
  pointwise [k0_pay13, k0_pay11, k0_pay12, lanes]
  refine weighed q (fun k l => K (ix2 k l)) (fun k l => V (ix2 k l)) 2 l _ fun k => ?_
  refine masked_sum q (fun l => K (ix2 k l)) 2 _ fun l => ?_
  rw [dif_neg (by omega), dif_neg (by omega), dif_pos (by omega)]
  exact (congrArg (fun r : Fin 512 => (u2 (ix2 r l) : EReal)) (Fin.ext (by simp only; omega) : _ = r)).trans (hu l)

theorem stack3 (hz : ∀ l, z (ix2 r l) = q l * Ideal.ofBits .f32 0x3E000000#32) (l : Fin 256) :
    stack z K V (ix2 (⟨1536 + r, by omega⟩ : Fin 2048) l) = ∑ k, V (ix2 k l) * weight q (fun k l => K (ix2 k l)) 3 k := by
  unfold stack
  generalize (k0_pay5 z lanes 64#32 k0_pay4) = u0
  generalize (k0_pay9 z (k0_pay6 lanes) (k0_pay7 lanes) (k0_pay8 lanes)) = u1
  generalize (k0_pay10 z lanes) = u2
  pointwise [k0_pay13, k0_pay11, k0_pay12, lanes]
  refine weighed q (fun k l => K (ix2 k l)) (fun k l => V (ix2 k l)) 3 l _ fun k => ?_
  refine masked_sum q (fun l => K (ix2 k l)) 3 _ fun l => ?_
  rw [← hz, dif_neg (by omega), dif_neg (by omega), dif_neg (by omega)]
  refine (head_select l 3 (by omega) _ _).trans ?_
  exact congrArg (fun r : Fin 512 => if l.val / 64 = 3 then (z (ix2 r l) : EReal) else 0) (Fin.ext (by simp only; omega) : _ = r)

/-- Each lane takes the rows of its own head. -/
def picked (p : FVec Ideal S2048x256 .f32) : FVec Ideal S512x256 .f32 :=
  k0_pay21 (F := Ideal) lanes p (k0_pay17 lanes p (k0_pay14 (F := Ideal)) 64#32 (k0_pay15 lanes) k0_pay16)
    (k0_pay18 lanes) (k0_pay19 lanes) (k0_pay20 lanes)

theorem picked_at (p : FVec Ideal S2048x256 .f32) (l : Fin 256) : picked p (ix2 r l)
    = 0 + (if l.val / 64 = 0 then p (ix2 (⟨r, by omega⟩ : Fin 2048) l) else 0)
      + (if l.val / 64 = 1 then p (ix2 (⟨512 + r, by omega⟩ : Fin 2048) l) else 0)
      + (if l.val / 64 = 2 then p (ix2 (⟨1024 + r, by omega⟩ : Fin 2048) l) else 0) := by
  unfold picked
  pointwise [k0_pay21, k0_pay17, k0_pay14, k0_pay15, k0_pay16, k0_pay18, k0_pay19, k0_pay20, lanes]
  rw [← head_select l 0 (by omega), ← head_select l 1 (by omega), ← head_select l 2 (by omega)]
  rfl

/-- The projected block. -/
def opened (x : FVec Ideal S512x1024 .f32) (of og : FVec Ideal S512x512 .bf16) (w : FVec Ideal S1024x1024 .bf16) :
    FVec Ideal S512x1024 .f32 :=
  k0_pay2 (F := Ideal) x of (View.ld w r0_2) og (View.ld w r0_3)

theorem opened_at (x : FVec Ideal S512x1024 .f32) (of og : FVec Ideal S512x512 .bf16) (w : FVec Ideal S1024x1024 .bf16)
    (o : Fin 1024 → EReal) (h1 : ∀ k : Fin 512, o ⟨k, by omega⟩ = of (ix2 r k))
    (h2 : ∀ k : Fin 512, o ⟨512 + k, by omega⟩ = og (ix2 r k)) (j : Fin 1024) :
    opened x of og w (ix2 r j) = mixed (fun j => x (ix2 r j)) o (fun k j => w (ix2 k j)) j := by
  unfold mixed
  have cut : ∀ g : Fin (512 + 512) → EReal, ∑ k, g k = ∑ k : Fin 512, g ⟨k, by omega⟩ + ∑ k : Fin 512, g ⟨512 + k, by omega⟩ :=
    fun g => Fin.sum_univ_add g
  rw [cut (fun k => o k * w (ix2 k j)), ← add_assoc]
  simp only [h1, h2]
  unfold opened
  pointwise [k0_pay2]

theorem query_at (x : FVec Ideal S512x1024 .f32) (of og : FVec Ideal S512x512 .bf16) (w : FVec Ideal S1024x1024 .bf16)
    (g : FVec Ideal S1x1024 .f32) (wq : FVec Ideal S1024x256 .bf16) (y : Fin 1024 → EReal)
    (hy : ∀ j, opened x of og w (ix2 r j) = y j) (n : Fin 256) :
    k0_pay3 (F := Ideal) x of (View.ld w r0_2) og (View.ld w r0_3)
        g wq (ix2 r n)
      = query y (fun j => g (ix2 0 j)) (fun l n => wq (ix2 l n)) n * Ideal.ofBits .f32 0x3E000000#32 := by
  unfold query FfnSpec.norm
  simp only [← hy]
  unfold k0_pay3
  change _ = _
  simp only [show k0_pay2 (F := Ideal) x of (View.ld w r0_2) og (View.ld w r0_3)
    = opened x of og w from rfl]
  generalize opened x of og w = Y
  pointwise

/-- One entry of the stored block. -/
theorem stored (x : FVec Ideal S512x1024 .f32) (of og : FVec Ideal S512x512 .bf16) (w : FVec Ideal S1024x1024 .bf16)
    (g : FVec Ideal S1x1024 .f32) (wq : FVec Ideal S1024x256 .bf16) (K V : FVec Ideal S256x256 .f32)
    (wo : FVec Ideal S256x1024 .bf16) (o : Fin 1024 → EReal) (h1 : ∀ k : Fin 512, o ⟨k, by omega⟩ = of (ix2 r k))
    (h2 : ∀ k : Fin 512, o ⟨512 + k, by omega⟩ = og (ix2 r k)) (j : Fin 1024) :
    out0_9 (F := Ideal) x of og w g wq K V wo (ix2 r j)
      = attended (mixed (fun j => x (ix2 r j)) o (fun k j => w (ix2 k j))) (fun j => g (ix2 0 j)) (fun l n => wq (ix2 l n))
          (fun k l => K (ix2 k l)) (fun k l => V (ix2 k l)) (fun l j => wo (ix2 l j)) j := by
  have hy := opened_at r x of og w o h1 h2
  have hz := query_at r x of og w g wq _ hy
  have hs0 := stack0 _ K V _ r hz
  have hs1 := stack1 _ K V _ r hz
  have hs2 := stack2 _ K V _ r hz
  have hs3 := stack3 _ K V _ r hz
  unfold out0_9
  frame_out
  unfold k0_pay26 k0_pay25 k0_pay24
  simp (disch := decide) only [View.ld_unit_lit']
  unfold attended gather
  rw [← hy]
  generalize hZ : k0_pay3 (F := Ideal) x of (View.ld w r0_2) og (View.ld w r0_3)
        g wq = z at hs0 hs1 hs2 hs3 ⊢
  change k0_pay1 (F := Ideal) (opened x of og w) lanes (stack z K V)
    (picked (stack z K V)) 64#32 (k0_pay22 lanes) (k0_pay23 lanes) 0#32 wo (ix2 r j) = _
  have hp := picked_at r (stack z K V)
  generalize stack z K V = p at hs0 hs1 hs2 hs3 hp ⊢
  generalize picked p = u at hp ⊢
  generalize opened x of og w = y at hy ⊢
  pointwise [k0_pay1, k0_pay22, k0_pay23, lanes, hp]
  refine congrArg (y (ix2 r j) + ·) (Finset.sum_congr rfl fun l _ => congrArg (· * _) ?_)
  refine (congrArg (_ + ·) (head_select l 3 (by omega) _ _)).trans ?_
  rcases (show l.val / 64 = 0 ∨ l.val / 64 = 1 ∨ l.val / 64 = 2 ∨ l.val / 64 = 3 by omega) with hl | hl | hl | hl
  · rw [show (⟨l.val / 64, by omega⟩ : Fin 4) = 0 from Fin.ext hl, ← hs0 l]
    simp [hl]
  · rw [show (⟨l.val / 64, by omega⟩ : Fin 4) = 1 from Fin.ext hl, ← hs1 l]
    simp [hl]
  · rw [show (⟨l.val / 64, by omega⟩ : Fin 4) = 2 from Fin.ext hl, ← hs2 l]
    simp [hl]
  · rw [show (⟨l.val / 64, by omega⟩ : Fin 4) = 3 from Fin.ext hl, ← hs3 l]
    simp [hl]

end Cert.MixPure

end
-- ==== Proof.MixRefValue.lean ====
/- The output projection with the attention over the memory: the problem's lines, entry by entry. -/
module

public import proofs.«01_k».proof.Proof.MixPure
public import proofs.«01_k».proof.Proof.Gen.MixRefIdeal.Run
public import proofs.«01_k».proof.Proof.Gen.MixRefIdeal.Read
public import Idealize.ShloMosaic.Lib.Pipeline.ValueKit
public import Idealize.ShloMosaic.Lib.Pointwise
public import Idealize.ShloMosaic.Lib.WordCmp
public import Idealize.ShloMosaic.Lib.Claim

@[expose] public section

set_option maxRecDepth 16384

noncomputable section

namespace Cert.MixRefValue

open Cert.MixRefIdeal Cert.MixRefIdeal.Read
open Cert.MixPure (score weight gather mixed query attended neg_inf)
open Idealize.ShloMosaic Idealize.SL.Sem

variable (x0 : FVec Ideal S4x4096x1024 .f32) (x1 x2 : FVec Ideal S4x4096x512 .f32) (x3 : FVec Ideal S1x1024x1024 .f32)
  (x4 : FVec Ideal S1x1024 .f32) (x5 : FVec Ideal S1x1024x256 .f32) (x6 x7 : FVec Ideal S4x256x4x64 .f32)
  (x8 : FVec Ideal S1x256x1024 .f32)

/-- The two attentions' outputs of a token, side by side. -/
def joined (b : Fin 4) (s : Fin 4096) (k : Fin 1024) : EReal := val_main_v0 (F := Ideal) x1 x2 (ix3 b s k)

theorem joined_left (b : Fin 4) (s : Fin 4096) (k : Fin 512) : joined x1 x2 b s ⟨k, by omega⟩ = x1 (ix3 b s k) := by
  pointwise [joined, val_main_v0]

theorem joined_right (b : Fin 4) (s : Fin 4096) (k : Fin 512) : joined x1 x2 b s ⟨512 + k, by omega⟩ = x2 (ix3 b s k) := by
  pointwise [joined, val_main_v0]

/-- The row with the output projection added. -/
def yref (b : Fin 4) (s : Fin 4096) : Fin 1024 → EReal :=
  mixed (fun j => x0 (ix3 b s j)) (joined x1 x2 b s) (fun k j => x3 (ix3 0 k j))

theorem mixed_at (b : Fin 4) (s : Fin 4096) (j : Fin 1024) :
    val_main_v3 (F := Ideal) x0 x1 x2 x3 (ix3 b s j) = yref x0 x1 x2 x3 b s j := by
  unfold yref mixed joined
  pointwise [val_main_v3, val_main_v2, val_main_v1]

/-- Its query. -/
def qref (b : Fin 4) (s : Fin 4096) : Fin 256 → EReal :=
  query (yref x0 x1 x2 x3 b s) (fun j => x4 (ix2 0 j)) (fun l n => x5 (ix3 0 l n))

theorem query_at (b : Fin 4) (s : Fin 4096) (n : Fin 256) :
    val_main_v20 (F := Ideal) x0 x1 x2 x3 x4 x5 (ix3 b s n) = qref x0 x1 x2 x3 x4 x5 b s n := by
  unfold qref query FfnSpec.norm
  pointwise [val_main_v20, val_main_v18, val_main_v17, val_main_v16, val_main_v15, val_main_v14, val_main_v13, val_main_v12,
    val_main_v11, val_main_v10, val_main_v9, val_main_v8, val_main_v7, val_main_v6, val_main_v5, val_main_v4,
    val_main_cst, val_main_cst_0, val_main_cst_1, mixed_at]

/-- A memory array's entry `k`, its four heads' lanes in a row. -/
def lanesOf (a : FVec Ideal S4x256x4x64 .f32) (b : Fin 4) (k l : Fin 256) : EReal :=
  a (ix4 b k (⟨l.val / 64, by omega⟩ : Fin 4) (⟨l.val % 64, by omega⟩ : Fin 64))

theorem lanesOf_head (a : FVec Ideal S4x256x4x64 .f32) (b : Fin 4) (k : Fin 256) (h : Fin 4) (d : Fin 64) :
    lanesOf a b k ⟨64 * h + d, by omega⟩ = a (ix4 b k h d) := by
  unfold lanesOf
  rw [show (⟨(64 * h.val + d.val) / 64, by omega⟩ : Fin 4) = h from Fin.ext (by simp only; omega),
    show (⟨(64 * h.val + d.val) % 64, by omega⟩ : Fin 64) = d from Fin.ext (by simp only; omega)]

/-- The scores of a row. -/
def sref (b : Fin 4) (h : Fin 4) (s : Fin 4096) (k : Fin 256) : EReal :=
  score (qref x0 x1 x2 x3 x4 x5 b s) (lanesOf x6 b) h k

theorem score_at (b : Fin 4) (h : Fin 4) (s : Fin 4096) (k : Fin 256) :
    val_main_v24 (F := Ideal) x0 x1 x2 x3 x4 x5 x6 (ix4 b h s k) = sref x0 x1 x2 x3 x4 x5 x6 b h s k := by
  unfold sref score
  simp only [lanesOf_head]
  pointwise [val_main_v24, val_main_v23, val_main_v22, val_main_v21, val_main_cst_2, query_at]
  simp only [Nat.mul_comm 64 h.val]

/-- A maximum along the entries, of any scores. -/
theorem fold_at (y : FVec Ideal S4x4x4096x256 .f32) (u : FVec Ideal S_ .f32) (b h : Fin 4) (i : Fin 4096) :
    (Host.reduce (FloatOps.maximumf (F := Ideal) (φ := .f32)) y u Gen.reducesTo_S4x4x4096x256_S4x4x4096_d3 Gen.h_S_ (ix3 b h i) : EReal)
      = Finset.fold max (u (Shape.Idx.first Gen.h_S_)) (fun k : Fin 256 => y (ix4 b h i k)) Finset.univ := by
  rw [Host.reduce_eq_fold, Shape.ReducesTo.fold_fiber_r4_a3]
  rfl

/-- A row's largest score. -/
def mref (b h : Fin 4) (s : Fin 4096) : EReal := Finset.fold max ⊥ (fun k => sref x0 x1 x2 x3 x4 x5 x6 b h s k) Finset.univ

theorem top_at (b h : Fin 4) (s : Fin 4096) :
    val_main_v25 (F := Ideal) x0 x1 x2 x3 x4 x5 x6 (ix3 b h s) = mref x0 x1 x2 x3 x4 x5 x6 b h s := by
  unfold mref
  unfold val_main_v25
  rw [← funext fun k => score_at x0 x1 x2 x3 x4 x5 x6 b h s k]
  generalize val_main_v24 (F := Ideal) x0 x1 x2 x3 x4 x5 x6 = y
  refine (fold_at y _ b h s).trans ?_
  exact congrArg (fun z : EReal => Finset.fold max z (fun k : Fin 256 => (y (ix4 b h s k) : EReal)) Finset.univ) neg_inf

theorem max_at (b h : Fin 4) (s : Fin 4096) :
    val_main_v27 (F := Ideal) x0 x1 x2 x3 x4 x5 x6 (ix3 b h s) = mref x0 x1 x2 x3 x4 x5 x6 b h s := by
  rw [val_main_v27_apply, top_at, val_main_v26_apply]
  generalize mref x0 x1 x2 x3 x4 x5 x6 b h s = z
  have n : (val_main_cst_4 (F := Ideal) (idx_main_v26 (ix3 b h s)) : EReal) = ⊥ := neg_inf
  exact (congrArg (fun w : EReal => max w z) n).trans (max_eq_right bot_le)

theorem exp_at (b h : Fin 4) (s : Fin 4096) (k : Fin 256) : val_main_v31 (F := Ideal) x0 x1 x2 x3 x4 x5 x6 (ix4 b h s k)
    = Ideal.exp (sref x0 x1 x2 x3 x4 x5 x6 b h s k - mref x0 x1 x2 x3 x4 x5 x6 b h s) := by
  pointwise [val_main_v31, val_main_v30, val_main_v29, val_main_v28, score_at, max_at]

theorem sum_at (b h : Fin 4) (s : Fin 4096) : val_main_v32 (F := Ideal) x0 x1 x2 x3 x4 x5 x6 (ix3 b h s)
    = ∑ k, Ideal.exp (sref x0 x1 x2 x3 x4 x5 x6 b h s k - mref x0 x1 x2 x3 x4 x5 x6 b h s) := by
  pointwise [val_main_v32, val_main_cst_5, exp_at]

theorem out_at (b : Fin 4) (s : Fin 4096) (l : Fin 256) : val_main_v38 (F := Ideal) x0 x1 x2 x3 x4 x5 x6 x7 (ix3 b s l)
    = gather (qref x0 x1 x2 x3 x4 x5 b s) (lanesOf x6 b) (lanesOf x7 b) l := by
  unfold gather weight lanesOf
  pointwise [val_main_v38, val_main_v37, val_main_v36, val_main_v35, val_main_v34, val_main_v33, exp_at, sum_at]
  rfl

theorem ref_rows (R : Fin 16384) (j : Fin 1024) : val_main_v41 (F := Ideal) x0 x1 x2 x3 x4 x5 x6 x7 x8 (ix2 R j)
    = attended (yref x0 x1 x2 x3 (⟨(R : ℕ) / 4096, by omega⟩ : Fin 4) (⟨(R : ℕ) % 4096, by omega⟩ : Fin 4096))
        (fun j => x4 (ix2 0 j)) (fun l n => x5 (ix3 0 l n)) (lanesOf x6 (⟨(R : ℕ) / 4096, by omega⟩ : Fin 4))
        (lanesOf x7 (⟨(R : ℕ) / 4096, by omega⟩ : Fin 4)) (fun l j => x8 (ix3 0 l j)) j := by
  unfold attended
  pointwise [val_main_v41, val_main_v40, val_main_v39, val_main_v19, mixed_at, out_at]
  rfl

end Cert.MixRefValue

end
-- ==== Proof.MixValue.lean ====
/- The output projection with the attention over the memory: the kernel's result array is the reference's. -/
module

public import proofs.«01_k».proof.Proof.MixPure
public import proofs.«01_k».proof.Proof.Gen.MixRefIdeal.Run
public import proofs.«01_k».proof.Proof.MixRefValue
public import proofs.«01_k».proof.Proof.Gen.MixRefIdeal.Read
public import proofs.«01_k».proof.Proof.Gen.MixIdeal.Value
public import Idealize.ShloMosaic.Lib.Pipeline.ValueKit
public import Idealize.ShloMosaic.Lib.Pointwise
public import Idealize.ShloMosaic.Lib.WordCmp
public import Idealize.ShloMosaic.Lib.Claim

@[expose] public section

set_option maxRecDepth 16384

noncomputable section

namespace Cert.MixValue

open Cert.MixIdeal Cert.MixIdeal.Gen
open Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val, 0] ∧ win0_1.index t = ![t.val, 0]
    ∧ win0_2.index t = ![t.val, 0] ∧ win0_3.index t = ![0, 0] ∧ win0_4.index t = ![0, 0] ∧ win0_5.index t = ![0, 0]
    ∧ win0_6.index t = ![t.val / 8, 0] ∧ win0_7.index t = ![t.val / 8, 0] ∧ win0_8.index t = ![0, 0]
    ∧ win0_9.index t = ![t.val, 0] ∧ t.val < 32 :=
  (by decide +kernel : ∀ t : Fin grid0.N, _)

theorem read0 (c : Dev nD) (t : Fin cfg0.N) (r : Fin 512) (l : Fin 1024) (R : Fin 16384) (h : (R : ℕ) = t.val * 512 + r) :
    (show EReal from iblk m c 0 t (ix2 r l)) = m ((c : Thread nD τ).loc main_arg0)
      (ix3 (⟨(R : ℕ) / 4096, by omega⟩ : Fin 4) (⟨(R : ℕ) % 4096, by omega⟩ : Fin 4096) l) := by
  blk_simp [iblk, idx t]
  entry_read
  pointwise
  blk_ext [idx t]

theorem read1 (c : Dev nD) (t : Fin cfg0.N) (r : Fin 512) (l : Fin 512) (R : Fin 16384) (h : (R : ℕ) = t.val * 512 + r) :
    (show EReal from iblk m c 1 t (ix2 r l)) = m ((c : Thread nD τ).loc main_arg1)
      (ix3 (⟨(R : ℕ) / 4096, by omega⟩ : Fin 4) (⟨(R : ℕ) % 4096, by omega⟩ : Fin 4096) l) := by
  blk_simp [iblk, idx t]
  entry_read
  pointwise
  blk_ext [idx t]

theorem read2 (c : Dev nD) (t : Fin cfg0.N) (r : Fin 512) (l : Fin 512) (R : Fin 16384) (h : (R : ℕ) = t.val * 512 + r) :
    (show EReal from iblk m c 2 t (ix2 r l)) = m ((c : Thread nD τ).loc main_arg2)
      (ix3 (⟨(R : ℕ) / 4096, by omega⟩ : Fin 4) (⟨(R : ℕ) % 4096, by omega⟩ : Fin 4096) l) := by
  blk_simp [iblk, idx t]
  entry_read
  pointwise
  blk_ext [idx t]

theorem read3 (c : Dev nD) (t : Fin cfg0.N) (l : Fin 1024) (u : Fin 1024) :
    (show EReal from iblk m c 3 t (ix2 l u)) = m ((c : Thread nD τ).loc main_arg3) (ix3 0 l u) := by
  blk_simp [iblk, idx t]
  entry_read
  pointwise
  blk_ext [idx t]

theorem read4 (c : Dev nD) (t : Fin cfg0.N) (l : Fin 1024) :
    (show EReal from iblk m c 4 t (ix2 0 l)) = m ((c : Thread nD τ).loc main_arg4) (ix2 0 l) := by
  blk_simp [iblk, idx t]
  entry_read
  pointwise
  blk_ext [idx t]

theorem read5 (c : Dev nD) (t : Fin cfg0.N) (l : Fin 1024) (u : Fin 256) :
    (show EReal from iblk m c 5 t (ix2 l u)) = m ((c : Thread nD τ).loc main_arg5) (ix3 0 l u) := by
  blk_simp [iblk, idx t]
  entry_read
  pointwise
  blk_ext [idx t]

theorem read8 (c : Dev nD) (t : Fin cfg0.N) (l : Fin 256) (u : Fin 1024) :
    (show EReal from iblk m c 8 t (ix2 l u)) = m ((c : Thread nD τ).loc main_arg8) (ix3 0 l u) := by
  blk_simp [iblk, idx t]
  entry_read
  pointwise
  blk_ext [idx t]

theorem read6 (c : Dev nD) (t : Fin cfg0.N) (k l : Fin 256) (b : Fin 4) (h : (b : ℕ) = t.val / 8) :
    (show EReal from iblk m c 6 t (ix2 k l)) = MixRefValue.lanesOf (m ((c : Thread nD τ).loc main_arg6)) b k l := by
  unfold MixRefValue.lanesOf
  blk_simp [iblk, idx t]
  entry_read
  pointwise
  blk_ext [idx t]

theorem read7 (c : Dev nD) (t : Fin cfg0.N) (k l : Fin 256) (b : Fin 4) (h : (b : ℕ) = t.val / 8) :
    (show EReal from iblk m c 7 t (ix2 k l)) = MixRefValue.lanesOf (m ((c : Thread nD τ).loc main_arg7)) b k l := by
  unfold MixRefValue.lanesOf
  blk_simp [iblk, idx t]
  entry_read
  pointwise
  blk_ext [idx t]

/-- After the run, the result array is the reference's. -/
theorem final_rows (c : Dev nD) : (dats m 0 c).arrAt 9 cfg0.N
    = Cert.MixRefIdeal.Read.val_main_v41 (F := Ideal) (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        (m ((c : Thread nD τ).loc main_arg6)) (m ((c : Thread nD τ).loc main_arg7)) (m ((c : Thread nD τ).loc main_arg8)) := by
  refine (dats m 0 c).arrAt_eq_of_covers 9 _ (by decide +kernel) fun t _ y => ?_
  blk_simp [idx t]
  rw [after0_9]
  obtain ⟨r, hr⟩ : ∃ r : Fin 512, r = y 0 := ⟨_, rfl⟩
  obtain ⟨j, hj⟩ : ∃ j : Fin 1024, j = y 1 := ⟨_, rfl⟩
  have ht : t.val < 32 := (idx t).2.2.2.2.2.2.2.2.2.2
  have hy : y = ix2 r j := by rw [hr, hj]; exact eq_ix2 y
  rw [hy]
  have h0 := fun l => read0 m c t r l ⟨t.val * 512 + r, by omega⟩ rfl
  have h1 := fun l => read1 m c t r l ⟨t.val * 512 + r, by omega⟩ rfl
  have h2 := fun l => read2 m c t r l ⟨t.val * 512 + r, by omega⟩ rfl
  have h3 := read3 m c t
  have h4 := read4 m c t
  have h5 := read5 m c t
  have h6 := fun k l => read6 m c t k l ⟨(t.val * 512 + r) / 4096, by omega⟩ (by simp only; omega)
  have h7 := fun k l => read7 m c t k l ⟨(t.val * 512 + r) / 4096, by omega⟩ (by simp only; omega)
  have h8 := read8 m c t
  refine ((MixPure.stored r _ _ _ _ _ _ _ _ _ _
    (fun k => (MixRefValue.joined_left _ _ _ _ k).trans (h1 k).symm)
    (fun k => (MixRefValue.joined_right _ _ _ _ k).trans (h2 k).symm) j).trans ?_).trans
    ((MixRefValue.ref_rows _ _ _ _ _ _ _ _ _ ⟨t.val * 512 + r, by omega⟩ j).symm.trans (congrArg _ ?_))
  · unfold MixRefValue.yref
    simp only [show (fun k => _) = _ from funext h0, h3, h4, h5, h6, h7, h8]
  · blk_ext [idx t]

end Cert.MixValue

end
-- ==== Proof.OutClaims.lean ====
/- The value claims of the sample's last half-step and of the output projection with the attention over the memory. -/
module

public import proofs.«01_k».proof.Proof.FfnOutSValue
public import proofs.«01_k».proof.Proof.MixValue
public import proofs.«01_k».proof.Defs

@[expose] public section

noncomputable section

namespace Cert.OutClaims

open Idealize.ShloMosaic Idealize.SL.Sem

/-- The sample's last half-step, with the final normalisation. -/
theorem ffn_out_s : Cert.algebraic_FfnOutSIdeal_FfnOutSRefIdeal := by
  pair_intro
  · run_from Cert.FfnOutSIdeal.Value.run_blocks m g
  · run_from Cert.FfnOutSRefIdeal.Value.run m' g'
    obtain ⟨h0, h1, h2, h3, h4, h5⟩ := hagree c
    rw [Cert.FfnOutSRefIdeal.Read.val_main_v38_eq, h0, h1, h2, h3, h4, h5]
    exact (Cert.FfnOutSValue.final_rows m c).symm

/-- The output projection and the attention over the memory. -/
theorem mix : Cert.algebraic_MixIdeal_MixRefIdeal := by
  pair_intro
  · run_from Cert.MixIdeal.Value.run_blocks m g
  · run_from Cert.MixRefIdeal.Value.run m' g'
    obtain ⟨h0, h1, h2, h3, h4, h5, h6, h7, h8⟩ := hagree c
    rw [Cert.MixRefIdeal.Read.val_main_v41_eq, h0, h1, h2, h3, h4, h5, h6, h7, h8]
    exact (Cert.MixValue.final_rows m c).symm

end Cert.OutClaims

end
-- ==== Proof.InprojSPure.lean ====
/- What the blocks of the sample's projection call hold, entry by entry: the four stored blocks that the claim is about, from
   the blocks that came in, and those in terms of the arguments. -/
module

public import proofs.«01_k».proof.Proof.FfnSpec
public import proofs.«01_k».proof.Proof.InprojMath
public import proofs.«01_k».proof.Proof.Gen.InprojSIdeal.Value
public import Idealize.ShloMosaic.Lib.Pipeline.ValueKit
public import Idealize.ShloMosaic.Lib.Pointwise
public import Idealize.ShloMosaic.Lib.Claim

@[expose] public section

set_option maxRecDepth 16384

noncomputable section

namespace Cert.InprojSPure

open Cert.InprojSIdeal Cert.InprojSIdeal.Gen
open Idealize.ShloMosaic Idealize.ShloMosaic.TcCoe Idealize.SL.Sem
open Idealize.ShloMosaic.Pipeline (Dat)

/-! ## The stored blocks -/

section
variable (x0 : FVec Ideal S512x1024 .f32) (x1 : FVec Ideal S1x1024 .f32) (x2 : FVec Ideal S1024x1536 .bf16)
  (x3 : FVec Ideal S1024x128 .bf16) (x4 : FVec Ideal S1x128 .f32) (x5 : FVec Ideal S1024x3072 .bf16)
  (x6 x7 : FVec Ideal S512x512 .f32)

/-- The normalised rows. -/
def hrow (r : Fin 512) (l : Fin 1024) : EReal := FfnSpec.norm (fun k => x0 (ix2 r k)) (fun k => x1 (ix2 0 k)) l

theorem hidden (r : Fin 512) (l : Fin 1024) : k0_pay4 (F := Ideal) x0 x1 (ix2 r l) = hrow x0 x1 r l := by
  unfold hrow
  pointwise [k0_pay4]
  rfl

/-- The same, of the blocks as the body reads them. -/
theorem hidden_read (r : Fin 512) (l : Fin 1024) :
    k0_pay4 (F := Ideal) (View.ld x0 r0_0) (View.ld x1 r0_1) (ix2 r l) = hrow x0 x1 r l := by
  refine (hidden _ _ r l).trans ?_
  unfold hrow
  congr 1 <;> funext k <;> pointwise

theorem stored8 (r : Fin 512) (j : Fin 512) : out0_8 (F := Ideal) x0 x1 x2 x3 x4 x5 x6 x7 (ix2 r j)
    = (∑ l, hrow x0 x1 r l * x2 (ix2 l (⟨j, by omega⟩ : Fin 1536))) * Ideal.ofBits .f32 0x3E000000#32 := by
  unfold out0_8
  frame_out
  pointwise [k0_pay5, hidden]

theorem stored9 (r : Fin 512) (j : Fin 512) : out0_9 (F := Ideal) x0 x1 x2 x3 x4 x5 x6 x7 (ix2 r j)
    = ∑ l, hrow x0 x1 r l * x2 (ix2 l (⟨512 + j, by omega⟩ : Fin 1536)) := by
  unfold out0_9
  frame_out
  pointwise [k0_pay6, hidden]

theorem stored10 (r : Fin 512) (j : Fin 512) : out0_10 (F := Ideal) x0 x1 x2 x3 x4 x5 x6 x7 (ix2 r j)
    = ∑ l, hrow x0 x1 r l * x2 (ix2 l (⟨1024 + j, by omega⟩ : Fin 1536)) := by
  unfold out0_10
  frame_out
  pointwise [k0_pay15, k0_pay8, hidden_read]

theorem stored13 (r : Fin 512) (h : Fin 8) : out0_13 (F := Ideal) x0 x1 x2 x3 x4 x5 x6 x7 (ix2 r h)
    = InprojMath.logsig ((∑ l, hrow x0 x1 r l * x3 (ix2 l (⟨h, by omega⟩ : Fin 128))) + x4 (ix2 0 (⟨h, by omega⟩ : Fin 128))) := by
  rw [← InprojMath.logsig_eq]
  unfold out0_13
  frame_out
  pointwise [k0_pay10, k0_pay14, hidden_read]
  rfl

end

end Cert.InprojSPure

end
-- ==== Proof.InprojSReads.lean ====
/- What the sample's projection call reads: the blocks of the rows, of the gain and of the prepared weights, in terms of the
   arguments. -/
module

public import proofs.«01_k».proof.Proof.Gen.InprojSIdeal.Value
public import Idealize.ShloMosaic.Lib.Pipeline.ValueKit
public import Idealize.ShloMosaic.Lib.Pointwise
public import Idealize.ShloMosaic.Lib.Claim

@[expose] public section

set_option maxRecDepth 16384

noncomputable section

namespace Cert.InprojSReads

open Cert.InprojSIdeal Cert.InprojSIdeal.Gen
open Idealize.ShloMosaic Idealize.ShloMosaic.TcCoe Idealize.SL.Sem
open Idealize.ShloMosaic.Pipeline (Dat)

variable (m : (ℓ : Loc nD τ sig) → Buf (Elt Ideal) ℓ) (c : Dev nD) (t : Fin cfg0.N)

/-- Where each window stands at the call's one grid point. -/
theorem idx : ∀ t : Fin cfg0.N, win0_0.index t = ![0, 0] ∧ win0_1.index t = ![0, 0]
    ∧ win0_2.index t = ![0, 0] ∧ win0_3.index t = ![0, 0] ∧ win0_4.index t = ![0, 0]
    ∧ win0_8.index t = ![0, 0] ∧ win0_9.index t = ![0, 0] ∧ win0_10.index t = ![0, 0] ∧ win0_13.index t = ![0, 0] :=
  (by decide +kernel : ∀ t : Fin grid0.N, _)

/-- The weights as a matrix. -/
def wIn : FVec Ideal S1024x3592 .f32 :=
  shapeCast S1024x3592 (m ((c : Thread nD τ).loc main_arg2) : FVec Ideal S1x1024x3592 .f32) shapeCasts_S1x1024x3592_S1024x3592

theorem all_ops : ([hostOps0 (F := Ideal), hostOps0_1, hostOps0_2, hostOps0_3, hostOps0_4, hostOps0_5, hostOps0_6, hostOps0_7, hostOps0_8].flatten)
    = hostOps0 ++ (hostOps0_1 ++ (hostOps0_2 ++ (hostOps0_3 ++ (hostOps0_4 ++ (hostOps0_5 ++ (hostOps0_6 ++ (hostOps0_7 ++ hostOps0_8))))))) := rfl

theorem entry67 : V m c main_v67 =
    (shapeCast S512x1024 (m ((c : Thread nD τ).loc main_arg0) : FVec Ideal S128x4x1024 .f32) shapeCasts_S128x4x1024_S512x1024 : FVec Ideal S512x1024 .f32) := by
  unfold V
  rw [all_ops]
  simp only [List.cons_append, List.append_nil, List.nil_append]
  entry_read
  rfl

theorem entry69 : V m c main_v69 =
    (shapeCast S1x1024 (shapeCast S1024 (m ((c : Thread nD τ).loc main_arg1) : FVec Ideal S1x1024 .f32) shapeCasts_S1x1024_S1024) shapeCasts_S1024_S1x1024 : FVec Ideal S1x1024 .f32) := by
  unfold V
  rw [all_ops]
  simp only [List.cons_append, List.append_nil, List.nil_append]
  entry_read
  rfl

theorem entry2 : V m c main_v2 =
    (truncf .bf16 (extractStridedSlice S1024x1536 ![0, 0] (wIn m c) slices_S1024x3592_S1024x1536_0_0) bitsLt_bf16_f32 : FVec Ideal S1024x1536 .bf16) := by
  unfold V
  rw [all_ops]
  simp only [List.cons_append, List.append_nil, List.nil_append]
  entry_read
  rfl

theorem entry5 : V m c main_v5 =
    (truncf .bf16 (pad S1024x128 ![0, 0] ![0, 120] ![0, 0] (extractStridedSlice S1024x8 ![0, 1536] (wIn m c) slices_S1024x3592_S1024x8_0_1536) (sitofp .f32 (constantI S_ 32 0#32)) pads_S1024x8_S1024x128_000_01200 h_S_) bitsLt_bf16_f32 : FVec Ideal S1024x128 .bf16) := by
  unfold V
  rw [all_ops]
  simp only [List.cons_append, List.append_nil, List.nil_append]
  entry_read
  rfl

theorem entry8 : V m c main_v8 =
    (pad S1x128 ![0, 0] ![0, 120] ![0, 0] (shapeCast S1x8 (shapeCast S8 (m ((c : Thread nD τ).loc main_arg3) : FVec Ideal S1x8 .f32) shapeCasts_S1x8_S8) shapeCasts_S8_S1x8) (sitofp .f32 (constantI S_ 32 0#32)) pads_S1x8_S1x128_000_01200 h_S_ : FVec Ideal S1x128 .f32) := by
  unfold V
  rw [all_ops]
  simp only [List.cons_append, List.append_nil, List.nil_append]
  entry_read
  rfl

/-! ## Where a window's entry lies in its array -/

theorem place0 (X : S512x1024.Idx → EReal) (r : Fin 512) (l : Fin 1024) : X ((win0_0.blk t).view.emb (ix2 r l)) = X (ix2 r l) := by
  blk_ext [idx t]

theorem place1 (X : S1x1024.Idx → EReal) (l : Fin 1024) : X ((win0_1.blk t).view.emb (ix2 0 l)) = X (ix2 0 l) := by
  blk_ext [idx t]

theorem place2 (X : S1024x1536.Idx → EReal) (l : Fin 1024) (j : Fin 1536) : X ((win0_2.blk t).view.emb (ix2 l j)) = X (ix2 l j) := by
  blk_ext [idx t]

theorem place3 (X : S1024x128.Idx → EReal) (l : Fin 1024) (h : Fin 128) : X ((win0_3.blk t).view.emb (ix2 l h)) = X (ix2 l h) := by
  blk_ext [idx t]

theorem place4 (X : S1x128.Idx → EReal) (h : Fin 128) : X ((win0_4.blk t).view.emb (ix2 0 h)) = X (ix2 0 h) := by
  blk_ext [idx t]

/-! ## The prepared arrays at one entry -/

theorem flat (X : FVec Ideal S128x4x1024 .f32) (R : Fin 512) (l : Fin 1024) :
    shapeCast S512x1024 X shapeCasts_S128x4x1024_S512x1024 (ix2 R l)
    = X (ix3 (⟨(R : ℕ) / 4, by omega⟩ : Fin 128) (⟨(R : ℕ) % 4, by omega⟩ : Fin 4) l) := by
  pointwise

theorem same (X : FVec Ideal S1x1024 .f32) (l : Fin 1024) :
    shapeCast S1x1024 (shapeCast S1024 X shapeCasts_S1x1024_S1024) shapeCasts_S1024_S1x1024 (ix2 0 l) = X (ix2 0 l) := by
  pointwise

theorem matrix_at (X : FVec Ideal S1x1024x3592 .f32) (l : Fin 1024) (j : Fin 3592) :
    shapeCast S1024x3592 X shapeCasts_S1x1024x3592_S1024x3592 (ix2 l j) = X (ix3 0 l j) := by
  pointwise

theorem wIn_at (l : Fin 1024) (j : Fin 3592) : wIn m c (ix2 l j) = m ((c : Thread nD τ).loc main_arg2) (ix3 0 l j) := by
  unfold wIn
  exact matrix_at _ l j

theorem left (X : FVec Ideal S1024x3592 .f32) (l : Fin 1024) (j : Fin 1536) :
    (truncf .bf16 (extractStridedSlice S1024x1536 ![0, 0] X slices_S1024x3592_S1024x1536_0_0) bitsLt_bf16_f32 : FVec Ideal S1024x1536 .bf16) (ix2 l j)
    = X (ix2 l (⟨j, by omega⟩ : Fin 3592)) := by
  pointwise

theorem eight (X : FVec Ideal S1024x3592 .f32) (z : FVec Ideal S_ .f32) (l : Fin 1024) (h : Fin 8) :
    (truncf .bf16 (pad S1024x128 ![0, 0] ![0, 120] ![0, 0] (extractStridedSlice S1024x8 ![0, 1536] X slices_S1024x3592_S1024x8_0_1536) z pads_S1024x8_S1024x128_000_01200 h_S_) bitsLt_bf16_f32 : FVec Ideal S1024x128 .bf16)
      (ix2 l (⟨h, by omega⟩ : Fin 128)) = X (ix2 l (⟨1536 + h, by omega⟩ : Fin 3592)) := by
  pointwise

theorem bias (X : FVec Ideal S1x8 .f32) (z : FVec Ideal S_ .f32) (h : Fin 8) :
    (pad S1x128 ![0, 0] ![0, 120] ![0, 0] (shapeCast S1x8 (shapeCast S8 X shapeCasts_S1x8_S8) shapeCasts_S8_S1x8) z pads_S1x8_S1x128_000_01200 h_S_ : FVec Ideal S1x128 .f32)
      (ix2 0 (⟨h, by omega⟩ : Fin 128)) = X (ix2 0 h) := by
  pointwise

/-! ## What the point reads -/

section
variable (r : Fin 512) (l : Fin 1024)

theorem read0 : (show EReal from iblk m c 0 t (ix2 r l)) = m ((c : Thread nD τ).loc main_arg0)
      (ix3 (⟨(r : ℕ) / 4, by omega⟩ : Fin 128) (⟨(r : ℕ) % 4, by omega⟩ : Fin 4) l) :=
  (place0 t (V m c main_v67) r l).trans ((congrFun (entry67 m c) (ix2 r l)).trans (flat _ r l))

theorem read1 : (show EReal from iblk m c 1 t (ix2 0 l)) = m ((c : Thread nD τ).loc main_arg1) (ix2 0 l) :=
  (place1 t (V m c main_v69) l).trans ((congrFun (entry69 m c) (ix2 0 l)).trans (same _ l))

theorem read2 (j : Fin 1536) : (show EReal from iblk m c 2 t (ix2 l j))
    = m ((c : Thread nD τ).loc main_arg2) (ix3 0 l (⟨j, by omega⟩ : Fin 3592)) :=
  (place2 t (V m c main_v2) l j).trans ((congrFun (entry2 m c) (ix2 l j)).trans ((left _ l j).trans (wIn_at m c _ _)))

theorem read3 (h : Fin 8) : (show EReal from iblk m c 3 t (ix2 l (⟨h, by omega⟩ : Fin 128)))
    = m ((c : Thread nD τ).loc main_arg2) (ix3 0 l (⟨1536 + h, by omega⟩ : Fin 3592)) :=
  (place3 t (V m c main_v5) l _).trans ((congrFun (entry5 m c) (ix2 l _)).trans ((eight _ _ l h).trans (wIn_at m c _ _)))

theorem read4 (h : Fin 8) : (show EReal from iblk m c 4 t (ix2 0 (⟨h, by omega⟩ : Fin 128)))
    = m ((c : Thread nD τ).loc main_arg3) (ix2 0 h) :=
  (place4 t (V m c main_v8) _).trans ((congrFun (entry8 m c) (ix2 0 _)).trans (bias _ _ h))

end

end Cert.InprojSReads

end
-- ==== Proof.InprojSRefValue.lean ====
/- The projections of a token of the sample as the problem states them, entry by entry. -/
module

public import proofs.«01_k».proof.Proof.FfnSpec
public import proofs.«01_k».proof.Proof.InprojMath
public import proofs.«01_k».proof.Proof.Gen.InprojSRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.InprojSRefValue

open Cert.InprojSRefIdeal Cert.InprojSRefIdeal.Read
open Idealize.ShloMosaic Idealize.SL.Sem

variable (X : FVec Ideal S128x4x1024 .f32) (G : FVec Ideal S1x1024 .f32) (W : FVec Ideal S1x1024x3592 .f32)
  (B : FVec Ideal S1x8 .f32)

/-- Column `j` of the token's projection: its normalised row times that column of the weights. -/
def proj (b : Fin 128) (s : Fin 4) (j : Fin 3592) : EReal :=
  ∑ l, FfnSpec.norm (fun k => X (ix3 b s k)) (fun k => G (ix2 0 k)) l * W (ix3 0 l j)

theorem hidden_at (b : Fin 128) (s : Fin 4) (l : Fin 1024) : val_main_v16 (F := Ideal) X G (ix3 b s l)
    = FfnSpec.norm (fun k => X (ix3 b s k)) (fun k => G (ix2 0 k)) l := by
  pointwise [val_main_v16, val_main_v15, val_main_v14, val_main_v13, val_main_v12, val_main_v11,
    val_main_v10, val_main_v9, val_main_v8, val_main_v7, val_main_v6, val_main_v5, val_main_v4, val_main_v3,
    val_main_cst, val_main_cst_0, val_main_cst_1]
  rfl

theorem proj_at (b : Fin 128) (s : Fin 4) (j : Fin 3592) : val_main_v19 (F := Ideal) X G W (ix3 b s j) = proj X G W b s j := by
  unfold proj
  pointwise [val_main_v19, val_main_v17, hidden_at]

theorem query_at (R : Fin 512) (j : Fin 512) : val_main_v101 (F := Ideal) X G W (ix2 R j)
    = proj X G W ⟨R / 4, by omega⟩ ⟨R % 4, by omega⟩ ⟨j, by omega⟩ * Ideal.ofBits .f32 0x3E000000#32 := by
  pointwise [val_main_v101, val_main_v100, val_main_v99, val_main_v98, val_main_v94, val_main_v20, val_main_cst_7, proj_at]

theorem key_at (R : Fin 512) (j : Fin 512) : val_main_v102 (F := Ideal) X G W (ix2 R j)
    = proj X G W ⟨R / 4, by omega⟩ ⟨R % 4, by omega⟩ ⟨512 + j, by omega⟩ := by
  pointwise [val_main_v102, val_main_v95, val_main_v21, proj_at]

theorem value_at (R : Fin 512) (j : Fin 512) : val_main_v103 (F := Ideal) X G W (ix2 R j)
    = proj X G W ⟨R / 4, by omega⟩ ⟨R % 4, by omega⟩ ⟨1024 + j, by omega⟩ := by
  pointwise [val_main_v103, val_main_v96, val_main_v22, proj_at]

theorem logit_at (b : Fin 128) (s : Fin 4) (h : Fin 8) : val_main_v30 (F := Ideal) X G W B (ix3 b s h)
    = proj X G W b s ⟨1536 + h, by omega⟩ + B (ix2 0 h) := by
  pointwise [val_main_v30, val_main_v29, val_main_v28, val_main_v23, val_main_v18, proj_at]

theorem decay_at (R : Fin 512) (h : Fin 8) : val_main_v104 (F := Ideal) X G W B (ix2 R h)
    = InprojMath.logsig (proj X G W ⟨R / 4, by omega⟩ ⟨R % 4, by omega⟩ ⟨1536 + h, by omega⟩ + B (ix2 0 h)) := by
  unfold InprojMath.logsig
  pointwise [val_main_v104, val_main_v31, val_main_call0_v1, val_main_call0_v0, val_main_call0_call0_v11, val_main_call0_call0_v10,
    val_main_call0_call0_v9, val_main_call0_call0_v8, val_main_call0_call0_v7, val_main_call0_call0_v6, val_main_call0_call0_v5,
    val_main_call0_call0_v4, val_main_call0_call0_v3, val_main_call0_call0_v2, val_main_call0_call0_v1, val_main_call0_call0_v0,
    val_main_call0_call0_cst, logit_at]
  rw [if_neg (fun e => e rfl)]
  rfl

end Cert.InprojSRefValue

end
-- ==== Proof.InprojSValue.lean ====
/- What the sample's projection call leaves in its arrays: the problem's queries, keys, values and log-decays. -/
module

public import proofs.«01_k».proof.Proof.InprojSPure
public import proofs.«01_k».proof.Proof.InprojSReads
public import proofs.«01_k».proof.Proof.InprojSRefValue

@[expose] public section

set_option maxRecDepth 16384

noncomputable section

namespace Cert.InprojSValue

open Cert.InprojSIdeal Cert.InprojSIdeal.Gen Cert.InprojSReads Cert.InprojSPure
open Idealize.ShloMosaic Idealize.ShloMosaic.TcCoe Idealize.SL.Sem
open Idealize.ShloMosaic.Pipeline (Dat)
open Cert.InprojSRefValue (proj)

variable (m : (ℓ : Loc nD τ sig) → Buf (Elt Ideal) ℓ) (c : Dev nD) (t : Fin cfg0.N)

/-- The arguments: the tokens, the gain, the weights and the decay's bias. -/
abbrev xA : FVec Ideal S128x4x1024 .f32 := m ((c : Thread nD τ).loc main_arg0)
abbrev gA : FVec Ideal S1x1024 .f32 := m ((c : Thread nD τ).loc main_arg1)
abbrev wA : FVec Ideal S1x1024x3592 .f32 := m ((c : Thread nD τ).loc main_arg2)
abbrev bA : FVec Ideal S1x8 .f32 := m ((c : Thread nD τ).loc main_arg3)

theorem row_at (r : Fin 512) (l : Fin 1024) : hrow (iblk m c 0 t) (iblk m c 1 t) r l
    = FfnSpec.norm (fun k => xA m c (ix3 (⟨(r : ℕ) / 4, by omega⟩ : Fin 128) (⟨(r : ℕ) % 4, by omega⟩ : Fin 4) k))
        (fun k => gA m c (ix2 0 k)) l := by
  have h0 := fun k => read0 m c t r k
  have h1 := fun k => read1 m c t k
  unfold hrow
  exact congrArg₂ (fun a b => FfnSpec.norm a b l) (funext h0) (funext h1)

theorem col_at (r : Fin 512) (j : Fin 1536) :
    (∑ l, hrow (iblk m c 0 t) (iblk m c 1 t) r l * (show EReal from iblk m c 2 t (ix2 l j)))
    = proj (xA m c) (gA m c) (wA m c) ⟨r / 4, by omega⟩ ⟨r % 4, by omega⟩ ⟨j, by omega⟩ :=
  Finset.sum_congr rfl fun l _ => congrArg₂ (· * ·) (row_at m c t r l) (read2 m c t l j)

theorem gate_at (r : Fin 512) (h : Fin 8) :
    (∑ l, hrow (iblk m c 0 t) (iblk m c 1 t) r l * (show EReal from iblk m c 3 t (ix2 l (⟨h, by omega⟩ : Fin 128))))
    = proj (xA m c) (gA m c) (wA m c) ⟨r / 4, by omega⟩ ⟨r % 4, by omega⟩ ⟨1536 + h, by omega⟩ :=
  Finset.sum_congr rfl fun l _ => congrArg₂ (· * ·) (row_at m c t r l) (read3 m c t l h)

/-- The scaled queries. -/
theorem final8 : (dats m 0 c).arrAt 8 cfg0.N = (Cert.InprojSRefIdeal.Read.val_main_v101 (F := Ideal) (xA m c) (gA m c) (wA m c) : FVec Ideal S512x512 .bf16) := by
  refine (dats m 0 c).arrAt_eq_of_covers 8 _ (by decide +kernel) fun t _ y => ?_
  blk_simp [idx t]
  rw [after0_8]
  obtain ⟨r, hr⟩ : ∃ r : Fin 512, r = y 0 := ⟨_, rfl⟩
  obtain ⟨j, hj⟩ : ∃ j : Fin 512, j = y 1 := ⟨_, rfl⟩
  have hy : y = ix2 r j := by rw [hr, hj]; exact eq_ix2 y
  rw [hy]
  refine ((stored8 _ _ _ _ _ _ _ _ r j).trans ?_).trans ((Cert.InprojSRefValue.query_at (xA m c) (gA m c) (wA m c) r j).symm.trans (congrArg _ ?_))
  · exact congrArg (· * Ideal.ofBits .f32 0x3E000000#32) (col_at m c t r _)
  · blk_ext [idx t]

/-- The keys. -/
theorem final9 : (dats m 0 c).arrAt 9 cfg0.N = (Cert.InprojSRefIdeal.Read.val_main_v102 (F := Ideal) (xA m c) (gA m c) (wA m c) : FVec Ideal S512x512 .f32) := by
  refine (dats m 0 c).arrAt_eq_of_covers 9 _ (by decide +kernel) fun t _ y => ?_
  blk_simp [idx t]
  rw [after0_9]
  obtain ⟨r, hr⟩ : ∃ r : Fin 512, r = y 0 := ⟨_, rfl⟩
  obtain ⟨j, hj⟩ : ∃ j : Fin 512, j = y 1 := ⟨_, rfl⟩
  have hy : y = ix2 r j := by rw [hr, hj]; exact eq_ix2 y
  rw [hy]
  refine ((stored9 _ _ _ _ _ _ _ _ r j).trans ?_).trans ((Cert.InprojSRefValue.key_at (xA m c) (gA m c) (wA m c) r j).symm.trans (congrArg _ ?_))
  · exact col_at m c t r _
  · blk_ext [idx t]

/-- The values. -/
theorem final10 : (dats m 0 c).arrAt 10 cfg0.N = (Cert.InprojSRefIdeal.Read.val_main_v103 (F := Ideal) (xA m c) (gA m c) (wA m c) : FVec Ideal S512x512 .f32) := by
  refine (dats m 0 c).arrAt_eq_of_covers 10 _ (by decide +kernel) fun t _ y => ?_
  blk_simp [idx t]
  rw [after0_10]
  obtain ⟨r, hr⟩ : ∃ r : Fin 512, r = y 0 := ⟨_, rfl⟩
  obtain ⟨j, hj⟩ : ∃ j : Fin 512, j = y 1 := ⟨_, rfl⟩
  have hy : y = ix2 r j := by rw [hr, hj]; exact eq_ix2 y
  rw [hy]
  refine ((stored10 _ _ _ _ _ _ _ _ r j).trans ?_).trans ((Cert.InprojSRefValue.value_at (xA m c) (gA m c) (wA m c) r j).symm.trans (congrArg _ ?_))
  · exact col_at m c t r _
  · blk_ext [idx t]

/-- The log-decays. -/
theorem final13 : (dats m 0 c).arrAt 13 cfg0.N = (Cert.InprojSRefIdeal.Read.val_main_v104 (F := Ideal) (xA m c) (gA m c) (wA m c) (bA m c) : FVec Ideal S512x8 .f32) := by
  refine (dats m 0 c).arrAt_eq_of_covers 13 _ (by decide +kernel) fun t _ y => ?_
  blk_simp [idx t]
  rw [after0_13]
  obtain ⟨r, hr⟩ : ∃ r : Fin 512, r = y 0 := ⟨_, rfl⟩
  obtain ⟨j, hj⟩ : ∃ j : Fin 8, j = y 1 := ⟨_, rfl⟩
  have hy : y = ix2 r j := by rw [hr, hj]; exact eq_ix2 y
  rw [hy]
  refine ((stored13 _ _ _ _ _ _ _ _ r j).trans ?_).trans ((Cert.InprojSRefValue.decay_at (xA m c) (gA m c) (wA m c) (bA m c) r j).symm.trans (congrArg _ ?_))
  · exact congrArg InprojMath.logsig (congrArg₂ (· + ·) (gate_at m c t r j) (read4 m c t j))
  · blk_ext [idx t]

end Cert.InprojSValue

end
-- ==== Proof.InprojSClaim.lean ====
/- The value claim of the sample's projections. -/
module

public import proofs.«01_k».proof.Proof.InprojSValue
public import proofs.«01_k».proof.Proof.Gen.InprojSRefIdeal.Run
public import proofs.«01_k».proof.Defs

@[expose] public section

noncomputable section

namespace Cert.InprojSClaim

open Idealize.ShloMosaic Idealize.SL.Sem

set_option maxHeartbeats 8000000 in
/-- The projections of the sample: both runs end with the same queries, keys, values and log-decays. -/
theorem inproj_s : Cert.algebraic_InprojSIdeal_InprojSRefIdeal := by
  pair_intro
  · run_from Cert.InprojSIdeal.Value.run_blocks m g
  · run_from Cert.InprojSRefIdeal.Value.run m' g'
    all_goals obtain ⟨h0, h1, h2, h3⟩ := hagree c
    · rw [Cert.InprojSRefIdeal.Read.val_main_v101_eq]
      exact (Cert.InprojSValue.final8 m c).symm
    · rw [Cert.InprojSRefIdeal.Read.val_main_v102_eq]
      exact (Cert.InprojSValue.final9 m c).symm
    · rw [Cert.InprojSRefIdeal.Read.val_main_v103_eq]
      exact (Cert.InprojSValue.final10 m c).symm
    · rw [Cert.InprojSRefIdeal.Read.val_main_v104_eq, h0, h1, h2, h3]
      exact (Cert.InprojSValue.final13 m c).symm

end Cert.InprojSClaim

end
-- ==== Proof.lean ====
module

public import proofs.«01_k».proof.Proof.PlainClaims
public import proofs.«01_k».proof.Proof.FoxClaim
public import proofs.«01_k».proof.Proof.InprojIdealRun
public import proofs.«01_k».proof.Proof.InprojRun
public import proofs.«01_k».proof.Proof.InprojClaim
public import proofs.«01_k».proof.Proof.OutClaims
public import proofs.«01_k».proof.Proof.InprojSClaim
public import proofs.«01_k».proof.Proof.Gen.FfnInIdeal.Value
public import proofs.«01_k».proof.Proof.Gen.FfnInRefIdeal.Run
public import proofs.«01_k».proof.Proof.Gen.FfnInRefIdeal.Read
public import proofs.«01_k».proof.Proof.Gen.FfnOutIdeal.Value
public import proofs.«01_k».proof.Proof.Gen.FfnOutRefIdeal.Run
public import proofs.«01_k».proof.Proof.Gen.FfnOutRefIdeal.Read
public import proofs.«01_k».proof.Proof.Gen.FfnOutSIdeal.Value
public import proofs.«01_k».proof.Proof.Gen.FfnOutSRefIdeal.Run
public import proofs.«01_k».proof.Proof.Gen.FfnOutSRefIdeal.Read
public import proofs.«01_k».proof.Proof.Gen.FoxIdeal.Value
public import proofs.«01_k».proof.Proof.Gen.FoxRefIdeal.Run
public import proofs.«01_k».proof.Proof.Gen.FoxRefIdeal.Read
public import proofs.«01_k».proof.Proof.Gen.InprojRefIdeal.Run
public import proofs.«01_k».proof.Proof.Gen.InprojRefIdeal.Read
public import proofs.«01_k».proof.Proof.Gen.InprojSIdeal.Value
public import proofs.«01_k».proof.Proof.Gen.InprojSRefIdeal.Run
public import proofs.«01_k».proof.Proof.Gen.InprojSRefIdeal.Read
public import proofs.«01_k».proof.Proof.Gen.MemkvIdeal.Value
public import proofs.«01_k».proof.Proof.Gen.MemkvRefIdeal.Run
public import proofs.«01_k».proof.Proof.Gen.MemkvRefIdeal.Read
public import proofs.«01_k».proof.Proof.Gen.MixIdeal.Value
public import proofs.«01_k».proof.Proof.Gen.MixRefIdeal.Run
public import proofs.«01_k».proof.Proof.Gen.MixRefIdeal.Read
public import proofs.«01_k».proof.Defs
public import proofs.«01_k».proof.Proof.Gen.Fox
public import proofs.«01_k».proof.Proof.Gen.Fox.Skeleton
public import proofs.«01_k».proof.Proof.Gen.Fox.Loops
public import proofs.«01_k».proof.Proof.Gen.Fox.Launch
public import proofs.«01_k».proof.Proof.Gen.Fox.Points
public import proofs.«01_k».proof.Proof.Gen.Fox.Frame
public import proofs.«01_k».proof.Proof.Gen.FoxIdeal
public import proofs.«01_k».proof.Proof.Gen.FoxIdeal.Skeleton
public import proofs.«01_k».proof.Proof.Gen.FoxIdeal.Loops
public import proofs.«01_k».proof.Proof.Gen.FoxIdeal.Launch
public import proofs.«01_k».proof.Proof.Gen.FoxIdeal.Points
public import proofs.«01_k».proof.Proof.Gen.FoxIdeal.Frame
public import proofs.«01_k».proof.Proof.Gen.FoxRefIdeal
public import proofs.«01_k».proof.Proof.Gen.FfnIn
public import proofs.«01_k».proof.Proof.Gen.FfnIn.Skeleton
public import proofs.«01_k».proof.Proof.Gen.FfnIn.Launch
public import proofs.«01_k».proof.Proof.Gen.FfnIn.Points
public import proofs.«01_k».proof.Proof.Gen.FfnIn.Frame
public import proofs.«01_k».proof.Proof.Gen.FfnInIdeal
public import proofs.«01_k».proof.Proof.Gen.FfnInIdeal.Skeleton
public import proofs.«01_k».proof.Proof.Gen.FfnInIdeal.Launch
public import proofs.«01_k».proof.Proof.Gen.FfnInIdeal.Points
public import proofs.«01_k».proof.Proof.Gen.FfnInIdeal.Frame
public import proofs.«01_k».proof.Proof.Gen.FfnInRefIdeal
public import proofs.«01_k».proof.Proof.Gen.FfnOut
public import proofs.«01_k».proof.Proof.Gen.FfnOut.Skeleton
public import proofs.«01_k».proof.Proof.Gen.FfnOut.Launch
public import proofs.«01_k».proof.Proof.Gen.FfnOut.Points
public import proofs.«01_k».proof.Proof.Gen.FfnOut.Frame
public import proofs.«01_k».proof.Proof.Gen.FfnOutIdeal
public import proofs.«01_k».proof.Proof.Gen.FfnOutIdeal.Skeleton
public import proofs.«01_k».proof.Proof.Gen.FfnOutIdeal.Launch
public import proofs.«01_k».proof.Proof.Gen.FfnOutIdeal.Points
public import proofs.«01_k».proof.Proof.Gen.FfnOutIdeal.Frame
public import proofs.«01_k».proof.Proof.Gen.FfnOutRefIdeal
public import proofs.«01_k».proof.Proof.Gen.Memkv
public import proofs.«01_k».proof.Proof.Gen.Memkv.Skeleton
public import proofs.«01_k».proof.Proof.Gen.Memkv.Launch
public import proofs.«01_k».proof.Proof.Gen.Memkv.Points
public import proofs.«01_k».proof.Proof.Gen.Memkv.Frame
public import proofs.«01_k».proof.Proof.Gen.MemkvIdeal
public import proofs.«01_k».proof.Proof.Gen.MemkvIdeal.Skeleton
public import proofs.«01_k».proof.Proof.Gen.MemkvIdeal.Launch
public import proofs.«01_k».proof.Proof.Gen.MemkvIdeal.Points
public import proofs.«01_k».proof.Proof.Gen.MemkvIdeal.Frame
public import proofs.«01_k».proof.Proof.Gen.MemkvRefIdeal
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojRefIdeal
public import proofs.«01_k».proof.Proof.Gen.FfnOutS
public import proofs.«01_k».proof.Proof.Gen.FfnOutS.Skeleton
public import proofs.«01_k».proof.Proof.Gen.FfnOutS.Launch
public import proofs.«01_k».proof.Proof.Gen.FfnOutS.Points
public import proofs.«01_k».proof.Proof.Gen.FfnOutS.Frame
public import proofs.«01_k».proof.Proof.Gen.FfnOutSIdeal
public import proofs.«01_k».proof.Proof.Gen.FfnOutSIdeal.Skeleton
public import proofs.«01_k».proof.Proof.Gen.FfnOutSIdeal.Launch
public import proofs.«01_k».proof.Proof.Gen.FfnOutSIdeal.Points
public import proofs.«01_k».proof.Proof.Gen.FfnOutSIdeal.Frame
public import proofs.«01_k».proof.Proof.Gen.FfnOutSRefIdeal
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixRefIdeal
public import proofs.«01_k».proof.Proof.Gen.InprojS
public import proofs.«01_k».proof.Proof.Gen.InprojS.Skeleton
public import proofs.«01_k».proof.Proof.Gen.InprojS.Launch
public import proofs.«01_k».proof.Proof.Gen.InprojS.Points
public import proofs.«01_k».proof.Proof.Gen.InprojS.Frame
public import proofs.«01_k».proof.Proof.Gen.InprojSIdeal
public import proofs.«01_k».proof.Proof.Gen.InprojSIdeal.Skeleton
public import proofs.«01_k».proof.Proof.Gen.InprojSIdeal.Launch
public import proofs.«01_k».proof.Proof.Gen.InprojSIdeal.Points
public import proofs.«01_k».proof.Proof.Gen.InprojSIdeal.Frame
public import proofs.«01_k».proof.Proof.Gen.InprojSRefIdeal
public import proofs.«01_k».proof.Proof.Gen.Pre_finite_scores
public import Idealize.ShloMosaic.Adequacy
public import Idealize.ShloMosaic.Init

@[expose] public section

noncomputable section

namespace Cert.Proof

open Idealize.ShloMosaic Idealize.SL.Sem Cert.Fox

theorem claim : Cert.Claim := ⟨Cert.Fox.Gen.facts, Cert.FoxIdeal.Gen.facts, Cert.FoxRefIdeal.Gen.facts, Cert.FfnIn.Gen.facts, Cert.FfnInIdeal.Gen.facts, Cert.FfnInRefIdeal.Gen.facts, Cert.FfnOut.Gen.facts, Cert.FfnOutIdeal.Gen.facts, Cert.FfnOutRefIdeal.Gen.facts, Cert.Memkv.Gen.facts, Cert.MemkvIdeal.Gen.facts, Cert.MemkvRefIdeal.Gen.facts, Cert.Inproj.Gen.facts, Cert.InprojIdeal.Gen.facts, Cert.InprojRefIdeal.Gen.facts, Cert.FfnOutS.Gen.facts, Cert.FfnOutSIdeal.Gen.facts, Cert.FfnOutSRefIdeal.Gen.facts, Cert.Mix.Gen.facts, Cert.MixIdeal.Gen.facts, Cert.MixRefIdeal.Gen.facts, Cert.InprojS.Gen.facts, Cert.InprojSIdeal.Gen.facts, Cert.InprojSRefIdeal.Gen.facts, Cert.Pre_finite_scores.Gen.facts, by
  exact ⟨(fun m g _ => Cert.Fox.Gen.frame m g),
    (fun m g _ => Cert.FoxIdeal.Gen.frame m g),
    (fun m g _ => Cert.FoxIdeal.Gen.frame m g),
    (fun m g _ => (θ_run Cert.FoxRefIdeal.defs _ _).mono (fun r h => ⟨fun c => (h c).2, sem_eq_zero_of_no_sems (by decide) r.2⟩)
      (Cert.FoxRefIdeal.Value.run m g)),
    (fun m g _ => (θ_run Cert.FoxRefIdeal.defs _ _).mono (fun r h => ⟨fun c => (h c).2, sem_eq_zero_of_no_sems (by decide) r.2⟩)
      (Cert.FoxRefIdeal.Value.run m g)),
    (fun m g _ => Cert.FfnIn.Gen.frame m g),
    (fun m g _ => Cert.FfnInIdeal.Gen.frame m g),
    (fun m g _ => (θ_run Cert.FfnInRefIdeal.defs _ _).mono (fun r h => ⟨fun c => (h c).2, sem_eq_zero_of_no_sems (by decide) r.2⟩)
      (Cert.FfnInRefIdeal.Value.run m g)),
    (fun m g _ => Cert.FfnOut.Gen.frame m g),
    (fun m g _ => Cert.FfnOutIdeal.Gen.frame m g),
    (fun m g _ => (θ_run Cert.FfnOutRefIdeal.defs _ _).mono (fun r h => ⟨fun c => (h c).2, sem_eq_zero_of_no_sems (by decide) r.2⟩)
      (Cert.FfnOutRefIdeal.Value.run m g)),
    (fun m g _ => Cert.Memkv.Gen.frame m g),
    (fun m g _ => Cert.MemkvIdeal.Gen.frame m g),
    (fun m g _ => (θ_run Cert.MemkvRefIdeal.defs _ _).mono (fun r h => ⟨fun c => (h c).2.2, sem_eq_zero_of_no_sems (by decide) r.2⟩)
      (Cert.MemkvRefIdeal.Value.run m g)),
    (fun m g _ => Cert.Inproj.Hand.frame m g),
    (fun m g _ => Cert.InprojIdeal.Hand.frame m g),
    (fun m g _ => (θ_run Cert.InprojRefIdeal.defs _ _).mono (fun r h => ⟨fun c => (h c).2.2.2.2.2.2.2.2, sem_eq_zero_of_no_sems (by decide) r.2⟩)
      (Cert.InprojRefIdeal.Value.run m g)),
    (fun m g _ => Cert.FfnOutS.Gen.frame m g),
    (fun m g _ => Cert.FfnOutSIdeal.Gen.frame m g),
    (fun m g _ => (θ_run Cert.FfnOutSRefIdeal.defs _ _).mono (fun r h => ⟨fun c => (h c).2, sem_eq_zero_of_no_sems (by decide) r.2⟩)
      (Cert.FfnOutSRefIdeal.Value.run m g)),
    (fun m g _ => Cert.Mix.Gen.frame m g),
    (fun m g _ => Cert.MixIdeal.Gen.frame m g),
    (fun m g _ => (θ_run Cert.MixRefIdeal.defs _ _).mono (fun r h => ⟨fun c => (h c).2, sem_eq_zero_of_no_sems (by decide) r.2⟩)
      (Cert.MixRefIdeal.Value.run m g)),
    (fun m g _ => Cert.InprojS.Gen.frame m g),
    (fun m g _ => Cert.InprojSIdeal.Gen.frame m g),
    (fun m g _ => (θ_run Cert.InprojSRefIdeal.defs _ _).mono (fun r h => ⟨fun c => (h c).2.2.2.2, sem_eq_zero_of_no_sems (by decide) r.2⟩)
      (Cert.InprojSRefIdeal.Value.run m g)),
    trivial,
    Cert.FoxClaim.fox,
    trivial,
    Cert.PlainClaims.ffn_in,
    trivial,
    Cert.PlainClaims.ffn_out,
    trivial,
    Cert.PlainClaims.memkv,
    trivial,
    Cert.InprojClaim.inproj,
    trivial,
    Cert.OutClaims.ffn_out_s,
    trivial,
    Cert.OutClaims.mix,
    trivial,
    Cert.InprojSClaim.inproj_s⟩⟩

end Cert.Proof

end
